-- ==== Defs.lean ====
def Pre_Tail [hPre_rows_exist : Cert.Pre_rows_exist.Facts] (m : (ℓ : Loc Cert.Tail.nD Cert.Tail.τ Cert.Tail.sig) → Buf (Elt Bits) ℓ) : Prop :=
  ∀ c : Dev Cert.Tail.nD,
    (Cert.Pre_rows_exist.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6)) (m ((c.tc : Thread Cert.Tail.nD Cert.Tail.τ).loc Cert.Tail.main_arg7)) (m ((c.tc : Thread Cert.Tail.nD Cert.Tail.τ).loc Cert.Tail.main_arg8)) (m ((c.tc : Thread Cert.Tail.nD Cert.Tail.τ).loc Cert.Tail.main_arg9))) = (fun _ => 1#1)

def Pre_TailIdeal [hPre_rows_exist : Cert.Pre_rows_exist.Facts] (m : (ℓ : Loc Cert.TailIdeal.nD Cert.TailIdeal.τ Cert.TailIdeal.sig) → Buf (Elt Ideal) ℓ) : Prop :=
  ∀ c : Dev Cert.TailIdeal.nD,
    (Cert.Pre_rows_exist.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_rows_exist [hPre_rows_exist : Cert.Pre_rows_exist.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_rows_exist.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Tail [hTail : Cert.Tail.Facts] [hPre_rows_exist : Cert.Pre_rows_exist.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (Cert.Tail.threads (F := Bits)) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9))
      ∧ r.2.sem = fun _ => 0)

def quiescent_TailIdeal [hTailIdeal : Cert.TailIdeal.Facts] [hPre_rows_exist : Cert.Pre_rows_exist.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (Cert.TailIdeal.threads (F := Ideal)) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9))
      ∧ r.2.sem = fun _ => 0)

def quiescent_TailRefIdeal_pre_rows_exist [hTailRefIdeal : Cert.TailRefIdeal.Facts] [hPre_rows_exist : Cert.Pre_rows_exist.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_rows_exist m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Tail_TailIdeal : Prop :=
  True

def algebraic_TailIdeal_TailRefIdeal [hTailIdeal : Cert.TailIdeal.Facts] [hTailRefIdeal : Cert.TailRefIdeal.Facts] [hPre_rows_exist : Cert.Pre_rows_exist.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) →
    ∃ (v0 : (c : Dev Cert.TailIdeal.nD) → Buf (Elt Ideal) ((c.tc : Thread Cert.TailIdeal.nD Cert.TailIdeal.τ).loc Cert.TailIdeal.main_v36)),
      θ_run (Cert.TailIdeal.defs (F := Ideal)) (Cert.TailIdeal.threads (F := Ideal)) ⟨m, fun _ => 0, g⟩ (fun r => ∀ c : Dev Cert.TailIdeal.nD,
          r.2.mem ((c.tc : Thread Cert.TailIdeal.nD Cert.TailIdeal.τ).loc Cert.TailIdeal.main_v36) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v49) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9))

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hTail : Cert.Tail.Facts) (hTailIdeal : Cert.TailIdeal.Facts) (hTailRefIdeal : Cert.TailRefIdeal.Facts) (hKernelIdeal : Cert.KernelIdeal.Facts) (hReferenceIdeal : Cert.ReferenceIdeal.Facts) (hPre_rows_exist : Cert.Pre_rows_exist.Facts) (hPre_finite : Cert.Pre_finite.Facts),
    quiescent_Tail (hTail := hTail) (hPre_rows_exist := hPre_rows_exist)
    ∧ quiescent_TailIdeal (hTailIdeal := hTailIdeal) (hPre_rows_exist := hPre_rows_exist)
    ∧ quiescent_TailRefIdeal (hTailRefIdeal := hTailRefIdeal)
    ∧ quiescent_TailRefIdeal_pre_rows_exist (hTailRefIdeal := hTailRefIdeal) (hPre_rows_exist := hPre_rows_exist)
    ∧ quiescent_KernelIdeal (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Tail_TailIdeal
    ∧ algebraic_TailIdeal_TailRefIdeal (hTailIdeal := hTailIdeal) (hTailRefIdeal := hTailRefIdeal) (hPre_rows_exist := hPre_rows_exist)
    ∧ algebraic_KernelIdeal_ReferenceIdeal (hKernelIdeal := hKernelIdeal) (hReferenceIdeal := hReferenceIdeal) (hPre_finite := hPre_finite)
-- ==== Pre_finite.lean ====
abbrev S16384x100x32 : Shape := ⟨3, ![16384, 100, 32]⟩
abbrev S16384x26x32 : Shape := ⟨3, ![16384, 26, 32]⟩
abbrev S32x32 : Shape := ⟨2, ![32, 32]⟩
abbrev S3x126x126 : Shape := ⟨3, ![3, 126, 126]⟩
abbrev S3x126 : Shape := ⟨2, ![3, 126]⟩
abbrev S32 : Shape := ⟨1, ![32]⟩
abbrev S_ : Shape := ⟨0, ![]⟩

class Facts : Prop where
  bcast_S_S16384x100x32 : S_.BroadcastsInDim S16384x100x32 (![] : Fin 0 → Fin S16384x100x32.rank)
  reducesTo_S16384x100x32_S_d0_1_2 : S16384x100x32.ReducesTo [0, 1, 2] S_
  h_S_ : 0 < S_.numel
  bcast_S_S16384x26x32 : S_.BroadcastsInDim S16384x26x32 (![] : Fin 0 → Fin S16384x26x32.rank)
  reducesTo_S16384x26x32_S_d0_1_2 : S16384x26x32.ReducesTo [0, 1, 2] S_
  bcast_S_S32x32 : S_.BroadcastsInDim S32x32 (![] : Fin 0 → Fin S32x32.rank)
  reducesTo_S32x32_S_d0_1 : S32x32.ReducesTo [0, 1] S_
  bcast_S_S3x126x126 : S_.BroadcastsInDim S3x126x126 (![] : Fin 0 → Fin S3x126x126.rank)
  reducesTo_S3x126x126_S_d0_1_2 : S3x126x126.ReducesTo [0, 1, 2] S_
  bcast_S_S3x126 : S_.BroadcastsInDim S3x126 (![] : Fin 0 → Fin S3x126.rank)
  reducesTo_S3x126_S_d0_1 : S3x126.ReducesTo [0, 1] S_

variable [Facts]

def fn_part1 {F : FTy → Type} [FloatOps F] (main_arg4 : FVec F S3x126x126 .f32) (main_arg5 : FVec F S3x126 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S3x126x126 .f32 := Host.absf main_arg4
  let main_cst_6 : FVec F S_ .f32 := constant S_ .f32 0x7F800000#32
  let main_v20 : FVec F S3x126x126 .f32 := broadcastInDim S3x126x126 ![] bcast_S_S3x126x126 main_cst_6
  let main_v21 : IVec S3x126x126 1 := cmpf .olt main_v19 main_v20
  let main_c_7 : IVec S_ 1 := constantI S_ 1 1#1
  let main_v22 : IVec S_ 1 := (fun x v => Host.reduce IntOp.andi x v reducesTo_S3x126x126_S_d0_1_2 h_S_) main_v21 main_c_7
  let main_v23 : IVec S_ 1 := andi main_v18 main_v22
  let main_v24 : FVec F S3x126 .f32 := Host.absf main_arg5
  let main_cst_8 : FVec F S_ .f32 := constant S_ .f32 0x7F800000#32
  let main_v25 : FVec F S3x126 .f32 := broadcastInDim S3x126 ![] bcast_S_S3x126 main_cst_8
  let main_v26 : IVec S3x126 1 := cmpf .olt main_v24 main_v25
  let main_c_9 : IVec S_ 1 := constantI S_ 1 1#1
  let main_v27 : IVec S_ 1 := (fun x v => Host.reduce IntOp.andi x v reducesTo_S3x126_S_d0_1 h_S_) main_v26 main_c_9
  let main_v28 : IVec S_ 1 := andi main_v23 main_v27
  main_v28

def fn {F : FTy → Type} [FloatOps F] (main_arg0 : FVec F S16384x100x32 .f32) (main_arg1 : FVec F S16384x26x32 .f32) (main_arg2 : FVec F S32x32 .f32) (main_arg3 : FVec F S32x32 .f32) (main_arg4 : FVec F S3x126x126 .f32) (main_arg5 : FVec F S3x126 .f32) (main_arg6 : FVec F S32 .f32) (main_arg7 : FVec F S32 .f32) : IVec S_ 1 :=
  let main_v0 : FVec F S16384x100x32 .f32 := Host.absf main_arg0
  let main_cst : FVec F S_ .f32 := constant S_ .f32 0x7F800000#32
  let main_v1 : FVec F S16384x100x32 .f32 := broadcastInDim S16384x100x32 ![] bcast_S_S16384x100x32 main_cst
  let main_v2 : IVec S16384x100x32 1 := cmpf .olt main_v0 main_v1
  let main_c : IVec S_ 1 := constantI S_ 1 1#1
  let main_v3 : IVec S_ 1 := (fun x v => Host.reduce IntOp.andi x v reducesTo_S16384x100x32_S_d0_1_2 h_S_) main_v2 main_c
  let main_v4 : FVec F S16384x26x32 .f32 := Host.absf main_arg1
  let main_cst_0 : FVec F S_ .f32 := constant S_ .f32 0x7F800000#32
  let main_v5 : FVec F S16384x26x32 .f32 := broadcastInDim S16384x26x32 ![] bcast_S_S16384x26x32 main_cst_0
  let main_v6 : IVec S16384x26x32 1 := cmpf .olt main_v4 main_v5
  let main_c_1 : IVec S_ 1 := constantI S_ 1 1#1
  let main_v7 : IVec S_ 1 := (fun x v => Host.reduce IntOp.andi x v reducesTo_S16384x26x32_S_d0_1_2 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_v13 main_v16
-- ==== Pre_rows_exist.lean ====
abbrev S16384x100x32 : Shape := ⟨3, ![16384, 100, 32]⟩
abbrev S16384x26x32 : Shape := ⟨3, ![16384, 26, 32]⟩
abbrev S16384x10 : Shape := ⟨2, ![16384, 10]⟩
abbrev S32x32 : Shape := ⟨2, ![32, 32]⟩
abbrev S32 : Shape := ⟨1, ![32]⟩
abbrev S_ : Shape := ⟨0, ![]⟩

class Facts : Prop where
  bcast_S_S16384x10 : S_.BroadcastsInDim S16384x10 (![] : Fin 0 → Fin S16384x10.rank)
  reducesTo_S16384x10_S_d0_1 : S16384x10.ReducesTo [0, 1] S_
  h_S_ : 0 < S_.numel

variable [Facts]

def fn_part1 {F : FTy → Type} [FloatOps F] (main_arg4 : IVec S16384x10 32) (main_arg5 : IVec S16384x10 32) (main_v12 : IVec S_ 1) (main_v14 : IVec S16384x10 1) (main_v15 : IVec S16384x10 32) : IVec S_ 1 :=
  let main_v16 : IVec S16384x10 1 := cmpi .slt main_arg4 main_v15
  let main_v17 : IVec S16384x10 1 := andi main_v14 main_v16
  let main_c_7 : IVec S_ 1 := constantI S_ 1 1#1
  let main_v18 : IVec S_ 1 := (fun x v => Host.reduce IntOp.andi x v reducesTo_S16384x10_S_d0_1 h_S_) main_v17 main_c_7
  let main_v19 : IVec S_ 1 := andi main_v12 main_v18
  let main_c_8 : IVec S_ 32 := constantI S_ 32 0#32
  let main_v20 : IVec S16384x10 32 := broadcastInDim S16384x10 ![] bcast_S_S16384x10 main_c_8
  let main_v21 : IVec S16384x10 1 := cmpi .sge main_arg5 main_v20
  let main_c_9 : IVec S_ 32 := constantI S_ 32 4#32
  let main_v22 : IVec S16384x10 32 := broadcastInDim S16384x10 ![] bcast_S_S16384x10 main_c_9
  let main_v23 : IVec S16384x10 1 := cmpi .slt main_arg5 main_v22
  let main_v24 : IVec S16384x10 1 := andi main_v21 main_v23
  let main_c_10 : IVec S_ 1 := constantI S_ 1 1#1
  let main_v25 : IVec S_ 1 := (fun x v => Host.reduce IntOp.andi x v reducesTo_S16384x10_S_d0_1 h_S_) main_v24 main_c_10
  let main_v26 : IVec S_ 1 := andi main_v19 main_v25
  main_v26

def fn {F : FTy → Type} [FloatOps F] (main_arg0 : FVec F S16384x100x32 .f32) (main_arg1 : FVec F S16384x26x32 .f32) (main_arg2 : IVec S16384x10 32) (main_arg3 : IVec S16384x10 32) (main_arg4 : IVec S16384x10 32) (main_arg5 : IVec S16384x10 32) (main_arg6 : FVec F S32x32 .f32) (main_arg7 : FVec F S32x32 .f32) (main_arg8 : FVec F S32 .f32) (main_arg9 : FVec F S32 .f32) : IVec S_ 1 :=
  let main_c : IVec S_ 32 := constantI S_ 32 0#32
  let main_v0 : IVec S16384x10 32 := broadcastInDim S16384x10 ![] bcast_S_S16384x10 main_c
  let main_v1 : IVec S16384x10 1 := cmpi .sge main_arg2 main_v0
  let main_c_0 : IVec S_ 32 := constantI S_ 32 409600#32
  let main_v2 : IVec S16384x10 32 := broadcastInDim S16384x10 ![] bcast_S_S16384x10 main_c_0
  let main_v3 : IVec S16384x10 1 := cmpi .slt main_arg2 main_v2
  let main_v4 : IVec S16384x10 1 := andi main_v1 main_v3
  let main_c_1 : IVec S_ 1 := constantI S_ 1 1#1
  let main_v5 : IVec S_ 1 := (fun x v => Host.reduce IntOp.andi x v reducesTo_S16384x10_S_d0_1 h_S_) main_v4 main_c_1
  let main_c_2 : IVec S_ 32 := constantI S_ 32 0#32
  let main_v6 : IVec S16384x10 32 := broadcastInDim S16384x10 ![] bcast_S_S16384x10 main_c_2
  let main_v7 : IVec S16384x10 1 := cmpi .sge main_arg3 main_v6
  let main_c_3 : IVec S_ 32 := constantI S_ 32 4#32
  let main_v8 : IVec S16384x10 32 := broadcastInDim S16384x10 ![] bcast_S_S16384x10 main_c_3
  let main_v9 : IVec S16384x10 1 := cmpi .slt main_arg3 main_v8
  let main_v10 : IVec S16384x10 1 := andi main_v7 main_v9
  let main_c_4 : IVec S_ 1 := constantI S_ 1 1#1
  let main_v11 : IVec S_ 1 := (fun x v => Host.reduce IntOp.andi x v reducesTo_S16384x10_S_d0_1 h_S_) main_v10 main_c_4
  let main_v12 : IVec S_ 1 := andi main_v5 main_v11
  let main_c_5 : IVec S_ 32 := constantI S_ 32 0#32
  let main_v13 : IVec S16384x10 32 := broadcastInDim S16384x10 ![] bcast_S_S16384x10 main_c_5
  let main_v14 : IVec S16384x10 1 := cmpi .sge main_arg4 main_v13
  let main_c_6 : IVec S_ 32 := constantI S_ 32 106496#32
  let main_v15 : IVec S16384x10 32 := broadcastInDim S16384x10 ![] bcast_S_S16384x10 main_c_6
  fn_part1 (F := F) main_arg4 main_arg5 main_v12 main_v14 main_v15
-- ==== Tail.lean ====
abbrev S16384x100x32 : Shape := ⟨3, ![16384, 100, 32]⟩
abbrev S16384x26x32 : Shape := ⟨3, ![16384, 26, 32]⟩
abbrev S16384x10 : Shape := ⟨2, ![16384, 10]⟩
abbrev S32x32 : Shape := ⟨2, ![32, 32]⟩
abbrev S32 : Shape := ⟨1, ![32]⟩
abbrev S409600x128 : Shape := ⟨2, ![409600, 128]⟩
abbrev S106496x128 : Shape := ⟨2, ![106496, 128]⟩
abbrev S163840 : Shape := ⟨1, ![163840]⟩
abbrev S163840x128 : Shape := ⟨2, ![163840, 128]⟩
abbrev S512 : Shape := ⟨1, ![512]⟩
abbrev S512x128 : Shape := ⟨2, ![512, 128]⟩
abbrev S_ : Shape := ⟨0, ![]⟩
abbrev S1x32x1x32 : Shape := ⟨4, ![1, 32, 1, 32]⟩
abbrev S1x32x10x32 : Shape := ⟨4, ![1, 32, 10, 32]⟩
abbrev S32x320 : Shape := ⟨2, ![32, 320]⟩
abbrev S10x10 : Shape := ⟨2, ![10, 10]⟩
abbrev S10x1x10x1 : Shape := ⟨4, ![10, 1, 10, 1]⟩
abbrev S10x32x10x32 : Shape := ⟨4, ![10, 32, 10, 32]⟩
abbrev S320x320 : Shape := ⟨2, ![320, 320]⟩
abbrev S1x32 : Shape := ⟨2, ![1, 32]⟩
abbrev S10x32 : Shape := ⟨2, ![10, 32]⟩
abbrev S320 : Shape := ⟨1, ![320]⟩
abbrev S1x320 : Shape := ⟨2, ![1, 320]⟩
abbrev S16384x1280 : Shape := ⟨2, ![16384, 1280]⟩
abbrev S163840x1 : Shape := ⟨2, ![163840, 1]⟩
abbrev S163840x320 : Shape := ⟨2, ![163840, 320]⟩
abbrev S640x128 : Shape := ⟨2, ![640, 128]⟩
abbrev S64x1280 : Shape := ⟨2, ![64, 1280]⟩
abbrev S640x1 : Shape := ⟨2, ![640, 1]⟩
abbrev S64x10 : Shape := ⟨2, ![64, 10]⟩
abbrev S640x320 : Shape := ⟨2, ![640, 320]⟩
abbrev S640x32 : Shape := ⟨2, ![640, 32]⟩
abbrev S64x1 : Shape := ⟨2, ![64, 1]⟩
abbrev S64x32 : Shape := ⟨2, ![64, 32]⟩
abbrev S64x320 : Shape := ⟨2, ![64, 320]⟩
abbrev S64x10x320 : Shape := ⟨3, ![64, 10, 320]⟩
abbrev S64x1x320 : Shape := ⟨3, ![64, 1, 320]⟩

abbrev nBuf : Table → Nat
  | .hbm => 61
  | .local .tc .vmem => 15
  | .local .scVector .vmem => 2
  | _ => 0

abbrev bufTy : (tb : Table) → Fin (nBuf tb) → BufTy
  | .hbm, ⟨0, _⟩ => ⟨S16384x100x32, .f32⟩
  | .hbm, ⟨1, _⟩ => ⟨S16384x26x32, .f32⟩
  | .hbm, ⟨2, _⟩ => ⟨S16384x10, .i32⟩
  | .hbm, ⟨3, _⟩ => ⟨S16384x10, .i32⟩
  | .hbm, ⟨4, _⟩ => ⟨S16384x10, .i32⟩
  | .hbm, ⟨5, _⟩ => ⟨S16384x10, .i32⟩
  | .hbm, ⟨6, _⟩ => ⟨S32x32, .f32⟩
  | .hbm, ⟨7, _⟩ => ⟨S32x32, .f32⟩
  | .hbm, ⟨8, _⟩ => ⟨S32, .f32⟩
  | .hbm, ⟨9, _⟩ => ⟨S32, .f32⟩
  | .hbm, ⟨10, _⟩ => ⟨S409600x128, .f32⟩
  | .hbm, ⟨11, _⟩ => ⟨S106496x128, .f32⟩
  | .hbm, ⟨12, _⟩ => ⟨S163840, .i32⟩
  | .hbm, ⟨13, _⟩ => ⟨S163840, .i32⟩
  | .hbm, ⟨14, _⟩ => ⟨S163840x128, .f32⟩
  | .hbm, ⟨15, _⟩ => ⟨S163840x128, .f32⟩
  | .hbm, ⟨16, _⟩ => ⟨S32x32, .f32⟩
  | .hbm, ⟨17, _⟩ => ⟨S1x32x1x32, .f32⟩
  | .hbm, ⟨18, _⟩ => ⟨S1x32x10x32, .f32⟩
  | .hbm, ⟨19, _⟩ => ⟨S32x320, .f32⟩
  | .hbm, ⟨20, _⟩ => ⟨S10x10, .i32⟩
  | .hbm, ⟨21, _⟩ => ⟨S10x10, .i32⟩
  | .hbm, ⟨22, _⟩ => ⟨S_, .i32⟩
  | .hbm, ⟨23, _⟩ => ⟨S10x10, .i32⟩
  | .hbm, ⟨24, _⟩ => ⟨S10x10, .i32⟩
  | .hbm, ⟨25, _⟩ => ⟨S10x10, .i1⟩
  | .hbm, ⟨26, _⟩ => ⟨S10x10, .f32⟩
  | .hbm, ⟨27, _⟩ => ⟨S32x32, .f32⟩
  | .hbm, ⟨28, _⟩ => ⟨S10x1x10x1, .f32⟩
  | .hbm, ⟨29, _⟩ => ⟨S1x32x1x32, .f32⟩
  | .hbm, ⟨30, _⟩ => ⟨S10x32x10x32, .f32⟩
  | .hbm, ⟨31, _⟩ => ⟨S10x32x10x32, .f32⟩
  | .hbm, ⟨32, _⟩ => ⟨S10x32x10x32, .f32⟩
  | .hbm, ⟨33, _⟩ => ⟨S320x320, .f32⟩
  | .hbm, ⟨34, _⟩ => ⟨S10x10, .i32⟩
  | .hbm, ⟨35, _⟩ => ⟨S10x10, .i32⟩
  | .hbm, ⟨36, _⟩ => ⟨S_, .i32⟩
  | .hbm, ⟨37, _⟩ => ⟨S10x10, .i32⟩
  | .hbm, ⟨38, _⟩ => ⟨S10x10, .i32⟩
  | .hbm, ⟨39, _⟩ => ⟨S10x10, .i1⟩
  | .hbm, ⟨40, _⟩ => ⟨S10x10, .f32⟩
  | .hbm, ⟨41, _⟩ => ⟨S_, .f32⟩
  | .hbm, ⟨42, _⟩ => ⟨S32x32, .f32⟩
  | .hbm, ⟨43, _⟩ => ⟨S10x1x10x1, .f32⟩
  | .hbm, ⟨44, _⟩ => ⟨S1x32x1x32, .f32⟩
  | .hbm, ⟨45, _⟩ => ⟨S10x32x10x32, .f32⟩
  | .hbm, ⟨46, _⟩ => ⟨S10x32x10x32, .f32⟩
  | .hbm, ⟨47, _⟩ => ⟨S10x32x10x32, .f32⟩
  | .hbm, ⟨48, _⟩ => ⟨S320x320, .f32⟩
  | .hbm, ⟨49, _⟩ => ⟨S1x32, .f32⟩
  | .hbm, ⟨50, _⟩ => ⟨S10x32, .f32⟩
  | .hbm, ⟨51, _⟩ => ⟨S320, .f32⟩
  | .hbm, ⟨52, _⟩ => ⟨S1x320, .f32⟩
  | .hbm, ⟨53, _⟩ => ⟨S1x32, .f32⟩
  | .hbm, ⟨54, _⟩ => ⟨S10x32, .f32⟩
  | .hbm, ⟨55, _⟩ => ⟨S320, .f32⟩
  | .hbm, ⟨56, _⟩ => ⟨S1x320, .f32⟩
  | .hbm, ⟨57, _⟩ => ⟨S16384x1280, .f32⟩
  | .hbm, ⟨58, _⟩ => ⟨S163840x1, .i32⟩
  | .hbm, ⟨59, _⟩ => ⟨S163840x320, .f32⟩
  | .hbm, ⟨60, _⟩ => ⟨S16384x100x32, .f32⟩
  | .local .tc .vmem, ⟨0, _⟩ => ⟨S640x128, .f32⟩
  | .local .tc .vmem, ⟨1, _⟩ => ⟨S640x128, .f32⟩
  | .local .tc .vmem, ⟨2, _⟩ => ⟨S64x1280, .f32⟩
  | .local .tc .vmem, ⟨3, _⟩ => ⟨S64x1280, .f32⟩
  | .local .tc .vmem, ⟨4, _⟩ => ⟨S640x1, .i32⟩
  | .local .tc .vmem, ⟨5, _⟩ => ⟨S640x1, .i32⟩
  | .local .tc .vmem, ⟨6, _⟩ => ⟨S64x10, .i32⟩
  | .local .tc .vmem, ⟨7, _⟩ => ⟨S64x10, .i32⟩
  | .local .tc .vmem, ⟨8, _⟩ => ⟨S32x320, .f32⟩
  | .local .tc .vmem, ⟨9, _⟩ => ⟨S320x320, .f32⟩
  | .local .tc .vmem, ⟨10, _⟩ => ⟨S320x320, .f32⟩
  | .local .tc .vmem, ⟨11, _⟩ => ⟨S1x320, .f32⟩
  | .local .tc .vmem, ⟨12, _⟩ => ⟨S1x320, .f32⟩
  | .local .tc .vmem, ⟨13, _⟩ => ⟨S640x320, .f32⟩
  | .local .tc .vmem, ⟨14, _⟩ => ⟨S640x320, .f32⟩
  | .local .scVector .vmem, ⟨0, _⟩ => ⟨S512, .i32⟩
  | .local .scVector .vmem, ⟨1, _⟩ => ⟨S512x128, .f32⟩
  | _, _ => ⟨S16384x100x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 56 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTables nBuf rfl bufTy 4 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v0_scv : Ref sig .scVector := ⟨.hbm, 10, rfl⟩
abbrev main_v1_scv : Ref sig .scVector := ⟨.hbm, 11, rfl⟩
abbrev main_v2_scv : Ref sig .scVector := ⟨.hbm, 12, rfl⟩
abbrev main_v3_scv : Ref sig .scVector := ⟨.hbm, 13, rfl⟩
abbrev main_v4_0_scv : Ref sig .scVector := ⟨.hbm, 14, rfl⟩
abbrev main_v4_1_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg9_1 : Ref sig .tc := ⟨.vmem, 14, rfl⟩
abbrev cc0_scratch0 : Ref sig .scVector := ⟨.vmem, 0, rfl⟩
abbrev cc0_scratch1 : Ref sig .scVector := ⟨.vmem, 1, rfl⟩
abbrev cc1_sem0_0 : DmaSem sig := 41
abbrev cc1_sem0_1 : DmaSem sig := 42
abbrev cc1_sem1_0 : DmaSem sig := 43
abbrev cc1_sem1_1 : DmaSem sig := 44
abbrev cc1_sem2_0 : DmaSem sig := 45
abbrev cc1_sem2_1 : DmaSem sig := 46
abbrev cc1_sem3_0 : DmaSem sig := 47
abbrev cc1_sem3_1 : DmaSem sig := 48
abbrev cc1_sem4_0 : DmaSem sig := 49
abbrev cc1_sem5_0 : DmaSem sig := 50
abbrev cc1_sem6_0 : DmaSem sig := 51
abbrev cc1_sem7_0 : DmaSem sig := 52
abbrev cc1_sem8_0 : DmaSem sig := 53
abbrev cc1_sem9_0 : DmaSem sig := 54
abbrev cc1_sem9_1 : DmaSem sig := 55
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5120_i32 : BitVec 32 := 5120#32
  let v2 : BitVec 32 := Scalar.muli v1 c5120_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5120_i32 : BitVec 32 := 5120#32
  let v2 : BitVec 32 := Scalar.muli v1 c5120_i32
  let v3 : BitVec 32 := Scalar.addi v2 c0_i32
  let c0_i32_90_r1 : BitVec 32 := 0#32
  ![v3.toNat, 0]
abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S640x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x10 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x320 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S320x320 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S320x320 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x320 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x320 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S640x320 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== TailRefIdeal.lean ====
abbrev S16384x100x32 : Shape := ⟨3, ![16384, 100, 32]⟩
abbrev S16384x26x32 : Shape := ⟨3, ![16384, 26, 32]⟩
abbrev S16384x10 : Shape := ⟨2, ![16384, 10]⟩
abbrev S32x32 : Shape := ⟨2, ![32, 32]⟩
abbrev S32 : Shape := ⟨1, ![32]⟩
abbrev S1638400x32 : Shape := ⟨2, ![1638400, 32]⟩
abbrev S_ : Shape := ⟨0, ![]⟩
abbrev S16384x10x1 : Shape := ⟨3, ![16384, 10, 1]⟩
abbrev S16384x10x32 : Shape := ⟨3, ![16384, 10, 32]⟩
abbrev S425984x32 : Shape := ⟨2, ![425984, 32]⟩
abbrev S16384x10x1x32 : Shape := ⟨4, ![16384, 10, 1, 32]⟩
abbrev S16384x1x10x32 : Shape := ⟨4, ![16384, 1, 10, 32]⟩
abbrev S16384x10x10x32 : Shape := ⟨4, ![16384, 10, 10, 32]⟩
abbrev S16384x10x10 : Shape := ⟨3, ![16384, 10, 10]⟩
abbrev S16384x10x10x1 : Shape := ⟨4, ![16384, 10, 10, 1]⟩
abbrev S1x1x1x32 : Shape := ⟨4, ![1, 1, 1, 32]⟩

abbrev nBuf : Space → Nat
  | .hbm => 92
  | .vmem => 0
  | .smem => 0
  | _ => 0

abbrev bufTy : (tb : Table) → Fin (tcTables nBuf tb) → BufTy
  | .hbm, ⟨0, _⟩ => ⟨S16384x100x32, .f32⟩
  | .hbm, ⟨1, _⟩ => ⟨S16384x26x32, .f32⟩
  | .hbm, ⟨2, _⟩ => ⟨S16384x10, .i32⟩
  | .hbm, ⟨3, _⟩ => ⟨S16384x10, .i32⟩
  | .hbm, ⟨4, _⟩ => ⟨S16384x10, .i32⟩
  | .hbm, ⟨5, _⟩ => ⟨S16384x10, .i32⟩
  | .hbm, ⟨6, _⟩ => ⟨S32x32, .f32⟩
  | .hbm, ⟨7, _⟩ => ⟨S32x32, .f32⟩
  | .hbm, ⟨8, _⟩ => ⟨S32, .f32⟩
  | .hbm, ⟨9, _⟩ => ⟨S32, .f32⟩
  | .hbm, ⟨10, _⟩ => ⟨S32x32, .f32⟩
  | .hbm, ⟨11, _⟩ => ⟨S16384x100x32, .f32⟩
  | .hbm, ⟨12, _⟩ => ⟨S32x32, .f32⟩
  | .hbm, ⟨13, _⟩ => ⟨S16384x26x32, .f32⟩
  | .hbm, ⟨14, _⟩ => ⟨S1638400x32, .f32⟩
  | .hbm, ⟨15, _⟩ => ⟨S_, .i32⟩
  | .hbm, ⟨16, _⟩ => ⟨S16384x10, .i32⟩
  | .hbm, ⟨17, _⟩ => ⟨S16384x10, .i32⟩
  | .hbm, ⟨18, _⟩ => ⟨S16384x10, .i32⟩
  | .hbm, ⟨19, _⟩ => ⟨S_, .i32⟩
  | .hbm, ⟨20, _⟩ => ⟨S16384x10, .i32⟩
  | .hbm, ⟨21, _⟩ => ⟨S16384x10, .i1⟩
  | .hbm, ⟨22, _⟩ => ⟨S_, .i32⟩
  | .hbm, ⟨23, _⟩ => ⟨S16384x10, .i32⟩
  | .hbm, ⟨24, _⟩ => ⟨S16384x10, .i32⟩
  | .hbm, ⟨25, _⟩ => ⟨S16384x10, .i32⟩
  | .hbm, ⟨26, _⟩ => ⟨S16384x10x1, .i32⟩
  | .hbm, ⟨27, _⟩ => ⟨S16384x10x32, .f32⟩
  | .hbm, ⟨28, _⟩ => ⟨S425984x32, .f32⟩
  | .hbm, ⟨29, _⟩ => ⟨S_, .i32⟩
  | .hbm, ⟨30, _⟩ => ⟨S16384x10, .i32⟩
  | .hbm, ⟨31, _⟩ => ⟨S16384x10, .i32⟩
  | .hbm, ⟨32, _⟩ => ⟨S16384x10, .i32⟩
  | .hbm, ⟨33, _⟩ => ⟨S_, .i32⟩
  | .hbm, ⟨34, _⟩ => ⟨S16384x10, .i32⟩
  | .hbm, ⟨35, _⟩ => ⟨S16384x10, .i1⟩
  | .hbm, ⟨36, _⟩ => ⟨S_, .i32⟩
  | .hbm, ⟨37, _⟩ => ⟨S16384x10, .i32⟩
  | .hbm, ⟨38, _⟩ => ⟨S16384x10, .i32⟩
  | .hbm, ⟨39, _⟩ => ⟨S16384x10, .i32⟩
  | .hbm, ⟨40, _⟩ => ⟨S16384x10x1, .i32⟩
  | .hbm, ⟨41, _⟩ => ⟨S16384x10x32, .f32⟩
  | .hbm, ⟨42, _⟩ => ⟨S16384x10x1x32, .f32⟩
  | .hbm, ⟨43, _⟩ => ⟨S16384x1x10x32, .f32⟩
  | .hbm, ⟨44, _⟩ => ⟨S16384x10x10x32, .f32⟩
  | .hbm, ⟨45, _⟩ => ⟨S16384x10x10x32, .f32⟩
  | .hbm, ⟨46, _⟩ => ⟨S16384x10x10x32, .f32⟩
  | .hbm, ⟨47, _⟩ => ⟨S_, .f32⟩
  | .hbm, ⟨48, _⟩ => ⟨S16384x10x10, .f32⟩
  | .hbm, ⟨49, _⟩ => ⟨S16384x10x10x1, .f32⟩
  | .hbm, ⟨50, _⟩ => ⟨S_, .f32⟩
  | .hbm, ⟨51, _⟩ => ⟨S16384x10x10x1, .f32⟩
  | .hbm, ⟨52, _⟩ => ⟨S16384x10x10x1, .f32⟩
  | .hbm, ⟨53, _⟩ => ⟨S_, .i32⟩
  | .hbm, ⟨54, _⟩ => ⟨S_, .f32⟩
  | .hbm, ⟨55, _⟩ => ⟨S16384x10x10, .f32⟩
  | .hbm, ⟨56, _⟩ => ⟨S16384x10x10x1, .f32⟩
  | .hbm, ⟨57, _⟩ => ⟨S_, .f32⟩
  | .hbm, ⟨58, _⟩ => ⟨S16384x10x10x1, .f32⟩
  | .hbm, ⟨59, _⟩ => ⟨S16384x10x10x1, .f32⟩
  | .hbm, ⟨60, _⟩ => ⟨S16384x10x10x32, .f32⟩
  | .hbm, ⟨61, _⟩ => ⟨S16384x10x10x32, .f32⟩
  | .hbm, ⟨62, _⟩ => ⟨S16384x10x10x32, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S16384x10x10, .f32⟩
  | .hbm, ⟨68, _⟩ => ⟨S16384x10x10x1, .f32⟩
  | .hbm, ⟨69, _⟩ => ⟨S16384x10x10x1, .f32⟩
  | .hbm, ⟨70, _⟩ => ⟨S16384x10x10x1, .f32⟩
  | .hbm, ⟨71, _⟩ => ⟨S_, .f32⟩
  | .hbm, ⟨72, _⟩ => ⟨S_, .i1⟩
  | .hbm, ⟨73, _⟩ => ⟨S_, .f32⟩
  | .hbm, ⟨74, _⟩ => ⟨S_, .f32⟩
  | .hbm, ⟨75, _⟩ => ⟨S16384x10x10x1, .f32⟩
  | .hbm, ⟨76, _⟩ => ⟨S16384x10x10x1, .f32⟩
  | .hbm, ⟨77, _⟩ => ⟨S16384x10x10x32, .f32⟩
  | .hbm, ⟨78, _⟩ => ⟨S16384x10x10x32, .f32⟩
  | .hbm, ⟨79, _⟩ => ⟨S_, .f32⟩
  | .hbm, ⟨80, _⟩ => ⟨S16384x10x10x1, .f32⟩
  | .hbm, ⟨81, _⟩ => ⟨S16384x10x10x1, .f32⟩
  | .hbm, ⟨82, _⟩ => ⟨S16384x10x10x1, .f32⟩
  | .hbm, ⟨83, _⟩ => ⟨S16384x10x10x32, .f32⟩
  | .hbm, ⟨84, _⟩ => ⟨S16384x10x10x32, .f32⟩
  | .hbm, ⟨85, _⟩ => ⟨S1x1x1x32, .f32⟩
  | .hbm, ⟨86, _⟩ => ⟨S16384x10x10x32, .f32⟩
  | .hbm, ⟨87, _⟩ => ⟨S16384x10x10x32, .f32⟩
  | .hbm, ⟨88, _⟩ => ⟨S1x1x1x32, .f32⟩
  | .hbm, ⟨89, _⟩ => ⟨S16384x10x10x32, .f32⟩
  | .hbm, ⟨90, _⟩ => ⟨S16384x10x10x32, .f32⟩
  | .hbm, ⟨91, _⟩ => ⟨S16384x100x32, .f32⟩
  | _, _ => ⟨S16384x100x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_cst_3 : Ref sig .tc := ⟨.hbm, 71, rfl⟩
abbrev main_call0_v13 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_7 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩

abbrev nD : Nat := 1
abbrev τ : Topo := Topo.v7x

variable {F : FTy → Type} [FloatOps F]
-- ==== KernelIdeal.lean ====
abbrev S16384x100x32 : Shape := ⟨3, ![16384, 100, 32]⟩
abbrev S16384x26x32 : Shape := ⟨3, ![16384, 26, 32]⟩
abbrev S32x32 : Shape := ⟨2, ![32, 32]⟩
abbrev S3x126x126 : Shape := ⟨3, ![3, 126, 126]⟩
abbrev S3x126 : Shape := ⟨2, ![3, 126]⟩
abbrev S32 : Shape := ⟨1, ![32]⟩
abbrev S_ : Shape := ⟨0, ![]⟩
abbrev S3x128x128 : Shape := ⟨3, ![3, 128, 128]⟩
abbrev S1 : Shape := ⟨1, ![1]⟩
abbrev S2 : Shape := ⟨1, ![2]⟩
abbrev S3x1x128 : Shape := ⟨3, ![3, 1, 128]⟩
abbrev S16384x10 : Shape := ⟨2, ![16384, 10]⟩
abbrev S64x100x32 : Shape := ⟨3, ![64, 100, 32]⟩
abbrev S64x26x32 : Shape := ⟨3, ![64, 26, 32]⟩
abbrev S64x10 : Shape := ⟨2, ![64, 10]⟩
abbrev S6400x32 : Shape := ⟨2, ![6400, 32]⟩
abbrev S1664x32 : Shape := ⟨2, ![1664, 32]⟩
abbrev S64x100 : Shape := ⟨2, ![64, 100]⟩
abbrev S64x26 : Shape := ⟨2, ![64, 26]⟩
abbrev S64x2 : Shape := ⟨2, ![64, 2]⟩
abbrev S64x128 : Shape := ⟨2, ![64, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S64 : Shape := ⟨1, ![64]⟩
abbrev S64x1 : Shape := ⟨2, ![64, 1]⟩
abbrev S409600x128 : Shape := ⟨2, ![409600, 128]⟩
abbrev S106496x128 : Shape := ⟨2, ![106496, 128]⟩
abbrev S163840 : Shape := ⟨1, ![163840]⟩
abbrev S163840x128 : Shape := ⟨2, ![163840, 128]⟩
abbrev S512 : Shape := ⟨1, ![512]⟩
abbrev S512x128 : Shape := ⟨2, ![512, 128]⟩
abbrev S1x32x1x32 : Shape := ⟨4, ![1, 32, 1, 32]⟩
abbrev S1x32x10x32 : Shape := ⟨4, ![1, 32, 10, 32]⟩
abbrev S32x320 : Shape := ⟨2, ![32, 320]⟩
abbrev S10x10 : Shape := ⟨2, ![10, 10]⟩
abbrev S10x1x10x1 : Shape := ⟨4, ![10, 1, 10, 1]⟩
abbrev S10x32x10x32 : Shape := ⟨4, ![10, 32, 10, 32]⟩
abbrev S320x320 : Shape := ⟨2, ![320, 320]⟩
abbrev S1x32 : Shape := ⟨2, ![1, 32]⟩
abbrev S10x32 : Shape := ⟨2, ![10, 32]⟩
abbrev S320 : Shape := ⟨1, ![320]⟩
abbrev S1x320 : Shape := ⟨2, ![1, 320]⟩
abbrev S16384x1280 : Shape := ⟨2, ![16384, 1280]⟩
abbrev S163840x1 : Shape := ⟨2, ![163840, 1]⟩
abbrev S163840x320 : Shape := ⟨2, ![163840, 320]⟩
abbrev S640x128 : Shape := ⟨2, ![640, 128]⟩
abbrev S64x1280 : Shape := ⟨2, ![64, 1280]⟩
abbrev S640x1 : Shape := ⟨2, ![640, 1]⟩
abbrev S640x320 : Shape := ⟨2, ![640, 320]⟩
abbrev S640x32 : Shape := ⟨2, ![640, 32]⟩
abbrev S64x32 : Shape := ⟨2, ![64, 32]⟩
abbrev S64x320 : Shape := ⟨2, ![64, 320]⟩
abbrev S64x10x320 : Shape := ⟨3, ![64, 10, 320]⟩
abbrev S64x1x320 : Shape := ⟨3, ![64, 1, 320]⟩

abbrev nBuf : Table → Nat
  | .hbm => 82
  | .local .tc .vmem => 31
  | .local .scVector .vmem => 2
  | _ => 0

abbrev bufTy : (tb : Table) → Fin (nBuf tb) → BufTy
  | .hbm, ⟨0, _⟩ => ⟨S16384x100x32, .f32⟩
  | .hbm, ⟨1, _⟩ => ⟨S16384x26x32, .f32⟩
  | .hbm, ⟨2, _⟩ => ⟨S32x32, .f32⟩
  | .hbm, ⟨3, _⟩ => ⟨S32x32, .f32⟩
  | .hbm, ⟨4, _⟩ => ⟨S3x126x126, .f32⟩
  | .hbm, ⟨5, _⟩ => ⟨S3x126, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S3x128x128, .f32⟩
  | .hbm, ⟨10, _⟩ => ⟨S3x126x126, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S3x128x128, .f32⟩
  | .hbm, ⟨17, _⟩ => ⟨S_, .f32⟩
  | .hbm, ⟨18, _⟩ => ⟨S3x1x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S3x1x128, .f32⟩
  | .hbm, ⟨25, _⟩ => ⟨S32x32, .f32⟩
  | .hbm, ⟨26, _⟩ => ⟨S32x32, .f32⟩
  | .hbm, ⟨27, _⟩ => ⟨S16384x10, .i32⟩
  | .hbm, ⟨28, _⟩ => ⟨S16384x10, .i32⟩
  | .hbm, ⟨29, _⟩ => ⟨S16384x10, .i32⟩
  | .hbm, ⟨30, _⟩ => ⟨S16384x10, .i32⟩
  | .hbm, ⟨31, _⟩ => ⟨S409600x128, .f32⟩
  | .hbm, ⟨32, _⟩ => ⟨S106496x128, .f32⟩
  | .hbm, ⟨33, _⟩ => ⟨S163840, .i32⟩
  | .hbm, ⟨34, _⟩ => ⟨S163840, .i32⟩
  | .hbm, ⟨35, _⟩ => ⟨S163840x128, .f32⟩
  | .hbm, ⟨36, _⟩ => ⟨S163840x128, .f32⟩
  | .hbm, ⟨37, _⟩ => ⟨S32x32, .f32⟩
  | .hbm, ⟨38, _⟩ => ⟨S1x32x1x32, .f32⟩
  | .hbm, ⟨39, _⟩ => ⟨S1x32x10x32, .f32⟩
  | .hbm, ⟨40, _⟩ => ⟨S32x320, .f32⟩
  | .hbm, ⟨41, _⟩ => ⟨S10x10, .i32⟩
  | .hbm, ⟨42, _⟩ => ⟨S10x10, .i32⟩
  | .hbm, ⟨43, _⟩ => ⟨S_, .i32⟩
  | .hbm, ⟨44, _⟩ => ⟨S10x10, .i32⟩
  | .hbm, ⟨45, _⟩ => ⟨S10x10, .i32⟩
  | .hbm, ⟨46, _⟩ => ⟨S10x10, .i1⟩
  | .hbm, ⟨47, _⟩ => ⟨S10x10, .f32⟩
  | .hbm, ⟨48, _⟩ => ⟨S32x32, .f32⟩
  | .hbm, ⟨49, _⟩ => ⟨S10x1x10x1, .f32⟩
  | .hbm, ⟨50, _⟩ => ⟨S1x32x1x32, .f32⟩
  | .hbm, ⟨51, _⟩ => ⟨S10x32x10x32, .f32⟩
  | .hbm, ⟨52, _⟩ => ⟨S10x32x10x32, .f32⟩
  | .hbm, ⟨53, _⟩ => ⟨S10x32x10x32, .f32⟩
  | .hbm, ⟨54, _⟩ => ⟨S320x320, .f32⟩
  | .hbm, ⟨55, _⟩ => ⟨S10x10, .i32⟩
  | .hbm, ⟨56, _⟩ => ⟨S10x10, .i32⟩
  | .hbm, ⟨57, _⟩ => ⟨S_, .i32⟩
  | .hbm, ⟨58, _⟩ => ⟨S10x10, .i32⟩
  | .hbm, ⟨59, _⟩ => ⟨S10x10, .i32⟩
  | .hbm, ⟨60, _⟩ => ⟨S10x10, .i1⟩
  | .hbm, ⟨61, _⟩ => ⟨S10x10, .f32⟩
  | .hbm, ⟨62, _⟩ => ⟨S_, .f32⟩
  | .hbm, ⟨63, _⟩ => ⟨S32x32, .f32⟩
  | .hbm, ⟨64, _⟩ => ⟨S10x1x10x1, .f32⟩
  | .hbm, ⟨65, _⟩ => ⟨S1x32x1x32, .f32⟩
  | .hbm, ⟨66, _⟩ => ⟨S10x32x10x32, .f32⟩
  | .hbm, ⟨67, _⟩ => ⟨S10x32x10x32, .f32⟩
  | .hbm, ⟨68, _⟩ => ⟨S10x32x10x32, .f32⟩
  | .hbm, ⟨69, _⟩ => ⟨S320x320, .f32⟩
  | .hbm, ⟨70, _⟩ => ⟨S1x32, .f32⟩
  | .hbm, ⟨71, _⟩ => ⟨S10x32, .f32⟩
  | .hbm, ⟨72, _⟩ => ⟨S320, .f32⟩
  | .hbm, ⟨73, _⟩ => ⟨S1x320, .f32⟩
  | .hbm, ⟨74, _⟩ => ⟨S1x32, .f32⟩
  | .hbm, ⟨75, _⟩ => ⟨S10x32, .f32⟩
  | .hbm, ⟨76, _⟩ => ⟨S320, .f32⟩
  | .hbm, ⟨77, _⟩ => ⟨S1x320, .f32⟩
  | .hbm, ⟨78, _⟩ => ⟨S16384x1280, .f32⟩
  | .hbm, ⟨79, _⟩ => ⟨S163840x1, .i32⟩
  | .hbm, ⟨80, _⟩ => ⟨S163840x320, .f32⟩
  | .hbm, ⟨81, _⟩ => ⟨S16384x100x32, .f32⟩
  | .local .tc .vmem, ⟨0, _⟩ => ⟨S64x100x32, .f32⟩
  | .local .tc .vmem, ⟨1, _⟩ => ⟨S64x100x32, .f32⟩
  | .local .tc .vmem, ⟨2, _⟩ => ⟨S64x26x32, .f32⟩
  | .local .tc .vmem, ⟨3, _⟩ => ⟨S64x26x32, .f32⟩
  | .local .tc .vmem, ⟨4, _⟩ => ⟨S32x32, .f32⟩
  | .local .tc .vmem, ⟨5, _⟩ => ⟨S32x32, .f32⟩
  | .local .tc .vmem, ⟨6, _⟩ => ⟨S3x128x128, .f32⟩
  | .local .tc .vmem, ⟨7, _⟩ => ⟨S3x1x128, .f32⟩
  | .local .tc .vmem, ⟨8, _⟩ => ⟨S64x10, .i32⟩
  | .local .tc .vmem, ⟨9, _⟩ => ⟨S64x10, .i32⟩
  | .local .tc .vmem, ⟨10, _⟩ => ⟨S64x10, .i32⟩
  | .local .tc .vmem, ⟨11, _⟩ => ⟨S64x10, .i32⟩
  | .local .tc .vmem, ⟨12, _⟩ => ⟨S64x10, .i32⟩
  | .local .tc .vmem, ⟨13, _⟩ => ⟨S64x10, .i32⟩
  | .local .tc .vmem, ⟨14, _⟩ => ⟨S64x10, .i32⟩
  | .local .tc .vmem, ⟨15, _⟩ => ⟨S64x10, .i32⟩
  | .local .tc .vmem, ⟨16, _⟩ => ⟨S640x128, .f32⟩
  | .local .tc .vmem, ⟨17, _⟩ => ⟨S640x128, .f32⟩
  | .local .tc .vmem, ⟨18, _⟩ => ⟨S64x1280, .f32⟩
  | .local .tc .vmem, ⟨19, _⟩ => ⟨S64x1280, .f32⟩
  | .local .tc .vmem, ⟨20, _⟩ => ⟨S640x1, .i32⟩
  | .local .tc .vmem, ⟨21, _⟩ => ⟨S640x1, .i32⟩
  | .local .tc .vmem, ⟨22, _⟩ => ⟨S64x10, .i32⟩
  | .local .tc .vmem, ⟨23, _⟩ => ⟨S64x10, .i32⟩
  | .local .tc .vmem, ⟨24, _⟩ => ⟨S32x320, .f32⟩
  | .local .tc .vmem, ⟨25, _⟩ => ⟨S320x320, .f32⟩
  | .local .tc .vmem, ⟨26, _⟩ => ⟨S320x320, .f32⟩
  | .local .tc .vmem, ⟨27, _⟩ => ⟨S1x320, .f32⟩
  | .local .tc .vmem, ⟨28, _⟩ => ⟨S1x320, .f32⟩
  | .local .tc .vmem, ⟨29, _⟩ => ⟨S640x320, .f32⟩
  | .local .tc .vmem, ⟨30, _⟩ => ⟨S640x320, .f32⟩
  | .local .scVector .vmem, ⟨0, _⟩ => ⟨S512, .i32⟩
  | .local .scVector .vmem, ⟨1, _⟩ => ⟨S512x128, .f32⟩
  | _, _ => ⟨S16384x100x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTables nBuf rfl bufTy 4 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v14_scv : Ref sig .scVector := ⟨.hbm, 31, rfl⟩
abbrev main_v15_scv : Ref sig .scVector := ⟨.hbm, 32, rfl⟩
abbrev main_v16_scv : Ref sig .scVector := ⟨.hbm, 33, rfl⟩
abbrev main_v17_scv : Ref sig .scVector := ⟨.hbm, 34, rfl⟩
abbrev main_v18_0_scv : Ref sig .scVector := ⟨.hbm, 35, rfl⟩
abbrev main_v18_1_scv : Ref sig .scVector := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg9_1 : Ref sig .tc := ⟨.vmem, 30, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc2_sem0_0 : DmaSem sig := 57
abbrev cc2_sem0_1 : DmaSem sig := 58
abbrev cc2_sem1_0 : DmaSem sig := 59
abbrev cc2_sem1_1 : DmaSem sig := 60
abbrev cc2_sem2_0 : DmaSem sig := 61
abbrev cc2_sem2_1 : DmaSem sig := 62
abbrev cc2_sem3_0 : DmaSem sig := 63
abbrev cc2_sem3_1 : DmaSem sig := 64
abbrev cc2_sem4_0 : DmaSem sig := 65
abbrev cc2_sem5_0 : DmaSem sig := 66
abbrev cc2_sem6_0 : DmaSem sig := 67
abbrev cc2_sem7_0 : DmaSem sig := 68
abbrev cc2_sem8_0 : DmaSem sig := 69
abbrev cc2_sem9_0 : DmaSem sig := 70
abbrev cc2_sem9_1 : DmaSem sig := 71
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "mask" => some ⊥
  | _ => none

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x100x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x26x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x10 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x10 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x10 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x10 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5120_i32 : BitVec 32 := 5120#32
  let v2 : BitVec 32 := Scalar.muli v1 c5120_i32
  let v3 : BitVec 32 := Scalar.addi v2 c0_i32
  ![v3.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5120_i32 : BitVec 32 := 5120#32
  let v2 : BitVec 32 := Scalar.muli v1 c5120_i32
  let v3 : BitVec 32 := Scalar.addi v2 c0_i32
  let c0_i32_90_r1 : BitVec 32 := 0#32
  ![v3.toNat, 0]
abbrev grid2 : Pipeline.Grid := ⟨1, ![256], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S640x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x1280 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S640x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x10 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S32x320 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S320x320 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S320x320 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x320 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x320 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S640x320 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x100x32 : Shape := ⟨3, ![16384, 100, 32]⟩
abbrev S16384x26x32 : Shape := ⟨3, ![16384, 26, 32]⟩
abbrev S32x32 : Shape := ⟨2, ![32, 32]⟩
abbrev S3x126x126 : Shape := ⟨3, ![3, 126, 126]⟩
abbrev S3x126 : Shape := ⟨2, ![3, 126]⟩
abbrev S32 : Shape := ⟨1, ![32]⟩
abbrev S_ : Shape := ⟨0, ![]⟩
abbrev S16384x100 : Shape := ⟨2, ![16384, 100]⟩
abbrev S16384x26 : Shape := ⟨2, ![16384, 26]⟩
abbrev S16384x126 : Shape := ⟨2, ![16384, 126]⟩
abbrev S1x126x126 : Shape := ⟨3, ![1, 126, 126]⟩
abbrev S126x126 : Shape := ⟨2, ![126, 126]⟩
abbrev S1x126 : Shape := ⟨2, ![1, 126]⟩
abbrev S126 : Shape := ⟨1, ![126]⟩
abbrev S16384x10 : Shape := ⟨2, ![16384, 10]⟩
abbrev S16384x10x1 : Shape := ⟨3, ![16384, 10, 1]⟩
abbrev S1 : Shape := ⟨1, ![1]⟩
abbrev S1x1x1 : Shape := ⟨3, ![1, 1, 1]⟩
abbrev S16384x10x32 : Shape := ⟨3, ![16384, 10, 32]⟩
abbrev S16384x10x1x32 : Shape := ⟨4, ![16384, 10, 1, 32]⟩
abbrev S16384x1x10x32 : Shape := ⟨4, ![16384, 1, 10, 32]⟩
abbrev S16384x10x10x32 : Shape := ⟨4, ![16384, 10, 10, 32]⟩
abbrev S16384x10x10 : Shape := ⟨3, ![16384, 10, 10]⟩
abbrev S16384x10x10x1 : Shape := ⟨4, ![16384, 10, 10, 1]⟩
abbrev S1x1x1x32 : Shape := ⟨4, ![1, 1, 1, 32]⟩

abbrev nBuf : Space → Nat
  | .hbm => 152
  | .vmem => 0
  | .smem => 0
  | _ => 0

abbrev hbmTy0_0 (i : Nat) : BufTy := match i % 128 with
  | 0 => ⟨S16384x100x32, .f32⟩
  | 1 => ⟨S16384x26x32, .f32⟩
  | 2 => ⟨S32x32, .f32⟩
  | 3 => ⟨S32x32, .f32⟩
  | 4 => ⟨S3x126x126, .f32⟩
  | 5 => ⟨S3x126, .f32⟩
  | 6 => ⟨S32, .f32⟩
  | 7 => ⟨S32, .f32⟩
  | 8 => ⟨S32x32, .f32⟩
  | 9 => ⟨S16384x100x32, .f32⟩
  | 10 => ⟨S32x32, .f32⟩
  | 11 => ⟨S16384x26x32, .f32⟩
  | 12 => ⟨S_, .f32⟩
  | 13 => ⟨S16384x100, .f32⟩
  | 14 => ⟨S_, .f32⟩
  | 15 => ⟨S16384x26, .f32⟩
  | 16 => ⟨S16384x126, .f32⟩
  | 17 => ⟨S1x126x126, .f32⟩
  | 18 => ⟨S126x126, .f32⟩
  | 19 => ⟨S126x126, .f32⟩
  | 20 => ⟨S16384x126, .f32⟩
  | 21 => ⟨S1x126, .f32⟩
  | 22 => ⟨S126, .f32⟩
  | 23 => ⟨S1x126, .f32⟩
  | 24 => ⟨S16384x126, .f32⟩
  | 25 => ⟨S16384x126, .f32⟩
  | 26 => ⟨S16384x126, .f32⟩
  | 27 => ⟨S16384x126, .f32⟩
  | 28 => ⟨S1x126x126, .f32⟩
  | 29 => ⟨S126x126, .f32⟩
  | 30 => ⟨S126x126, .f32⟩
  | 31 => ⟨S16384x126, .f32⟩
  | 32 => ⟨S1x126, .f32⟩
  | 33 => ⟨S126, .f32⟩
  | 34 => ⟨S1x126, .f32⟩
  | 35 => ⟨S16384x126, .f32⟩
  | 36 => ⟨S16384x126, .f32⟩
  | 37 => ⟨S16384x126, .f32⟩
  | 38 => ⟨S16384x126, .f32⟩
  | 39 => ⟨S1x126x126, .f32⟩
  | 40 => ⟨S126x126, .f32⟩
  | 41 => ⟨S126x126, .f32⟩
  | 42 => ⟨S16384x126, .f32⟩
  | 43 => ⟨S1x126, .f32⟩
  | 44 => ⟨S126, .f32⟩
  | 45 => ⟨S1x126, .f32⟩
  | 46 => ⟨S16384x126, .f32⟩
  | 47 => ⟨S16384x126, .f32⟩
  | 48 => ⟨S16384x126, .f32⟩
  | 49 => ⟨S16384x126, .f32⟩
  | 50 => ⟨S16384x100, .f32⟩
  | 51 => ⟨S16384x26, .f32⟩
  | 52 => ⟨S16384x10, .f32⟩
  | 53 => ⟨S16384x10, .i32⟩
  | 54 => ⟨S16384x10x1, .i32⟩
  | 55 => ⟨S_, .i32⟩
  | 56 => ⟨S16384x10x1, .i32⟩
  | 57 => ⟨S16384x10x1, .i1⟩
  | 58 => ⟨S_, .i32⟩
  | 59 => ⟨S16384x10x1, .i32⟩
  | 60 => ⟨S16384x10x1, .i32⟩
  | 61 => ⟨S16384x10x1, .i32⟩
  | 62 => ⟨S1, .i32⟩
  | 63 => ⟨S_, .i32⟩
  | 64 => ⟨S16384x10x1, .i32⟩
  | 65 => ⟨S16384x10x1, .i1⟩
  | 66 => ⟨S1x1x1, .i32⟩
  | 67 => ⟨S16384x10x1, .i32⟩
  | 68 => ⟨S16384x10x1, .i1⟩
  | 69 => ⟨S16384x10x1, .i1⟩
  | 70 => ⟨S_, .i1⟩
  | 71 => ⟨S16384x10, .i1⟩
  | 72 => ⟨S16384x10x32, .f32⟩
  | 73 => ⟨S16384x10x32, .i1⟩
  | 74 => ⟨S_, .f32⟩
  | 75 => ⟨S16384x10x32, .f32⟩
  | 76 => ⟨S16384x10x32, .f32⟩
  | 77 => ⟨S16384x10, .f32⟩
  | 78 => ⟨S16384x10, .i32⟩
  | 79 => ⟨S16384x10x1, .i32⟩
  | 80 => ⟨S_, .i32⟩
  | 81 => ⟨S16384x10x1, .i32⟩
  | 82 => ⟨S16384x10x1, .i1⟩
  | 83 => ⟨S_, .i32⟩
  | 84 => ⟨S16384x10x1, .i32⟩
  | 85 => ⟨S16384x10x1, .i32⟩
  | 86 => ⟨S16384x10x1, .i32⟩
  | 87 => ⟨S1, .i32⟩
  | 88 => ⟨S_, .i32⟩
  | 89 => ⟨S16384x10x1, .i32⟩
  | 90 => ⟨S16384x10x1, .i1⟩
  | 91 => ⟨S1x1x1, .i32⟩
  | 92 => ⟨S16384x10x1, .i32⟩
  | 93 => ⟨S16384x10x1, .i1⟩
  | 94 => ⟨S16384x10x1, .i1⟩
  | 95 => ⟨S_, .i1⟩
  | 96 => ⟨S16384x10, .i1⟩
  | 97 => ⟨S16384x10x32, .f32⟩
  | 98 => ⟨S16384x10x32, .i1⟩
  | 99 => ⟨S_, .f32⟩
  | 100 => ⟨S16384x10x32, .f32⟩
  | 101 => ⟨S16384x10x32, .f32⟩
  | 102 => ⟨S16384x10x1x32, .f32⟩
  | 103 => ⟨S16384x1x10x32, .f32⟩
  | 104 => ⟨S16384x10x10x32, .f32⟩
  | 105 => ⟨S16384x10x10x32, .f32⟩
  | 106 => ⟨S16384x10x10x32, .f32⟩
  | 107 => ⟨S_, .f32⟩
  | 108 => ⟨S16384x10x10, .f32⟩
  | 109 => ⟨S16384x10x10x1, .f32⟩
  | 110 => ⟨S_, .f32⟩
  | 111 => ⟨S16384x10x10x1, .f32⟩
  | 112 => ⟨S16384x10x10x1, .f32⟩
  | 113 => ⟨S_, .i32⟩
  | 114 => ⟨S_, .f32⟩
  | 115 => ⟨S16384x10x10, .f32⟩
  | 116 => ⟨S16384x10x10x1, .f32⟩
  | 117 => ⟨S_, .f32⟩
  | 118 => ⟨S16384x10x10x1, .f32⟩
  | 119 => ⟨S16384x10x10x1, .f32⟩
  | 120 => ⟨S16384x10x10x32, .f32⟩
  | 121 => ⟨S16384x10x10x32, .f32⟩
  | 122 => ⟨S16384x10x10x32, .f32⟩
  | 123 => ⟨S_, .f32⟩
  | 124 => ⟨S_, .f32⟩
  | 125 => ⟨S_, .f32⟩
  | 126 => ⟨S_, .f32⟩
  | 127 => ⟨S16384x10x10, .f32⟩
  | _ => ⟨S16384x100x32, .f32⟩

abbrev hbmTy0_1 (i : Nat) : BufTy := match i % 128 with
  | 0 => ⟨S16384x10x10x1, .f32⟩
  | 1 => ⟨S16384x10x10x1, .f32⟩
  | 2 => ⟨S16384x10x10x1, .f32⟩
  | 3 => ⟨S_, .f32⟩
  | 4 => ⟨S_, .i1⟩
  | 5 => ⟨S_, .f32⟩
  | 6 => ⟨S_, .f32⟩
  | 7 => ⟨S16384x10x10x1, .f32⟩
  | 8 => ⟨S16384x10x10x1, .f32⟩
  | 9 => ⟨S16384x10x10x32, .f32⟩
  | 10 => ⟨S16384x10x10x32, .f32⟩
  | 11 => ⟨S_, .f32⟩
  | 12 => ⟨S16384x10x10x1, .f32⟩
  | 13 => ⟨S16384x10x10x1, .f32⟩
  | 14 => ⟨S16384x10x10x1, .f32⟩
  | 15 => ⟨S16384x10x10x32, .f32⟩
  | 16 => ⟨S16384x10x10x32, .f32⟩
  | 17 => ⟨S1x1x1x32, .f32⟩
  | 18 => ⟨S16384x10x10x32, .f32⟩
  | 19 => ⟨S16384x10x10x32, .f32⟩
  | 20 => ⟨S1x1x1x32, .f32⟩
  | 21 => ⟨S16384x10x10x32, .f32⟩
  | 22 => ⟨S16384x10x10x32, .f32⟩
  | 23 => ⟨S16384x100x32, .f32⟩
  | _ => ⟨S16384x100x32, .f32⟩

abbrev hbmTy (i : Nat) : BufTy := match i / 128 with
  | 0 => hbmTy0_0 i
  | 1 => hbmTy0_1 i
  | _ => ⟨S16384x100x32, .f32⟩

abbrev bufTy : (tb : Table) → Fin (tcTables nBuf tb) → BufTy
  | .hbm, ⟨i, _⟩ => hbmTy i
  | _, _ => ⟨S16384x100x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_values : Ref sig .tc := ⟨.hbm, 52, rfl⟩
abbrev main_indices : Ref sig .tc := ⟨.hbm, 53, rfl⟩
abbrev main_v42 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_1 : Ref sig .tc := ⟨.hbm, 62, rfl⟩
abbrev main_call0_c_2 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_c_3 : Ref sig .tc := ⟨.hbm, 70, rfl⟩
abbrev main_call0_v11 : Ref sig .tc := ⟨.hbm, 71, rfl⟩
abbrev main_call0_v12 : Ref sig .tc := ⟨.hbm, 72, rfl⟩
abbrev main_call0_v13 : Ref sig .tc := ⟨.hbm, 73, rfl⟩
abbrev main_call0_cst : Ref sig .tc := ⟨.hbm, 74, rfl⟩
abbrev main_call0_v14 : Ref sig .tc := ⟨.hbm, 75, rfl⟩
abbrev main_v43 : Ref sig .tc := ⟨.hbm, 76, rfl⟩
abbrev main_values_1 : Ref sig .tc := ⟨.hbm, 77, rfl⟩
abbrev main_indices_2 : Ref sig .tc := ⟨.hbm, 78, rfl⟩
abbrev main_v44 : Ref sig .tc := ⟨.hbm, 79, rfl⟩
abbrev main_call1_c : Ref sig .tc := ⟨.hbm, 80, rfl⟩
abbrev main_call1_v0 : Ref sig .tc := ⟨.hbm, 81, rfl⟩
abbrev main_call1_v1 : Ref sig .tc := ⟨.hbm, 82, rfl⟩
abbrev main_call1_c_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_c_1 : Ref sig .tc := ⟨.hbm, 87, rfl⟩
abbrev main_call1_c_2 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_c_3 : Ref sig .tc := ⟨.hbm, 95, rfl⟩
abbrev main_call1_v11 : Ref sig .tc := ⟨.hbm, 96, rfl⟩
abbrev main_call1_v12 : Ref sig .tc := ⟨.hbm, 97, rfl⟩
abbrev main_call1_v13 : Ref sig .tc := ⟨.hbm, 98, rfl⟩
abbrev main_call1_cst : Ref sig .tc := ⟨.hbm, 99, rfl⟩
abbrev main_call1_v14 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_cst_3 : Ref sig .tc := ⟨.hbm, 107, rfl⟩
abbrev main_v51 : Ref sig .tc := ⟨.hbm, 108, rfl⟩
abbrev main_v52 : Ref sig .tc := ⟨.hbm, 109, rfl⟩
abbrev main_cst_4 : Ref sig .tc := ⟨.hbm, 110, rfl⟩
abbrev main_v53 : Ref sig .tc := ⟨.hbm, 111, rfl⟩
abbrev main_v54 : Ref sig .tc := ⟨.hbm, 112, rfl⟩
abbrev main_c : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_cst_1 : Ref sig .tc := ⟨.hbm, 124, rfl⟩
abbrev main_call2_v8 : Ref sig .tc := ⟨.hbm, 125, rfl⟩
abbrev main_call2_cst_2 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_v12 : Ref sig .tc := ⟨.hbm, 130, rfl⟩
abbrev main_call2_cst_3 : Ref sig .tc := ⟨.hbm, 131, rfl⟩
abbrev main_call2_v13 : Ref sig .tc := ⟨.hbm, 132, rfl⟩
abbrev main_call2_cst_4 : Ref sig .tc := ⟨.hbm, 133, rfl⟩
abbrev main_call2_call0_v0 : Ref sig .tc := ⟨.hbm, 134, rfl⟩
abbrev main_call2_call0_v1 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_cst_5 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩

abbrev nD : Nat := 1
abbrev τ : Topo := Topo.v7x

variable {F : FTy → Type} [FloatOps F]
-- ==== Proof.TailSame.lean ====
/-
  The kernel as printed and its reading at exact arithmetic have the same text; here their parts, one by one.
-/
module

public import proofs.«01_k».proof.Defs
public import proofs.«01_k».proof.Proof.Gen.Tail
public import proofs.«01_k».proof.Proof.Gen.TailIdeal

@[expose] public section

set_option maxRecDepth 100000
set_option maxHeartbeats 2000000

noncomputable section

namespace Cert.Proof

open Idealize.ShloMosaic Idealize.SL.Sem

variable {F : FTy → Type} [FloatOps F]
attribute [local instance] Cert.Tail.Gen.facts Cert.TailIdeal.Gen.facts

/-- The kernels' bodies are the same. -/
theorem defs0_same : Cert.Tail.defs₀ (F := F) = Cert.TailIdeal.defs₀ (F := F) := by
  funext p l a
  match p, l, a with
  | .scVector c s, 0, _ => rfl
  | .tc, 1, (t, s) => rfl
  | .scScalar _, 0, _ => rfl
  | .scScalar _, 1, _ => rfl
  | .scVector _ _, 1, _ => rfl
  | .tc, 0, _ => rfl

/-- The body tables are the same. -/
theorem defs_same : Cert.Tail.defs (F := F) = Cert.TailIdeal.defs (F := F) :=
  (congrArg (fun D => Cert.Tail.sc.defs (Pipeline.defs Cert.Tail.pcfgs D)) defs0_same).trans rfl
/-- The host programs are the same. -/
theorem main_same : Cert.Tail.main (F := F) = Cert.TailIdeal.main (F := F) := by
  funext d
  unfold Cert.Tail.main Cert.TailIdeal.main
  rfl
/-- The threads are the same. -/
theorem threads_same : Cert.Tail.threads (F := F) = Cert.TailIdeal.threads (F := F) :=
  (congrArg (fun M => Cert.Tail.sc.threads M) main_same).trans rfl

end Cert.Proof

end
-- ==== Proof.Chunk.lean ====
/-
  One round of a gathering task on a vector subcore, for any program: a piece of an index list is fetched into a scratch
  list, the rows of a table that the list names are gathered into a scratch block, the block is written out.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Chunk

open Idealize.ShloMosaic
open Idealize.ShloMosaic.SparseCore (S V T gatherPayload rows)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {nD : Nat} {τ : Topo} {sig : RefSig} {Λ : Labels}

/-! ## The round as a program -/

section Prog

variable {s₀ s si : Shape} {e : EltTy}

/-- One round: fetch the list's piece, wait, gather the table's rows it names, wait, write the block out, wait. -/
def round {c : Fin τ.nSC} {j : Fin τ.nSub} (lst : Memref sig .scVector .hbm si .i32) (tab : Memref sig .scVector .hbm s₀ e)
    (out : Memref sig .scVector .hbm s e) (ix : Memref sig .scVector .vmem si .i32) (rw : Memref sig .scVector .vmem s e)
    (s1 sg s2 : DmaSem sig) (hg : s₀.Gathers 0 s) (hn : si.numel = s.size hg.axis')
    (hl : lst.view.WordExact) (ho : out.view.WordExact) (ht : tab.view.WordExact) (hix : ix.view.WordExact) (hrw : rw.view.WordExact)
    (he : e.bits = 32) (hr : s₀.StreamRows 0) :
    Prog (TpuEff nD τ sig (Elt F) Λ (.scVector c j)) PUnit := do
  Prog.lift (.enqueueDma lst (.here ix) (.dma s1) hl hix ⟨Or.inl rfl, trivial⟩)
  Prog.lift (.waitDma2 s1 lst ix hl hix)
  SparseCore.enqueueIndirectGather rfl tab rw hg ix hn sg ht he (Or.inl rfl) hr
  SparseCore.waitIndirectGather sg tab rw ht hrw
  Prog.lift (.enqueueDma rw (.here out) (.dma s2) hrw ho ⟨Or.inl rfl, trivial⟩)
  Prog.lift (.waitDma2 s2 rw out hrw ho)

end Prog

variable {Ix : Type} [DecidableEq Ix] {Name : Type} [DecidableEq Name] [Infinite Name] {U : Type} [URA U] {Lvl : Type} [Preorder Lvl]

local notation "𝕄" => MT nD τ sig Ix (Elt F) Name U Lvl

variable {defs : Defs nD τ sig (Elt F) Λ} (𝒱 : Variants)
variable {s₀ s si : Shape} {e : EltTy}

/-- A round, run: a share of the list and of the table, the two scratch buffers, the round's block of the output
    (inside any part of its buffer held outright) and the three counters at zero; it leaves the output written with the
    table's rows that the list's piece names, and everything else back. -/
theorem wp_round (EC : UEmb Counters (MT nD τ sig Ix (Elt F) Name U Lvl)) [EC.LandsIn (upEmb : UEmb _ 𝕄)] {d : Dev nD} {c : Fin τ.nSC} {j : Fin τ.nSub} (bd : Option 𝒱.V)
    (lst : Memref sig .scVector .hbm si .i32) (tab : Memref sig .scVector .hbm s₀ e)
    (out : Memref sig .scVector .hbm s e) (ix : Memref sig .scVector .vmem si .i32) (rw' : Memref sig .scVector .vmem s e)
    (s1 sg s2 : DmaSem sig) (hg : s₀.Gathers 0 s) (hn : si.numel = s.size hg.axis')
    (hl : lst.view.WordExact) (ho : out.view.WordExact) (ht : tab.view.WordExact) (hix : ix.view.WordExact) (hrw : rw'.view.WordExact)
    (he : e.bits = 32) (hr : s₀.StreamRows 0)
    (hixw : ix.view.set = Finset.univ) (hrww : rw'.view.set = Finset.univ)
    (ι : Ix) (hN : ∑ k, (rw'.slice (s.rowRect hg.axis' k) (s.stride_rowRect hg.axis' k)).view.dmaCredit = rw'.view.dmaCredit)
    (hs : 0 < s.numel) (hN1 : 0 < ix.view.dmaCredit) (hN2 : 0 < out.view.dmaCredit)
    {ql qt : PosShare TreeShare} {fl : Buf (Elt F) (lst.view.loc (V d c j))} {ft : Buf (Elt F) (tab.view.loc (V d c j))}
    {f8 : Buf (Elt F) (ix.view.loc (V d c j))} {f9 : Buf (Elt F) (rw'.view.loc (V d c j))} {fo : Buf (Elt F) (out.view.loc (V d c j))}
    {Sd : Finset (Idx (out.view.loc (V d c j)))} (hSd : out.view.set ⊆ Sd)
    (hin : ∀ x, (lst.view.read (Elt F) fl x).toNat < s₀.size hg.axis)
    {O : CellTallies nD τ sig Ix} {W : Waits sig Ix} {Q : PUnit → sProp 𝕄} :
    iprop(Transfers.MayWaits (V d c j) ι O ∗ (lst.view.loc (V d c j) ↦{ql} fl) ∗ (tab.view.loc (V d c j) ↦{qt} ft)
        ∗ (ix.view.loc (V d c j) ↦{fullShare} f8) ∗ (rw'.view.loc (V d c j) ↦{fullShare} f9) ∗ (out.view.loc (V d c j) ↦[Sd]{fullShare} fo)
        ∗ semVal (V d c j, SemLoc.dma s1) 0 ∗ semVal (V d c j, SemLoc.dma sg) 0 ∗ semVal (V d c j, SemLoc.dma s2) 0
        ∗ owes (V d c j) O W
        ∗ (iprop((lst.view.loc (V d c j) ↦{ql} fl) ∗ (tab.view.loc (V d c j) ↦{qt} ft)
            ∗ (∃ f8', ix.view.loc (V d c j) ↦{fullShare} f8') ∗ (∃ f9', rw'.view.loc (V d c j) ↦{fullShare} f9')
            ∗ (out.view.loc (V d c j) ↦[Sd]{fullShare} out.view.write (Elt F) fo
                (gatherPayload hg (tab.view.read (Elt F) ft) (rows (lst.view.read (Elt F) fl) hn hin)) Finset.univ)
            ∗ semVal (V d c j, SemLoc.dma s1) 0 ∗ semVal (V d c j, SemLoc.dma sg) 0 ∗ semVal (V d c j, SemLoc.dma s2) 0
            ∗ ∃ W', ⌜∀ p ∈ W', p ∈ W ∨ p.2 = ι⌝ ∗ owes (V d c j) O W') -∗ Q ⟨⟩))
      ⊢ wp frame (wpE defs 𝒱 (V d c j) bd) Set.univ
          (round lst tab out ix rw' s1 sg s2 hg hn hl ho ht hix hrw he hr) Q := by
  unfold round
  iintro ⟨#Hmw, Hl, Ht, H8, H9, Ho, Hs1, Hsg, Hs2, HO, Hk⟩
  ihave Hls := (pointsTo_split_subset (q := ql) (f := fl) (S := Finset.univ) (Finset.subset_univ lst.view.set)).1 $$ Hl
  icases Hls with ⟨Hls, Hlr⟩
  ihave Hts := (pointsTo_split_subset (q := qt) (f := ft) (S := Finset.univ) (Finset.subset_univ tab.view.set)).1 $$ Ht
  icases Hts with ⟨Hts, Htr⟩
  iapply (Transfers.wp_dmaLocal EC 𝒱 (V d c j) bd ι (dst := ix) ix.view.dmaCredit rfl hN1 (Finset.subset_univ _)) $$ [Hls H8 Hs1]
  · isplitl [Hls]; · iexact Hls
    isplitl [H8]; · iexact H8
    iexact Hs1
  iintro Hfl
  iapply (Transfers.wp_waitLocalO EC 𝒱 (V d c j) bd ι rfl) $$ [Hfl HO]
  · isplitl [Hfl]; · iexact Hfl
    isplitl [HO]; · iexact HO
    iapply (Transfers.MayWaits.elim (SemLoc.dma s1)) $$ Hmw
  iintro ⟨⟨H8, Hls⟩, Hs1, HO⟩
  have hr8 : ix.view.read (Elt F) (ix.view.write (Elt F) f8 (ReadAs.same.apply (lst.view.read (Elt F) fl)) Finset.univ) = lst.view.read (Elt F) fl :=
    View.read_write_univ _ _
  have hin' : ∀ x, (ix.view.read (Elt F) (ix.view.write (Elt F) f8 (ReadAs.same.apply (lst.view.read (Elt F) fl)) Finset.univ) x).toNat < s₀.size hg.axis := by
    rw [hr8]; exact hin
  have hrows : rows (ix.view.read (Elt F) (ix.view.write (Elt F) f8 (ReadAs.same.apply (lst.view.read (Elt F) fl)) Finset.univ)) hn hin'
      = rows (lst.view.read (Elt F) fl) hn hin := by congr 1
  iapply (SparseCore.wp_indirectGatherLocal EC 𝒱 (V d c j) bd (hg := hg) (hsp := Or.inl rfl) (hr := hr) (hp := rfl) (he := he) (hsrc := ht) ι rw'.view.dmaCredit hN hs hin') $$ [Hts H9 H8 Hsg]
  · isplitl [Hts]; · iexact Hts
    isplitl [H9]; · rw [hrww]; iexact H9
    isplitl [H8]; · rw [hixw]; iexact H8
    iexact Hsg
  iintro Hfl
  iapply (Transfers.wp_waitLocalO EC 𝒱 (V d c j) bd ι (rfl : rw'.view.dmaCredit = _)) $$ [Hfl HO]
  · isplitl [Hfl]; · iexact Hfl
    isplitl [HO]; · iexact HO
    iapply (Transfers.MayWaits.elim (SemLoc.dma sg)) $$ Hmw
  iintro ⟨⟨H9, Hts, H8⟩, Hsg, HO⟩
  iapply (Transfers.wp_dmaLocal EC 𝒱 (V d c j) bd ι (dst := out) out.view.dmaCredit rfl hN2 hSd) $$ [H9 Ho Hs2]
  · isplitl [H9]; · iexact H9
    isplitl [Ho]; · iexact Ho
    iexact Hs2
  iintro Hfl
  iapply (Transfers.wp_waitLocalO EC 𝒱 (V d c j) bd ι rfl) $$ [Hfl HO]
  · isplitl [Hfl]; · iexact Hfl
    isplitl [HO]; · iexact HO
    iapply (Transfers.MayWaits.elim (SemLoc.dma s2)) $$ Hmw
  iintro ⟨⟨Ho, H9⟩, Hs2, HO⟩
  sl_step
  iapply Hk
  isplitl [Hls Hlr]
  · iapply (pointsTo_split_subset (q := ql) (f := fl) (S := Finset.univ) (Finset.subset_univ lst.view.set)).2; isplitl [Hls] <;> iassumption
  isplitl [Hts Htr]
  · iapply (pointsTo_split_subset (q := qt) (f := ft) (S := Finset.univ) (Finset.subset_univ tab.view.set)).2; isplitl [Hts] <;> iassumption
  isplitl [H8]; · iexists _; rw [hixw]; iexact H8
  isplitl [H9]; · iexists _; rw [hrww]; iexact H9
  isplitl [Ho]
  · rw [hrows]
    ihave Ho' := (Entails.of_eq (congrArg (fun w => (out.view.loc (V d c j) ↦[Sd]{fullShare} out.view.write (Elt F) fo w Finset.univ : sProp 𝕄)) (View.read_write_univ _ _))) $$ Ho
    iexact Ho'
  isplitl [Hs1]; · iexact Hs1
  isplitl [Hsg]; · iexact Hsg
  isplitl [Hs2]; · iexact Hs2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Chunk

end
-- ==== Proof.TailSc.lean ====
/-
  The gathering call of the tail program on the SparseCore: thirty-two tasks, each twenty rounds over its own part of the
  two index lists.
-/
module

public import proofs.«01_k».proof.Defs
public import proofs.«01_k».proof.Proof.Chunk
public import proofs.«01_k».proof.Proof.Gen.TailIdeal
public import proofs.«01_k».proof.Proof.Gen.TailIdeal.Launch
public import proofs.«01_k».proof.Proof.Gen.TailIdeal.Points
public import proofs.«01_k».proof.Proof.Gen.TailIdeal.Skeleton

@[expose] public section

set_option maxRecDepth 16384

noncomputable section

namespace Cert.Proof.TailSc

open Cert.TailIdeal Cert.TailIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging rounds of the second call, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-! ## The buffers -/

abbrev tLoc (d : Dev nD) : Loc nD τ sig := (SparseCore.T d).loc main_v0
abbrev uLoc (d : Dev nD) : Loc nD τ sig := (SparseCore.T d).loc main_v1
abbrev iLoc (d : Dev nD) : Loc nD τ sig := (SparseCore.T d).loc main_v2
abbrev jLoc (d : Dev nD) : Loc nD τ sig := (SparseCore.T d).loc main_v3
abbrev gLoc (d : Dev nD) : Loc nD τ sig := (SparseCore.T d).loc main_v4_0
abbrev hLoc (d : Dev nD) : Loc nD τ sig := (SparseCore.T d).loc main_v4_1

local notation "tV" => (Memref.whole main_v0_scv : Memref sig Kind.scVector Space.hbm S409600x128 EltTy.f32)
local notation "uV" => (Memref.whole main_v1_scv : Memref sig Kind.scVector Space.hbm S106496x128 EltTy.f32)
local notation "iV" => (Memref.whole main_v2_scv : Memref sig Kind.scVector Space.hbm S163840 EltTy.i32)
local notation "jV" => (Memref.whole main_v3_scv : Memref sig Kind.scVector Space.hbm S163840 EltTy.i32)
local notation "gV" => (Memref.whole main_v4_0_scv : Memref sig Kind.scVector Space.hbm S163840x128 EltTy.f32)
local notation "hV" => (Memref.whole main_v4_1_scv : Memref sig Kind.scVector Space.hbm S163840x128 EltTy.f32)
local notation "sV" => (Memref.whole cc0_scratch0 : Memref sig Kind.scVector Space.vmem S512 EltTy.i32)
local notation "rV" => (Memref.whole cc0_scratch1 : Memref sig Kind.scVector Space.vmem S512x128 EltTy.f32)

/-! ## The task as its rounds -/

abbrev semFA : Fin 10 → DmaSem sig := ![cc0_scoped0.sem, cc0_scoped2.sem, cc0_scoped4.sem, cc0_scoped6.sem, cc0_scoped8.sem, cc0_scoped10.sem, cc0_scoped12.sem, cc0_scoped14.sem, cc0_scoped16.sem, cc0_scoped18.sem]
abbrev semFB : Fin 10 → DmaSem sig := ![cc0_scoped1.sem, cc0_scoped3.sem, cc0_scoped5.sem, cc0_scoped7.sem, cc0_scoped9.sem, cc0_scoped11.sem, cc0_scoped13.sem, cc0_scoped15.sem, cc0_scoped17.sem, cc0_scoped19.sem]
abbrev semCA : Fin 10 → DmaSem sig := ![cc0_scoped20.sem, cc0_scoped22.sem, cc0_scoped24.sem, cc0_scoped26.sem, cc0_scoped28.sem, cc0_scoped30.sem, cc0_scoped32.sem, cc0_scoped34.sem, cc0_scoped36.sem, cc0_scoped38.sem]
abbrev semCB : Fin 10 → DmaSem sig := ![cc0_scoped21.sem, cc0_scoped23.sem, cc0_scoped25.sem, cc0_scoped27.sem, cc0_scoped29.sem, cc0_scoped31.sem, cc0_scoped33.sem, cc0_scoped35.sem, cc0_scoped37.sem, cc0_scoped39.sem]

section Rounds

variable [FloatOps F] (L : grid0.Coords)

abbrev lstK (m : Memref sig .scVector .hbm S163840 .i32) (n : Fin 10) : Memref sig .scVector .hbm S512 .i32 :=
  m.slice (Rect.unit (s := S163840) (k0_off1 L (BitVec.ofNat 32 (512 * n.val))) S512.size (k0_off1_inb L n)) (fun _ => rfl)
abbrev outK (m : Memref sig .scVector .hbm S163840x128 .f32) (n : Fin 10) : Memref sig .scVector .hbm S512x128 .f32 :=
  m.slice (Rect.unit (s := S163840x128) (k0_off2 L (BitVec.ofNat 32 (512 * n.val))) S512x128.size (k0_off2_inb L n)) (fun _ => rfl)
abbrev tAllK : Memref sig .scVector .hbm S409600x128 .f32 := (tV).slice (Rect.unit (s := S409600x128) ![0, 0] S409600x128.size inb_S409600x128_S409600x128_0_0) (fun _ => rfl)
abbrev uAllK : Memref sig .scVector .hbm S106496x128 .f32 := (uV).slice (Rect.unit (s := S106496x128) ![0, 0] S106496x128.size inb_S106496x128_S106496x128_0_0) (fun _ => rfl)

/-- Round `n` over the first list. -/
def fRound (n : Fin 10) : Prog (TpuEff nD τ sig (Elt F) Λ₀ (.scVector ((L 0).castLE hcore0) ((L 1).castLE hsub0))) PUnit :=
  Chunk.round (lstK L iV n) tAllK (outK L gV n) sV rV (semFA n) cc0_scratch2.sem (semFB n) gathers_S409600x128_S512x128 rfl
    (View.wordExact_bits rfl) (View.wordExact_bits rfl) (View.wordExact_bits rfl) (Memref.isWhole_whole _).wordExact (Memref.isWhole_whole _).wordExact rfl (by decide)
/-- Round `n` over the second list. -/
def cRound (n : Fin 10) : Prog (TpuEff nD τ sig (Elt F) Λ₀ (.scVector ((L 0).castLE hcore0) ((L 1).castLE hsub0))) PUnit :=
  Chunk.round (lstK L jV n) uAllK (outK L hV n) sV rV (semCA n) cc0_scratch2.sem (semCB n) gathers_S106496x128_S512x128 rfl
    (View.wordExact_bits rfl) (View.wordExact_bits rfl) (View.wordExact_bits rfl) (Memref.isWhole_whole _).wordExact (Memref.isWhole_whole _).wordExact rfl (by decide)

set_option maxHeartbeats 4000000 in
/-- The task's text is its twenty rounds, one after the other. -/
theorem body_eq :
    cc0_sc_gather (F := F) L tV (Memref.isWhole_whole _) uV (Memref.isWhole_whole _) iV (Memref.isWhole_whole _) jV (Memref.isWhole_whole _)
        gV (Memref.isWhole_whole _) hV (Memref.isWhole_whole _) sV (Memref.isWhole_whole _) rV (Memref.isWhole_whole _) cc0_scratch2
        cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39
      = Pipeline.chain ((List.finRange 10).map (fRound L) ++ (List.finRange 10).map (cRound L)) := by
  rfl

end Rounds

end Cert.Proof.TailSc

end
-- ==== Proof.Gathered.lean ====
/-
  What a stream of gathered rows holds, at an index: the table's row that the list names.
-/
module

public import proofs.«01_k».proof.Proof.Chunk
public import Idealize.ShloMosaic.Lib.Pointwise.Index
public import Idealize.ShloMosaic.Lib.Pipeline.Regions

@[expose] public section

noncomputable section

namespace Cert.Proof.Chunk

open Idealize.ShloMosaic
open Idealize.ShloMosaic.SparseCore (S V T gatherPayload rows)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The rows of a table that a list of row numbers names, in the list's order (a number past the table's end wraps). -/
def rowGather {α : Type} {N M C : ℕ} [NeZero N] (tab : (⟨2, ![N, C]⟩ : Shape).Idx → α) (lst : (⟨1, ![M]⟩ : Shape).Idx → BitVec 32) :
    (⟨2, ![M, C]⟩ : Shape).Idx → α :=
  fun x => tab (ix2 (Fin.ofNat N (lst (ix1 (x 0))).toNat) (x 1))

/-- One stream's payload, at row `r` and lane `a`: the table's row named by the list's entry `r`. -/
theorem gather_value {e : EltTy} {N C R : ℕ} [NeZero N] (hg : (⟨2, ![N, C]⟩ : Shape).Gathers 0 ⟨2, ![R, C]⟩)
    (tab : (⟨2, ![N, C]⟩ : Shape).Idx → Elt F e) (l : (⟨1, ![R]⟩ : Shape).Idx → Elt F .i32)
    (hn : (⟨1, ![R]⟩ : Shape).numel = (⟨2, ![R, C]⟩ : Shape).size hg.axis')
    (hin : ∀ x, (l x).toNat < (⟨2, ![N, C]⟩ : Shape).size hg.axis) (y : (⟨2, ![R, C]⟩ : Shape).Idx) :
    gatherPayload (F := F) hg tab (rows l hn hin) y = rowGather tab l y := by
  unfold gatherPayload rowGather
  refine congrArg tab (funext fun b => Fin.ext ?_)
  have hax : hg.axis = (0 : Fin 2) := Fin.ext rfl
  match b with
  | ⟨0, _⟩ =>
    show ((hg.idx (rows l hn hin) y) hg.axis).val = ((l (ix1 (y 0))).toNat % N)
    rw [Shape.Gathers.idx_axis]
    unfold rows
    have h1 : ∀ k, (⟨1, ![R]⟩ : Shape).rowMajor.symm k = ix1 (k.cast (Shape.numel_rank1 _)) := fun k =>
      ((⟨1, ![R]⟩ : Shape).rowMajor.symm_apply_eq).2 (Fin.ext (Shape.rowMajor_val_one (d := ![R]) (ix1 (k.cast (Shape.numel_rank1 _)))).symm)
    have h2 := hin (ix1 (y 0))
    show (l ((⟨1, ![R]⟩ : Shape).rowMajor.symm _)).toNat = (l (ix1 (y 0))).toNat % N
    exact (congrArg (fun i => (l i).toNat) (h1 _)).trans (Nat.mod_eq_of_lt h2).symm
  | ⟨1, _⟩ => exact Shape.Gathers.idx_of_ne hg _ y (1 : Fin 2) Nat.one_ne_zero

/-! ## Rows of programs -/

/-- Two rows of programs, one after the other. -/
theorem chain_append {E : Type → Type} (xs ys : List (Prog E PUnit)) :
    Pipeline.chain (xs ++ ys) = (Pipeline.chain xs >>= fun _ => Pipeline.chain ys) := by
  induction xs with
  | nil => rfl
  | cons x xs ih => simp only [List.cons_append, Pipeline.chain_cons, ih, bind_assoc]

section Inv

variable {nD : Nat} {τ : Topo} {sig : RefSig} {Λ : Labels}
variable {Ix : Type} [DecidableEq Ix] {Name : Type} [DecidableEq Name] [Infinite Name] {U : Type} [URA U] {Lvl : Type} [Preorder Lvl]

/-- A row of `N` programs keeps an invariant step by step. -/
theorem wp_chain_inv {defs : Defs nD τ sig (Elt F) Λ} (𝒱 : Variants) (thr : Thread nD τ) (bd : Option 𝒱.V) :
    ∀ (N : ℕ) (f : Fin N → Prog (TpuEff nD τ sig (Elt F) Λ thr.2) PUnit) (I : ℕ → sProp (MT nD τ sig Ix (Elt F) Name U Lvl)),
      (∀ n : Fin N, I n.val ⊢ wp frame (wpE defs 𝒱 thr bd) Set.univ (f n) fun _ => I (n.val + 1)) →
      I 0 ⊢ wp frame (wpE defs 𝒱 thr bd) Set.univ (Pipeline.chain ((List.finRange N).map f)) fun _ => I N
  | 0, _, I, _ => by
    rw [List.finRange_zero, List.map_nil, Pipeline.chain_nil, wp_pure]
    iintro H; imodintro; iexact H
  | N + 1, f, I, h => by
    rw [List.finRange_succ, List.map_cons, Pipeline.chain_cons, wp_bind, List.map_map]
    refine (h 0).trans (wp_mono _ _ _ fun _ => ?_)
    exact wp_chain_inv 𝒱 thr bd N (fun n => f n.succ) (fun n => I (n + 1)) fun n => h n.succ

end Inv

end Cert.Proof.Chunk

end
-- ==== Proof.TailTile.lean ====
/-
  One task of the gathering call run: what it takes, what it leaves, its twenty rounds by an invariant.
-/
module

public import proofs.«01_k».proof.Proof.TailSc
public import proofs.«01_k».proof.Proof.Gathered

@[expose] public section

set_option maxRecDepth 16384

noncomputable section

namespace Cert.Proof.TailSc

open Cert.TailIdeal Cert.TailIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole main_v0_scv : Memref sig Kind.scVector Space.hbm S409600x128 EltTy.f32)
local notation "uV" => (Memref.whole main_v1_scv : Memref sig Kind.scVector Space.hbm S106496x128 EltTy.f32)
local notation "iV" => (Memref.whole main_v2_scv : Memref sig Kind.scVector Space.hbm S163840 EltTy.i32)
local notation "jV" => (Memref.whole main_v3_scv : Memref sig Kind.scVector Space.hbm S163840 EltTy.i32)
local notation "gV" => (Memref.whole main_v4_0_scv : Memref sig Kind.scVector Space.hbm S163840x128 EltTy.f32)
local notation "hV" => (Memref.whole main_v4_1_scv : Memref sig Kind.scVector Space.hbm S163840x128 EltTy.f32)
local notation "sV" => (Memref.whole cc0_scratch0 : Memref sig Kind.scVector Space.vmem S512 EltTy.i32)
local notation "rV" => (Memref.whole cc0_scratch1 : Memref sig Kind.scVector Space.vmem S512x128 EltTy.f32)

/-! ## The blocks of rows -/

/-- The rows of task `w`: five thousand one hundred and twenty, one after the other. -/
def blk (w : Fin 32) : Finset S163840x128.Idx := Finset.univ.filter fun x => (x 0).val / 5120 = w.val

theorem mem_blk' {w : Fin 32} {x : S163840x128.Idx} : x ∈ blk w ↔ (x 0).val / 5120 = w.val := by simp [blk]

abbrev cI (L : grid0.Coords) : Fin τ.nSC := (L 0).castLE hcore0
abbrev jI (L : grid0.Coords) : Fin τ.nSub := (L 1).castLE hsub0
/-- The number of the task at core `L 0`, tile `L 1`. -/
def wid (L : grid0.Coords) : Fin 32 := ⟨2 * (L 1).val + (L 0).val, by
  have h0 : (L 0).val < 2 := (L 0).isLt
  have h1 : (L 1).val < 16 := (L 1).isLt
  omega⟩

/-! ## What the two halves of the task leave -/

section Vals

variable (W : (ℓ : Loc nD τ sig) → Buf (Elt F) ℓ)

/-- The first table's rows that the first list names. -/
def gOut (d : Dev nD) : S163840x128.Idx → Elt F .f32 := Chunk.rowGather (N := 409600) (M := 163840) (C := 128) (W (tLoc d)) (W (iLoc d))
/-- The second table's rows that the second list names. -/
def hOut (d : Dev nD) : S163840x128.Idx → Elt F .f32 := Chunk.rowGather (N := 106496) (M := 163840) (C := 128) (W (uLoc d)) (W (jLoc d))

/-- What the call asks of the lists: each names rows of its table. -/
def PreOK : Prop := ∀ d : Dev nD, (∀ x : S163840.Idx, BitVec.toNat (W (iLoc d) x) < 409600) ∧ (∀ x : S163840.Idx, BitVec.toNat (W (jLoc d) x) < 106496)

variable (L : grid0.Coords)

/-- Element `k` of round `n`'s piece of a list. -/
theorem list_at (n : Fin 10) (y : S512.Idx) (h : 5120 * (wid L).val + 512 * n.val + (y 0).val < 163840) :
    (Rect.unit (s := S163840) (k0_off1 L (BitVec.ofNat 32 (512 * n.val))) S512.size (k0_off1_inb L n)).emb y
      = ix1 ⟨5120 * (wid L).val + 512 * n.val + (y 0).val, h⟩ := by
  funext a; apply Fin.ext
  match a with
  | ⟨0, _⟩ =>
    rw [Rect.emb_apply]
    show k0_off1 L (BitVec.ofNat 32 (512 * n.val)) 0 + 1 * (y 0).val = _
    rw [k0_off1_eq]
    show 10240 * (L 1).val + 5120 * (L 0).val + 512 * n.val + 1 * (y 0).val = 5120 * (2 * (L 1).val + (L 0).val) + 512 * n.val + (y 0).val
    omega

/-- Element `y` of round `n`'s block of an output. -/
theorem out_at (n : Fin 10) (y : S512x128.Idx) (h : 5120 * (wid L).val + 512 * n.val + (y 0).val < 163840) :
    (Rect.unit (s := S163840x128) (k0_off2 L (BitVec.ofNat 32 (512 * n.val))) S512x128.size (k0_off2_inb L n)).emb y
      = ix2 ⟨5120 * (wid L).val + 512 * n.val + (y 0).val, h⟩ (y 1) := by
  funext a; apply Fin.ext
  match a with
  | ⟨0, _⟩ =>
    rw [Rect.emb_apply]
    show k0_off2 L (BitVec.ofNat 32 (512 * n.val)) 0 + 1 * (y 0).val = _
    rw [k0_off2_eq]
    show 10240 * (L 1).val + 5120 * (L 0).val + 512 * n.val + 1 * (y 0).val = 5120 * (2 * (L 1).val + (L 0).val) + 512 * n.val + (y 0).val
    omega
  | ⟨1, _⟩ =>
    rw [Rect.emb_apply]
    show k0_off2 L (BitVec.ofNat 32 (512 * n.val)) 1 + 1 * (y 1).val = (y 1).val
    rw [k0_off2_eq]
    show 0 + 1 * (y 1).val = (y 1).val
    omega

theorem row_lt (n : Fin 10) (y : S512x128.Idx) : 5120 * (wid L).val + 512 * n.val + (y 0).val < 163840 := by
  have := (wid L).isLt; have := n.isLt; have : (y 0).val < 512 := (y 0).isLt; omega

theorem row_lt' (n : Fin 10) (y : S512.Idx) : 5120 * (wid L).val + 512 * n.val + (y 0).val < 163840 := by
  have := (wid L).isLt; have := n.isLt; have : (y 0).val < 512 := (y 0).isLt; omega

/-- An index in the rows of round `n` is one of the block's. -/
theorem exists_out (n : Fin 10) (x : S163840x128.Idx) (h1 : 5120 * (wid L).val + 512 * n.val ≤ (x 0).val)
    (h2 : (x 0).val < 5120 * (wid L).val + 512 * (n.val + 1)) :
    ∃ y : S512x128.Idx, (Rect.unit (s := S163840x128) (k0_off2 L (BitVec.ofNat 32 (512 * n.val))) S512x128.size (k0_off2_inb L n)).emb y = x := by
  refine ⟨ix2 ⟨(x 0).val - (5120 * (wid L).val + 512 * n.val), by omega⟩ (x 1), ?_⟩
  rw [out_at L n _ (row_lt L n _)]
  funext a; apply Fin.ext
  match a with
  | ⟨0, _⟩ => show 5120 * (wid L).val + 512 * n.val + ((x 0).val - (5120 * (wid L).val + 512 * n.val)) = (x 0).val; omega
  | ⟨1, _⟩ => rfl

/-- A round's block is inside the task's rows. -/
theorem out_sub_g (n : Fin 10) : (outK L gV n).view.set ⊆ blk (wid L) := by
  intro x hx
  obtain ⟨y, -, rfl⟩ := Finset.mem_map.mp hx
  rw [mem_blk']
  show (((Rect.unit (s := S163840x128) (k0_off2 L (BitVec.ofNat 32 (512 * n.val))) S512x128.size (k0_off2_inb L n)).emb y) 0).val / 5120 = _
  rw [out_at L n y (row_lt L n y)]
  show (5120 * (wid L).val + 512 * n.val + (y 0).val) / 5120 = _
  have := n.isLt; have : (y 0).val < 512 := (y 0).isLt; omega

theorem out_sub_h (n : Fin 10) : (outK L hV n).view.set ⊆ blk (wid L) := out_sub_g L n

/-- Contents hold the target on the task's first `k` rows. -/
def Upto (k : ℕ) (G fo : S163840x128.Idx → Elt F .f32) : Prop := ∀ x ∈ blk (wid L), (x 0).val < 5120 * (wid L).val + k → fo x = G x

theorem upto_zero (G fo : S163840x128.Idx → Elt F .f32) : Upto L 0 G fo := fun x hx h => by
  rw [mem_blk'] at hx; omega

theorem upto_full (G fo : S163840x128.Idx → Elt F .f32) (h : Upto L 5120 G fo) : ∀ x ∈ blk (wid L), fo x = G x := fun x hx => by
  refine h x hx ?_
  rw [mem_blk'] at hx; omega

/-- A round's write carries the target's rows on. -/
theorem upto_write_g (n : Fin 10) (G fo : S163840x128.Idx → Elt F .f32) (pay : S512x128.Idx → Elt F .f32)
    (hpay : ∀ y, pay y = G (ix2 ⟨5120 * (wid L).val + 512 * n.val + (y 0).val, row_lt L n y⟩ (y 1)))
    (h : Upto L (512 * n.val) G fo) : Upto L (512 * (n.val + 1)) G ((outK L gV n).view.write (Elt F) fo pay Finset.univ) := by
  intro x hx hlt
  by_cases hlo : 5120 * (wid L).val + 512 * n.val ≤ (x 0).val
  · obtain ⟨y, rfl⟩ := exists_out L n x hlo hlt
    refine (View.write_emb_of_mem (v := (outK L gV n).view) (Val := Elt F) fo pay (Finset.mem_univ y)).trans ?_
    refine (cast_eq _ _).trans ?_
    exact (hpay y).trans (congrArg G (out_at L n y (row_lt L n y)).symm)
  · refine (View.write_of_not_mem (v := (outK L gV n).view) (Val := Elt F) fo pay Finset.univ (i := x) ?_).trans (h x hx (by omega))
    intro hmem
    obtain ⟨y, -, rfl⟩ := Finset.mem_map.mp hmem
    apply hlo
    show _ ≤ (((Rect.unit (s := S163840x128) (k0_off2 L (BitVec.ofNat 32 (512 * n.val))) S512x128.size (k0_off2_inb L n)).emb y) 0).val
    rw [out_at L n y (row_lt L n y)]
    exact Nat.le_add_right _ _

theorem upto_write_h (n : Fin 10) (G fo : S163840x128.Idx → Elt F .f32) (pay : S512x128.Idx → Elt F .f32)
    (hpay : ∀ y, pay y = G (ix2 ⟨5120 * (wid L).val + 512 * n.val + (y 0).val, row_lt L n y⟩ (y 1)))
    (h : Upto L (512 * n.val) G fo) : Upto L (512 * (n.val + 1)) G ((outK L hV n).view.write (Elt F) fo pay Finset.univ) :=
  upto_write_g L n G fo pay hpay h

end Vals

/-! ## The invariant of the rounds -/

section Tile

variable [FloatOps F] (W : (ℓ : Loc nD τ sig) → Buf (Elt F) ℓ) (d : Dev nD) (L : grid0.Coords)

/-- Task `w`'s share of a buffer that every task reads. -/
abbrev shr (w : Fin 32) : PosShare TreeShare := pieceOf fullShare 32 (by decide) w

abbrev tSh (w : Fin 32) : sProp 𝕄 := tLoc d ↦{shr w} W (tLoc d)
abbrev uSh (w : Fin 32) : sProp 𝕄 := uLoc d ↦{shr w} W (uLoc d)
abbrev iSh (w : Fin 32) : sProp 𝕄 := iLoc d ↦{shr w} W (iLoc d)
abbrev jSh (w : Fin 32) : sProp 𝕄 := jLoc d ↦{shr w} W (jLoc d)
abbrev gBlk (w : Fin 32) (f : Buf (Elt F) (gLoc d)) : sProp 𝕄 := gLoc d ↦[blk w]{fullShare} f
abbrev hBlk (w : Fin 32) (f : Buf (Elt F) (hLoc d)) : sProp 𝕄 := hLoc d ↦[blk w]{fullShare} f

abbrev cellV (s : DmaSem sig) : GSem nD τ sig := (V d (cI L) (jI L), .dma s)

omit [FloatOps F] in
/-- Three of a subcore's own counters, taken from the rest. -/
theorem ownSems0_three (a b c : DmaSem sig) (hab : a ≠ b) (hac : a ≠ c) (hbc : b ≠ c)
    (ha : (SemLoc.dma a : SemLoc sig).isScoped .scVector = true) (hb : (SemLoc.dma b : SemLoc sig).isScoped .scVector = true)
    (hc : (SemLoc.dma c : SemLoc sig).isScoped .scVector = true) :
    (ownSems0 (V d (cI L) (jI L)) : sProp 𝕄)
      = iprop(semVal (cellV d L a) 0 ∗ semVal (cellV d L b) 0 ∗ semVal (cellV d L c) 0
          ∗ bigSep ((((ownCells (V d (cI L) (jI L))).erase (cellV d L a)).erase (cellV d L b)).erase (cellV d L c)) fun g => semVal g 0) := by
  have ne : ∀ {x y : DmaSem sig}, x ≠ y → cellV d L y ≠ cellV d L x := fun h e => h (SemLoc.dma.inj (congrArg Prod.snd e)).symm
  unfold SparseCore.Cfg.ownSems0
  rw [SparseCore.bigSep_erase' ((mem_ownCells (g := cellV d L a)).mpr ⟨rfl, ha⟩),
    SparseCore.bigSep_erase' (Finset.mem_erase.mpr ⟨ne hab, (mem_ownCells (g := cellV d L b)).mpr ⟨rfl, hb⟩⟩),
    SparseCore.bigSep_erase' (Finset.mem_erase.mpr ⟨ne hbc, Finset.mem_erase.mpr ⟨ne hac, (mem_ownCells (g := cellV d L c)).mpr ⟨rfl, hc⟩⟩⟩)]

omit [FloatOps F] in
/-- The two scratch buffers, taken from the rest of a subcore's own. -/
theorem ownBufs_two :
    (ownBufs (V d (cI L) (jI L)) : sProp 𝕄)
      = iprop((∃ f, (V d (cI L) (jI L)).loc cc0_scratch0 ↦{fullShare} f) ∗ (∃ f, (V d (cI L) (jI L)).loc cc0_scratch1 ↦{fullShare} f)
          ∗ bigSep (((ownRefs (τ := τ) (.scVector (cI L) (jI L))).erase ((Proc.scVector (cI L) (jI L)).devRef cc0_scratch0)).erase
              ((Proc.scVector (cI L) (jI L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cI L) (jI L))
    (b := (Proc.scVector (cI L) (jI L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cI L) (jI L)) (b := (Proc.scVector (cI L) (jI L)).devRef cc0_scratch1) rfl⟩)]

/-- What every round passes on: the scratch buffers, the counters at zero, the waits paid. -/
abbrev passed (O : CellTallies nD τ sig (HIx 1)) (Ws : Waits sig (HIx 1)) : sProp 𝕄 :=
  iprop((∃ f, (V d (cI L) (jI L)).loc cc0_scratch0 ↦{fullShare} f) ∗ (∃ f, (V d (cI L) (jI L)).loc cc0_scratch1 ↦{fullShare} f)
    ∗ ownSems0 (V d (cI L) (jI L)) ∗ ∃ W', ⌜∀ p ∈ W', p ∈ Ws ∨ p.2 = none⌝ ∗ owes (V d (cI L) (jI L)) O W')

/-- Before round `n` over the first list. -/
def fInv (O : CellTallies nD τ sig (HIx 1)) (Ws : Waits sig (HIx 1)) (n : ℕ) : sProp 𝕄 :=
  iprop(Transfers.MayWaits (V d (cI L) (jI L)) (default : HIx 1) O ∗ iSh W d (wid L) ∗ tSh W d (wid L)
    ∗ (∃ fo, ⌜Upto L (512 * n) (gOut W d) fo⌝ ∗ gBlk d (wid L) fo) ∗ passed d L O Ws)
/-- Before round `n` over the second list. -/
def cInv (O : CellTallies nD τ sig (HIx 1)) (Ws : Waits sig (HIx 1)) (n : ℕ) : sProp 𝕄 :=
  iprop(Transfers.MayWaits (V d (cI L) (jI L)) (default : HIx 1) O ∗ jSh W d (wid L) ∗ uSh W d (wid L)
    ∗ (∃ fo, ⌜Upto L (512 * n) (hOut W d) fo⌝ ∗ hBlk d (wid L) fo) ∗ passed d L O Ws)

omit [FloatOps F] in
theorem semF_ne (n : Fin 10) : semFA n ≠ cc0_scratch2.sem ∧ semFA n ≠ semFB n ∧ cc0_scratch2.sem ≠ semFB n := by
  revert n; decide
omit [FloatOps F] in
theorem semC_ne (n : Fin 10) : semCA n ≠ cc0_scratch2.sem ∧ semCA n ≠ semCB n ∧ cc0_scratch2.sem ≠ semCB n := by
  revert n; decide
omit [FloatOps F] in
theorem sem_scoped (n : Fin 10) : (SemLoc.dma (semFA n) : SemLoc sig).isScoped .scVector = true ∧ (SemLoc.dma (semFB n) : SemLoc sig).isScoped .scVector = true
    ∧ (SemLoc.dma (semCA n) : SemLoc sig).isScoped .scVector = true ∧ (SemLoc.dma (semCB n) : SemLoc sig).isScoped .scVector = true
    ∧ (SemLoc.dma cc0_scratch2.sem : SemLoc sig).isScoped .scVector = true := by
  revert n; decide

omit [FloatOps F] in
/-- The credits of a stream's rows add up to its block's. -/
theorem rows_credit {N : ℕ} (hg : (⟨2, ![N, 128]⟩ : Shape).Gathers 0 S512x128) :
    ∑ k, ((rV).slice (S512x128.rowRect hg.axis' k) (S512x128.stride_rowRect hg.axis' k)).view.dmaCredit = (rV).view.dmaCredit := by
  have h : ∀ k, ((rV).slice (S512x128.rowRect hg.axis' k) (S512x128.stride_rowRect hg.axis' k)).view.dmaCredit
      = sig.dmaCredit .scVector (Kind.table .scVector .vmem) cc0_scratch1.idx (S512x128.rowShape (0 : Fin 2)) .f32 := fun k => rfl
  rw [Finset.sum_congr rfl fun k _ => h k, Finset.sum_const, Finset.card_univ, Fintype.card_fin]
  show 512 * _ = _
  decide +kernel

omit [FloatOps F] in
/-- A piece of the first list, read. -/
theorem read_i (n : Fin 10) (f : S163840.Idx → Elt F .i32) (y : S512.Idx) :
    (lstK L iV n).view.read (Elt F) f y = f (ix1 ⟨5120 * (wid L).val + 512 * n.val + (y 0).val, row_lt' L n y⟩) :=
  (View.read_apply _ _).trans ((cast_eq _ _).trans (congrArg f (list_at L n y (row_lt' L n y))))
omit [FloatOps F] in
theorem read_j (n : Fin 10) (f : S163840.Idx → Elt F .i32) (y : S512.Idx) :
    (lstK L jV n).view.read (Elt F) f y = f (ix1 ⟨5120 * (wid L).val + 512 * n.val + (y 0).val, row_lt' L n y⟩) :=
  (View.read_apply _ _).trans ((cast_eq _ _).trans (congrArg f (list_at L n y (row_lt' L n y))))
omit [FloatOps F] in
/-- All of a table, read. -/
theorem read_t (f : S409600x128.Idx → Elt F .f32) : (tAllK).view.read (Elt F) f = f := by
  funext y
  refine (View.read_apply _ _).trans ((cast_eq _ _).trans (congrArg f ?_))
  funext a; apply Fin.ext
  show (![0, 0] : Fin 2 → ℕ) a + 1 * (y a).val = (y a).val
  match a with
  | ⟨0, _⟩ => show 0 + 1 * (y 0).val = (y 0).val; omega
  | ⟨1, _⟩ => show 0 + 1 * (y 1).val = (y 1).val; omega
omit [FloatOps F] in
theorem read_u (f : S106496x128.Idx → Elt F .f32) : (uAllK).view.read (Elt F) f = f := by
  funext y
  refine (View.read_apply _ _).trans ((cast_eq _ _).trans (congrArg f ?_))
  funext a; apply Fin.ext
  show (![0, 0] : Fin 2 → ℕ) a + 1 * (y a).val = (y a).val
  match a with
  | ⟨0, _⟩ => show 0 + 1 * (y 0).val = (y 0).val; omega
  | ⟨1, _⟩ => show 0 + 1 * (y 1).val = (y 1).val; omega

/-- One round over the first list keeps the invariant. -/
theorem fRound_step (hpre : PreOK W) (O : CellTallies nD τ sig (HIx 1)) (Ws : Waits sig (HIx 1)) (n : Fin 10) :
    fInv W d L O Ws n.val ⊢ wp frame (wpE (defs₀ (F := F)) 𝒱₀ (V d (cI L) (jI L)) none) Set.univ (fRound (F := F) L n) fun _ => fInv W d L O Ws (n.val + 1) := by
  unfold fInv passed fRound
  rw [ownSems0_three (F := F) d L (semFA n) cc0_scratch2.sem (semFB n) (semF_ne n).1 (semF_ne n).2.1 (semF_ne n).2.2
    (sem_scoped n).1 (sem_scoped n).2.2.2.2 (sem_scoped n).2.1]
  iintro ⟨#Hmw, Hi, Ht, ⟨%fo, %hfo, Hg⟩, ⟨%f8, H8⟩, ⟨%f9, H9⟩, ⟨Ha, Hb, Hc, Hrest⟩, %W', %hW', HO⟩
  iapply (Chunk.wp_round 𝒱₀ countersEmb none (lstK L iV n) tAllK (outK L gV n) sV rV (semFA n) cc0_scratch2.sem (semFB n)
    gathers_S409600x128_S512x128 rfl _ _ _ _ _ rfl _ (Memref.isWhole_whole _).set_eq_univ (Memref.isWhole_whole _).set_eq_univ
    (default : HIx 1) (rows_credit _) (by decide +kernel) (View.dmaCredit_pos _ (by decide +kernel)) (View.dmaCredit_pos _ (by decide +kernel)) (out_sub_g L n)
    (fl := W (iLoc d)) (ft := W (tLoc d)) (ql := shr (wid L)) (qt := shr (wid L)) (f8 := f8) (f9 := f9) (fo := fo) (O := O) (W := W')
    (fun x => (congrArg BitVec.toNat (read_i L n (W (iLoc d)) x)).trans_lt ((hpre d).1 _)))
  isplitr; · iexact Hmw
  isplitl [Hi]; · iexact Hi
  isplitl [Ht]; · iexact Ht
  isplitl [H8]; · iexact H8
  isplitl [H9]; · iexact H9
  isplitl [Hg]; · iexact Hg
  isplitl [Ha]; · iexact Ha
  isplitl [Hb]; · iexact Hb
  isplitl [Hc]; · iexact Hc
  isplitl [HO]; · iexact HO
  iintro ⟨Hi, Ht, H8, H9, Hg, Ha, Hb, Hc, %W'', %hW'', HO⟩
  isplitr; · iexact Hmw
  isplitl [Hi]; · iexact Hi
  isplitl [Ht]; · iexact Ht
  isplitl [Hg]
  · iexists _
    isplitr; swap
    · iexact Hg
    · ipureintro
      refine upto_write_g L n (gOut W d) fo _ (fun y => ?_) hfo
      refine (Chunk.gather_value (N := 409600) (C := 128) (R := 512) _ _ _ _ _ y).trans ?_
      unfold gOut Chunk.rowGather
      rw [read_t, read_i]
      rfl
  isplitl [H8]; · iexact H8
  isplitl [H9]; · iexact H9
  isplitl [Ha Hb Hc Hrest]
  · isplitl [Ha]; · iexact Ha
    isplitl [Hb]; · iexact Hb
    isplitl [Hc]; · iexact Hc
    iexact Hrest
  iexists W''
  isplitr; swap
  · iexact HO
  · ipureintro; intro p hp
    rcases hW'' p hp with h | h
    · exact hW' p h
    · exact .inr h

/-- One round over the second list keeps the invariant. -/
theorem cRound_step (hpre : PreOK W) (O : CellTallies nD τ sig (HIx 1)) (Ws : Waits sig (HIx 1)) (n : Fin 10) :
    cInv W d L O Ws n.val ⊢ wp frame (wpE (defs₀ (F := F)) 𝒱₀ (V d (cI L) (jI L)) none) Set.univ (cRound (F := F) L n) fun _ => cInv W d L O Ws (n.val + 1) := by
  unfold cInv passed cRound
  rw [ownSems0_three (F := F) d L (semCA n) cc0_scratch2.sem (semCB n) (semC_ne n).1 (semC_ne n).2.1 (semC_ne n).2.2
    (sem_scoped n).2.2.1 (sem_scoped n).2.2.2.2 (sem_scoped n).2.2.2.1]
  iintro ⟨#Hmw, Hi, Ht, ⟨%fo, %hfo, Hg⟩, ⟨%f8, H8⟩, ⟨%f9, H9⟩, ⟨Ha, Hb, Hc, Hrest⟩, %W', %hW', HO⟩
  iapply (Chunk.wp_round 𝒱₀ countersEmb none (lstK L jV n) uAllK (outK L hV n) sV rV (semCA n) cc0_scratch2.sem (semCB n)
    gathers_S106496x128_S512x128 rfl _ _ _ _ _ rfl _ (Memref.isWhole_whole _).set_eq_univ (Memref.isWhole_whole _).set_eq_univ
    (default : HIx 1) (rows_credit _) (by decide +kernel) (View.dmaCredit_pos _ (by decide +kernel)) (View.dmaCredit_pos _ (by decide +kernel)) (out_sub_h L n)
    (fl := W (jLoc d)) (ft := W (uLoc d)) (ql := shr (wid L)) (qt := shr (wid L)) (f8 := f8) (f9 := f9) (fo := fo) (O := O) (W := W')
    (fun x => (congrArg BitVec.toNat (read_j L n (W (jLoc d)) x)).trans_lt ((hpre d).2 _)))
  isplitr; · iexact Hmw
  isplitl [Hi]; · iexact Hi
  isplitl [Ht]; · iexact Ht
  isplitl [H8]; · iexact H8
  isplitl [H9]; · iexact H9
  isplitl [Hg]; · iexact Hg
  isplitl [Ha]; · iexact Ha
  isplitl [Hb]; · iexact Hb
  isplitl [Hc]; · iexact Hc
  isplitl [HO]; · iexact HO
  iintro ⟨Hi, Ht, H8, H9, Hg, Ha, Hb, Hc, %W'', %hW'', HO⟩
  isplitr; · iexact Hmw
  isplitl [Hi]; · iexact Hi
  isplitl [Ht]; · iexact Ht
  isplitl [Hg]
  · iexists _
    isplitr; swap
    · iexact Hg
    · ipureintro
      refine upto_write_h L n (hOut W d) fo _ (fun y => ?_) hfo
      refine (Chunk.gather_value (N := 106496) (C := 128) (R := 512) _ _ _ _ _ y).trans ?_
      unfold hOut Chunk.rowGather
      rw [read_u, read_j]
      rfl
  isplitl [H8]; · iexact H8
  isplitl [H9]; · iexact H9
  isplitl [Ha Hb Hc Hrest]
  · isplitl [Ha]; · iexact Ha
    isplitl [Hb]; · iexact Hb
    isplitl [Hc]; · iexact Hc
    iexact Hrest
  iexists W''
  isplitr; swap
  · iexact HO
  · ipureintro; intro p hp
    rcases hW'' p hp with h | h
    · exact hW' p h
    · exact .inr h

end Tile

end Cert.Proof.TailSc

end
-- ==== Proof.TailCall.lean ====
/-
  The gathering call as the launch sees it: the task whole, what the handshakes carry, the call's buffers split over the
  thirty-two tasks and joined again.
-/
module

public import proofs.«01_k».proof.Proof.TailTile

@[expose] public section

set_option maxRecDepth 16384

noncomputable section

namespace Cert.Proof.TailSc

open Cert.TailIdeal Cert.TailIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole main_v0_scv : Memref sig Kind.scVector Space.hbm S409600x128 EltTy.f32)
local notation "uV" => (Memref.whole main_v1_scv : Memref sig Kind.scVector Space.hbm S106496x128 EltTy.f32)
local notation "iV" => (Memref.whole main_v2_scv : Memref sig Kind.scVector Space.hbm S163840 EltTy.i32)
local notation "jV" => (Memref.whole main_v3_scv : Memref sig Kind.scVector Space.hbm S163840 EltTy.i32)
local notation "gV" => (Memref.whole main_v4_0_scv : Memref sig Kind.scVector Space.hbm S163840x128 EltTy.f32)
local notation "hV" => (Memref.whole main_v4_1_scv : Memref sig Kind.scVector Space.hbm S163840x128 EltTy.f32)
local notation "sV" => (Memref.whole cc0_scratch0 : Memref sig Kind.scVector Space.vmem S512 EltTy.i32)
local notation "rV" => (Memref.whole cc0_scratch1 : Memref sig Kind.scVector Space.vmem S512x128 EltTy.f32)

section Tile

variable [FloatOps F] (W : (ℓ : Loc nD τ sig) → Buf (Elt F) ℓ)

/-- What task `w` takes. -/
abbrev taken (d : Dev nD) (w : Fin 32) : sProp 𝕄 :=
  iprop(tSh W d w ∗ uSh W d w ∗ iSh W d w ∗ jSh W d w ∗ gBlk d w (W (gLoc d)) ∗ hBlk d w (W (hLoc d)))
/-- What task `w` brings back. -/
abbrev brought (d : Dev nD) (w : Fin 32) : sProp 𝕄 :=
  iprop(tSh W d w ∗ uSh W d w ∗ iSh W d w ∗ jSh W d w ∗ gBlk d w (gOut W d) ∗ hBlk d w (hOut W d))

/-- The task at `(L 0, L 1)`: twenty rounds from what it takes to what it brings back. -/
theorem tile_body (d : Dev nD) (L : grid0.Coords) (hF : (K (F := F)).Facts) (hpre : PreOK W) (O : CellTallies nD τ sig (HIx 1)) (Ws : Waits sig (HIx 1)) (hO : ∀ g, O g none = 0) :
    iprop(levAts (K (F := F)).L (K (F := F)).lev ∗ emp ∗ taken W d (wid L)
        ∗ scopedBufs (V d (cI L) (jI L)) ∗ scopedSems0 (V d (cI L) (jI L)) ∗ owes (V d (cI L) (jI L)) O Ws)
      ⊢ wp frame (wpE (defs₀ (F := F)) 𝒱₀ (V d (cI L) (jI L)) none) Set.univ
          (Pipeline.chain ((List.finRange 10).map (fRound L) ++ (List.finRange 10).map (cRound L)))
          fun _ => iprop(brought W d (wid L)
            ∗ scopedBufs (V d (cI L) (jI L)) ∗ scopedSems0 (V d (cI L) (jI L))
            ∗ ∃ W', ⌜∀ p ∈ W', p ∈ Ws ∨ p.2 = none⌝ ∗ owes (V d (cI L) (jI L)) O W') := by
  rw [(K (F := F)).scopedBufs_V hF d (cI L) (jI L), SparseCore.Cfg.scopedSems0_V (Val := Elt F) d (cI L) (jI L), ownBufs_two,
    Chunk.chain_append, wp_bind]
  iintro ⟨#Hlv, -, ⟨Ht, Hu, Hi, Hj, Hg, Hh⟩, ⟨H8, H9, Hbufs⟩, Hsems, HO⟩
  ihave #Hmw := (show levAts (K (F := F)).L (K (F := F)).lev ⊢ Transfers.MayWaits (V d (cI L) (jI L)) (default : HIx 1) O from
    (K (F := F)).mayWaits_none (thr := V d (cI L) (jI L)) hO) $$ Hlv
  ihave Hw := (Chunk.wp_chain_inv (defs := defs₀ (F := F)) 𝒱₀ (V d (cI L) (jI L)) none 10 (fRound (F := F) L) (fInv W d L O Ws)
    (fun n => fRound_step W d L hpre O Ws n)) $$ [Hi Ht Hg H8 H9 Hsems HO]
  · unfold fInv passed
    isplitr; · iexact Hmw
    isplitl [Hi]; · iexact Hi
    isplitl [Ht]; · iexact Ht
    isplitl [Hg]
    · iexists _; isplitr; swap
      · iexact Hg
      · ipureintro; exact upto_zero L _ _
    isplitl [H8]; · iexact H8
    isplitl [H9]; · iexact H9
    isplitl [Hsems]; · iexact Hsems
    iexists Ws; isplitr; swap
    · iexact HO
    · ipureintro; exact fun p hp => .inl hp
  iapply wp_wand $$ [Hw]
  · iexact Hw
  iintro %_ Hf
  ihave Hf := (show fInv W d L O Ws 10 ⊢ iprop(Transfers.MayWaits (V d (cI L) (jI L)) (default : HIx 1) O ∗ iSh W d (wid L) ∗ tSh W d (wid L)
    ∗ (∃ fo, ⌜Upto L (512 * 10) (gOut W d) fo⌝ ∗ gBlk d (wid L) fo) ∗ passed d L O Ws) from Entails.of_eq rfl) $$ Hf
  icases Hf with ⟨-, Hi, Ht, ⟨%fo, %hfo, Hg⟩, Hp⟩
  ihave Hg := (Entails.of_eq (pointsTo_congr (upto_full L _ _ hfo))) $$ Hg
  ihave Hw := (Chunk.wp_chain_inv (defs := defs₀ (F := F)) 𝒱₀ (V d (cI L) (jI L)) none 10 (cRound (F := F) L) (cInv W d L O Ws)
    (fun n => cRound_step W d L hpre O Ws n)) $$ [Hj Hu Hh Hp]
  · unfold cInv
    isplitr; · iexact Hmw
    isplitl [Hj]; · iexact Hj
    isplitl [Hu]; · iexact Hu
    isplitl [Hh]
    · iexists _; isplitr; swap
      · iexact Hh
      · ipureintro; exact upto_zero L _ _
    iexact Hp
  iapply wp_wand $$ [Hw]
  · iexact Hw
  iintro %_ Hf
  ihave Hf := (show cInv W d L O Ws 10 ⊢ iprop(Transfers.MayWaits (V d (cI L) (jI L)) (default : HIx 1) O ∗ jSh W d (wid L) ∗ uSh W d (wid L)
    ∗ (∃ fo, ⌜Upto L (512 * 10) (hOut W d) fo⌝ ∗ hBlk d (wid L) fo) ∗ passed d L O Ws) from Entails.of_eq rfl) $$ Hf
  icases Hf with ⟨-, Hj, Hu, ⟨%fo', %hfo', Hh⟩, H8, H9, Hsems, HO⟩
  ihave Hh := (Entails.of_eq (pointsTo_congr (upto_full L _ _ hfo'))) $$ Hh
  isplitl [Ht Hu Hi Hj Hg Hh]
  · isplitl [Ht]; · iexact Ht
    isplitl [Hu]; · iexact Hu
    isplitl [Hi]; · iexact Hi
    isplitl [Hj]; · iexact Hj
    isplitl [Hg]; · iexact Hg
    iexact Hh
  isplitl [H8 H9 Hbufs]
  · isplitl [H8]; · iexact H8
    isplitl [H9]; · iexact H9
    iexact Hbufs
  isplitl [Hsems]; · iexact Hsems
  iexact HO

/-! ## What the handshakes carry -/

/-- The number of the task of core `c`, tile `i`. -/
abbrev wOf (c : Fin 2) (i : Fin 16) : Fin 32 := ⟨2 * i.val + c.val, by omega⟩

/-- Each core takes what its sixteen tasks take and hands back what they bring. -/
def P : (K (F := F)).Pay (nD := nD) (Val := Elt F) (Name := ℕ) (U := UU) where
  st := fun q d c => match q with | 0 => bigSep Finset.univ fun i : Fin 16 => taken W d (wOf (Fin.cast nCore_zero c) i)
  dn := fun q d c => match q with | 0 => bigSep Finset.univ fun i : Fin 16 => brought W d (wOf (Fin.cast nCore_zero c) i)
  go := fun q d c i => match q with | 0 => taken W d (wOf (Fin.cast nCore_zero c) (Fin.cast nSub_zero i))
  td := fun q d c i => match q with | 0 => brought W d (wOf (Fin.cast nCore_zero c) (Fin.cast nSub_zero i))
  x := fun _ _ => iprop(emp)

instance taken_storable (d : Dev nD) (w : Fin 32) : BI.Storable (upEmb : UEmb _ 𝕄) (taken W d w) := by unfold taken; infer_instance
instance brought_storable (d : Dev nD) (w : Fin 32) : BI.Storable (upEmb : UEmb _ 𝕄) (brought W d w) := by unfold brought; infer_instance

instance P_storable : (P (F := F) W).IsStorable where
  st q d c := match q with
    | 0 => (inferInstance : BI.Storable (upEmb : UEmb _ 𝕄) (bigSep Finset.univ fun i : Fin 16 => taken W d (wOf (Fin.cast nCore_zero c) i)))
  dn q d c := match q with
    | 0 => (inferInstance : BI.Storable (upEmb : UEmb _ 𝕄) (bigSep Finset.univ fun i : Fin 16 => brought W d (wOf (Fin.cast nCore_zero c) i)))
  go q d c i := match q with | 0 => taken_storable W d _
  td q d c i := match q with | 0 => brought_storable W d _

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_gather (coordsV c s) tV (Memref.isWhole_whole _) uV (Memref.isWhole_whole _) iV (Memref.isWhole_whole _) jV (Memref.isWhole_whole _)
        gV (Memref.isWhole_whole _) hV (Memref.isWhole_whole _) sV (Memref.isWhole_whole _) rV (Memref.isWhole_whole _) cc0_scratch2
        cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39) ⟨⟩ c s := rfl

omit [FloatOps F] in
/-- A task's waits, in the launch theorem's wording. -/
theorem obl_post {thr : Thread nD τ} {A B C : sProp 𝕄} {O : CellTallies nD τ sig (HIx 1)} {Ws : Waits sig (HIx 1)} {q : Fin 1} :
    iprop(A ∗ B ∗ C ∗ ∃ W', ⌜∀ p ∈ W', p ∈ Ws ∨ p.2 = none⌝ ∗ owes thr O W')
      ⊢ iprop(A ∗ B ∗ C ∗ ∃ W', ⌜∀ p ∈ W', p ∈ Ws ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task meets its contract. -/
theorem tileObl (hF : (K (F := F)).Facts) (hpre : PreOK W) : (K (F := F)).TileObl (D (F := F)) 𝒱 (P W) v₀ 0 := by
  intro d c i O Ws hO _ _
  simp only [show (P W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [body_eq]
  exact (tile_body W d (coordsV ⟨_, hci.1⟩ ⟨_, hci.2⟩) hF hpre O Ws hO).trans (wp_mono frame _ _ fun _ => obl_post)

/-- A core's takings are its tasks', and theirs its returns. -/
theorem vecSplit : (K (F := F)).VecSplit' (P W) 0 := by
  intro d c
  show (bigSep Finset.univ fun i : Fin 16 => taken W d (wOf (Fin.cast nCore_zero c) i)) ⊢ |={Set.univ}=> iprop(
      (bigSep Finset.univ fun i : Fin 16 => taken W d (wOf (Fin.cast nCore_zero c) i))
      ∗ ((bigSep Finset.univ fun i : Fin 16 => brought W d (wOf (Fin.cast nCore_zero c) i))
          -∗ (bigSep Finset.univ fun i : Fin 16 => brought W d (wOf (Fin.cast nCore_zero c) i))))
  iintro H
  imodintro
  isplitl [H]; · iexact H
  iintro H; iexact H

end Tile

/-! ## The buffers split over the tasks and join -/

section Join

variable (W : (ℓ : Loc nD τ sig) → Buf (Elt F) ℓ) (d : Dev nD)

theorem blk_disjoint : ∀ i ∈ (Finset.univ : Finset (Fin 32)), ∀ j ∈ (Finset.univ : Finset (Fin 32)), i ≠ j → Disjoint (blk i) (blk j) :=
  fun i _ j _ h => Finset.disjoint_left.mpr fun x hx hy => h (Fin.ext ((mem_blk'.mp hx).symm.trans (mem_blk'.mp hy)))

theorem blk_cover : (Finset.univ : Finset (Fin 32)).biUnion blk = Finset.univ := by
  ext x
  simp only [Finset.mem_biUnion, Finset.mem_univ, true_and, iff_true]
  have : (x 0).val < 163840 := (x 0).isLt
  exact ⟨⟨(x 0).val / 5120, by omega⟩, mem_blk'.mpr rfl⟩

theorem g_blocks (f : Buf (Elt F) (gLoc d)) : (gLoc d ↦{fullShare} f : sProp 𝕄) = bigSep Finset.univ fun w : Fin 32 => gBlk d w f := by
  rw [← pointsTo_biUnion Finset.univ (ℓ := gLoc d) blk blk_disjoint, blk_cover]; try rfl
theorem h_blocks (f : Buf (Elt F) (hLoc d)) : (hLoc d ↦{fullShare} f : sProp 𝕄) = bigSep Finset.univ fun w : Fin 32 => hBlk d w f := by
  rw [← pointsTo_biUnion Finset.univ (ℓ := hLoc d) blk blk_disjoint, blk_cover]; try rfl

/-- The task numbers are the pairs of a core and a tile. -/
def pairs : Fin 2 × Fin 16 ≃ Fin 32 where
  toFun p := wOf p.1 p.2
  invFun w := (⟨w.val % 2, by omega⟩, ⟨w.val / 2, by omega⟩)
  left_inv p := by ext <;> simp <;> omega
  right_inv w := by ext; simp; omega

/-- The six buffers whole, the two outputs at any contents, are the thirty-two tasks' parts at once. -/
theorem bufs_tasks (fg : Buf (Elt F) (gLoc d)) (fh : Buf (Elt F) (hLoc d)) :
    (iprop((tLoc d ↦{fullShare} W (tLoc d)) ∗ (uLoc d ↦{fullShare} W (uLoc d)) ∗ (iLoc d ↦{fullShare} W (iLoc d)) ∗ (jLoc d ↦{fullShare} W (jLoc d))
        ∗ (gLoc d ↦{fullShare} fg) ∗ (hLoc d ↦{fullShare} fh)) : sProp 𝕄)
      = bigSep Finset.univ fun c : Fin 2 => bigSep Finset.univ fun i : Fin 16 =>
          iprop(tSh W d (wOf c i) ∗ uSh W d (wOf c i) ∗ iSh W d (wOf c i) ∗ jSh W d (wOf c i) ∗ gBlk d (wOf c i) fg ∗ hBlk d (wOf c i) fh) := by
  refine Eq.trans ?_ ((bigSep_univ_equiv pairs (fun w : Fin 32 =>
    iprop(tSh W d w ∗ uSh W d w ∗ iSh W d w ∗ jSh W d w ∗ gBlk d w fg ∗ hBlk d w fh))).trans (bigSep_univ_prod _))
  rw [bigSep_sep', bigSep_sep', bigSep_sep', bigSep_sep', bigSep_sep', g_blocks, h_blocks,
    pointsTo_piecesOf Finset.univ (W (tLoc d)) (show 0 < 32 by decide) fullShare, pointsTo_piecesOf Finset.univ (W (uLoc d)) (show 0 < 32 by decide) fullShare,
    pointsTo_piecesOf Finset.univ (W (iLoc d)) (show 0 < 32 by decide) fullShare, pointsTo_piecesOf Finset.univ (W (jLoc d)) (show 0 < 32 by decide) fullShare]

end Join

end Cert.Proof.TailSc

end
-- ==== Proof.Region.lean ====
/-
  A TensorCore call entered with every unscoped buffer at a valuation and left with every unscoped buffer at another,
  while the core owes a constant tally and has recorded waits within a constant bound.
-/
module

public import Idealize.ShloMosaic.Lib.Pipeline.RegionsLoop
public import Idealize.ShloMosaic.Lib.Pipeline.RegionArrays

@[expose] public section

noncomputable section

namespace Cert.Proof.Region

open Idealize.ShloMosaic
open Idealize.ShloMosaic.Pipeline
open Idealize.SL Idealize.SL.RA
open Idealize.SL.BI (sProp bigSep)
open scoped Idealize.SL.BI
open Idealize.SL.BI.BIBase Idealize.SL.BI.Laws Idealize.SL.Sem Idealize.SL.ProofMode
open TcCoe

variable {nD : Nat} {τ : Topo} {sig : RefSig} {Val : EltTy → Type}
variable {Ix : Type} [DecidableEq Ix] {Name : Type} [DecidableEq Name] {U : Type} [URA U] {Lvl : Type} [Preorder Lvl]
variable {Λ₀ : Labels} {P : Type} [Fintype P]

local notation "𝕄" => MT nD τ sig Ix Val Name U Lvl

variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (p : P)

-- the lemmas about `pin pcs a p` are applied at the pinned configuration, which unification must unfold
set_option backward.isDefEq.respectTransparency.types false in
/-- A call whose thread state is every unscoped buffer at a valuation together with what the core owes: the windows' arrays
    are split off at the entry and put back at the exit; the tally `O` and the bound `B` on the recorded waits stay. -/
def seg (win : WinFacts (pin pcs a p).spec) (hpos : ∀ w : Fin (pin pcs a p).W, 0 < ((pin pcs a p).spec w).block.numel)
    (harr : ∀ w, ((pin pcs a p).spec w).arr.IsWhole)
    (hstage : ∀ (w : Fin (pin pcs a p).W) (s : Fin ((pin pcs a p).spec w).nbuf), (((pin pcs a p).spec w).stage s).IsWhole)
    (hK : (pcs p).pre.K = 0)
    (hbody : ∀ c, BodyObligationLoose (pdats p c) defs₀ 𝒱₀ ι Set.univ)
    (hwaits : ∀ c, (levAts L lv : sProp 𝕄) ⊢ cellsWaits (pin pcs a) pdats ι p c)
    (O : Dev nD → CellTallies nD τ sig Ix) (B : Dev nD → Set (SemLoc sig × Ix))
    (howed : ∀ c t, (pdats p c).owed t = O c) (hrec : ∀ c t, (pdats p c).recorded t = B c)
    (hB : ∀ c, (pin pcs a p).waitPairs ι ⊆ B c)
    (hΦ : ∀ c t, (pdats p c).Φ t = scopedRest (pin pcs a p).spec c)
    (hshare : ∀ c w, (pdats p c).share w = fullShare)
    (V V' : (c : Dev nD) → (b : Ref sig .tc) → Buf Val ((c : Thread nD τ).loc b))
    (hV : ∀ c w, (pdats p c).A w = V c (arrRef (pin pcs a p).spec w))
    (hV' : ∀ c w, (pdats p c).arrAt w (pin pcs a p).N = V' c (arrRef (pin pcs a p).spec w))
    (hrest : ∀ c b, b ∉ Finset.univ.image (arrRef (pin pcs a p).spec) → V' c b = V c b) :
    RegionSeg pcs a pdats ι defs₀ 𝒱₀ L lv p where
  win := win.to₀
  block_pos := hpos
  stage_whole := hstage
  K := PEmpty
  osem k := k.elim
  ho := OwnSemFacts.none _
  hbody := hbody
  hwaits := hwaits
  pre c := iprop(unscopedBufs c (V c) ∗ owesWithin c (O c) (B c))
  post c := iprop(unscopedBufs c (V' c) ∗ owesWithin c (O c) (B c))
  X _ := BI.emp
  Y _ := BI.emp
  Z c := unscopedRest (Ix := Ix) (Name := Name) (U := U) (Lvl := Lvl) (pin pcs a p).spec c (V c)
  hentry c := by
    rw [ownSems0_none, prefHeld_of_none _ hK]
    have hsplit := arrays_of_unscopedBufs pcs a pdats win harr c (hshare c) (V c) (hV c)
    iintro ⟨⟨Hub, HO⟩, -, -⟩
    ihave H := hsplit $$ Hub
    icases H with ⟨Ha, Hrest⟩
    imodintro
    isplitl [Ha]; · iexact Ha
    isplitr; · iempintro
    isplitl [HO]
    · unfold Dat.owesAt Dat.bound
      rw [howed c 0, hrec c 0]
      iapply (owesWithin_mono c (O c) Set.subset_union_left) $$ [HO]; iexact HO
    isplitr; · iempintro
    iexact Hrest
  hin c := by
    rw [hΦ c 0]
    iintro ⟨-, -, Hr⟩; iexact Hr
  hout c := by
    rw [ownSems0_none, hΦ c (Fin.last _)]
    iintro Hr
    isplitr; · iempintro
    isplitr; · iempintro
    iexact Hr
  hexit c := by
    have hjoin := unscopedBufs_of_arrays pcs a (Ix := Ix) (Name := Name) (U := U) (Lvl := Lvl) win harr c pdats (hshare c) (V c) (V' c)
      ((pdats p c).arrAt · (pin pcs a p).N) (hV' c) (hrest c)
    iintro ⟨Ha, HO, -, Hrest⟩
    imodintro
    isplitl [Ha Hrest]
    · iapply hjoin; isplitl [Ha] <;> iassumption
    unfold Dat.owesAt Dat.bound
    rw [howed c (Fin.last _), hrec c (Fin.last _)]
    iapply (owesWithin_mono c (O c) (Set.union_subset (le_refl _) (hB c))); iexact HO

end Cert.Proof.Region

end
-- ==== Proof.TailOut.lean ====
/-
  The projecting call of the tail program on the TensorCore: what its body leaves in the result's block, over the blocks of
  its nine operands, and the call over every unscoped buffer.
-/
module

public import proofs.«01_k».proof.Proof.TailSc
public import proofs.«01_k».proof.Proof.Region
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.TailSc

open Cert.TailIdeal Cert.TailIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses and its values -/

abbrev rG : Rect S640x128 := Rect.unit (s := S640x128) ![0, 0] S640x128.size inb_S640x128_S640x128_0_0
abbrev rA : Rect S640x1 := Rect.unit (s := S640x1) ![0, 0] S640x1.size inb_S640x1_S640x1_0_0
abbrev rH : Rect S64x1280 := Rect.unit (s := S64x1280) ![0, 0] S64x1280.size inb_S64x1280_S64x1280_0_0
abbrev rB : Rect S64x10 := Rect.unit (s := S64x10) ![0, 0] S64x10.size inb_S64x10_S64x10_0_0
abbrev rQ : Rect S32x320 := Rect.unit (s := S32x320) ![0, 0] S32x320.size inb_S32x320_S32x320_0_0
abbrev rC : Rect S320x320 := Rect.unit (s := S320x320) ![0, 0] S320x320.size inb_S320x320_S320x320_0_0
abbrev rL : Rect S1x320 := Rect.unit (s := S1x320) ![0, 0] S1x320.size inb_S1x320_S1x320_0_0
abbrev rO : Rect S640x320 := Rect.unit (s := S640x320) ![0, 0] S640x320.size inb_S640x320_S640x320_0_0

section Body

variable (x0 : Vec F S640x128 .f32) (x1 : Vec F S64x1280 .f32) (x2 : Vec F S640x1 .i32) (x3 : Vec F S64x10 .i32)
  (x4 : Vec F S32x320 .f32) (x5 : Vec F S320x320 .f32) (x6 : Vec F S320x320 .f32) (x7 : Vec F S1x320 .f32) (x8 : Vec F S1x320 .f32)

/-- The feature rows of a block, each picked out of its granule. -/
def fRow : FVec F S640x32 .f32 := k1_pay2 (View.ld x0 rG) (View.ld x2 rA)
/-- The context granules of a block. -/
def cAll : FVec F S64x1280 .f32 := k1_pay3 (View.ld x1 rH)
/-- The first nine context rows of a block, each picked out of its granule, in the text's order; and the last one as far
    as the text has it there. -/
def cRow0 : FVec F S64x32 .f32 := k1_pay4 (View.ld x1 rH) (View.ld x3 rB)
def cRow1 : FVec F S64x32 .f32 := k1_pay7 (cAll x1) (k1_pay5 (View.ld x3 rB)) (k1_pay6 (F := F))
def cRow2 : FVec F S64x32 .f32 := k1_pay12 (cAll x1) (k1_pay8 (View.ld x3 rB)) (k1_pay9 (F := F)) (k1_pay10 (View.ld x3 rB)) (k1_pay11 (cAll x1))
def cRow3 : FVec F S64x32 .f32 := k1_pay17 (cAll x1) (k1_pay13 (View.ld x3 rB)) (k1_pay14 (cAll x1) (View.ld x3 rB)) (k1_pay15 (View.ld x3 rB)) (Scalar.ofBits .f32 0x00000000#32) (k1_pay16 (F := F))
def cRow4 : FVec F S64x32 .f32 := k1_pay21 (cAll x1) (k1_pay18 (View.ld x3 rB)) (k1_pay19 (cAll x1) (View.ld x3 rB)) (k1_pay20 (View.ld x3 rB))
def cRow5 : FVec F S64x32 .f32 := k1_pay24 (cAll x1) (k1_pay22 (View.ld x3 rB)) (k1_pay23 (cAll x1) (View.ld x3 rB))
def cRow6 : FVec F S64x32 .f32 := k1_pay29 (k1_pay26 (cAll x1) (View.ld x3 rB)) (k1_pay27 (View.ld x3 rB)) (k1_pay28 (cAll x1))
def cRow7 : FVec F S64x32 .f32 := k1_pay30 (cAll x1) (View.ld x3 rB)
def cRow8 : FVec F S64x32 .f32 := k1_pay34 (cAll x1) (k1_pay31 (View.ld x3 rB)) (k1_pay32 (F := F)) (k1_pay33 (View.ld x3 rB))
def cWord9 : IVec S64x1 32 := k1_pay35 (View.ld x3 rB)
def cPart9 : FVec F S64x32 .f32 := k1_pay36 (cAll x1) (View.ld x3 rB)

/-- A block's projected rows before the normalisation. -/
def pre : FVec F S640x320 .f32 :=
  k1_pay37 (fRow x0 x2) (cAll x1) (cRow0 x1 x3) (cRow1 x1 x3) (cRow2 x1 x3) (cRow3 x1 x3) (cRow4 x1 x3) (cRow5 x1 x3) (cRow6 x1 x3) (cRow7 x1 x3) (cRow8 x1 x3)
    (cWord9 x3) (cPart9 x1 x3) (View.ld x4 rQ) (View.ld x5 rC)
/-- Their means. -/
def mean : FVec F S640x320 .f32 :=
  k1_pay38 (fRow x0 x2) (cAll x1) (cRow0 x1 x3) (cRow1 x1 x3) (cRow2 x1 x3) (cRow3 x1 x3) (cRow4 x1 x3) (cRow5 x1 x3) (cRow6 x1 x3) (cRow7 x1 x3) (cRow8 x1 x3)
    (cWord9 x3) (cPart9 x1 x3) (View.ld x4 rQ) (View.ld x5 rC) (View.ld x6 rC)
/-- What the body stores. -/
def stored : FVec F S640x320 .f32 := k1_pay1 (pre x0 x1 x2 x3 x4 x5) (mean x0 x1 x2 x3 x4 x5 x6) (View.ld x6 rC) (View.ld x7 rL) (View.ld x8 rL)
/-- The result's block after the body. -/
def outBlk : Vec F S640x320 .f32 := View.canon [⟨rO, stored x0 x1 x2 x3 x4 x5 x6 x7 x8⟩]

end Body

/-- The store covers the block. -/
theorem cover_out (p0 : Vec F S640x320 .f32) (y : S640x320.Idx) :
    ∃ pc ∈ ([⟨rO, p0⟩] : List (View.Piece (Elt F) S640x320 .f32)), y ∈ pc.1.set :=
  View.cover_of_tiled [⟨rO, p0⟩] S640x320.size (by rfl) y

set_option maxHeartbeats 1000000 in
/-- The body, from the operands' staging memrefs at `x0 … x8` and the result's at anything, leaves the operands' as they
    were and the result's at `outBlk`. -/
theorem sound_out (c : Dev nD) (E : Set ℕ) (i : grid1.Coords)
    (a1 : Memref sig .tc .vmem S640x128 .f32) (h1 : a1.IsWhole) (a2 : Memref sig .tc .vmem S64x1280 .f32) (h2 : a2.IsWhole)
    (a3 : Memref sig .tc .vmem S640x1 .i32) (h3 : a3.IsWhole) (a4 : Memref sig .tc .vmem S64x10 .i32) (h4 : a4.IsWhole)
    (a5 : Memref sig .tc .vmem S32x320 .f32) (h5 : a5.IsWhole) (a6 : Memref sig .tc .vmem S320x320 .f32) (h6 : a6.IsWhole)
    (a7 : Memref sig .tc .vmem S320x320 .f32) (h7 : a7.IsWhole) (a8 : Memref sig .tc .vmem S1x320 .f32) (h8 : a8.IsWhole)
    (a9 : Memref sig .tc .vmem S1x320 .f32) (h9 : a9.IsWhole) (a10 : Memref sig .tc .vmem S640x320 .f32) (h10 : a10.IsWhole)
    (x0 : Vec F S640x128 .f32) (x1 : Vec F S64x1280 .f32) (x2 : Vec F S640x1 .i32) (x3 : Vec F S64x10 .i32)
    (x4 : Vec F S32x320 .f32) (x5 : Vec F S320x320 .f32) (x6 : Vec F S320x320 .f32) (x7 : Vec F S1x320 .f32) (x8 : Vec F S1x320 .f32)
    (Q : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ (∃ d, owns (c : Thread nD τ) a10 fullShare d)
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ owns (c : Thread nD τ) a10 fullShare (outBlk x0 x1 x2 x3 x4 x5 x6 x7 x8)) -∗ Q ⟨⟩))
      ⊢ wp frame (wpE (defs₀ (F := F)) Variants.none c none) E (cc1__out_body i a1 h1 a2 h2 a3 h3 a4 h4 a5 h5 a6 h6 a7 h7 a8 h8 a9 h9 a10 h10) Q := by
  simp only [cc1__out_body_eq_skeleton]; unfold cc1__out_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  iexists _; isplitr
  swap; · iexact H9
  ipureintro
  refine (View.read_writes_eq_canon _ _ _ (cover_out _)).trans ?_
  rfl

/-! ## The proof data -/

variable (V : (c : Dev nD) → (b : Ref sig .tc) → Buf (Elt F) ((c : Thread nD τ).loc b))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result's block at point `t`. -/
def oblk (c : Dev nD) (t : Fin cfg1.N) : Vec F S640x320 .f32 :=
  outBlk (iblk V c 0 t) (iblk V c 1 t) (iblk V c 2 t) (iblk V c 3 t) (iblk V c 4 t) (iblk V c 5 t) (iblk V c 6 t) (iblk V c 7 t) (iblk V c 8 t)

/-- The core's debt and recorded waits around the call, after the gathering call. -/
abbrev outOwed (c : Dev nD) : CellTallies nD τ sig (HIx 1) := (K (F := F)).Otc c 1
abbrev outRec (c : Dev nD) : Set (SemLoc sig × HIx 1) := {p | (K (F := F)).lev (T c, p.1) p.2 ≤ 8 * 1}

/-- The call's proof data: the arrays as the call finds them; after the body each operand's buffer at its block and the
    result's at `oblk`. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => oblk V c t
  Φ _ := Pipeline.scopedRest (Ix := HIx 1) (Name := ℕ) (U := UU) (Lvl := ℕ) (Val := Elt F) spec1 c
  q _ := fullShare
  owed _ := outOwed (F := F) c
  recorded _ := outRec (F := F) c

/-- The proof data's arrays are the entry contents. -/
theorem dat_A (c : Dev nD) (w : Fin cfg1.W) : (dat V c).A w = V c (Pipeline.arrRef spec1 w) := by
  dsimp only [dat]

/-- The result's block is what the proof data say of window 9. -/
theorem dat_after_out (c : Dev nD) (t : Fin cfg1.N) : (dat V c).after 9 t = oblk V c t := by dsimp only [dat]

/-- An operand's current staging buffer holds its block at every point, fetched there or not. -/
theorem before_of (c : Dev nD) (w : Fin cfg1.W) (hin : (cfg1.win w).isOut = false) (hlive : ∀ i, cfg1.idle w i = false)
    (hclip : ∀ t t' : Fin cfg1.N, (cfg1.win w).index t = (cfg1.win w).index t' → (cfg1.win w).clip (cfg1.grid.coords t) = (cfg1.win w).clip (cfg1.grid.coords t'))
    (hkeep : ∀ t, (cfg1.win w).cut (cfg1.grid.coords t) ((dat V c).after w t) = (dat V c).blockOf w t)
    (t : Fin cfg1.N) (d) : (dat V c).before w t d = (dat V c).fetched w t d :=
  (dat V c).before_in_eq_fetched w hin hlive hclip hkeep t d

theorem before_0 (c : Dev nD) (t : Fin cfg1.N) (d) : (dat V c).before 0 t d = iblk V c 0 t := before_of V c 0 rfl (fun _ => rfl) (fun _ _ _ => rfl) (fun _ => rfl) t d
theorem before_1 (c : Dev nD) (t : Fin cfg1.N) (d) : (dat V c).before 1 t d = iblk V c 1 t := before_of V c 1 rfl (fun _ => rfl) (fun _ _ _ => rfl) (fun _ => rfl) t d
theorem before_2 (c : Dev nD) (t : Fin cfg1.N) (d) : (dat V c).before 2 t d = iblk V c 2 t := before_of V c 2 rfl (fun _ => rfl) (fun _ _ _ => rfl) (fun _ => rfl) t d
theorem before_3 (c : Dev nD) (t : Fin cfg1.N) (d) : (dat V c).before 3 t d = iblk V c 3 t := before_of V c 3 rfl (fun _ => rfl) (fun _ _ _ => rfl) (fun _ => rfl) t d
theorem before_4 (c : Dev nD) (t : Fin cfg1.N) (d) : (dat V c).before 4 t d = iblk V c 4 t := before_of V c 4 rfl (fun _ => rfl) (fun _ _ _ => rfl) (fun _ => rfl) t d
theorem before_5 (c : Dev nD) (t : Fin cfg1.N) (d) : (dat V c).before 5 t d = iblk V c 5 t := before_of V c 5 rfl (fun _ => rfl) (fun _ _ _ => rfl) (fun _ => rfl) t d
theorem before_6 (c : Dev nD) (t : Fin cfg1.N) (d) : (dat V c).before 6 t d = iblk V c 6 t := before_of V c 6 rfl (fun _ => rfl) (fun _ _ _ => rfl) (fun _ => rfl) t d
theorem before_7 (c : Dev nD) (t : Fin cfg1.N) (d) : (dat V c).before 7 t d = iblk V c 7 t := before_of V c 7 rfl (fun _ => rfl) (fun _ _ _ => rfl) (fun _ => rfl) t d
theorem before_8 (c : Dev nD) (t : Fin cfg1.N) (d) : (dat V c).before 8 t d = iblk V c 8 t := before_of V c 8 rfl (fun _ => rfl) (fun _ _ _ => rfl) (fun _ => rfl) t d

/-- The body table's row at a point is the body at that point's staging memrefs. -/
theorem row_out (t : Fin cfg1.N) : defs₀ (F := F) .tc cfg1.body (cfg1.bodyArgs t (cfg1.slots t)) = bodyAt1 t := by
  unfold defs₀; rfl

/-- What the body is called with at a point. -/
def outPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d)) ∗ (∃ d, owns (c : Thread nD τ) (st1_1 t) fullShare ((dat V c).before 1 t d))
    ∗ (∃ d, owns (c : Thread nD τ) (st1_2 t) fullShare ((dat V c).before 2 t d)) ∗ (∃ d, owns (c : Thread nD τ) (st1_3 t) fullShare ((dat V c).before 3 t d))
    ∗ (∃ d, owns (c : Thread nD τ) (st1_4 t) fullShare ((dat V c).before 4 t d)) ∗ (∃ d, owns (c : Thread nD τ) (st1_5 t) fullShare ((dat V c).before 5 t d))
    ∗ (∃ d, owns (c : Thread nD τ) (st1_6 t) fullShare ((dat V c).before 6 t d)) ∗ (∃ d, owns (c : Thread nD τ) (st1_7 t) fullShare ((dat V c).before 7 t d))
    ∗ (∃ d, owns (c : Thread nD τ) (st1_8 t) fullShare ((dat V c).before 8 t d)) ∗ (∃ d, owns (c : Thread nD τ) (st1_9 t) fullShare ((dat V c).before 9 t d)))

/-- What it returns. -/
def outPost (c : Dev nD) (t : Fin cfg1.N) : sProp 𝕄 :=
  iprop((dat V c).Φ t.succ ∗ (dat V c).owesAt none t.succ
    ∗ owns (c : Thread nD τ) (st1_0 t) fullShare ((dat V c).after 0 t) ∗ owns (c : Thread nD τ) (st1_1 t) fullShare ((dat V c).after 1 t)
    ∗ owns (c : Thread nD τ) (st1_2 t) fullShare ((dat V c).after 2 t) ∗ owns (c : Thread nD τ) (st1_3 t) fullShare ((dat V c).after 3 t)
    ∗ owns (c : Thread nD τ) (st1_4 t) fullShare ((dat V c).after 4 t) ∗ owns (c : Thread nD τ) (st1_5 t) fullShare ((dat V c).after 5 t)
    ∗ owns (c : Thread nD τ) (st1_6 t) fullShare ((dat V c).after 6 t) ∗ owns (c : Thread nD τ) (st1_7 t) fullShare ((dat V c).after 7 t)
    ∗ owns (c : Thread nD τ) (st1_8 t) fullShare ((dat V c).after 8 t) ∗ owns (c : Thread nD τ) (st1_9 t) fullShare ((dat V c).after 9 t))

/-- The body at any point. -/
theorem sound_body (c : Dev nD) (t : Fin cfg1.N) :
    outPre V c t ⊢ wp frame (wpE (defs₀ (F := F)) Variants.none c none) Set.univ (bodyAt1 t) (fun _ => outPost V c t) := by
  unfold outPre outPost bodyAt1
  simp only [before_0, before_1, before_2, before_3, before_4, before_5, before_6, before_7, before_8]
  rw [show (dat V c).Φ t.succ = (dat V c).Φ t.castSucc from rfl,
    show (dat V c).owesAt none t.succ = (dat V c).owesAt none t.castSucc from rfl, dat_after_out]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_out c Set.univ (grid1.coords t) _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation. -/
theorem body_out (c : Dev nD) : BodyObligation (dat V c) (defs₀ (F := F)) Variants.none none Set.univ := fun t => by
  rw [bigSep_W1, bigSep_W1, row_out]
  exact triple_restated (sound_body V c t) rfl .rfl fun _ => .rfl

/-! ## The call as a step of @main -/

/-- No prefetched table. -/
abbrev adm : (p : Fin 1) → (pcfgs (F := F) p).Adm := fun p => (cfgs p).toPCfg_adm

def dats (_ : Fin 1) (c : Dev nD) : Dat τ (Elt F) (HIx 1) ℕ UU ℕ cfg1 c := dat V c

/-- The result's array after the call. -/
def outArr (c : Dev nD) : Buf (Elt F) ((c : Thread nD τ).loc main_v35) := (dat V c).arrAt 9 cfg1.N

/-- Every unscoped buffer after the call: the result's at `outArr`, the others as before. -/
def outVal (c : Dev nD) (b : Ref sig .tc) : Buf (Elt F) ((c : Thread nD τ).loc b) :=
  Function.update (V c) main_v35 (outArr V c) b

theorem owed_none (c : Dev nD) (n : ℕ) (g : GSem nD τ sig) : (K (F := F)).Otc c n g none = 0 := by
  by_contra h
  have := SparseCore.Cfg.lev_of_Otc_pos (Nat.pos_of_ne_zero h)
  rw [SparseCore.Cfg.lev_none] at this
  omega

/-- An operand's array is as the call found it. -/
theorem arr_in (c : Dev nD) (w : Fin cfg1.W) (hw : (cfg1.win w).isOut = false) (hne : Pipeline.arrRef spec1 w ≠ main_v35) :
    (dat V c).arrAt w cfg1.N = outVal V c (Pipeline.arrRef spec1 w) :=
  ((dat V c).arrAt_in w hw _).trans ((dat_A V c w).trans (Function.update_of_ne hne _ _).symm)

theorem arr_out (c : Dev nD) : ∀ w : Fin cfg1.W, (dat V c).arrAt w cfg1.N = outVal V c (Pipeline.arrRef spec1 w)
  | 0 => arr_in V c 0 rfl (by decide)
  | 1 => arr_in V c 1 rfl (by decide)
  | 2 => arr_in V c 2 rfl (by decide)
  | 3 => arr_in V c 3 rfl (by decide)
  | 4 => arr_in V c 4 rfl (by decide)
  | 5 => arr_in V c 5 rfl (by decide)
  | 6 => arr_in V c 6 rfl (by decide)
  | 7 => arr_in V c 7 rfl (by decide)
  | 8 => arr_in V c 8 rfl (by decide)
  | 9 => (Function.update_self main_v35 (outArr V c) (V c)).symm

theorem out_rest (c : Dev nD) (b : Ref sig .tc) (hb : b ∉ Finset.univ.image (Pipeline.arrRef spec1)) : outVal V c b = V c b :=
  Function.update_of_ne (fun h => hb (by rw [h]; exact Finset.mem_image.mpr ⟨9, Finset.mem_univ _, rfl⟩)) _ _

theorem out_waits (c : Dev nD) : (levAts (K (F := F)).L (K (F := F)).lev : sProp 𝕄)
    ⊢ Pipeline.cellsWaits (Pipeline.pin pcfgs (adm (F := F))) (dats V) none 0 c :=
  Pipeline.cellsWaits_intro _ _ _ 0 c fun _ _ _ => (K (F := F)).mayWait_none _ (owed_none c 1)

theorem out_pairs (c : Dev nD) : cfg1.waitPairs (none : HIx 1) ⊆ outRec (F := F) c := fun p hp => by
  obtain ⟨w, s, rfl⟩ := hp
  show (K (F := F)).lev _ none ≤ _
  rw [SparseCore.Cfg.lev_none]; omega

theorem out_body (c : Dev nD) : Pipeline.BodyObligationLoose (dats V 0 c) (defs₀ (F := F)) 𝒱₀ none Set.univ := (body_out V c).loose

theorem out_phi (c : Dev nD) (t : Fin (cfg1.N + 1)) : (dat V c).Φ t = Pipeline.scopedRest (Ix := HIx 1) (Name := ℕ) (U := UU) (Lvl := ℕ) (Val := Elt F) spec1 c := by
  dsimp only [dat]

theorem out_share (c : Dev nD) (w : Fin cfg1.W) : (dat V c).share w = fullShare := (dat V c).share_full (fun _ => rfl) w

set_option backward.isDefEq.respectTransparency.types false in
/-- The call, entered with the unscoped buffers at `V` and left with them at `outVal V`. -/
def outSeg : Pipeline.RegionSeg pcfgs (adm (F := F)) (dats V) none defs₀ 𝒱₀ (K (F := F)).L (K (F := F)).lev 0 :=
  Region.seg pcfgs adm (dats V) none defs₀ 𝒱₀ (K (F := F)).L (K (F := F)).lev 0 winFacts1 block_pos1 arr_whole1 stage_whole1 rfl
    (out_body V) (out_waits V) (fun c => outOwed c) (fun c => outRec (F := F) c) (fun _ _ => rfl) (fun _ _ => rfl)
    out_pairs (out_phi V) (out_share V)
    V (outVal V) (fun c w => dat_A V c w) (arr_out V) (out_rest V)

end Cert.Proof.TailSc

end
-- ==== Proof.TailOps.lean ====
/-
  The host operations of the tail program: three stretches, with the two calls between them.
-/
module

public import proofs.«01_k».proof.Proof.TailSc
public import Idealize.ShloMosaic.Lib.StableHlo.Run

@[expose] public section

set_option maxRecDepth 16384

noncomputable section

namespace Cert.Proof.TailSc

open Cert.TailIdeal Cert.TailIdeal.Gen

open Idealize.ShloMosaic Idealize.ShloMosaic.TcCoe
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)

variable {F : FTy → Type} [FloatOps F]

/-! ## The host operations -/

abbrev opsA : List (HloOp τ sig (Elt F)) :=
  [ reshape main_arg0 main_v0 (rfl : (.f32 : EltTy) = .f32) shapeCasts_S16384x100x32_S409600x128,
    reshape main_arg1 main_v1 (rfl : (.f32 : EltTy) = .f32) shapeCasts_S16384x26x32_S106496x128,
    reshape main_arg2 main_v2 (rfl : (.i32 : EltTy) = .i32) shapeCasts_S16384x10_S163840,
    reshape main_arg4 main_v3 (rfl : (.i32 : EltTy) = .i32) shapeCasts_S16384x10_S163840 ]

abbrev opsB : List (HloOp τ sig (Elt F)) :=
  [ unary main_arg6 main_v5 ((transpose S32x32 [1, 0] · transposes_S32x32_S32x32_1_0) : (⟨S32x32, .f32⟩ : BufTy).Contents (Elt F) → (⟨S32x32, .f32⟩ : BufTy).Contents (Elt F)),
    reshape main_v5 main_v6 (rfl : (.f32 : EltTy) = .f32) shapeCasts_S32x32_S1x32x1x32,
    unary main_v6 main_v7 (broadcastInDim S1x32x10x32 ![0, 1, 2, 3] bcast_S1x32x1x32_S1x32x10x32_0_1_2_3 : (⟨S1x32x1x32, .f32⟩ : BufTy).Contents (Elt F) → (⟨S1x32x10x32, .f32⟩ : BufTy).Contents (Elt F)),
    reshape main_v7 main_v8 (rfl : (.f32 : EltTy) = .f32) shapeCasts_S1x32x10x32_S32x320,
    nullary main_v9 (iotaInDim S10x10 32 0),
    nullary main_v10 (iotaInDim S10x10 32 1),
    nullary main_c (constantI S_ 32 0#32),
    unary main_c main_v11 (broadcastInDim S10x10 ![] bcast_S_S10x10 : (⟨S_, .i32⟩ : BufTy).Contents (Elt F) → (⟨S10x10, .i32⟩ : BufTy).Contents (Elt F)),
    binary main_v9 main_v11 main_v12 (addi : (⟨S10x10, .i32⟩ : BufTy).Contents (Elt F) → (⟨S10x10, .i32⟩ : BufTy).Contents (Elt F) → (⟨S10x10, .i32⟩ : BufTy).Contents (Elt F)),
    binary main_v12 main_v10 main_v13 (cmpi .eq : (⟨S10x10, .i32⟩ : BufTy).Contents (Elt F) → (⟨S10x10, .i32⟩ : BufTy).Contents (Elt F) → (⟨S10x10, .i1⟩ : BufTy).Contents (Elt F)),
    unary main_v13 main_v14 (uitofp .f32 : (⟨S10x10, .i1⟩ : BufTy).Contents (Elt F) → (⟨S10x10, .f32⟩ : BufTy).Contents (Elt F)),
    unary main_arg7 main_v15 ((transpose S32x32 [1, 0] · transposes_S32x32_S32x32_1_0) : (⟨S32x32, .f32⟩ : BufTy).Contents (Elt F) → (⟨S32x32, .f32⟩ : BufTy).Contents (Elt F)),
    TRef.unary (TRef.of (T := ⟨S10x10, .f32⟩) main_v14) (TRef.of (T := ⟨S10x1x10x1, .f32⟩) main_call0_v0) (broadcastInDim S10x1x10x1 ![0, 2] bcast_S10x10_S10x1x10x1_0_2),
    TRef.unary (TRef.of (T := ⟨S32x32, .f32⟩) main_v15) (TRef.of (T := ⟨S1x32x1x32, .f32⟩) main_call0_v1) (broadcastInDim S1x32x1x32 ![1, 3] bcast_S32x32_S1x32x1x32_1_3),
    TRef.unary (TRef.of (T := ⟨S10x1x10x1, .f32⟩) main_call0_v0) (TRef.of (T := ⟨S10x32x10x32, .f32⟩) main_call0_v2) (broadcastInDim S10x32x10x32 ![0, 1, 2, 3] bcast_S10x1x10x1_S10x32x10x32_0_1_2_3),
    TRef.unary (TRef.of (T := ⟨S1x32x1x32, .f32⟩) main_call0_v1) (TRef.of (T := ⟨S10x32x10x32, .f32⟩) main_call0_v3) (broadcastInDim S10x32x10x32 ![0, 1, 2, 3] bcast_S1x32x1x32_S10x32x10x32_0_1_2_3),
    TRef.binary (TRef.of (T := ⟨S10x32x10x32, .f32⟩) main_call0_v2) (TRef.of (T := ⟨S10x32x10x32, .f32⟩) main_call0_v3) (TRef.of (T := ⟨S10x32x10x32, .f32⟩) main_call0_v4) mulf,
    TRef.reshape (TRef.of (T := ⟨S10x32x10x32, .f32⟩) main_call0_v4) (TRef.of (T := ⟨S320x320, .f32⟩) main_v16) (rfl : (.f32 : EltTy) = .f32) shapeCasts_S10x32x10x32_S320x320,
    nullary main_v17 (iotaInDim S10x10 32 0),
    nullary main_v18 (iotaInDim S10x10 32 1),
    nullary main_c_0 (constantI S_ 32 0#32),
    unary main_c_0 main_v19 (broadcastInDim S10x10 ![] bcast_S_S10x10 : (⟨S_, .i32⟩ : BufTy).Contents (Elt F) → (⟨S10x10, .i32⟩ : BufTy).Contents (Elt F)),
    binary main_v17 main_v19 main_v20 (addi : (⟨S10x10, .i32⟩ : BufTy).Contents (Elt F) → (⟨S10x10, .i32⟩ : BufTy).Contents (Elt F) → (⟨S10x10, .i32⟩ : BufTy).Contents (Elt F)),
    binary main_v20 main_v18 main_v21 (cmpi .eq : (⟨S10x10, .i32⟩ : BufTy).Contents (Elt F) → (⟨S10x10, .i32⟩ : BufTy).Contents (Elt F) → (⟨S10x10, .i1⟩ : BufTy).Contents (Elt F)),
    unary main_v21 main_v22 (uitofp .f32 : (⟨S10x10, .i1⟩ : BufTy).Contents (Elt F) → (⟨S10x10, .f32⟩ : BufTy).Contents (Elt F)),
    nullary main_cst (constant S_ .f32 0x3D000000#32),
    unary main_cst main_v23 (broadcastInDim S32x32 ![] bcast_S_S32x32 : (⟨S_, .f32⟩ : BufTy).Contents (Elt F) → (⟨S32x32, .f32⟩ : BufTy).Contents (Elt F)),
    TRef.unary (TRef.of (T := ⟨S10x10, .f32⟩) main_v22) (TRef.of (T := ⟨S10x1x10x1, .f32⟩) main_call1_v0) (broadcastInDim S10x1x10x1 ![0, 2] bcast_S10x10_S10x1x10x1_0_2),
    TRef.unary (TRef.of (T := ⟨S32x32, .f32⟩) main_v23) (TRef.of (T := ⟨S1x32x1x32, .f32⟩) main_call1_v1) (broadcastInDim S1x32x1x32 ![1, 3] bcast_S32x32_S1x32x1x32_1_3),
    TRef.unary (TRef.of (T := ⟨S10x1x10x1, .f32⟩) main_call1_v0) (TRef.of (T := ⟨S10x32x10x32, .f32⟩) main_call1_v2) (broadcastInDim S10x32x10x32 ![0, 1, 2, 3] bcast_S10x1x10x1_S10x32x10x32_0_1_2_3),
    TRef.unary (TRef.of (T := ⟨S1x32x1x32, .f32⟩) main_call1_v1) (TRef.of (T := ⟨S10x32x10x32, .f32⟩) main_call1_v3) (broadcastInDim S10x32x10x32 ![0, 1, 2, 3] bcast_S1x32x1x32_S10x32x10x32_0_1_2_3),
    TRef.binary (TRef.of (T := ⟨S10x32x10x32, .f32⟩) main_call1_v2) (TRef.of (T := ⟨S10x32x10x32, .f32⟩) main_call1_v3) (TRef.of (T := ⟨S10x32x10x32, .f32⟩) main_call1_v4) mulf,
    TRef.reshape (TRef.of (T := ⟨S10x32x10x32, .f32⟩) main_call1_v4) (TRef.of (T := ⟨S320x320, .f32⟩) main_v24) (rfl : (.f32 : EltTy) = .f32) shapeCasts_S10x32x10x32_S320x320,
    reshape main_arg8 main_v25 (rfl : (.f32 : EltTy) = .f32) shapeCasts_S32_S1x32,
    unary main_v25 main_v26 (broadcastInDim S10x32 ![0, 1] bcast_S1x32_S10x32_0_1 : (⟨S1x32, .f32⟩ : BufTy).Contents (Elt F) → (⟨S10x32, .f32⟩ : BufTy).Contents (Elt F)),
    reshape main_v26 main_v27 (rfl : (.f32 : EltTy) = .f32) shapeCasts_S10x32_S320,
    reshape main_v27 main_v28 (rfl : (.f32 : EltTy) = .f32) shapeCasts_S320_S1x320,
    reshape main_arg9 main_v29 (rfl : (.f32 : EltTy) = .f32) shapeCasts_S32_S1x32,
    unary main_v29 main_v30 (broadcastInDim S10x32 ![0, 1] bcast_S1x32_S10x32_0_1 : (⟨S1x32, .f32⟩ : BufTy).Contents (Elt F) → (⟨S10x32, .f32⟩ : BufTy).Contents (Elt F)),
    reshape main_v30 main_v31 (rfl : (.f32 : EltTy) = .f32) shapeCasts_S10x32_S320,
    reshape main_v31 main_v32 (rfl : (.f32 : EltTy) = .f32) shapeCasts_S320_S1x320,
    reshape main_v4_1 main_v33 (rfl : (.f32 : EltTy) = .f32) shapeCasts_S163840x128_S16384x1280,
    reshape main_arg3 main_v34 (rfl : (.i32 : EltTy) = .i32) shapeCasts_S16384x10_S163840x1 ]

abbrev opsC : List (HloOp τ sig (Elt F)) :=
  [ reshape main_v35 main_v36 (rfl : (.f32 : EltTy) = .f32) shapeCasts_S163840x320_S16384x100x32 ]

set_option maxHeartbeats 4000000 in
/-- @main is its three stretches of host operations with the two calls between them. -/
theorem main_split (d : Dev nD) : main (F := F) d
    = (seq opsA >>= fun _ => sc.run d 0 >>= fun _ => seq opsB >>= fun _ =>
        Prog.lift (.customCall (SparseCore.inner (Pipeline.entry 0)) ()) >>= fun _ => seq opsC >>= fun _ => pure ⟨⟩) := rfl

theorem opsA_sub : (opsA : List (HloOp τ sig (Elt F))).Forall fun op => op.bufs ⊆ tcRefs τ sig :=
  ⟨reshape_bufs_sub .., reshape_bufs_sub .., reshape_bufs_sub .., reshape_bufs_sub ..⟩
theorem opsC_sub : (opsC : List (HloOp τ sig (Elt F))).Forall fun op => op.bufs ⊆ tcRefs τ sig := reshape_bufs_sub ..
theorem opsB_sub : (opsB : List (HloOp τ sig (Elt F))).Forall fun op => op.bufs ⊆ tcRefs τ sig :=
  ⟨unary_bufs_sub .., reshape_bufs_sub .., unary_bufs_sub .., reshape_bufs_sub .., nullary_bufs_sub .., nullary_bufs_sub .., nullary_bufs_sub .., unary_bufs_sub .., binary_bufs_sub .., binary_bufs_sub .., unary_bufs_sub .., unary_bufs_sub .., unary_bufs_sub .., unary_bufs_sub .., unary_bufs_sub .., unary_bufs_sub .., binary_bufs_sub .., reshape_bufs_sub .., nullary_bufs_sub .., nullary_bufs_sub .., nullary_bufs_sub .., unary_bufs_sub .., binary_bufs_sub .., binary_bufs_sub .., unary_bufs_sub .., nullary_bufs_sub .., unary_bufs_sub .., unary_bufs_sub .., unary_bufs_sub .., unary_bufs_sub .., unary_bufs_sub .., binary_bufs_sub .., reshape_bufs_sub .., reshape_bufs_sub .., unary_bufs_sub .., reshape_bufs_sub .., reshape_bufs_sub .., reshape_bufs_sub .., unary_bufs_sub .., reshape_bufs_sub .., reshape_bufs_sub .., reshape_bufs_sub .., reshape_bufs_sub ..⟩

theorem opsA_fresh : (opsA : List (HloOp τ sig (Elt F))).Forall fun op => op.fresh = ∅ := ⟨rfl, rfl, rfl, rfl⟩
theorem opsC_fresh : (opsC : List (HloOp τ sig (Elt F))).Forall fun op => op.fresh = ∅ := rfl
theorem opsB_fresh : (opsB : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.Proof.TailSc

end
-- ==== Proof.TailRun.lean ====
/-
  The tail program's run: the host operations that lay out the index lists and the tables, the gathering call, the host
  operations that build the projection tables, the normalising call, and the last reshape.
-/
module

public import proofs.«01_k».proof.Proof.TailCall
public import proofs.«01_k».proof.Proof.TailOut
public import proofs.«01_k».proof.Proof.TailOps
public import Idealize.ShloMosaic.Lib.Pipeline.RegionsOwned

@[expose] public section

set_option maxRecDepth 16384

noncomputable section

namespace Cert.Proof.TailSc

open Cert.TailIdeal Cert.TailIdeal.Gen

open Idealize.ShloMosaic Idealize.ShloMosaic.TcCoe
open Idealize.ShloMosaic.StableHlo
open Idealize.ShloMosaic.SparseCore.Cfg (HIx Pay)
open Idealize.ShloMosaic.Pipeline (Dat ucRefs sub_ucRefs unscopedBufs_held unscopedBufsBut unscopedBufs_sdiff owesWithin)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)

variable {F : FTy → Type} [FloatOps F]

local notation "𝕄" => MT nD τ sig (HIx 1) (Elt F) ℕ UU ℕ

/-! ## The contents of the buffers along @main -/

variable (m : (ℓ : Loc nD τ sig) → Buf (Elt F) ℓ)

/-- Before the gathering call: the four reshapes done. -/
def val1 (d : Dev nD) : Valuation τ sig (Elt F) := after opsA fun b => m (d, b)
/-- The same, by location. -/
def W : (ℓ : Loc nD τ sig) → Buf (Elt F) ℓ := fun ℓ => val1 m ℓ.1 ℓ.2
/-- After the gathering call. -/
def val2 (d : Dev nD) : Valuation τ sig (Elt F) :=
  Function.update (Function.update (val1 m d) (Proc.devRef .tc main_v4_0) (gOut (W m) d)) (Proc.devRef .tc main_v4_1) (hOut (W m) d)
/-- Before the normalising call. -/
def val3 (d : Dev nD) : Valuation τ sig (Elt F) := after opsB (val2 m d)
/-- The same, at each core's references. -/
abbrev V3 (d : Dev nD) (b : Ref sig .tc) : Buf (Elt F) ((d : Thread nD τ).loc b) := val3 m d (Proc.devRef .tc b)
/-- After the normalising call. -/
def val4 (d : Dev nD) : Valuation τ sig (Elt F) := Function.update (val3 m d) (Proc.devRef .tc main_v35) (outArr (V3 m) d)
/-- At the end. -/
def val5 (d : Dev nD) : Valuation τ sig (Elt F) := after opsC (val4 m d)

/-- The six buffers the gathering call works on. -/
abbrev six : Finset (Ref sig .tc) := {main_v0, main_v1, main_v2, main_v3, main_v4_0, main_v4_1}

theorem held_six (d : Dev nD) (V : Valuation τ sig (Elt F)) :
    (held (d : Thread nD τ) (ucRefs τ sig) V : sProp 𝕄)
      = iprop(((tLoc d ↦{fullShare} V (Proc.devRef .tc main_v0)) ∗ (uLoc d ↦{fullShare} V (Proc.devRef .tc main_v1))
          ∗ (iLoc d ↦{fullShare} V (Proc.devRef .tc main_v2)) ∗ (jLoc d ↦{fullShare} V (Proc.devRef .tc main_v3))
          ∗ (gLoc d ↦{fullShare} V (Proc.devRef .tc main_v4_0)) ∗ (hLoc d ↦{fullShare} V (Proc.devRef .tc main_v4_1)))
        ∗ unscopedBufsBut six d fun b => V (Proc.devRef .tc b)) := by
  rw [← unscopedBufs_held, unscopedBufs_sdiff six (by decide) d]
  congr 1
  unfold six
  rw [SparseCore.bigSep_insert' (by decide), SparseCore.bigSep_insert' (by decide), SparseCore.bigSep_insert' (by decide),
    SparseCore.bigSep_insert' (by decide), SparseCore.bigSep_insert' (by decide), bigSep_singleton]

/-- The other buffers are the same before and after the gathering call. -/
theorem but_six (d : Dev nD) :
    (unscopedBufsBut six d (fun b => val1 m d (Proc.devRef .tc b)) : sProp 𝕄) = unscopedBufsBut six d fun b => val2 m d (Proc.devRef .tc b) := by
  unfold unscopedBufsBut
  refine bigSep_congr fun b hb => ?_
  have hb' := (Finset.mem_sdiff.mp hb).2
  have h0 : b ≠ main_v4_0 := fun h => hb' (by rw [h]; decide)
  have h1 : b ≠ main_v4_1 := fun h => hb' (by rw [h]; decide)
  congr 1
  show val1 m d (Proc.devRef .tc b) = val2 m d (Proc.devRef .tc b)
  unfold val2
  rw [Function.update_of_ne (fun h => h1 (Proc.devRef_injective _ h)), Function.update_of_ne (fun h => h0 (Proc.devRef_injective _ h))]

/-- What the gathering call is started with, all tasks together. -/
theorem st_eq (d : Dev nD) : (bigSep Finset.univ fun c : Fin ((K (F := F)).nCore 0) => (P (W m)).st 0 d c : sProp 𝕄)
    = iprop((tLoc d ↦{fullShare} W m (tLoc d)) ∗ (uLoc d ↦{fullShare} W m (uLoc d)) ∗ (iLoc d ↦{fullShare} W m (iLoc d))
        ∗ (jLoc d ↦{fullShare} W m (jLoc d)) ∗ (gLoc d ↦{fullShare} W m (gLoc d)) ∗ (hLoc d ↦{fullShare} W m (hLoc d))) :=
  (bufs_tasks (W m) d (W m (gLoc d)) (W m (hLoc d))).symm

/-- What it gives back. -/
theorem dn_eq (d : Dev nD) : (bigSep Finset.univ fun c : Fin ((K (F := F)).nCore 0) => (P (W m)).dn 0 d c : sProp 𝕄)
    = iprop((tLoc d ↦{fullShare} W m (tLoc d)) ∗ (uLoc d ↦{fullShare} W m (uLoc d)) ∗ (iLoc d ↦{fullShare} W m (iLoc d))
        ∗ (jLoc d ↦{fullShare} W m (jLoc d)) ∗ (gLoc d ↦{fullShare} gOut (W m) d) ∗ (hLoc d ↦{fullShare} hOut (W m) d)) :=
  (bufs_tasks (W m) d (gOut (W m) d) (hOut (W m) d)).symm

theorem val2_g (d : Dev nD) : val2 m d (Proc.devRef .tc main_v4_0) = gOut (W m) d := by
  unfold val2
  rw [Function.update_of_ne (by decide), Function.update_self]

theorem val2_h (d : Dev nD) : val2 m d (Proc.devRef .tc main_v4_1) = hOut (W m) d := by
  unfold val2
  rw [Function.update_self]

theorem val2_ne (d : Dev nD) (b : Ref sig .tc) (h0 : b ≠ main_v4_0) (h1 : b ≠ main_v4_1) :
    val2 m d (Proc.devRef .tc b) = W m ((d : Thread nD τ).loc b) := by
  unfold val2
  rw [Function.update_of_ne (fun h => h1 (Proc.devRef_injective _ h)), Function.update_of_ne (fun h => h0 (Proc.devRef_injective _ h))]
  rfl

/-- The six buffers and the rest, after the gathering call. -/
theorem held_back (d : Dev nD) :
    iprop(((tLoc d ↦{fullShare} W m (tLoc d)) ∗ (uLoc d ↦{fullShare} W m (uLoc d)) ∗ (iLoc d ↦{fullShare} W m (iLoc d))
        ∗ (jLoc d ↦{fullShare} W m (jLoc d)) ∗ (gLoc d ↦{fullShare} gOut (W m) d) ∗ (hLoc d ↦{fullShare} hOut (W m) d))
        ∗ unscopedBufsBut six d fun b => val1 m d (Proc.devRef .tc b))
      = (held (d : Thread nD τ) (ucRefs τ sig) (val2 m d) : sProp 𝕄) := by
  rw [held_six, but_six, val2_g, val2_h, val2_ne m d main_v0 (by decide) (by decide), val2_ne m d main_v1 (by decide) (by decide),
    val2_ne m d main_v2 (by decide) (by decide), val2_ne m d main_v3 (by decide) (by decide)]

/-! ## @main on the TensorCore -/

/-- The launch's ghost state: the handshakes' rounds, the staging rounds, the transfers' counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The ghost state of the normalising call on one core. -/
def G (d : Dev nD) : sProp 𝕄 :=
  iprop((bigSep Finset.univ fun p => Pipeline.cellsGhost (Pipeline.pin (pcfgs (F := F)) adm) EP p d)
    ∗ (bigSep Finset.univ fun p => (Pipeline.toksInit (Pipeline.pin (pcfgs (F := F)) adm) EP p d : sProp 𝕄)))

theorem G_eq (d : Dev nD) : (G d : sProp 𝕄) = iprop(Pipeline.cellsGhost (Pipeline.pin (pcfgs (F := F)) adm) EP 0 d
    ∗ Pipeline.toksInit (Pipeline.pin (pcfgs (F := F)) adm) EP 0 d) := by
  unfold G
  rw [bigSep_univ_of_subsingleton (0 : Fin 1), bigSep_univ_of_subsingleton (0 : Fin 1)]

theorem ghost_parts : (ownU (u₀ (F := F)) : sProp 𝕄)
    ⊢ iprop(BI.own (EH (initOf (K (F := F)).hsCells (K (F := F)).hsToks))
        ∗ BI.own (EP (initOf (Pipeline.cells (Pipeline.pin (pcfgs (F := F)) adm) cellOf_inj) (Pipeline.launchToks (Pipeline.pin (pcfgs (F := F)) adm) cellOf_inj)))) := by
  unfold u₀ EP
  exact (ownU_pair _ _).trans (sep_mono .rfl ((own_pair_emb (embR : Emb (UP × Counters) 𝕄) _ 1).trans sep_elim_left))

theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (W m)).x q thr) := by
  iintro Hu
  ihave H := ghost_parts $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G; rw [bigSep_sep']; isplitl [Hg] <;> iassumption
  rw [show (bigSep Finset.univ fun thr : Thread nD τ => bigSep Finset.univ fun q : Fin 1 => (P (F := F) (W m)).x q thr) = bigSep Finset.univ fun _ => iprop(emp) from
    bigSep_congr fun _ _ => bigSep_univ_of_subsingleton (0 : Fin 1), bigSep_emps]
  iempintro

/-- What the core's debts are while it is between the calls. -/
theorem owes_out (d : Dev nD) : ((K (F := F)).tcSt EH d 1 : sProp 𝕄)
    ⊢ iprop(owesWithin d (outOwed (F := F) d) (outRec (F := F) d) ∗ (owesWithin d (outOwed (F := F) d) (outRec (F := F) d) -∗ (K (F := F)).tcSt EH d 1)) := by
  unfold SparseCore.Cfg.tcSt owesWithin
  iintro ⟨⟨%W, %hW, HO⟩, Hrest⟩
  isplitl [HO]
  · iexists W; isplitr; · ipureintro; exact fun p hp => hW p hp
    iexact HO
  iintro ⟨%W', %hW', HO⟩
  isplitl [HO]
  · iexists W'; isplitr; · ipureintro; exact fun p hp => hW' hp
    iexact HO
  iexact Hrest

theorem val4_eq (d : Dev nD) (b : Ref sig .tc) : outVal (V3 m) d b = val4 m d (Proc.devRef .tc b) := by
  unfold outVal val4
  by_cases h : b = main_v35
  · subst h; rw [Function.update_self, Function.update_self]
  · rw [Function.update_of_ne h, Function.update_of_ne (fun h' => h (Proc.devRef_injective _ h'))]

/-- What the certificate reads at the end: every unscoped buffer. -/
abbrev FIN (d : Dev nD) : sProp 𝕄 := unscopedBufs d fun b => val5 m d (Proc.devRef .tc b)

/-- Every unscoped buffer after the normalising call. -/
theorem held_val4 (d : Dev nD) : (unscopedBufs d (outVal (V3 m) d) : sProp 𝕄) = held (d : Thread nD τ) (ucRefs τ sig) (val4 m d) := by
  rw [← unscopedBufs_held]
  congr 1
  exact funext fun b => val4_eq m d b

variable (ρ : Dev nD → PrngReg)

/-- The normalising call as the launch's own step. -/
theorem lift_out : (Prog.lift (.customCall (SparseCore.inner (Pipeline.entry 0)) ())
      : Prog (TpuEff nD τ sig (Elt F) (SparseCore.Sig (ΛP (F := F)) 1) .tc) PUnit)
    = SparseCore.liftProg (.op (.customCall (Pipeline.entry 0) ()) fun r => .ret r) := rfl

set_option backward.isDefEq.respectTransparency.types false in
/-- The normalising call as a step of @main: every unscoped buffer from `V3` to `outVal V3`. -/
theorem out_step [∀ e, Nonempty (Elt F e)] (d : Dev nD) (Q : PUnit → sProp 𝕄) :
    iprop((iprop(boundary (d : Thread nD τ) ∗ unscopedBufs d (outVal (V3 m) d) ∗ owesWithin d (outOwed (F := F) d) (outRec (F := F) d)) -∗ Q ⟨⟩)
        ∗ boundary (d : Thread nD τ) ∗ (unscopedBufs d (V3 m d) ∗ owesWithin d (outOwed (F := F) d) (outRec (F := F) d))
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (d : Thread nD τ) none) Set.univ
          (Prog.lift (.customCall (SparseCore.inner (Pipeline.entry 0)) ())) Q := by
  rw [lift_out]
  refine BIBase.Entails.trans ?_ ((K (F := F)).wp_liftProg (D (F := F)) 𝒱 (d : Thread nD τ) Set.univ none (.op (.customCall (Pipeline.entry 0) ()) fun r => .ret r) Q)
  refine BIBase.Entails.trans ?_ (Pipeline.RegionSeg.wp pcfgs adm (dats (V3 m)) none cellOf_inj EP defs₀ 𝒱₀ (K (F := F)).L (K (F := F)).lev (outSeg (V3 m)) d none (fun _ h => nomatch h) (fun r => .ret r) Q)
  refine sep_mono ?_ .rfl
  iintro Hk ⟨Hb, Hp⟩
  rw [wp_ret]; imodintro
  iapply Hk
  isplitl [Hb]; · iexact Hb
  iapply (show (outSeg (V3 m)).post d ⊢ iprop(unscopedBufs d (outVal (V3 m) d) ∗ owesWithin d (outOwed (F := F) d) (outRec (F := F) d)) from .rfl) $$ Hp

set_option backward.isDefEq.respectTransparency.types false in
theorem hmain [∀ e, Nonempty (Elt F e)] (κ : GSem nD τ sig → ℕ) (d : Dev nD) :
    iprop((K (F := F)).ctx EH (P (W m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_split, show (unscopedBufs d (fun b => m ((SparseCore.T d).loc b)) : sProp 𝕄) = held (d : Thread nD τ) (ucRefs τ sig) (fun b => m (d, b)) from
    unscopedBufs_held d (fun b => m (d, b))]
  iintro ⟨#Hctx, Hst, ⟨Hb, Hh, Hts, -⟩, HG⟩
  ihave #Hla := ((K (F := F)).ctx_levAts κ) $$ Hctx
  ihave Hbh := (show iprop(boundary (SparseCore.T d) ∗ held (d : Thread nD τ) (ucRefs τ sig) (fun b => m (d, b))) ⊢ (_ : sProp 𝕄) from .rfl) $$ [Hb Hh]
  · isplitl [Hb] <;> iassumption
  iapply (wp_seq 𝒱 none Set.univ d (ucRefs τ sig) _ opsA (fun op h => sub_ucRefs op ((List.forall_iff_forall_mem.mp opsA_sub) op h))
    (fun op h => (List.forall_iff_forall_mem.mp opsA_fresh) op h) _) $$ Hbh
  rw [show after opsA (fun b => m (d, b)) = val1 m d from rfl, held_six]
  iintro ⟨Hb, Hsix, Hbut⟩
  rw [wp_bind]
  iapply ((K (F := F)).wp_run (D (F := F)) 𝒱 (EH := EH) (P := P (W m)) κ d 0) $$ [Hst Hsix Hbut Hb Hts HG]
  isplitr; · iexact Hctx
  isplitl [Hst]; · iexact Hst
  isplitl [Hsix]
  · rw [st_eq]; iexact Hsix
  iintro ⟨Hst, Hdn⟩
  ihave Hsix := (Entails.of_eq (dn_eq m d)) $$ Hdn
  ihave Hh := (Entails.of_eq (held_back m d)) $$ [Hsix Hbut]
  · isplitl [Hsix] <;> iassumption
  ihave Hbh := (show iprop(boundary (SparseCore.T d) ∗ held (d : Thread nD τ) (ucRefs τ sig) (val2 m d)) ⊢ (_ : sProp 𝕄) from .rfl) $$ [Hb Hh]
  · isplitl [Hb] <;> iassumption
  iapply (wp_seq 𝒱 none Set.univ d (ucRefs τ sig) _ opsB (fun op h => sub_ucRefs op ((List.forall_iff_forall_mem.mp opsB_sub) op h))
    (fun op h => (List.forall_iff_forall_mem.mp opsB_fresh) op h) _) $$ Hbh
  rw [show (held (d : Thread nD τ) (ucRefs τ sig) (after opsB (val2 m d)) : sProp 𝕄) = unscopedBufs d (V3 m d) from (unscopedBufs_held d (val3 m d)).symm]
  iintro ⟨Hb, Hub⟩
  ihave HO := (show iprop((K (F := F)).tcSt EH d ((0 : Fin 1).val + 1)) ⊢ (_ : sProp 𝕄) from owes_out d) $$ Hst
  icases HO with ⟨HO, Hst⟩
  ihave HG := (Entails.of_eq (G_eq d)) $$ HG
  icases HG with ⟨Hg, Ht⟩
  rw [wp_bind]
  iapply (out_step m d _)
  isplitl [Hst Hts]
  · iintro ⟨Hb, Hu, HO⟩
    ihave Hh := (Entails.of_eq (held_val4 m d)) $$ Hu
    ihave Hbh := (show iprop(boundary (SparseCore.T d) ∗ held (d : Thread nD τ) (ucRefs τ sig) (val4 m d)) ⊢ (_ : sProp 𝕄) from .rfl) $$ [Hb Hh]
    · isplitl [Hb] <;> iassumption
    iapply (wp_seq 𝒱 none Set.univ d (ucRefs τ sig) _ opsC (fun op h => sub_ucRefs op ((List.forall_iff_forall_mem.mp opsC_sub) op h))
      (fun op h => (List.forall_iff_forall_mem.mp opsC_fresh) op h) _) $$ Hbh
    rw [show (held (d : Thread nD τ) (ucRefs τ sig) (after opsC (val4 m d)) : sProp 𝕄) = FIN m d from (unscopedBufs_held d (val5 m d)).symm]
    iintro ⟨Hb, Hub⟩
    rw [wp_pure]; imodintro
    isplitl [Hst HO]; · iapply Hst; iexact HO
    isplitl [Hub]; · iexact Hub
    isplitl [Hb] <;> iassumption
  isplitl [Hb]; · iexact Hb
  isplitl [Hub HO]
  · isplitl [Hub] <;> iassumption
  isplitr; · iexact Hla
  isplitl [Hg]; · iexact Hg
  iexact Ht

/-! ## The program's run -/

def fq (d : Dev nD) (s' : Phys nD τ sig (Elt F)) : Prop :=
  ∀ b : Ref sig .tc, ¬ b.isScoped → s'.mem.mem ((d : Thread nD τ).loc b) = val5 m d (Proc.devRef .tc b)

theorem hfin (d : Dev nD) (s' : Phys nD τ sig (Elt F)) : iprop(FIN m d ∗ SI s') ⊢ (⌜fq m d s'⌝ : sProp 𝕄) := by
  have one : ∀ b : Ref sig .tc, iprop(FIN m d ∗ SI s') ⊢ (⌜¬ b.isScoped → s'.mem.mem ((d : Thread nD τ).loc b) = val5 m d (Proc.devRef .tc b)⌝ : sProp 𝕄) := by
    intro b
    by_cases hb : b.isScoped
    · iintro -; ipureintro; exact fun h => absurd hb h
    unfold FIN unscopedBufs
    rw [SparseCore.bigSep_erase' (Finset.mem_filter.mpr ⟨Finset.mem_univ b, hb⟩)]
    iintro ⟨⟨Hb, -⟩, HSI⟩
    ihave H := (SI_pointsTo_agree (st := s') (ℓ := (d : Thread nD τ).loc b) (I := Finset.univ) (q := fullShare) (f := val5 m d (Proc.devRef .tc b))) $$ [HSI Hb]
    · isplitl [HSI] <;> iassumption
    icases H with %h
    ipureintro; exact fun _ => funext fun i => h i (Finset.mem_univ i)
  unfold fq
  exact (forall_intro one).trans pure_forall.2

/-- From a memory whose lists name rows of the tables, the program runs to an end with every semaphore at zero and every
    unscoped buffer at `val5`. -/
theorem run_main [∀ e, Nonempty (Elt F e)] (hpre : PreOK (W m)) :
    θ_run (Cert.TailIdeal.defs (F := F)) (Cert.TailIdeal.threads (F := F)) ⟨m, fun _ => 0, ρ⟩
      fun r => (∀ (d : Dev nD) (b : Ref sig .tc), ¬ b.isScoped → r.2.mem ((d : Thread nD τ).loc b) = val5 m d (Proc.devRef .tc b)) ∧ r.2.sem = fun _ => 0 :=
  SparseCore.Cfg.θ_run_sc_quiescent (K := K (F := F)) (D := D (F := F)) (𝒱 := 𝒱) (EH := EH) (P := P (W m)) (A := ∅) facts v₀
    (fun q hq => match q with | 0 => nomatch hq)
    (fun q _ => match q with | 0 => tileObl (W m) facts hpre)
    (fun q _ => match q with | 0 => SparseCore.Cfg.VecSplit.of_plain (vecSplit (W m)))
    m ρ main (fun d => G d) (FIN m) (u₀ (F := F)) ((sep_elim_left).trans (hu₀ m)) (hmain m ρ) (fq m) (hfin m)
    (fun r => (∀ (d : Dev nD) (b : Ref sig .tc), ¬ b.isScoped → r.2.mem ((d : Thread nD τ).loc b) = val5 m d (Proc.devRef .tc b)) ∧ r.2.sem = fun _ => 0)
    (fun _ h hz => ⟨h, hz⟩)

end Cert.Proof.TailSc

end
-- ==== Proof.TailFrame.lean ====
/-
  The tail program's runs from start to end: the arguments end as they began, and what the precondition says of the index
  arguments.
-/
module

public import proofs.«01_k».proof.Proof.TailRun
public import proofs.«01_k».proof.Proof.Gen.Pre_rows_exist
public import Idealize.ShloMosaic.Lib.ReduceAll
public import Idealize.ShloMosaic.Lib.WordCmp

@[expose] public section

set_option maxRecDepth 16384

noncomputable section

namespace Cert.Proof.TailSc

open Cert.TailIdeal Cert.TailIdeal.Gen

open Idealize.ShloMosaic Idealize.ShloMosaic.TcCoe
open Idealize.ShloMosaic.StableHlo
open Idealize.SL.Sem

variable {F : FTy → Type} [FloatOps F]

variable (m : (ℓ : Loc nD τ sig) → Buf (Elt F) ℓ)

/-! ## The buffers that the host operations write -/

abbrev wA : List (Ref sig .tc) := [main_v0, main_v1, main_v2, main_v3]
abbrev wB : List (Ref sig .tc) :=
  [main_v5, main_v6, main_v7, main_v8, main_v9, main_v10, main_c, main_v11, main_v12, main_v13, main_v14, main_v15,
    main_call0_v0, main_call0_v1, main_call0_v2, main_call0_v3, main_call0_v4, main_v16, main_v17, main_v18, main_c_0, main_v19, main_v20,
    main_v21, main_v22, main_cst, main_v23, main_call1_v0, main_call1_v1, main_call1_v2, main_call1_v3, main_call1_v4, main_v24,
    main_v25, main_v26, main_v27, main_v28, main_v29, main_v30, main_v31, main_v32, main_v33, main_v34]
abbrev wC : List (Ref sig .tc) := [main_v36]

theorem opsA_writes : (opsA : List (HloOp τ sig (Elt F))).Forall fun op => op.writes ⊆ (wA.map (Proc.devRef (τ := τ) .tc)).toFinset :=
  forall_writes_sub_of_map rfl
theorem opsB_writes : (opsB : List (HloOp τ sig (Elt F))).Forall fun op => op.writes ⊆ (wB.map (Proc.devRef (τ := τ) .tc)).toFinset :=
  forall_writes_sub_of_map rfl
theorem opsC_writes : (opsC : List (HloOp τ sig (Elt F))).Forall fun op => op.writes ⊆ (wC.map (Proc.devRef (τ := τ) .tc)).toFinset :=
  forall_writes_sub_of_map rfl

/-- A buffer that the first stretch does not write holds its first contents before the gathering call. -/
theorem val1_kept (d : Dev nD) (r : Ref sig .tc) (h : r ∉ wA) : val1 m d (Proc.devRef .tc r) = m (d, Proc.devRef .tc r) :=
  after_of_writes_sub opsA _ opsA_writes h
/-- A buffer that neither the first stretch nor the gathering call writes holds its first contents after the call. -/
theorem val2_kept (d : Dev nD) (r : Ref sig .tc) (h : r ∉ wA) (h0 : r ≠ main_v4_0) (h1 : r ≠ main_v4_1) :
    val2 m d (Proc.devRef .tc r) = m (d, Proc.devRef .tc r) := (val2_ne m d r h0 h1).trans (val1_kept m d r h)
/-- A buffer that nothing writes ends with its first contents. -/
theorem val5_kept (d : Dev nD) (r : Ref sig .tc) (hA : r ∉ wA) (h0 : r ≠ main_v4_0) (h1 : r ≠ main_v4_1) (hB : r ∉ wB) (h5 : r ≠ main_v35) (hC : r ∉ wC) :
    val5 m d (Proc.devRef .tc r) = m (d, Proc.devRef .tc r) :=
  (after_of_writes_sub opsC _ opsC_writes hC).trans <|
    (Function.update_of_ne (fun e => h5 (Proc.devRef_injective _ e)) _ _).trans <|
    (after_of_writes_sub opsB _ opsB_writes hB).trans (val2_kept m d r hA h0 h1)

/-! ## The precondition -/

/-- A word between 0 and `N`, compared with sign, is below `N` as a number. -/
theorem below_of_flags (v : BitVec 32) (N : ℕ) (hN : N < 2 ^ 31)
    (e : IntOp.andi (IntOp.cmpi .sge v 0#32) (IntOp.cmpi .slt v (BitVec.ofNat 32 N)) = 1#1) : v.toNat < N := by
  obtain ⟨e0, e1⟩ := IntOp.andi_eq_one.1 e
  rw [WordCmp.cmpi_sge_eq, WordCmp.ofBool_decide_eq_one_iff] at e0
  rw [WordCmp.cmpi_slt_eq, WordCmp.ofBool_decide_eq_one_iff] at e1
  simp only [BitVec.toInt_eq_toNat_cond, BitVec.toNat_ofNat, Nat.reducePow, Nat.reduceMod] at e0 e1
  rw [Nat.mod_eq_of_lt (by omega)] at e1
  split at e1 <;> split at e1 <;> simp at e0 <;> omega

/-- What the precondition says: granule numbers name granules of their tables, and places are places in a granule. -/
theorem rows_exist_iff [Cert.Pre_rows_exist.Facts] (a0 a1 a2 a3 a4 a5 a6 a7 a8 a9)
    (h : Cert.Pre_rows_exist.fn (F := F) a0 a1 a2 a3 a4 a5 a6 a7 a8 a9 = fun _ => 1#1) :
    (∀ x, (a2 x).toNat < 409600) ∧ (∀ x, (a3 x).toNat < 4) ∧ (∀ x, (a4 x).toNat < 106496) ∧ (∀ x, (a5 x).toNat < 4) := by
  have e := congrFun h ix0
  unfold Cert.Pre_rows_exist.fn Cert.Pre_rows_exist.fn_part1 at e
  have hss : Subsingleton Cert.Pre_rows_exist.S_.Idx := ⟨fun a b => funext fun i => i.elim0⟩
  obtain ⟨e123, e4⟩ := IntOp.andi_eq_one.1 e
  obtain ⟨e12, e3⟩ := IntOp.andi_eq_one.1 e123
  obtain ⟨e1, e2⟩ := IntOp.andi_eq_one.1 e12
  exact ⟨fun x => below_of_flags _ _ (by norm_num) (Host.reduce_andi_all _ _ _ _ _ e1 x),
    fun x => below_of_flags _ _ (by norm_num) (Host.reduce_andi_all _ _ _ _ _ e2 x),
    fun x => below_of_flags _ _ (by norm_num) (Host.reduce_andi_all _ _ _ _ _ e3 x),
    fun x => below_of_flags _ _ (by norm_num) (Host.reduce_andi_all _ _ _ _ _ e4 x)⟩

/-- The lists that the gathering call reads are the granule numbers, in row-major order. -/
theorem list_f (d : Dev nD) : W m (iLoc d) = shapeCast S163840 (m ((d.tc : Thread nD τ).loc main_arg2)) shapeCasts_S16384x10_S163840 := by
  show after opsA (fun b => m (d, b)) (Proc.devRef .tc main_v2) = _
  after_results_simp <;> rfl
theorem list_c (d : Dev nD) : W m (jLoc d) = shapeCast S163840 (m ((d.tc : Thread nD τ).loc main_arg4)) shapeCasts_S16384x10_S163840 := by
  show after opsA (fun b => m (d, b)) (Proc.devRef .tc main_v3) = _
  after_results_simp <;> rfl

/-- The granule numbers of the precondition are what the gathering call asks for. -/
theorem preOK (h2 : ∀ (d : Dev nD) (x : S16384x10.Idx), BitVec.toNat (m ((d.tc : Thread nD τ).loc main_arg2) x) < 409600)
    (h4 : ∀ (d : Dev nD) (x : S16384x10.Idx), BitVec.toNat (m ((d.tc : Thread nD τ).loc main_arg4) x) < 106496) : PreOK (W m) := by
  intro d
  rw [list_f, list_c]
  exact ⟨fun x => h2 d _, fun x => h4 d _⟩

end Cert.Proof.TailSc

end
-- ==== Proof.TailRows.lean ====
/-
  What the normalising call computes, entry by entry, over the extended reals: the rows picked out of their granules, the
  projected products, their means, and the stored values.
-/
module

public import proofs.«01_k».proof.Proof.TailOut
public import Idealize.ShloMosaic.Lib.Pointwise
public import Idealize.ShloMosaic.Lib.Pointwise.Select
public import Idealize.ShloMosaic.Lib.Pipeline.Value

@[expose] public section

set_option maxRecDepth 16384

noncomputable section

namespace Cert.Proof.TailSc

open Cert.TailIdeal Cert.TailIdeal.Gen
open Idealize.ShloMosaic Idealize.ShloMosaic.TcCoe
open Idealize.SL.Sem

/-! ## One of four -/

/-- Four values, each kept where a word names its number, add up to the one that the word names. -/
theorem pick_four (w : BitVec 32) (f : (g : ℕ) → g < 4 → EReal) (f0 f1 f2 f3 : EReal) (h : w.toNat < 4)
    (h0 : f0 = f 0 (by decide)) (h1 : f1 = f 1 (by decide)) (h2 : f2 = f 2 (by decide)) (h3 : f3 = f 3 (by decide)) :
    Scalar.select (IntOp.cmpi .eq w 0#32) f0 0 + Scalar.select (IntOp.cmpi .eq w 1#32) f1 0
      + Scalar.select (IntOp.cmpi .eq w 2#32) f2 0 + Scalar.select (IntOp.cmpi .eq w 3#32) f3 0 = f w.toNat h := by
  have hw : w = 0#32 ∨ w = 1#32 ∨ w = 2#32 ∨ w = 3#32 := by
    have : w.toNat = 0 ∨ w.toNat = 1 ∨ w.toNat = 2 ∨ w.toNat = 3 := by omega
    rcases this with e | e | e | e
    · exact Or.inl (BitVec.eq_of_toNat_eq e)
    · exact Or.inr (Or.inl (BitVec.eq_of_toNat_eq e))
    · exact Or.inr (Or.inr (Or.inl (BitVec.eq_of_toNat_eq e)))
    · exact Or.inr (Or.inr (Or.inr (BitVec.eq_of_toNat_eq e)))
  subst h0 h1 h2 h3
  rcases hw with rfl | rfl | rfl | rfl <;> simp [Scalar.select, IntOp.cmpi]

/-- A matrix read at two spellings of one column. -/
theorem at_col {a b : ℕ} (x : (⟨2, ![a, b]⟩ : Shape).Idx → EReal) (r : Fin a) (l l' : Fin b) (h : l.val = l'.val) :
    x (ix2 r l) = x (ix2 r l') := by rw [Fin.ext h]

/-! ## The picked rows -/

variable (x0 : Vec Ideal S640x128 .f32) (x1 : Vec Ideal S64x1280 .f32) (x2 : Vec Ideal S640x1 .i32) (x3 : Vec Ideal S64x10 .i32)
  (x4 : Vec Ideal S32x320 .f32) (x5 : Vec Ideal S320x320 .f32) (x6 : Vec Ideal S320x320 .f32) (x7 : Vec Ideal S1x320 .f32) (x8 : Vec Ideal S1x320 .f32)

/-- A feature row is the part of its granule that its place names. -/
theorem fRow_apply (r : Fin 640) (c : Fin 32) (h : (x2 (ix2 r 0)).toNat < 4) :
    fRow x0 x2 (ix2 r c) = x0 (ix2 r ⟨32 * (x2 (ix2 r 0)).toNat + c.val, by omega⟩) := by
  pointwise [fRow, k1_pay2]
  exact pick_four _ (fun g hg => x0 (ix2 r ⟨32 * g + c.val, by omega⟩)) _ _ _ _ h
    (at_col _ _ _ _ (by dsimp only; omega)) (at_col _ _ _ _ (by dsimp only)) (at_col _ _ _ _ (by dsimp only)) (at_col _ _ _ _ (by dsimp only))

/-- The last context row of a block, its four parts together. -/
def cRow9 : FVec Ideal S64x32 .f32 :=
  addf (addf (addf (cPart9 x1 x3)
    (mulf (broadcastTo S64x32 (select (cmpi .eq (cWord9 x3) (broadcast S64x1 1#32)) (broadcast S64x1 (Scalar.ofBits .f32 0x3F800000#32)) (broadcast S64x1 (Scalar.ofBits .f32 0x00000000#32))) broadcasts_S64x1_S64x32)
      (extractStridedSlice S64x32 ![0, 1184] (cAll x1) slices_S64x1280_o0_1184_S64x32)))
    (mulf (broadcastTo S64x32 (select (cmpi .eq (cWord9 x3) (broadcast S64x1 2#32)) (broadcast S64x1 (Scalar.ofBits .f32 0x3F800000#32)) (broadcast S64x1 (Scalar.ofBits .f32 0x00000000#32))) broadcasts_S64x1_S64x32)
      (extractStridedSlice S64x32 ![0, 1216] (cAll x1) slices_S64x1280_o0_1216_S64x32)))
    (mulf (broadcastTo S64x32 (select (cmpi .eq (cWord9 x3) (broadcast S64x1 3#32)) (broadcast S64x1 (Scalar.ofBits .f32 0x3F800000#32)) (broadcast S64x1 (Scalar.ofBits .f32 0x00000000#32))) broadcasts_S64x1_S64x32)
      (extractStridedSlice S64x32 ![0, 1248] (cAll x1) slices_S64x1280_o0_1248_S64x32))

/-- The ten context rows. -/
def cRows : Fin 10 → (S64x32.Idx → EReal) :=
  ![cRow0 x1 x3, cRow1 x1 x3, cRow2 x1 x3, cRow3 x1 x3, cRow4 x1 x3, cRow5 x1 x3, cRow6 x1 x3, cRow7 x1 x3, cRow8 x1 x3, cRow9 x1 x3]

/-- A context row's entry, as the part of its granule that its place names. -/
abbrev cAt (k : Fin 10) (r : Fin 64) (c : Fin 32) (g : ℕ) (hg : g < 4) : EReal := x1 (ix2 r ⟨128 * k.val + 32 * g + c.val, by omega⟩)

set_option maxHeartbeats 4000000 in
/-- Each context row is the part of its granule that its place names. -/
theorem cRows_apply (k : Fin 10) (r : Fin 64) (c : Fin 32) (h : (x3 (ix2 r k)).toNat < 4) :
    cRows x1 x3 k (ix2 r c) = x1 (ix2 r ⟨128 * k.val + 32 * (x3 (ix2 r k)).toNat + c.val, by omega⟩) := by
  match k, h with
  | ⟨0, _⟩, h =>
    show cRow0 x1 x3 (ix2 r c) = _
    pointwise [cRow0, k1_pay3, k1_pay4]
    have e := pick_four _ (cAt x1 0 r c) _ _ _ _ h (at_col _ _ ⟨c.val, by omega⟩ _ (by simp)) (at_col _ _ ⟨32 + c.val, by omega⟩ _ (by simp))
      (at_col _ _ ⟨64 + c.val, by omega⟩ _ (by simp)) (at_col _ _ ⟨96 + c.val, by omega⟩ _ (by simp))
    exact e.trans (at_col _ _ _ _ (by simp))
  | ⟨1, _⟩, h =>
    show cRow1 x1 x3 (ix2 r c) = _
    pointwise [cRow1, cAll, k1_pay3, k1_pay7, k1_pay5, k1_pay6]
    refine pick_four _ (cAt x1 1 r c) _ _ _ _ h ?_ ?_ ?_ ?_ <;> exact at_col _ _ _ _ (by simp)
  | ⟨2, _⟩, h =>
    show cRow2 x1 x3 (ix2 r c) = _
    pointwise [cRow2, cAll, k1_pay3, k1_pay12, k1_pay8, k1_pay9, k1_pay10, k1_pay11]
    refine pick_four _ (cAt x1 2 r c) _ _ _ _ h ?_ ?_ ?_ ?_ <;> exact at_col _ _ _ _ (by simp)
  | ⟨3, _⟩, h =>
    show cRow3 x1 x3 (ix2 r c) = _
    pointwise [cRow3, cAll, k1_pay3, k1_pay17, k1_pay13, k1_pay14, k1_pay15, k1_pay16]
    refine pick_four _ (cAt x1 3 r c) _ _ _ _ h ?_ ?_ ?_ ?_ <;> exact at_col _ _ _ _ (by simp)
  | ⟨4, _⟩, h =>
    show cRow4 x1 x3 (ix2 r c) = _
    pointwise [cRow4, cAll, k1_pay3, k1_pay21, k1_pay18, k1_pay19, k1_pay20]
    refine pick_four _ (cAt x1 4 r c) _ _ _ _ h ?_ ?_ ?_ ?_ <;> exact at_col _ _ _ _ (by simp)
  | ⟨5, _⟩, h =>
    show cRow5 x1 x3 (ix2 r c) = _
    pointwise [cRow5, cAll, k1_pay3, k1_pay24, k1_pay22, k1_pay23]
    refine pick_four _ (cAt x1 5 r c) _ _ _ _ h ?_ ?_ ?_ ?_ <;> exact at_col _ _ _ _ (by simp)
  | ⟨6, _⟩, h =>
    show cRow6 x1 x3 (ix2 r c) = _
    pointwise [cRow6, cAll, k1_pay3, k1_pay29, k1_pay25, k1_pay26, k1_pay27, k1_pay28]
    refine pick_four _ (cAt x1 6 r c) _ _ _ _ h ?_ ?_ ?_ ?_ <;> exact at_col _ _ _ _ (by simp)
  | ⟨7, _⟩, h =>
    show cRow7 x1 x3 (ix2 r c) = _
    pointwise [cRow7, cAll, k1_pay3, k1_pay30]
    refine pick_four _ (cAt x1 7 r c) _ _ _ _ h ?_ ?_ ?_ ?_ <;> exact at_col _ _ _ _ (by simp)
  | ⟨8, _⟩, h =>
    show cRow8 x1 x3 (ix2 r c) = _
    pointwise [cRow8, cAll, k1_pay3, k1_pay34, k1_pay31, k1_pay32, k1_pay33]
    refine pick_four _ (cAt x1 8 r c) _ _ _ _ h ?_ ?_ ?_ ?_ <;> exact at_col _ _ _ _ (by simp)
  | ⟨9, _⟩, h =>
    show cRow9 x1 x3 (ix2 r c) = _
    pointwise [cRow9, cPart9, cWord9, cAll, k1_pay3, k1_pay35, k1_pay36]
    refine pick_four _ (cAt x1 9 r c) _ _ _ _ h ?_ ?_ ?_ ?_ <;> exact at_col _ _ _ _ (by simp)

/-! ## The projected products -/

/-- The ten context rows side by side. -/
def cat : FVec Ideal S64x320 .f32 :=
  concatenate S64x320 1 (List.ofFn fun n : Fin 10 => (⟨S64x32, cRows x1 x3 n⟩ : (s : Shape) × (s.Idx → EReal)))
    concatenates_S64x32_S64x32_S64x32_S64x32_S64x32_S64x32_S64x32_S64x32_S64x32_S64x32_S64x320_d1

theorem cat_apply (r : Fin 64) (j : Fin 10) (c : Fin 32) : cat x1 x3 (ix2 r ⟨j.val * 32 + c.val, by omega⟩) = cRows x1 x3 j (ix2 r c) := by
  refine concatenate_ofFn_apply (t := S64x320) (s₁ := S64x32) 1 (cRows x1 x3) _ rfl 32 rfl _ j ?_ _ ?_ ?_
  · show (j.val * 32 + c.val) / 32 = j.val; omega
  · show c.val = (j.val * 32 + c.val) % 32; omega
  · intro b hb
    match b with
    | ⟨0, _⟩ => rfl
    | ⟨1, _⟩ => exact absurd rfl hb

/-- The two projections and their product. -/
def projected (a : FVec Ideal S640x32 .f32) (b : FVec Ideal S64x320 .f32) (q : FVec Ideal S32x320 .f32) (w : FVec Ideal S320x320 .f32) : FVec Ideal S640x320 .f32 :=
  shapeCast S640x320 (mulf
    (shapeCast S64x10x320 (matmul dot_S640x32_S32x320_S640x320_1_0_0_1_n_n none a (shapeCast S32x320 q shapeCasts_S32x320_S32x320)
      (constant S640x320 .f32 0x00000000#32)) shapeCasts_S640x320_S64x10x320)
    (broadcastTo S64x10x320 (shapeCast S64x1x320 (matmul dot_S64x320_S320x320_S64x320_1_0_0_1_n_n none b (shapeCast S320x320 w shapeCasts_S320x320_S320x320)
      (constant S64x320 .f32 0x00000000#32)) shapeCasts_S64x320_S64x1x320) broadcasts_S64x1x320_S64x10x320)) shapeCasts_S64x10x320_S640x320

theorem pre_eq : pre x0 x1 x2 x3 x4 x5 = projected (fRow x0 x2) (cat x1 x3) (View.ld x4 rQ) (View.ld x5 rC) := rfl

theorem projected_apply (a : FVec Ideal S640x32 .f32) (b : FVec Ideal S64x320 .f32) (q : FVec Ideal S32x320 .f32) (w : FVec Ideal S320x320 .f32)
    (r : Fin 64) (i : Fin 10) (l : Fin 320) :
    projected a b q w (ix2 ⟨r.val * 10 + i.val, by omega⟩ l)
      = (∑ k : Fin 32, a (ix2 ⟨r.val * 10 + i.val, by omega⟩ k) * q (ix2 k l)) * ∑ k : Fin 320, b (ix2 r k) * w (ix2 k l) := by
  pointwise [projected]

theorem mean_apply (r : Fin 640) (l : Fin 320) :
    mean x0 x1 x2 x3 x4 x5 x6 (ix2 r l) = ∑ x : Fin 320, pre x0 x1 x2 x3 x4 x5 (ix2 r x) * x6 (ix2 x l) := by
  pointwise [mean, k1_pay38]
  rfl

theorem stored_apply (r : Fin 640) (l : Fin 320) : stored x0 x1 x2 x3 x4 x5 x6 x7 x8 (ix2 r l)
    = (pre x0 x1 x2 x3 x4 x5 (ix2 r l) - mean x0 x1 x2 x3 x4 x5 x6 (ix2 r l))
        * (Ideal.rsqrt ((∑ x : Fin 320, (pre x0 x1 x2 x3 x4 x5 (ix2 r x) - mean x0 x1 x2 x3 x4 x5 x6 (ix2 r x))
              * (pre x0 x1 x2 x3 x4 x5 (ix2 r x) - mean x0 x1 x2 x3 x4 x5 x6 (ix2 r x)) * x6 (ix2 x l)) + Ideal.ofBits .f32 0x3727C5AC#32)
            * x7 (ix2 0 l)) + x8 (ix2 0 l) := by
  pointwise [stored, k1_pay1]

theorem outBlk_eq : outBlk x0 x1 x2 x3 x4 x5 x6 x7 x8 = stored x0 x1 x2 x3 x4 x5 x6 x7 x8 :=
  View.canon_unit_zero (by funext i; fin_cases i <;> rfl) _ _

end Cert.Proof.TailSc

end
-- ==== Proof.Norm.lean ====
/-
  Sums and the row normalisation over the extended reals: a sum against a block-diagonal matrix, and the normalisation by
  reciprocals against the one by quotients.
-/
module

public import Idealize.ShloMosaic.Lib.Pointwise
public import Idealize.ShloMosaic.Lib.Pointwise.Sums

@[expose] public section

noncomputable section

namespace Cert.Proof.Norm

open Idealize.ShloMosaic

/-- A sum over ten groups of 32 against weights that vanish outside group `j`. -/
theorem sum_group (a w : Fin 320 → EReal) (v : Fin 32 → EReal) (j : Fin 10)
    (hw : ∀ (i : Fin 10) (k : Fin 32), w ⟨i.val * 32 + k.val, by omega⟩ = if i = j then v k else 0) :
    ∑ x : Fin 320, a x * w x = ∑ k : Fin 32, a ⟨j.val * 32 + k.val, by omega⟩ * v k := by
  rw [Fin.sum_univ_tiles 10 32 rfl, Finset.sum_eq_single j]
  · exact Finset.sum_congr rfl fun k _ => by rw [hw j k, if_pos rfl]
  · intro i _ hi
    exact Finset.sum_eq_zero fun k _ => by rw [hw i k, if_neg hi, mul_zero]
  · exact fun h => absurd (Finset.mem_univ j) h

/-- The constants 32 and 1/32. -/
theorem ofBits_32 : Ideal.ofBits .f32 0x42000000#32 = ((32 : ℝ) : EReal) := by
  simp [Ideal.ofBits, Ideal.ieee, -EReal.coe_mul]; norm_num
theorem ofBits_32th : Ideal.ofBits .f32 0x3D000000#32 = ((1 / 32 : ℝ) : EReal) := by
  simp [Ideal.ofBits, Ideal.ieee, -EReal.coe_mul]; norm_num
/-- The constant under the root is positive. -/
theorem ofBits_eps : ∃ e : ℝ, 0 < e ∧ Ideal.ofBits .f32 0x3727C5AC#32 = (e : EReal) :=
  ⟨10995116 * 2 ^ (-40 : ℤ), by positivity, by simp [Ideal.ofBits, Ideal.ieee, -EReal.coe_mul]⟩

/-- A square is not negative. -/
theorem sq_nonneg (x : EReal) : 0 ≤ x * x := by
  rcases le_total 0 x with h | h
  · exact mul_nonneg h h
  · exact EReal.mul_nonneg_iff.2 (Or.inr ⟨h, h⟩)

/-- A sum of products with a finite positive number is the product of the sum. -/
theorem sum_mul_real {n : ℕ} (f : Fin n → EReal) (p : ℝ) (hp : 0 ≤ p) : ∑ k, f k * (p : EReal) = (∑ k, f k) * (p : EReal) := by
  induction n with
  | zero => simp
  | succ n ih =>
    rw [Fin.sum_univ_succ, Fin.sum_univ_succ, ih]
    exact (EReal.right_distrib_of_nonneg_of_ne_top (by exact_mod_cast hp) (EReal.coe_ne_top p) _ _).symm

/-- The mean as a sum of products with 1/32 is the quotient by 32. -/
theorem mean_eq (f : Fin 32 → EReal) :
    ∑ k, f k * Ideal.ofBits .f32 0x3D000000#32 = Ideal.div (∑ k, f k) (Ideal.ofBits .f32 0x42000000#32) := by
  rw [ofBits_32, ofBits_32th, Ideal.div_coe (by norm_num), sum_mul_real _ _ (by norm_num)]

/-- The mean of squares is not negative. -/
theorem mean_sq_nonneg (f : Fin 32 → EReal) : 0 ≤ Ideal.div (∑ k, f k * f k) (Ideal.ofBits .f32 0x42000000#32) := by
  rw [ofBits_32, Ideal.div_coe (by norm_num)]
  exact mul_nonneg (Finset.sum_nonneg fun k _ => sq_nonneg _) (by exact_mod_cast (by norm_num : (0 : ℝ) ≤ 1 / 32))

/-- Multiplying by a reciprocal root is dividing by the root, of a positive number. -/
theorem mul_rsqrt (d g v : EReal) (hv : 0 < v) : d * (Ideal.rsqrt v * g) = Ideal.div d (Ideal.sqrt v) * g := by
  rw [← mul_assoc]
  congr 1
  induction v with
  | bot => exact absurd hv (by simp)
  | top => rw [Ideal.rsqrt_top, Ideal.sqrt_top, Ideal.div, if_neg EReal.top_ne_zero, EReal.inv_top]
  | coe r =>
    have hr : 0 < r := by exact_mod_cast hv
    have hs : Real.sqrt r ≠ 0 := (Real.sqrt_pos.2 hr).ne'
    rw [Ideal.rsqrt_coe, Ideal.sqrt_coe, if_neg (not_lt.2 hr.le), if_neg hr.ne', if_neg (not_lt.2 hr.le), Ideal.div_coe hs, one_div]

/-- The normalisation of one row of 32 entries, by quotients. -/
def row (z : Fin 32 → EReal) (g b : Fin 32 → EReal) (c : Fin 32) : EReal :=
  Ideal.div (z c - Ideal.div (∑ k, z k) (Ideal.ofBits .f32 0x42000000#32))
      (Ideal.sqrt (Ideal.div (∑ k, (z k - Ideal.div (∑ k, z k) (Ideal.ofBits .f32 0x42000000#32)) * (z k - Ideal.div (∑ k, z k) (Ideal.ofBits .f32 0x42000000#32)))
        (Ideal.ofBits .f32 0x42000000#32) + Ideal.ofBits .f32 0x3727C5AC#32)) * g c + b c

/-- The normalisation by products with 1/32 and with a reciprocal root is the one by quotients. -/
theorem row_of_products (z g b : Fin 32 → EReal) (c : Fin 32) (μ : EReal) (hμ : μ = ∑ k, z k * Ideal.ofBits .f32 0x3D000000#32) :
    (z c - μ) * (Ideal.rsqrt ((∑ k, (z k - μ) * (z k - μ) * Ideal.ofBits .f32 0x3D000000#32) + Ideal.ofBits .f32 0x3727C5AC#32) * g c) + b c = row z g b c := by
  rw [mean_eq] at hμ
  subst hμ
  rw [mean_eq fun k => (z k - _) * (z k - _), mul_rsqrt]
  · rfl
  · obtain ⟨e, he, hE⟩ := ofBits_eps
    rw [hE]
    exact lt_of_lt_of_le (by exact_mod_cast he) (le_add_of_nonneg_left (mean_sq_nonneg _))

end Cert.Proof.Norm

end
-- ==== Proof.TailBlock.lean ====
/-
  The normalising call's result array, entry by entry, in the contents of its operands' arrays.
-/
module

public import proofs.«01_k».proof.Proof.TailRows
public import proofs.«01_k».proof.Proof.Norm
public import Idealize.ShloMosaic.Lib.Pipeline.ValueKit

@[expose] public section

set_option maxRecDepth 16384

noncomputable section

namespace Cert.Proof.TailSc

open Cert.TailIdeal Cert.TailIdeal.Gen
open Idealize.ShloMosaic Idealize.ShloMosaic.TcCoe
open Idealize.SL.Sem
open Idealize.ShloMosaic.Pipeline (Dat)

/-! ## One block -/

section Block

variable (x0 : Vec Ideal S640x128 .f32) (x1 : Vec Ideal S64x1280 .f32) (x2 : Vec Ideal S640x1 .i32) (x3 : Vec Ideal S64x10 .i32)
  (x4 : Vec Ideal S32x320 .f32) (x5 : Vec Ideal S320x320 .f32) (x6 : Vec Ideal S320x320 .f32) (x7 : Vec Ideal S1x320 .f32) (x8 : Vec Ideal S1x320 .f32)
  (wq wc : Fin 32 → Fin 32 → EReal) (g b : Fin 32 → EReal)

/-- What the five tables hold, in the matrices and rows they are made of. -/
structure Tables : Prop where
  q : ∀ (k : Fin 32) (j : Fin 10) (c : Fin 32), x4 (ix2 k ⟨j.val * 32 + c.val, by omega⟩) = wq c k
  c : ∀ (i : Fin 10) (k : Fin 32) (j : Fin 10) (c : Fin 32),
    x5 (ix2 ⟨i.val * 32 + k.val, by omega⟩ ⟨j.val * 32 + c.val, by omega⟩) = if i = j then wc c k else 0
  p : ∀ (i : Fin 10) (k : Fin 32) (j : Fin 10) (c : Fin 32),
    x6 (ix2 ⟨i.val * 32 + k.val, by omega⟩ ⟨j.val * 32 + c.val, by omega⟩) = if i = j then Ideal.ofBits .f32 0x3D000000#32 else 0
  g : ∀ (j : Fin 10) (c : Fin 32), x7 (ix2 0 ⟨j.val * 32 + c.val, by omega⟩) = g c
  b : ∀ (j : Fin 10) (c : Fin 32), x8 (ix2 0 ⟨j.val * 32 + c.val, by omega⟩) = b c

/-- The projected products of a block's row, for context row `j`. -/
def zBlk (r : Fin 64) (i j : Fin 10) (h2 : (x2 (ix2 ⟨r.val * 10 + i.val, by omega⟩ 0)).toNat < 4) (h3 : (x3 (ix2 r j)).toNat < 4) (c : Fin 32) : EReal :=
  (∑ k : Fin 32, x0 (ix2 ⟨r.val * 10 + i.val, by omega⟩ ⟨32 * (x2 (ix2 ⟨r.val * 10 + i.val, by omega⟩ 0)).toNat + k.val, by omega⟩) * wq c k)
    * ∑ k : Fin 32, x1 (ix2 r ⟨128 * j.val + 32 * (x3 (ix2 r j)).toNat + k.val, by omega⟩) * wc c k

theorem pre_apply (T : Tables x4 x5 x6 x7 x8 wq wc g b) (r : Fin 64) (i j : Fin 10)
    (h2 : (x2 (ix2 ⟨r.val * 10 + i.val, by omega⟩ 0)).toNat < 4) (h3 : (x3 (ix2 r j)).toNat < 4) (c : Fin 32) :
    pre x0 x1 x2 x3 x4 x5 (ix2 ⟨r.val * 10 + i.val, by omega⟩ ⟨j.val * 32 + c.val, by omega⟩) = zBlk x0 x1 x2 x3 wq wc r i j h2 h3 c := by
  rw [pre_eq, projected_apply]
  unfold zBlk
  congr 1
  · refine Finset.sum_congr rfl fun k _ => ?_
    rw [fRow_apply _ _ _ _ h2]
    exact congrArg (x0 _ * ·) ((congrFun (View.ld_unit_zero (by funext a; fin_cases a <;> rfl) _ x4) _).trans (T.q k j c))
  · have e5 : View.ld x5 rC = x5 := View.ld_unit_zero (by funext a; fin_cases a <;> rfl) _ x5
    rw [e5, Norm.sum_group _ _ (wc c) j fun i k => T.c i k j c]
    refine Finset.sum_congr rfl fun k _ => ?_
    rw [cat_apply, cRows_apply _ _ _ _ _ h3]

/-- A block's row against the block-diagonal mean: the sum over one group of 32. -/
theorem group_mean (T : Tables x4 x5 x6 x7 x8 wq wc g b) (a : Fin 320 → EReal) (j : Fin 10) (c : Fin 32) :
    ∑ x : Fin 320, a x * x6 (ix2 x ⟨j.val * 32 + c.val, by omega⟩)
      = ∑ k : Fin 32, a ⟨j.val * 32 + k.val, by omega⟩ * Ideal.ofBits .f32 0x3D000000#32 :=
  Norm.sum_group _ _ (fun _ => Ideal.ofBits .f32 0x3D000000#32) j fun i k => T.p i k j c

theorem mean_at (T : Tables x4 x5 x6 x7 x8 wq wc g b) (r : Fin 64) (i j : Fin 10)
    (h2 : (x2 (ix2 ⟨r.val * 10 + i.val, by omega⟩ 0)).toNat < 4) (h3 : (x3 (ix2 r j)).toNat < 4) (c : Fin 32) :
    mean x0 x1 x2 x3 x4 x5 x6 (ix2 ⟨r.val * 10 + i.val, by omega⟩ ⟨j.val * 32 + c.val, by omega⟩)
      = ∑ k : Fin 32, zBlk x0 x1 x2 x3 wq wc r i j h2 h3 k * Ideal.ofBits .f32 0x3D000000#32 := by
  rw [mean_apply, group_mean x4 x5 x6 x7 x8 wq wc g b T]
  exact Finset.sum_congr rfl fun k _ => by rw [pre_apply x0 x1 x2 x3 x4 x5 x6 x7 x8 wq wc g b T r i j h2 h3 k]

/-- What a block's entry ends with: the normalisation of its row of projected products. -/
theorem outBlk_apply (T : Tables x4 x5 x6 x7 x8 wq wc g b) (r : Fin 64) (i j : Fin 10)
    (h2 : (x2 (ix2 ⟨r.val * 10 + i.val, by omega⟩ 0)).toNat < 4) (h3 : (x3 (ix2 r j)).toNat < 4) (c : Fin 32) :
    outBlk x0 x1 x2 x3 x4 x5 x6 x7 x8 (ix2 ⟨r.val * 10 + i.val, by omega⟩ ⟨j.val * 32 + c.val, by omega⟩)
      = Norm.row (zBlk x0 x1 x2 x3 wq wc r i j h2 h3) g b c := by
  rw [outBlk_eq, stored_apply, group_mean x4 x5 x6 x7 x8 wq wc g b T, T.g j c, T.b j c]
  simp only [pre_apply x0 x1 x2 x3 x4 x5 x6 x7 x8 wq wc g b T r i j h2 h3, mean_at x0 x1 x2 x3 x4 x5 x6 x7 x8 wq wc g b T r i j h2 h3]
  exact Norm.row_of_products _ g b c _ rfl

end Block

/-! ## From blocks to arrays -/

variable (V : (c : Dev nD) → (b : Ref sig .tc) → Buf (Elt Ideal) ((c : Thread nD τ).loc b))

theorem idx1 : ∀ t : Fin cfg1.N, win1_0.index t = ![t.val, 0] ∧ win1_1.index t = ![t.val, 0] ∧ win1_2.index t = ![t.val, 0] ∧ win1_3.index t = ![t.val, 0]
    ∧ win1_4.index t = ![0, 0] ∧ win1_5.index t = ![0, 0] ∧ win1_6.index t = ![0, 0] ∧ win1_7.index t = ![0, 0] ∧ win1_8.index t = ![0, 0] ∧ win1_9.index t = ![t.val, 0] :=
  (by decide +kernel : ∀ t : Fin grid1.N, _)

theorem t_lt (t : Fin cfg1.N) : t.val < 256 := t.isLt

theorem iblk_0 (c : Dev nD) (t : Fin cfg1.N) (r : Fin 640) (l : Fin 128) :
    (show Vec Ideal S640x128 .f32 from iblk V c 0 t) (ix2 r l) = V c main_v4_0 (ix2 ⟨t.val * 640 + r.val, by have := t_lt t; omega⟩ l) := by
  blk_ext [iblk, idx1 t]
theorem iblk_1 (c : Dev nD) (t : Fin cfg1.N) (r : Fin 64) (l : Fin 1280) :
    (show Vec Ideal S64x1280 .f32 from iblk V c 1 t) (ix2 r l) = V c main_v33 (ix2 ⟨t.val * 64 + r.val, by have := t_lt t; omega⟩ l) := by
  blk_ext [iblk, idx1 t]
theorem iblk_2 (c : Dev nD) (t : Fin cfg1.N) (r : Fin 640) :
    (show Vec Ideal S640x1 .i32 from iblk V c 2 t) (ix2 r 0) = V c main_v34 (ix2 ⟨t.val * 640 + r.val, by have := t_lt t; omega⟩ 0) := by
  blk_ext [iblk, idx1 t]
theorem iblk_3 (c : Dev nD) (t : Fin cfg1.N) (r : Fin 64) (l : Fin 10) :
    (show Vec Ideal S64x10 .i32 from iblk V c 3 t) (ix2 r l) = V c main_arg5 (ix2 ⟨t.val * 64 + r.val, by have := t_lt t; omega⟩ l) := by
  blk_ext [iblk, idx1 t]
theorem iblk_4 (c : Dev nD) (t : Fin cfg1.N) : iblk V c 4 t = V c main_v8 := by blk_ext! [iblk, idx1 t]
theorem iblk_5 (c : Dev nD) (t : Fin cfg1.N) : iblk V c 5 t = V c main_v16 := by blk_ext! [iblk, idx1 t]
theorem iblk_6 (c : Dev nD) (t : Fin cfg1.N) : iblk V c 6 t = V c main_v24 := by blk_ext! [iblk, idx1 t]
theorem iblk_7 (c : Dev nD) (t : Fin cfg1.N) : iblk V c 7 t = V c main_v28 := by blk_ext! [iblk, idx1 t]
theorem iblk_8 (c : Dev nD) (t : Fin cfg1.N) : iblk V c 8 t = V c main_v32 := by blk_ext! [iblk, idx1 t]

/-- The result's array is what its blocks say, block by block. -/
theorem outArr_eq (c : Dev nD) (G : S163840x320.Idx → EReal)
    (h : ∀ (t : Fin cfg1.N) (r : Fin 640) (l : Fin 320), oblk V c t (ix2 r l) = G (ix2 ⟨t.val * 640 + r.val, by have := t_lt t; omega⟩ l)) : outArr V c = G := by
  refine (dat V c).arrAt_eq_of_covers 9 G (by decide +kernel) fun t _ y => ?_
  blk_simp
  rw [dat_after_out]
  refine (congrArg (oblk V c t) (ix2_eta (y : S640x320.Idx)).symm).trans ((h t (y 0) (y 1)).trans (congrArg G ?_))
  blk_ext [idx1 t]

end Cert.Proof.TailSc

end
-- ==== Proof.TailTables.lean ====
/-
  The tables that the host operations make for the normalising call, entry by entry: the ten-fold first matrix, the
  block-diagonal second one, the block-diagonal mean, and the ten-fold scale and shift; and the two reshaped operands.
-/
module

public import proofs.«01_k».proof.Proof.TailOps
public import proofs.«01_k».proof.Proof.Norm
public import Idealize.ShloMosaic.Lib.Pointwise
public import Idealize.ShloMosaic.Lib.Pointwise.Select

@[expose] public section

set_option maxRecDepth 16384

noncomputable section

namespace Cert.Proof.TailSc

open Cert.TailIdeal Cert.TailIdeal.Gen
open Idealize.ShloMosaic Idealize.ShloMosaic.TcCoe
open Idealize.ShloMosaic.StableHlo

/-! ## The tables -/

variable (w : FVec Ideal S32x32 .f32) (g : FVec Ideal S32 .f32)

/-- A matrix transposed and set ten times side by side. -/
def tabQ : FVec Ideal S32x320 .f32 :=
  shapeCast S32x320 (broadcastInDim S1x32x10x32 ![0, 1, 2, 3] bcast_S1x32x1x32_S1x32x10x32_0_1_2_3
    (shapeCast S1x32x1x32 (transpose S32x32 [1, 0] w transposes_S32x32_S32x32_1_0) shapeCasts_S32x32_S1x32x1x32)) shapeCasts_S1x32x10x32_S32x320

theorem tabQ_apply (k : Fin 32) (j : Fin 10) (c : Fin 32) : tabQ w (ix2 k ⟨j.val * 32 + c.val, by omega⟩) = w (ix2 c k) := by
  pointwise [tabQ]

/-- The ten-row identity matrix. -/
def eye : FVec Ideal S10x10 .f32 :=
  uitofp .f32 (cmpi .eq (addi (iotaInDim S10x10 32 0) (broadcastInDim S10x10 ![] bcast_S_S10x10 (constantI S_ 32 0#32))) (iotaInDim S10x10 32 1))

theorem eye_apply (i j : Fin 10) : eye (ix2 i j) = if i = j then 1 else 0 := by
  pointwise [eye]
  have h : IntOp.cmpi .eq (IntOp.addi (BitVec.ofNat 32 i.val) 0#32) (BitVec.ofNat 32 j.val) = if i = j then 1#1 else 0#1 := by
    revert i j; decide +kernel
  rw [h]
  split
  · show ((((1#1 : BitVec 1).toNat : ℝ)) : EReal) = 1
    simp
  · show ((((0#1 : BitVec 1).toNat : ℝ)) : EReal) = 0
    simp

/-- The block matrix with a matrix's multiples by the entries of another as blocks. -/
def kron (e : FVec Ideal S10x10 .f32) (v : FVec Ideal S32x32 .f32) : FVec Ideal S320x320 .f32 :=
  shapeCast S320x320 (mulf
    (broadcastInDim S10x32x10x32 ![0, 1, 2, 3] bcast_S10x1x10x1_S10x32x10x32_0_1_2_3 (broadcastInDim S10x1x10x1 ![0, 2] bcast_S10x10_S10x1x10x1_0_2 e))
    (broadcastInDim S10x32x10x32 ![0, 1, 2, 3] bcast_S1x32x1x32_S10x32x10x32_0_1_2_3 (broadcastInDim S1x32x1x32 ![1, 3] bcast_S32x32_S1x32x1x32_1_3 v)))
    shapeCasts_S10x32x10x32_S320x320

theorem kron_apply (e : FVec Ideal S10x10 .f32) (v : FVec Ideal S32x32 .f32) (i : Fin 10) (k : Fin 32) (j : Fin 10) (c : Fin 32) :
    kron e v (ix2 ⟨i.val * 32 + k.val, by omega⟩ ⟨j.val * 32 + c.val, by omega⟩) = e (ix2 i j) * v (ix2 k c) := by
  pointwise [kron]

/-- A row set ten times side by side. -/
def tile : FVec Ideal S1x320 .f32 :=
  shapeCast S1x320 (shapeCast S320 (broadcastInDim S10x32 ![0, 1] bcast_S1x32_S10x32_0_1 (shapeCast S1x32 g shapeCasts_S32_S1x32)) shapeCasts_S10x32_S320) shapeCasts_S320_S1x320

theorem tile_apply (j : Fin 10) (c : Fin 32) : tile g (ix2 0 ⟨j.val * 32 + c.val, by omega⟩) = g (ix1 c) := by
  pointwise [tile]

/-! ## The buffers after the second stretch -/

variable (V : Valuation τ sig (Elt Ideal))

set_option maxHeartbeats 4000000 in
theorem opsB_v8 : after opsB V (Proc.devRef .tc main_v8) = tabQ (V (Proc.devRef .tc main_arg6)) := by
  simp only [opsB, TRef.binary, TRef.nullary, TRef.ternary, TRef.unary, TRef.reshape, TRef.toBuf, TRef.ofBuf, cast_eq]
  after_results_simp <;> rfl
set_option maxHeartbeats 4000000 in
theorem opsB_v16 : after opsB V (Proc.devRef .tc main_v16)
    = kron eye (transpose S32x32 [1, 0] (V (Proc.devRef .tc main_arg7)) transposes_S32x32_S32x32_1_0) := by
  simp only [opsB, TRef.binary, TRef.nullary, TRef.ternary, TRef.unary, TRef.reshape, TRef.toBuf, TRef.ofBuf, cast_eq]
  after_results_simp <;> rfl
set_option maxHeartbeats 4000000 in
theorem opsB_v24 : after opsB V (Proc.devRef .tc main_v24)
    = kron eye (broadcastInDim S32x32 ![] bcast_S_S32x32 (constant S_ .f32 0x3D000000#32)) := by
  simp only [opsB, TRef.binary, TRef.nullary, TRef.ternary, TRef.unary, TRef.reshape, TRef.toBuf, TRef.ofBuf, cast_eq]
  after_results_simp <;> rfl
set_option maxHeartbeats 4000000 in
theorem opsB_v28 : after opsB V (Proc.devRef .tc main_v28) = tile (V (Proc.devRef .tc main_arg8)) := by
  simp only [opsB, TRef.binary, TRef.nullary, TRef.ternary, TRef.unary, TRef.reshape, TRef.toBuf, TRef.ofBuf, cast_eq]
  after_results_simp <;> rfl
set_option maxHeartbeats 4000000 in
theorem opsB_v32 : after opsB V (Proc.devRef .tc main_v32) = tile (V (Proc.devRef .tc main_arg9)) := by
  simp only [opsB, TRef.binary, TRef.nullary, TRef.ternary, TRef.unary, TRef.reshape, TRef.toBuf, TRef.ofBuf, cast_eq]
  after_results_simp <;> rfl
set_option maxHeartbeats 4000000 in
theorem opsB_v33 : after opsB V (Proc.devRef .tc main_v33) = shapeCast S16384x1280 (V (Proc.devRef .tc main_v4_1)) shapeCasts_S163840x128_S16384x1280 := by
  simp only [opsB, TRef.binary, TRef.nullary, TRef.ternary, TRef.unary, TRef.reshape, TRef.toBuf, TRef.ofBuf, cast_eq]
  after_results_simp <;> rfl
set_option maxHeartbeats 4000000 in
theorem opsB_v34 : after opsB V (Proc.devRef .tc main_v34) = shapeCast S163840x1 (V (Proc.devRef .tc main_arg3)) shapeCasts_S16384x10_S163840x1 := by
  simp only [opsB, TRef.binary, TRef.nullary, TRef.ternary, TRef.unary, TRef.reshape, TRef.toBuf, TRef.ofBuf, cast_eq]
  after_results_simp <;> rfl

end Cert.Proof.TailSc

end
-- ==== Proof.TailSpec.lean ====
/-
  The tail's mathematics on its argument arrays: rows of the two tables picked by granule number and place, projected,
  multiplied, and normalised.
-/
module

public import proofs.«01_k».proof.Proof.Norm

@[expose] public section

noncomputable section

namespace Cert.Proof.Spec

open Idealize.ShloMosaic

/-- Entry `k` of row `n` of the feature table, its 16384 × 100 rows counted together. -/
def fAt (A : (⟨3, ![16384, 100, 32]⟩ : Shape).Idx → EReal) (n : ℕ) (k : Fin 32) : EReal := A (ix3 (Fin.ofNat 16384 (n / 100)) (Fin.ofNat 100 n) k)
/-- Entry `k` of row `n` of the context table, its 16384 × 26 rows counted together. -/
def cAt (A : (⟨3, ![16384, 26, 32]⟩ : Shape).Idx → EReal) (n : ℕ) (k : Fin 32) : EReal := A (ix3 (Fin.ofNat 16384 (n / 26)) (Fin.ofNat 26 n) k)

/-- The row that a granule number and a place name: four rows make a granule. -/
def num (g p : BitVec 32) : ℕ := 4 * g.toNat + p.toNat

variable (A : (⟨3, ![16384, 100, 32]⟩ : Shape).Idx → EReal) (B : (⟨3, ![16384, 26, 32]⟩ : Shape).Idx → EReal)
  (fg fp cg cp : (⟨2, ![16384, 10]⟩ : Shape).Idx → BitVec 32) (wq wc : (⟨2, ![32, 32]⟩ : Shape).Idx → EReal)
  (g b : (⟨1, ![32]⟩ : Shape).Idx → EReal)

/-- The product of feature row `i` and context row `j` of batch element `e`, each projected. -/
def zRow (e : Fin 16384) (i j : Fin 10) (c : Fin 32) : EReal :=
  (∑ k : Fin 32, fAt A (num (fg (ix2 e i)) (fp (ix2 e i))) k * wq (ix2 c k))
    * ∑ k : Fin 32, cAt B (num (cg (ix2 e j)) (cp (ix2 e j))) k * wc (ix2 c k)

/-- The result's entry. -/
def out (e : Fin 16384) (i j : Fin 10) (c : Fin 32) : EReal :=
  Norm.row (zRow A B fg fp cg cp wq wc e i j) (fun k => g (ix1 k)) (fun k => b (ix1 k)) c

/-- Two result arrays are equal when they agree at every batch element, pair of picked rows and column. -/
theorem ext (X Y : (⟨3, ![16384, 100, 32]⟩ : Shape).Idx → EReal)
    (h : ∀ (e : Fin 16384) (i j : Fin 10) (c : Fin 32), X (ix3 e ⟨i.val * 10 + j.val, by omega⟩ c) = Y (ix3 e ⟨i.val * 10 + j.val, by omega⟩ c)) : X = Y := by
  funext x
  have hx : x = ix3 (x 0) ⟨(⟨(x 1).val / 10, by have : (x 1).val < 100 := (x 1).isLt; omega⟩ : Fin 10).val * 10 + (⟨(x 1).val % 10, by omega⟩ : Fin 10).val,
      by have : (x 1).val < 100 := (x 1).isLt; dsimp only; omega⟩ (x 2) := by
    refine (ix3_eta (n0 := 16384) (n1 := 100) (n2 := 32) x).symm.trans ?_
    congr 1
    refine Fin.ext ?_
    show (x 1).val = (x 1).val / 10 * 10 + (x 1).val % 10
    omega
  rw [hx]
  exact h _ _ _ _

end Cert.Proof.Spec

end
-- ==== Proof.TailValue.lean ====
/-
  The value of the tail program's result: every entry is what the mathematics say of the arguments.
-/
module

public import proofs.«01_k».proof.Proof.TailFrame
public import proofs.«01_k».proof.Proof.TailBlock
public import proofs.«01_k».proof.Proof.TailTables
public import proofs.«01_k».proof.Proof.TailSpec

@[expose] public section

set_option maxRecDepth 16384

noncomputable section

namespace Cert.Proof.TailSc

open Cert.TailIdeal Cert.TailIdeal.Gen
open Idealize.ShloMosaic Idealize.ShloMosaic.TcCoe
open Idealize.ShloMosaic.StableHlo
open Idealize.SL.Sem

variable (m : (ℓ : Loc nD τ sig) → Buf (Elt Ideal) ℓ) (d : Dev nD)

/-- The arguments, at their literal shapes. -/
abbrev a0 : FVec Ideal S16384x100x32 .f32 := m ((d.tc : Thread nD τ).loc main_arg0)
abbrev a1 : FVec Ideal S16384x26x32 .f32 := m ((d.tc : Thread nD τ).loc main_arg1)
abbrev a2 : IVec S16384x10 32 := m ((d.tc : Thread nD τ).loc main_arg2)
abbrev a3 : IVec S16384x10 32 := m ((d.tc : Thread nD τ).loc main_arg3)
abbrev a4 : IVec S16384x10 32 := m ((d.tc : Thread nD τ).loc main_arg4)
abbrev a5 : IVec S16384x10 32 := m ((d.tc : Thread nD τ).loc main_arg5)
abbrev a6 : FVec Ideal S32x32 .f32 := m ((d.tc : Thread nD τ).loc main_arg6)
abbrev a7 : FVec Ideal S32x32 .f32 := m ((d.tc : Thread nD τ).loc main_arg7)
abbrev a8 : FVec Ideal S32 .f32 := m ((d.tc : Thread nD τ).loc main_arg8)
abbrev a9 : FVec Ideal S32 .f32 := m ((d.tc : Thread nD τ).loc main_arg9)

/-! ## The tables and the reshaped arguments before the gathering call -/

theorem table_f : W m (tLoc d) = shapeCast S409600x128 (a0 m d) shapeCasts_S16384x100x32_S409600x128 := by
  show after opsA (fun b => m (d, b)) (Proc.devRef .tc main_v0) = _
  after_results_simp <;> rfl
theorem table_c : W m (uLoc d) = shapeCast S106496x128 (a1 m d) shapeCasts_S16384x26x32_S106496x128 := by
  show after opsA (fun b => m (d, b)) (Proc.devRef .tc main_v1) = _
  after_results_simp <;> rfl

/-- Row `4 v + p` of the feature table, in the granules that the reshape makes. -/
theorem granule_f (A : FVec Ideal S16384x100x32 .f32) (v : Fin 409600) (p : ℕ) (hp : p < 4) (k : Fin 32) :
    shapeCast S409600x128 A shapeCasts_S16384x100x32_S409600x128 (ix2 v ⟨32 * p + k.val, by omega⟩) = Spec.fAt A (4 * v.val + p) k := by
  pointwise [Spec.fAt]
  have hv := v.isLt
  exact congrArg A ((ix3_inj ..).2 ⟨Fin.ext (by show v.val / 25 = (4 * v.val + p) / 100 % 16384; omega),
    Fin.ext (by show v.val % 25 * 4 + (32 * p + k.val) / 32 = (4 * v.val + p) % 100; omega), rfl⟩)
/-- Row `4 v + p` of the context table. -/
theorem granule_c (A : FVec Ideal S16384x26x32 .f32) (v : Fin 106496) (p : ℕ) (hp : p < 4) (k : Fin 32) :
    shapeCast S106496x128 A shapeCasts_S16384x26x32_S106496x128 (ix2 v ⟨32 * p + k.val, by omega⟩) = Spec.cAt A (4 * v.val + p) k := by
  pointwise [Spec.cAt]
  have hv := v.isLt
  exact congrArg A ((ix3_inj ..).2 ⟨Fin.ext (by show (v.val * 128 + (32 * p + k.val)) / 832 = (4 * v.val + p) / 26 % 16384; omega),
    Fin.ext (by show (v.val * 128 + (32 * p + k.val)) / 32 % 26 = (4 * v.val + p) % 26; omega), rfl⟩)

/-- The lists, at an entry. -/
theorem list_at_entry (l : IVec S16384x10 32) (e : Fin 16384) (i : Fin 10) :
    shapeCast S163840 l shapeCasts_S16384x10_S163840 (ix1 ⟨e.val * 10 + i.val, by omega⟩) = l (ix2 e i) := by
  pointwise

/-- A gathered feature entry: row `p` of the granule that the list names. -/
theorem gOut_apply (e : Fin 16384) (i : Fin 10) (p : ℕ) (hp : p < 4) (k : Fin 32) (hg : (a2 m d (ix2 e i)).toNat < 409600) :
    gOut (W m) d (ix2 ⟨e.val * 10 + i.val, by omega⟩ ⟨32 * p + k.val, by omega⟩) = Spec.fAt (a0 m d) (4 * (a2 m d (ix2 e i)).toNat + p) k := by
  show W m (tLoc d) (ix2 (Fin.ofNat 409600 (W m (iLoc d) (ix1 ⟨e.val * 10 + i.val, by omega⟩)).toNat) ⟨32 * p + k.val, by omega⟩) = _
  rw [table_f, list_f]
  refine (granule_f (a0 m d) _ p hp k).trans ?_
  rw [show (Fin.ofNat 409600 (BitVec.toNat (shapeCast S163840 (a2 m d) shapeCasts_S16384x10_S163840 (ix1 ⟨e.val * 10 + i.val, by omega⟩)))).val
    = (a2 m d (ix2 e i)).toNat by rw [list_at_entry]; exact Nat.mod_eq_of_lt hg]

/-- A gathered context entry. -/
theorem hOut_apply (e : Fin 16384) (i : Fin 10) (p : ℕ) (hp : p < 4) (k : Fin 32) (hg : (a4 m d (ix2 e i)).toNat < 106496) :
    hOut (W m) d (ix2 ⟨e.val * 10 + i.val, by omega⟩ ⟨32 * p + k.val, by omega⟩) = Spec.cAt (a1 m d) (4 * (a4 m d (ix2 e i)).toNat + p) k := by
  show W m (uLoc d) (ix2 (Fin.ofNat 106496 (W m (jLoc d) (ix1 ⟨e.val * 10 + i.val, by omega⟩)).toNat) ⟨32 * p + k.val, by omega⟩) = _
  rw [table_c, list_c]
  refine (granule_c (a1 m d) _ p hp k).trans ?_
  rw [show (Fin.ofNat 106496 (BitVec.toNat (shapeCast S163840 (a4 m d) shapeCasts_S16384x10_S163840 (ix1 ⟨e.val * 10 + i.val, by omega⟩)))).val
    = (a4 m d (ix2 e i)).toNat by rw [list_at_entry]; exact Nat.mod_eq_of_lt hg]

/-! ## What the normalising call finds -/

theorem V3_g : V3 m d main_v4_0 = gOut (W m) d :=
  (after_of_writes_sub opsB _ opsB_writes (by decide)).trans (val2_g m d)
theorem V3_h : V3 m d main_v33 = shapeCast S16384x1280 (hOut (W m) d) shapeCasts_S163840x128_S16384x1280 :=
  (opsB_v33 _).trans (congrArg (fun v => shapeCast S16384x1280 v shapeCasts_S163840x128_S16384x1280) (val2_h m d))
theorem V3_p : V3 m d main_v34 = shapeCast S163840x1 (a3 m d) shapeCasts_S16384x10_S163840x1 :=
  (opsB_v34 _).trans (congrArg (fun v => shapeCast S163840x1 v shapeCasts_S16384x10_S163840x1) (val2_kept m d main_arg3 (by decide) (by decide) (by decide)))
theorem V3_a5 : V3 m d main_arg5 = a5 m d :=
  (after_of_writes_sub opsB _ opsB_writes (by decide)).trans (val2_kept m d main_arg5 (by decide) (by decide) (by decide))

theorem tables : Tables (V3 m d main_v8) (V3 m d main_v16) (V3 m d main_v24) (V3 m d main_v28) (V3 m d main_v32)
    (fun c k => a6 m d (ix2 c k)) (fun c k => a7 m d (ix2 c k)) (fun c => a8 m d (ix1 c)) (fun c => a9 m d (ix1 c)) where
  q k j c := by
    rw [show V3 m d main_v8 = tabQ (a6 m d) from (opsB_v8 _).trans (congrArg tabQ (val2_kept m d main_arg6 (by decide) (by decide) (by decide)))]
    exact tabQ_apply _ k j c
  c i k j c := by
    rw [show V3 m d main_v16 = kron eye (transpose S32x32 [1, 0] (a7 m d) transposes_S32x32_S32x32_1_0) from (opsB_v16 _).trans
      (congrArg (fun v => kron eye (transpose S32x32 [1, 0] v transposes_S32x32_S32x32_1_0)) (val2_kept m d main_arg7 (by decide) (by decide) (by decide))),
      kron_apply, eye_apply]
    pointwise
    rw [ite_mul, one_mul, zero_mul]
  p i k j c := by
    rw [show V3 m d main_v24 = _ from opsB_v24 _, kron_apply, eye_apply]
    pointwise
    rw [ite_mul, one_mul, zero_mul]
  g j c := by
    rw [show V3 m d main_v28 = tile (a8 m d) from (opsB_v28 _).trans (congrArg tile (val2_kept m d main_arg8 (by decide) (by decide) (by decide)))]
    exact tile_apply _ j c
  b j c := by
    rw [show V3 m d main_v32 = tile (a9 m d) from (opsB_v32 _).trans (congrArg tile (val2_kept m d main_arg9 (by decide) (by decide) (by decide)))]
    exact tile_apply _ j c

/-! ## The result -/

variable (h2 : ∀ x, (a2 m d x).toNat < 409600) (h3 : ∀ x, (a3 m d x).toNat < 4) (h4 : ∀ x, (a4 m d x).toNat < 106496) (h5 : ∀ x, (a5 m d x).toNat < 4)

/-- The mathematics on the program's arguments. -/
abbrev spec (e : Fin 16384) (i j : Fin 10) (c : Fin 32) : EReal :=
  Spec.out (a0 m d) (a1 m d) (a2 m d) (a3 m d) (a4 m d) (a5 m d) (a6 m d) (a7 m d) (a8 m d) (a9 m d) e i j c

/-- The projecting call's result array. -/
def outG (x : S163840x320.Idx) : EReal :=
  spec m d ⟨(x 0).val / 10, by have : (x 0).val < 163840 := (x 0).isLt; omega⟩ ⟨(x 0).val % 10, by omega⟩
    ⟨(x 1).val / 32, by have : (x 1).val < 320 := (x 1).isLt; omega⟩ ⟨(x 1).val % 32, by omega⟩

theorem outG_apply (e : Fin 16384) (i j : Fin 10) (c : Fin 32) :
    outG m d (ix2 ⟨e.val * 10 + i.val, by omega⟩ ⟨j.val * 32 + c.val, by omega⟩) = spec m d e i j c := by
  unfold outG
  congr 1 <;> refine Fin.ext ?_
  · show (e.val * 10 + i.val) / 10 = e.val; omega
  · show (e.val * 10 + i.val) % 10 = i.val; omega
  · show (j.val * 32 + c.val) / 32 = j.val; omega
  · show (j.val * 32 + c.val) % 32 = c.val; omega

/-- The blocks of the call's operands at a point, at their literal shapes. -/
def b0 (t : Fin cfg1.N) : Vec Ideal S640x128 .f32 := iblk (V3 m) d 0 t
def b1 (t : Fin cfg1.N) : Vec Ideal S64x1280 .f32 := iblk (V3 m) d 1 t
def b2 (t : Fin cfg1.N) : Vec Ideal S640x1 .i32 := iblk (V3 m) d 2 t
def b3 (t : Fin cfg1.N) : Vec Ideal S64x10 .i32 := iblk (V3 m) d 3 t

theorem oblk_eq (t : Fin cfg1.N) : oblk (V3 m) d t
    = outBlk (b0 m d t) (b1 m d t) (b2 m d t) (b3 m d t) (V3 m d main_v8) (V3 m d main_v16) (V3 m d main_v24) (V3 m d main_v28) (V3 m d main_v32) := by
  unfold oblk b0 b1 b2 b3
  rw [iblk_4, iblk_5, iblk_6, iblk_7, iblk_8]

/-- The places of a block's feature rows. -/
theorem b2_apply (t : Fin cfg1.N) (r : Fin 64) (i : Fin 10) :
    b2 m d t (ix2 ⟨r.val * 10 + i.val, by omega⟩ 0) = a3 m d (ix2 ⟨t.val * 64 + r.val, by have := t_lt t; omega⟩ i) := by
  have ht := t_lt t
  refine (iblk_2 (V3 m) d t ⟨r.val * 10 + i.val, by omega⟩).trans ?_
  rw [V3_p]
  pointwise
  exact congrArg (a3 m d) ((ix2_inj ..).2 ⟨Fin.ext (by show (t.val * 640 + (r.val * 10 + i.val)) / 10 = t.val * 64 + r.val; omega), rfl⟩)

/-- The places of a block's context rows. -/
theorem b3_apply (t : Fin cfg1.N) (r : Fin 64) (j : Fin 10) :
    b3 m d t (ix2 r j) = a5 m d (ix2 ⟨t.val * 64 + r.val, by have := t_lt t; omega⟩ j) :=
  (iblk_3 (V3 m) d t r j).trans (congrFun (V3_a5 m d) _)

include h2 in
/-- A block's feature granules. -/
theorem b0_apply (t : Fin cfg1.N) (r : Fin 64) (i : Fin 10) (p : ℕ) (hp : p < 4) (k : Fin 32) :
    b0 m d t (ix2 ⟨r.val * 10 + i.val, by omega⟩ ⟨32 * p + k.val, by omega⟩)
      = Spec.fAt (a0 m d) (4 * (a2 m d (ix2 ⟨t.val * 64 + r.val, by have := t_lt t; omega⟩ i)).toNat + p) k := by
  have ht := t_lt t
  refine (iblk_0 (V3 m) d t ⟨r.val * 10 + i.val, by omega⟩ ⟨32 * p + k.val, by omega⟩).trans ?_
  rw [V3_g, ← gOut_apply m d _ i p hp k (h2 _)]
  exact congrArg (gOut (W m) d) ((ix2_inj ..).2 ⟨Fin.ext (by show t.val * 640 + (r.val * 10 + i.val) = (t.val * 64 + r.val) * 10 + i.val; omega), rfl⟩)

include h4 in
/-- A block's context granules. -/
theorem b1_apply (t : Fin cfg1.N) (r : Fin 64) (j : Fin 10) (p : ℕ) (hp : p < 4) (k : Fin 32) :
    b1 m d t (ix2 r ⟨128 * j.val + 32 * p + k.val, by omega⟩)
      = Spec.cAt (a1 m d) (4 * (a4 m d (ix2 ⟨t.val * 64 + r.val, by have := t_lt t; omega⟩ j)).toNat + p) k := by
  have ht := t_lt t
  refine (iblk_1 (V3 m) d t r ⟨128 * j.val + 32 * p + k.val, by omega⟩).trans ?_
  rw [V3_h, ← hOut_apply m d _ j p hp k (h4 _)]
  pointwise
  exact congrArg (hOut (W m) d) ((ix2_inj ..).2 ⟨Fin.ext (by dsimp only; omega), Fin.ext (by dsimp only; omega)⟩)

include h2 h3 h4 h5 in
/-- One entry of one block. -/
theorem oblk_apply (t : Fin cfg1.N) (r : Fin 64) (i j : Fin 10) (c : Fin 32) :
    oblk (V3 m) d t (ix2 ⟨r.val * 10 + i.val, by omega⟩ ⟨j.val * 32 + c.val, by omega⟩)
      = spec m d ⟨t.val * 64 + r.val, by have := t_lt t; omega⟩ i j c := by
  have ht := t_lt t
  rw [oblk_eq]
  refine (outBlk_apply _ _ _ _ _ _ _ _ _ _ _ _ _ (tables m d) r i j (by rw [b2_apply]; exact h3 _) (by rw [b3_apply]; exact h5 _) c).trans ?_
  refine congrArg (fun z => Norm.row z _ _ c) (funext fun c' => ?_)
  unfold zBlk Spec.zRow Spec.num
  refine congrArg₂ (· * ·) (Finset.sum_congr rfl fun k _ => congrArg (· * _) ?_) (Finset.sum_congr rfl fun k _ => congrArg (· * _) ?_)
  · rw [b0_apply m d h2 t r i _ (by rw [b2_apply]; exact h3 _), b2_apply]
  · rw [b1_apply m d h4 t r j _ (by rw [b3_apply]; exact h5 _), b3_apply]

include h2 h3 h4 h5 in
/-- The projecting call's result. -/
theorem outArr_value : outArr (V3 m) d = outG m d := by
  refine outArr_eq (V3 m) d (outG m d) fun t r l => ?_
  have ht := t_lt t
  have e := oblk_apply m d h2 h3 h4 h5 t ⟨r.val / 10, by omega⟩ ⟨r.val % 10, by omega⟩ ⟨l.val / 32, by omega⟩ ⟨l.val % 32, by omega⟩
  rw [← outG_apply] at e
  refine Eq.trans (congrArg (oblk (V3 m) d t) ?_) (e.trans (congrArg (outG m d) ?_))
  · exact (ix2_inj ..).2 ⟨Fin.ext (by dsimp only; omega), Fin.ext (by dsimp only; omega)⟩
  · exact (ix2_inj ..).2 ⟨Fin.ext (by dsimp only; omega), Fin.ext (by dsimp only; omega)⟩

/-- The program's result, at its literal shape. -/
def res : FVec Ideal S16384x100x32 .f32 := val5 m d (Proc.devRef .tc main_v36)

include h2 h3 h4 h5 in
/-- THE VALUE: every entry of the result. -/
theorem res_apply (e : Fin 16384) (i j : Fin 10) (c : Fin 32) : res m d (ix3 e ⟨i.val * 10 + j.val, by omega⟩ c) = spec m d e i j c := by
  have hr : res m d = shapeCast S16384x100x32 (outG m d) shapeCasts_S163840x320_S16384x100x32 := by
    unfold res val5
    rw [← outArr_value m d h2 h3 h4 h5]
    after_results_simp
    rw [val4, Function.update_self]
    rfl
  rw [hr, ← outG_apply]
  pointwise
  exact congrArg (outG m d) ((ix2_inj ..).2 ⟨Fin.ext (by dsimp only; omega), Fin.ext (by dsimp only; omega)⟩)

end Cert.Proof.TailSc

end
-- ==== Proof.RowTake.lean ====
/-
  The host's gather of whole rows of a matrix by a matrix of row numbers, read at an index.
-/
module

public import Idealize.ShloMosaic.Lib.Pointwise

@[expose] public section

noncomputable section

namespace Cert.Proof.RowTake

open Idealize.ShloMosaic

variable {α : Type}

/-- The dimension numbers of `x[idx]` for `x : [N, K]` and `idx : [R, C, 1]`. -/
abbrev dims (N K R C : ℕ)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- Entry `(a, b, k)` of the gather is entry `k` of the row that the number at `(a, b)` names, clamped into the matrix. -/
theorem apply {N K R C w : ℕ} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (a : Fin R) (b : Fin C) (k : Fin K) :
    Host.gather (dims N K R C wf) x idx (ix3 a b k) = x (ix2 ⟨min (idx (ix3 a b 0)).toInt.toNat (N - 1), by omega⟩ k) := by
  show x ((dims N K R C wf).operandIdx (ix3 a b k) idx) = _
  congr 1
  funext c
  refine Fin.ext ?_
  show (dims N K R C wf).start (ix3 a b k) idx c + (dims N K R C wf).batchCoord (ix3 a b k) c + (dims N K R C wf).offCoord (ix3 a b k) c = _
  rw [GatherDims.batchCoord_eq_zero _ _ _ List.not_mem_nil, Nat.add_zero]
  match c with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 2) ∈ (dims N K R C wf).startIndexMap from List.mem_singleton.mpr rfl)]
    have hsi : (dims N K R C wf).siIdx (ix3 a b k) ⟨List.idxOf (⟨0, by decide⟩ : Fin 2) (dims N K R C wf).startIndexMap,
        List.idxOf_lt_length_iff.2 (List.mem_singleton.mpr rfl)⟩ = ix3 a b 0 := by
      funext e; refine Fin.ext ?_
      match e with
      | ⟨0, _⟩ => rfl
      | ⟨1, _⟩ => rfl
      | ⟨2, _⟩ => rfl
    rw [hsi]
    rfl
  | ⟨1, _⟩ =>
    unfold GatherDims.start
    rw [dif_neg (show ¬ (⟨1, _⟩ : Fin 2) ∈ (dims N K R C wf).startIndexMap from fun h => absurd (List.mem_singleton.mp h) (by simp)), Nat.zero_add]
    unfold GatherDims.offCoord
    rw [dif_pos ((GatherDims.mem_sKept _ _).mpr ⟨fun h => absurd (List.mem_singleton.mp h) (by simp), List.not_mem_nil⟩)]
    rfl

end Cert.Proof.RowTake

end
-- ==== Proof.TailRef.lean ====
/-
  The value of the tail reference's result: its term taken apart, and every entry what the mathematics say.
-/
module

public import proofs.«01_k».proof.Proof.Gen.TailRefIdeal.Run
public import proofs.«01_k».proof.Proof.RowTake
public import proofs.«01_k».proof.Proof.TailSpec
public import Idealize.ShloMosaic.Lib.Pointwise.Select
public import Idealize.ShloMosaic.Lib.WordCmp

@[expose] public section

set_option maxRecDepth 16384

noncomputable section

namespace Cert.Proof.TailRef

open Cert.TailRefIdeal Cert.TailRefIdeal.Gen
open Idealize.ShloMosaic Idealize.ShloMosaic.TcCoe
open Idealize.SL.Sem

/-! ## The reference's term, in parts -/

/-- The row numbers, four rows to a granule. -/
def sumIdx (g p : IVec S16384x10 32) : IVec S16384x10 32 :=
  addi (muli (broadcastInDim S16384x10 ![] bcast_S_S16384x10 (constantI S_ 32 4#32)) g) p
/-- The row numbers, a negative one counted from the end of the `n` rows. -/
def rowIdx (g p : IVec S16384x10 32) (n : BitVec 32) : IVec S16384x10x1 32 :=
  broadcastInDim S16384x10x1 ![0, 1] bcast_S16384x10_S16384x10x1_0_1
    (select (cmpi .slt (sumIdx g p) (broadcastInDim S16384x10 ![] bcast_S_S16384x10 (constantI S_ 32 0#32)))
      (addi (sumIdx g p) (broadcastInDim S16384x10 ![] bcast_S_S16384x10 (constantI S_ 32 n))) (sumIdx g p))
/-- The picked projected feature rows. -/
def rowF (A : FVec Ideal S16384x100x32 .f32) (w : FVec Ideal S32x32 .f32) (g p : IVec S16384x10 32) : FVec Ideal S16384x10x32 .f32 :=
  Host.gather gather_S1638400x32_S16384x10x1_S16384x10x32_2_0_n_n_0_2_132
    (shapeCast S1638400x32 (Host.dotGeneral dot_S16384x100x32_S32x32_S16384x100x32_2_0_01_1_n_n none A
      (transpose S32x32 [1, 0] w transposes_S32x32_S32x32_1_0)) shapeCasts_S16384x100x32_S1638400x32) (rowIdx g p 1638400#32)
/-- The picked projected context rows. -/
def rowC (B : FVec Ideal S16384x26x32 .f32) (w : FVec Ideal S32x32 .f32) (g p : IVec S16384x10 32) : FVec Ideal S16384x10x32 .f32 :=
  Host.gather gather_S425984x32_S16384x10x1_S16384x10x32_2_0_n_n_0_2_132
    (shapeCast S425984x32 (Host.dotGeneral dot_S16384x26x32_S32x32_S16384x26x32_2_0_01_1_n_n none B
      (transpose S32x32 [1, 0] w transposes_S32x32_S32x32_1_0)) shapeCasts_S16384x26x32_S425984x32) (rowIdx g p 425984#32)
/-- All products of a feature row and a context row. -/
def prods (f c : FVec Ideal S16384x10x32 .f32) : FVec Ideal S16384x10x10x32 .f32 :=
  mulf (broadcastInDim S16384x10x10x32 ![0, 1, 2, 3] bcast_S16384x10x1x32_S16384x10x10x32_0_1_2_3 (broadcastInDim S16384x10x1x32 ![0, 1, 3] bcast_S16384x10x32_S16384x10x1x32_0_1_3 f))
    (broadcastInDim S16384x10x10x32 ![0, 1, 2, 3] bcast_S16384x1x10x32_S16384x10x10x32_0_1_2_3 (broadcastInDim S16384x1x10x32 ![0, 2, 3] bcast_S16384x10x32_S16384x1x10x32_0_2_3 c))
/-- The sums along the last axis. -/
def sums (z : FVec Ideal S16384x10x10x32 .f32) : FVec Ideal S16384x10x10x1 .f32 :=
  broadcastInDim S16384x10x10x1 ![0, 1, 2] bcast_S16384x10x10_S16384x10x10x1_0_1_2
    (Host.reduceAdd z (constant S_ .f32 0x00000000#32) reducesTo_S16384x10x10x32_S16384x10x10_d3 h_S_)
/-- The entries less their mean. -/
def centred (z : FVec Ideal S16384x10x10x32 .f32) : FVec Ideal S16384x10x10x32 .f32 :=
  subf z (broadcastInDim S16384x10x10x32 ![0, 1, 2, 3] bcast_S16384x10x10x1_S16384x10x10x32_0_1_2_3
    (Host.divf (sums z) (broadcastInDim S16384x10x10x1 ![] bcast_S_S16384x10x10x1 (constant S_ .f32 0x42000000#32))))
/-- What the variance divides by. -/
def count : FVec Ideal S_ .f32 := subf (constant S_ .f32 0x42000000#32) (sitofp .f32 (constantI S_ 32 0#32))
/-- The mean of squares. -/
def variance (z : FVec Ideal S16384x10x10x32 .f32) : FVec Ideal S16384x10x10x1 .f32 :=
  select (broadcastInDim S16384x10x10x1 ![] bcast_S_S16384x10x10x1 (cmpf .ogt count (constant S_ .f32 0x00000000#32)))
    (Host.divf (sums (mulf (centred z) (centred z))) (broadcastInDim S16384x10x10x1 ![] bcast_S_S16384x10x10x1 count))
    (broadcastInDim S16384x10x10x1 ![] bcast_S_S16384x10x10x1 (constant S_ .f32 0x7FC00000#32))
/-- The normalised rows. -/
def normed (z : FVec Ideal S16384x10x10x32 .f32) (g b : FVec Ideal S32 .f32) : FVec Ideal S16384x10x10x32 .f32 :=
  addf (mulf (Host.divf (centred z) (broadcastInDim S16384x10x10x32 ![0, 1, 2, 3] bcast_S16384x10x10x1_S16384x10x10x32_0_1_2_3
      (Host.sqrt (addf (variance z) (broadcastInDim S16384x10x10x1 ![] bcast_S_S16384x10x10x1 (constant S_ .f32 0x3727C5AC#32))))))
    (broadcastInDim S16384x10x10x32 ![0, 1, 2, 3] bcast_S1x1x1x32_S16384x10x10x32_0_1_2_3 (broadcastInDim S1x1x1x32 ![3] bcast_S32_S1x1x1x32_3 g)))
    (broadcastInDim S16384x10x10x32 ![0, 1, 2, 3] bcast_S1x1x1x32_S16384x10x10x32_0_1_2_3 (broadcastInDim S1x1x1x32 ![3] bcast_S32_S1x1x1x32_3 b))

variable (m : (ℓ : Loc nD τ sig) → Buf (Elt Ideal) ℓ) (c : Dev nD)

/-- The reference's result, in its parts. -/
theorem res_eq : Value.res_main_v49 m c = shapeCast S16384x100x32
    (normed (prods
        (rowF (m ((c.tc : Thread nD τ).loc main_arg0)) (m ((c.tc : Thread nD τ).loc main_arg6)) (m ((c.tc : Thread nD τ).loc main_arg2)) (m ((c.tc : Thread nD τ).loc main_arg3)))
        (rowC (m ((c.tc : Thread nD τ).loc main_arg1)) (m ((c.tc : Thread nD τ).loc main_arg7)) (m ((c.tc : Thread nD τ).loc main_arg4)) (m ((c.tc : Thread nD τ).loc main_arg5))))
      (m ((c.tc : Thread nD τ).loc main_arg8)) (m ((c.tc : Thread nD τ).loc main_arg9))) shapeCasts_S16384x10x10x32_S16384x100x32 := by
  unfold Value.res_main_v49
  rfl

/-! ## Entry by entry -/

variable (z : FVec Ideal S16384x10x10x32 .f32)

theorem count_apply (i) : count i = Ideal.ofBits .f32 0x42000000#32 := by
  pointwise [count]
  show _ - (((0#32 : BitVec 32).toInt : ℝ) : EReal) = _
  simp

theorem sums_apply (e : Fin 16384) (i j : Fin 10) : sums z (ix4 e i j 0) = ∑ k : Fin 32, z (ix4 e i j k) := by
  pointwise [sums]

theorem centred_apply (e : Fin 16384) (i j : Fin 10) (k : Fin 32) :
    centred z (ix4 e i j k) = z (ix4 e i j k) - Ideal.div (∑ k : Fin 32, z (ix4 e i j k)) (Ideal.ofBits .f32 0x42000000#32) := by
  pointwise [centred, sums]

theorem variance_apply (e : Fin 16384) (i j : Fin 10) :
    variance z (ix4 e i j 0) = Ideal.div (∑ k : Fin 32, centred z (ix4 e i j k) * centred z (ix4 e i j k)) (Ideal.ofBits .f32 0x42000000#32) := by
  pointwise [variance, sums]
  have hc : (0 : EReal) < Ideal.ofBits .f32 0x42000000#32 := by
    rw [Norm.ofBits_32]; norm_num
  rw [count_apply, if_pos hc]

theorem normed_apply (g b : FVec Ideal S32 .f32) (e : Fin 16384) (i j : Fin 10) (k : Fin 32) :
    normed z g b (ix4 e i j k) = Norm.row (fun k => z (ix4 e i j k)) (fun k => g (ix1 k)) (fun k => b (ix1 k)) k := by
  pointwise [normed]
  rw [variance_apply]
  simp only [centred_apply]
  rfl

theorem prods_apply (f d : FVec Ideal S16384x10x32 .f32) (e : Fin 16384) (i j : Fin 10) (k : Fin 32) :
    prods f d (ix4 e i j k) = f (ix3 e i k) * d (ix3 e j k) := by
  pointwise [prods]

/-- A row number is four times the granule and the place in it. -/
theorem sumIdx_toNat (g p : IVec S16384x10 32) (x) (hg : (g x).toNat < 409600) (hp : (p x).toNat < 4) :
    (sumIdx g p x).toNat = Spec.num (g x) (p x) := by
  show (4#32 * g x + p x).toNat = _
  unfold Spec.num
  rw [BitVec.toNat_add, BitVec.toNat_mul]
  norm_num
  omega

/-- A row number in range is taken as it is. -/
theorem rowIdx_apply (g p : IVec S16384x10 32) (n : BitVec 32) (e : Fin 16384) (i : Fin 10)
    (hg : (g (ix2 e i)).toNat < 409600) (hp : (p (ix2 e i)).toNat < 4) :
    (rowIdx g p n (ix3 e i 0)).toInt.toNat = Spec.num (g (ix2 e i)) (p (ix2 e i)) := by
  have hs := sumIdx_toNat g p _ hg hp
  have hlt : Spec.num (g (ix2 e i)) (p (ix2 e i)) < 1638400 := by unfold Spec.num; omega
  have hi : (sumIdx g p (ix2 e i)).toInt = Spec.num (g (ix2 e i)) (p (ix2 e i)) := by
    rw [BitVec.toInt_eq_toNat_of_lt (by omega), hs]
  have hr : rowIdx g p n (ix3 e i 0) = sumIdx g p (ix2 e i) := by
    pointwise [rowIdx]
    have hn : IntOp.cmpi CmpIPredicate.slt (sumIdx g p (ix2 e i)) 0#32 = 0#1 := by
      show BitVec.ofBool ((sumIdx g p (ix2 e i)).slt 0#32) = 0#1
      have : (sumIdx g p (ix2 e i)).slt 0#32 = false := by
        simp only [BitVec.slt, decide_eq_false_iff_not, hi]
        simp
      rw [this]; rfl
    rw [hn]; rfl
  rw [hr, hi]; rfl

/-- A projected feature row, by its number among all rows. -/
theorem rowF_apply (A : FVec Ideal S16384x100x32 .f32) (w : FVec Ideal S32x32 .f32) (g p : IVec S16384x10 32) (e : Fin 16384) (i : Fin 10) (k : Fin 32)
    (hg : (g (ix2 e i)).toNat < 409600) (hp : (p (ix2 e i)).toNat < 4) :
    rowF A w g p (ix3 e i k) = ∑ l : Fin 32, Spec.fAt A (Spec.num (g (ix2 e i)) (p (ix2 e i))) l * w (ix2 k l) := by
  have hlt : Spec.num (g (ix2 e i)) (p (ix2 e i)) < 1638400 := by unfold Spec.num; omega
  refine (RowTake.apply (by decide) _ _ _ e i k).trans ?_
  have he : (⟨min (rowIdx g p 1638400#32 (ix3 e i 0)).toInt.toNat (1638400 - 1), by omega⟩ : Fin 1638400) = ⟨Spec.num (g (ix2 e i)) (p (ix2 e i)), hlt⟩ :=
    Fin.ext (by have := rowIdx_apply g p 1638400#32 e i hg hp; dsimp only; omega)
  rw [he]
  generalize Spec.num (g (ix2 e i)) (p (ix2 e i)) = n at hlt ⊢
  pointwise [Spec.fAt]
  refine Finset.sum_congr rfl fun x _ => congrArg (· * w (ix2 k x)) (congrArg A ((ix3_inj ..).2 ⟨Fin.ext ?_, Fin.ext ?_, rfl⟩))
  · show n / 100 = n / 100 % 16384; omega
  · rfl

/-- A projected context row, by its number among all rows. -/
theorem rowC_apply (B : FVec Ideal S16384x26x32 .f32) (w : FVec Ideal S32x32 .f32) (g p : IVec S16384x10 32) (e : Fin 16384) (i : Fin 10) (k : Fin 32)
    (hg : (g (ix2 e i)).toNat < 106496) (hp : (p (ix2 e i)).toNat < 4) :
    rowC B w g p (ix3 e i k) = ∑ l : Fin 32, Spec.cAt B (Spec.num (g (ix2 e i)) (p (ix2 e i))) l * w (ix2 k l) := by
  have hlt : Spec.num (g (ix2 e i)) (p (ix2 e i)) < 425984 := by unfold Spec.num; omega
  refine (RowTake.apply (by decide) _ _ _ e i k).trans ?_
  have he : (⟨min (rowIdx g p 425984#32 (ix3 e i 0)).toInt.toNat (425984 - 1), by omega⟩ : Fin 425984) = ⟨Spec.num (g (ix2 e i)) (p (ix2 e i)), hlt⟩ :=
    Fin.ext (by have := rowIdx_apply g p 425984#32 e i (by omega) hp; dsimp only; omega)
  rw [he]
  generalize Spec.num (g (ix2 e i)) (p (ix2 e i)) = n at hlt ⊢
  pointwise [Spec.cAt]
  refine Finset.sum_congr rfl fun x _ => congrArg (· * w (ix2 k x)) (congrArg B ((ix3_inj ..).2 ⟨Fin.ext ?_, Fin.ext ?_, rfl⟩))
  · show n / 26 = n / 26 % 16384; omega
  · rfl

/-- Every entry of the reference's result. -/
theorem res_apply (m : (ℓ : Loc nD τ sig) → Buf (Elt Ideal) ℓ) (c : Dev nD)
    (h2 : ∀ x, BitVec.toNat (m ((c.tc : Thread nD τ).loc main_arg2) x) < 409600) (h3 : ∀ x, BitVec.toNat (m ((c.tc : Thread nD τ).loc main_arg3) x) < 4)
    (h4 : ∀ x, BitVec.toNat (m ((c.tc : Thread nD τ).loc main_arg4) x) < 106496) (h5 : ∀ x, BitVec.toNat (m ((c.tc : Thread nD τ).loc main_arg5) x) < 4)
    (e : Fin 16384) (i j : Fin 10) (k : Fin 32) :
    Value.res_main_v49 m c (ix3 e ⟨i.val * 10 + j.val, by omega⟩ k)
      = Spec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) e i j k := by
  rw [res_eq]
  generalize hz : prods _ _ = z
  have hs : (shapeCast S16384x100x32 (normed z (m ((c.tc : Thread nD τ).loc main_arg8)) (m ((c.tc : Thread nD τ).loc main_arg9))) shapeCasts_S16384x10x10x32_S16384x100x32)
      (ix3 e ⟨i.val * 10 + j.val, by omega⟩ k) = normed z (m ((c.tc : Thread nD τ).loc main_arg8)) (m ((c.tc : Thread nD τ).loc main_arg9)) (ix4 e i j k) := by
    pointwise []
  refine hs.trans ?_
  rw [normed_apply]
  subst hz
  unfold Spec.out
  congr 1
  funext l
  rw [prods_apply, rowF_apply _ _ _ _ e i l (h2 _) (h3 _), rowC_apply _ _ _ _ e j l (h4 _) (h5 _)]
  rfl

end Cert.Proof.TailRef

end
-- ==== Proof.KerSc.lean ====
/-
  The gathering call of the program on the SparseCore: thirty-two tasks, each twenty rounds over its own part of the
  two index lists.
-/
module

public import proofs.«01_k».proof.Defs
public import proofs.«01_k».proof.Proof.Chunk
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

set_option maxRecDepth 16384

noncomputable section

namespace Cert.Proof.Ker

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging rounds of the second call, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-! ## The buffers -/

abbrev tLoc (d : Dev nD) : Loc nD τ sig := (SparseCore.T d).loc main_v14
abbrev uLoc (d : Dev nD) : Loc nD τ sig := (SparseCore.T d).loc main_v15
abbrev iLoc (d : Dev nD) : Loc nD τ sig := (SparseCore.T d).loc main_v16
abbrev jLoc (d : Dev nD) : Loc nD τ sig := (SparseCore.T d).loc main_v17
abbrev gLoc (d : Dev nD) : Loc nD τ sig := (SparseCore.T d).loc main_v18_0
abbrev hLoc (d : Dev nD) : Loc nD τ sig := (SparseCore.T d).loc main_v18_1

local notation "tV" => (Memref.whole main_v14_scv : Memref sig Kind.scVector Space.hbm S409600x128 EltTy.f32)
local notation "uV" => (Memref.whole main_v15_scv : Memref sig Kind.scVector Space.hbm S106496x128 EltTy.f32)
local notation "iV" => (Memref.whole main_v16_scv : Memref sig Kind.scVector Space.hbm S163840 EltTy.i32)
local notation "jV" => (Memref.whole main_v17_scv : Memref sig Kind.scVector Space.hbm S163840 EltTy.i32)
local notation "gV" => (Memref.whole main_v18_0_scv : Memref sig Kind.scVector Space.hbm S163840x128 EltTy.f32)
local notation "hV" => (Memref.whole main_v18_1_scv : Memref sig Kind.scVector Space.hbm S163840x128 EltTy.f32)
local notation "sV" => (Memref.whole cc1_scratch0 : Memref sig Kind.scVector Space.vmem S512 EltTy.i32)
local notation "rV" => (Memref.whole cc1_scratch1 : Memref sig Kind.scVector Space.vmem S512x128 EltTy.f32)

/-! ## The task as its rounds -/

abbrev semFA : Fin 10 → DmaSem sig := ![cc1_scoped0.sem, cc1_scoped2.sem, cc1_scoped4.sem, cc1_scoped6.sem, cc1_scoped8.sem, cc1_scoped10.sem, cc1_scoped12.sem, cc1_scoped14.sem, cc1_scoped16.sem, cc1_scoped18.sem]
abbrev semFB : Fin 10 → DmaSem sig := ![cc1_scoped1.sem, cc1_scoped3.sem, cc1_scoped5.sem, cc1_scoped7.sem, cc1_scoped9.sem, cc1_scoped11.sem, cc1_scoped13.sem, cc1_scoped15.sem, cc1_scoped17.sem, cc1_scoped19.sem]
abbrev semCA : Fin 10 → DmaSem sig := ![cc1_scoped20.sem, cc1_scoped22.sem, cc1_scoped24.sem, cc1_scoped26.sem, cc1_scoped28.sem, cc1_scoped30.sem, cc1_scoped32.sem, cc1_scoped34.sem, cc1_scoped36.sem, cc1_scoped38.sem]
abbrev semCB : Fin 10 → DmaSem sig := ![cc1_scoped21.sem, cc1_scoped23.sem, cc1_scoped25.sem, cc1_scoped27.sem, cc1_scoped29.sem, cc1_scoped31.sem, cc1_scoped33.sem, cc1_scoped35.sem, cc1_scoped37.sem, cc1_scoped39.sem]

section Rounds

variable [FloatOps F] [Named F] (L : grid1.Coords)

abbrev lstK (m : Memref sig .scVector .hbm S163840 .i32) (n : Fin 10) : Memref sig .scVector .hbm S512 .i32 :=
  m.slice (Rect.unit (s := S163840) (k1_off1 L (BitVec.ofNat 32 (512 * n.val))) S512.size (k1_off1_inb L n)) (fun _ => rfl)
abbrev outK (m : Memref sig .scVector .hbm S163840x128 .f32) (n : Fin 10) : Memref sig .scVector .hbm S512x128 .f32 :=
  m.slice (Rect.unit (s := S163840x128) (k1_off2 L (BitVec.ofNat 32 (512 * n.val))) S512x128.size (k1_off2_inb L n)) (fun _ => rfl)
abbrev tAllK : Memref sig .scVector .hbm S409600x128 .f32 := (tV).slice (Rect.unit (s := S409600x128) ![0, 0] S409600x128.size inb_S409600x128_S409600x128_0_0) (fun _ => rfl)
abbrev uAllK : Memref sig .scVector .hbm S106496x128 .f32 := (uV).slice (Rect.unit (s := S106496x128) ![0, 0] S106496x128.size inb_S106496x128_S106496x128_0_0) (fun _ => rfl)

/-- Round `n` over the first list. -/
def fRound (n : Fin 10) : Prog (TpuEff nD τ sig (Elt F) Λ₀ (.scVector ((L 0).castLE hcore1) ((L 1).castLE hsub1))) PUnit :=
  Chunk.round (lstK L iV n) tAllK (outK L gV n) sV rV (semFA n) cc1_scratch2.sem (semFB n) gathers_S409600x128_S512x128 rfl
    (View.wordExact_bits rfl) (View.wordExact_bits rfl) (View.wordExact_bits rfl) (Memref.isWhole_whole _).wordExact (Memref.isWhole_whole _).wordExact rfl (by decide)
/-- Round `n` over the second list. -/
def cRound (n : Fin 10) : Prog (TpuEff nD τ sig (Elt F) Λ₀ (.scVector ((L 0).castLE hcore1) ((L 1).castLE hsub1))) PUnit :=
  Chunk.round (lstK L jV n) uAllK (outK L hV n) sV rV (semCA n) cc1_scratch2.sem (semCB n) gathers_S106496x128_S512x128 rfl
    (View.wordExact_bits rfl) (View.wordExact_bits rfl) (View.wordExact_bits rfl) (Memref.isWhole_whole _).wordExact (Memref.isWhole_whole _).wordExact rfl (by decide)

set_option maxHeartbeats 4000000 in
/-- The task's text is its twenty rounds, one after the other. -/
theorem body_eq :
    cc1_sc_gather (F := F) L tV (Memref.isWhole_whole _) uV (Memref.isWhole_whole _) iV (Memref.isWhole_whole _) jV (Memref.isWhole_whole _)
        gV (Memref.isWhole_whole _) hV (Memref.isWhole_whole _) sV (Memref.isWhole_whole _) rV (Memref.isWhole_whole _) cc1_scratch2
        cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39
      = Pipeline.chain ((List.finRange 10).map (fRound L) ++ (List.finRange 10).map (cRound L)) := by
  rfl

end Rounds

end Cert.Proof.Ker

end
-- ==== Proof.KerTile.lean ====
/-
  One task of the gathering call run: what it takes, what it leaves, its twenty rounds by an invariant.
-/
module

public import proofs.«01_k».proof.Proof.KerSc
public import proofs.«01_k».proof.Proof.Gathered

@[expose] public section

set_option maxRecDepth 16384

noncomputable section

namespace Cert.Proof.Ker

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole main_v14_scv : Memref sig Kind.scVector Space.hbm S409600x128 EltTy.f32)
local notation "uV" => (Memref.whole main_v15_scv : Memref sig Kind.scVector Space.hbm S106496x128 EltTy.f32)
local notation "iV" => (Memref.whole main_v16_scv : Memref sig Kind.scVector Space.hbm S163840 EltTy.i32)
local notation "jV" => (Memref.whole main_v17_scv : Memref sig Kind.scVector Space.hbm S163840 EltTy.i32)
local notation "gV" => (Memref.whole main_v18_0_scv : Memref sig Kind.scVector Space.hbm S163840x128 EltTy.f32)
local notation "hV" => (Memref.whole main_v18_1_scv : Memref sig Kind.scVector Space.hbm S163840x128 EltTy.f32)
local notation "sV" => (Memref.whole cc1_scratch0 : Memref sig Kind.scVector Space.vmem S512 EltTy.i32)
local notation "rV" => (Memref.whole cc1_scratch1 : Memref sig Kind.scVector Space.vmem S512x128 EltTy.f32)

/-! ## The blocks of rows -/

/-- The rows of task `w`: five thousand one hundred and twenty, one after the other. -/
def blk (w : Fin 32) : Finset S163840x128.Idx := Finset.univ.filter fun x => (x 0).val / 5120 = w.val

theorem mem_blk' {w : Fin 32} {x : S163840x128.Idx} : x ∈ blk w ↔ (x 0).val / 5120 = w.val := by simp [blk]

abbrev cI (L : grid1.Coords) : Fin τ.nSC := (L 0).castLE hcore1
abbrev jI (L : grid1.Coords) : Fin τ.nSub := (L 1).castLE hsub1
/-- The number of the task at core `L 0`, tile `L 1`. -/
def wid (L : grid1.Coords) : Fin 32 := ⟨2 * (L 1).val + (L 0).val, by
  have h0 : (L 0).val < 2 := (L 0).isLt
  have h1 : (L 1).val < 16 := (L 1).isLt
  omega⟩

/-! ## What the two halves of the task leave -/

section Vals

variable (W : (ℓ : Loc nD τ sig) → Buf (Elt F) ℓ)

/-- The first table's rows that the first list names. -/
def gOut (d : Dev nD) : S163840x128.Idx → Elt F .f32 := Chunk.rowGather (N := 409600) (M := 163840) (C := 128) (W (tLoc d)) (W (iLoc d))
/-- The second table's rows that the second list names. -/
def hOut (d : Dev nD) : S163840x128.Idx → Elt F .f32 := Chunk.rowGather (N := 106496) (M := 163840) (C := 128) (W (uLoc d)) (W (jLoc d))

/-- What the call asks of the lists: each names rows of its table. -/
def PreOK : Prop := ∀ d : Dev nD, (∀ x : S163840.Idx, BitVec.toNat (W (iLoc d) x) < 409600) ∧ (∀ x : S163840.Idx, BitVec.toNat (W (jLoc d) x) < 106496)

variable (L : grid1.Coords)

/-- Element `k` of round `n`'s piece of a list. -/
theorem list_at (n : Fin 10) (y : S512.Idx) (h : 5120 * (wid L).val + 512 * n.val + (y 0).val < 163840) :
    (Rect.unit (s := S163840) (k1_off1 L (BitVec.ofNat 32 (512 * n.val))) S512.size (k1_off1_inb L n)).emb y
      = ix1 ⟨5120 * (wid L).val + 512 * n.val + (y 0).val, h⟩ := by
  funext a; apply Fin.ext
  match a with
  | ⟨0, _⟩ =>
    rw [Rect.emb_apply]
    show k1_off1 L (BitVec.ofNat 32 (512 * n.val)) 0 + 1 * (y 0).val = _
    rw [k1_off1_eq]
    show 10240 * (L 1).val + 5120 * (L 0).val + 512 * n.val + 1 * (y 0).val = 5120 * (2 * (L 1).val + (L 0).val) + 512 * n.val + (y 0).val
    omega

/-- Element `y` of round `n`'s block of an output. -/
theorem out_at (n : Fin 10) (y : S512x128.Idx) (h : 5120 * (wid L).val + 512 * n.val + (y 0).val < 163840) :
    (Rect.unit (s := S163840x128) (k1_off2 L (BitVec.ofNat 32 (512 * n.val))) S512x128.size (k1_off2_inb L n)).emb y
      = ix2 ⟨5120 * (wid L).val + 512 * n.val + (y 0).val, h⟩ (y 1) := by
  funext a; apply Fin.ext
  match a with
  | ⟨0, _⟩ =>
    rw [Rect.emb_apply]
    show k1_off2 L (BitVec.ofNat 32 (512 * n.val)) 0 + 1 * (y 0).val = _
    rw [k1_off2_eq]
    show 10240 * (L 1).val + 5120 * (L 0).val + 512 * n.val + 1 * (y 0).val = 5120 * (2 * (L 1).val + (L 0).val) + 512 * n.val + (y 0).val
    omega
  | ⟨1, _⟩ =>
    rw [Rect.emb_apply]
    show k1_off2 L (BitVec.ofNat 32 (512 * n.val)) 1 + 1 * (y 1).val = (y 1).val
    rw [k1_off2_eq]
    show 0 + 1 * (y 1).val = (y 1).val
    omega

theorem row_lt (n : Fin 10) (y : S512x128.Idx) : 5120 * (wid L).val + 512 * n.val + (y 0).val < 163840 := by
  have := (wid L).isLt; have := n.isLt; have : (y 0).val < 512 := (y 0).isLt; omega

theorem row_lt' (n : Fin 10) (y : S512.Idx) : 5120 * (wid L).val + 512 * n.val + (y 0).val < 163840 := by
  have := (wid L).isLt; have := n.isLt; have : (y 0).val < 512 := (y 0).isLt; omega

/-- An index in the rows of round `n` is one of the block's. -/
theorem exists_out (n : Fin 10) (x : S163840x128.Idx) (h1 : 5120 * (wid L).val + 512 * n.val ≤ (x 0).val)
    (h2 : (x 0).val < 5120 * (wid L).val + 512 * (n.val + 1)) :
    ∃ y : S512x128.Idx, (Rect.unit (s := S163840x128) (k1_off2 L (BitVec.ofNat 32 (512 * n.val))) S512x128.size (k1_off2_inb L n)).emb y = x := by
  refine ⟨ix2 ⟨(x 0).val - (5120 * (wid L).val + 512 * n.val), by omega⟩ (x 1), ?_⟩
  rw [out_at L n _ (row_lt L n _)]
  funext a; apply Fin.ext
  match a with
  | ⟨0, _⟩ => show 5120 * (wid L).val + 512 * n.val + ((x 0).val - (5120 * (wid L).val + 512 * n.val)) = (x 0).val; omega
  | ⟨1, _⟩ => rfl

/-- A round's block is inside the task's rows. -/
theorem out_sub_g (n : Fin 10) : (outK L gV n).view.set ⊆ blk (wid L) := by
  intro x hx
  obtain ⟨y, -, rfl⟩ := Finset.mem_map.mp hx
  rw [mem_blk']
  show (((Rect.unit (s := S163840x128) (k1_off2 L (BitVec.ofNat 32 (512 * n.val))) S512x128.size (k1_off2_inb L n)).emb y) 0).val / 5120 = _
  rw [out_at L n y (row_lt L n y)]
  show (5120 * (wid L).val + 512 * n.val + (y 0).val) / 5120 = _
  have := n.isLt; have : (y 0).val < 512 := (y 0).isLt; omega

theorem out_sub_h (n : Fin 10) : (outK L hV n).view.set ⊆ blk (wid L) := out_sub_g L n

/-- Contents hold the target on the task's first `k` rows. -/
def Upto (k : ℕ) (G fo : S163840x128.Idx → Elt F .f32) : Prop := ∀ x ∈ blk (wid L), (x 0).val < 5120 * (wid L).val + k → fo x = G x

theorem upto_zero (G fo : S163840x128.Idx → Elt F .f32) : Upto L 0 G fo := fun x hx h => by
  rw [mem_blk'] at hx; omega

theorem upto_full (G fo : S163840x128.Idx → Elt F .f32) (h : Upto L 5120 G fo) : ∀ x ∈ blk (wid L), fo x = G x := fun x hx => by
  refine h x hx ?_
  rw [mem_blk'] at hx; omega

/-- A round's write carries the target's rows on. -/
theorem upto_write_g (n : Fin 10) (G fo : S163840x128.Idx → Elt F .f32) (pay : S512x128.Idx → Elt F .f32)
    (hpay : ∀ y, pay y = G (ix2 ⟨5120 * (wid L).val + 512 * n.val + (y 0).val, row_lt L n y⟩ (y 1)))
    (h : Upto L (512 * n.val) G fo) : Upto L (512 * (n.val + 1)) G ((outK L gV n).view.write (Elt F) fo pay Finset.univ) := by
  intro x hx hlt
  by_cases hlo : 5120 * (wid L).val + 512 * n.val ≤ (x 0).val
  · obtain ⟨y, rfl⟩ := exists_out L n x hlo hlt
    refine (View.write_emb_of_mem (v := (outK L gV n).view) (Val := Elt F) fo pay (Finset.mem_univ y)).trans ?_
    refine (cast_eq _ _).trans ?_
    exact (hpay y).trans (congrArg G (out_at L n y (row_lt L n y)).symm)
  · refine (View.write_of_not_mem (v := (outK L gV n).view) (Val := Elt F) fo pay Finset.univ (i := x) ?_).trans (h x hx (by omega))
    intro hmem
    obtain ⟨y, -, rfl⟩ := Finset.mem_map.mp hmem
    apply hlo
    show _ ≤ (((Rect.unit (s := S163840x128) (k1_off2 L (BitVec.ofNat 32 (512 * n.val))) S512x128.size (k1_off2_inb L n)).emb y) 0).val
    rw [out_at L n y (row_lt L n y)]
    exact Nat.le_add_right _ _

theorem upto_write_h (n : Fin 10) (G fo : S163840x128.Idx → Elt F .f32) (pay : S512x128.Idx → Elt F .f32)
    (hpay : ∀ y, pay y = G (ix2 ⟨5120 * (wid L).val + 512 * n.val + (y 0).val, row_lt L n y⟩ (y 1)))
    (h : Upto L (512 * n.val) G fo) : Upto L (512 * (n.val + 1)) G ((outK L hV n).view.write (Elt F) fo pay Finset.univ) :=
  upto_write_g L n G fo pay hpay h

end Vals

/-! ## The invariant of the rounds -/

section Tile

variable [FloatOps F] [Named F] (W : (ℓ : Loc nD τ sig) → Buf (Elt F) ℓ) (d : Dev nD) (L : grid1.Coords)

/-- Task `w`'s share of a buffer that every task reads. -/
abbrev shr (w : Fin 32) : PosShare TreeShare := pieceOf fullShare 32 (by decide) w

abbrev tSh (w : Fin 32) : sProp 𝕄 := tLoc d ↦{shr w} W (tLoc d)
abbrev uSh (w : Fin 32) : sProp 𝕄 := uLoc d ↦{shr w} W (uLoc d)
abbrev iSh (w : Fin 32) : sProp 𝕄 := iLoc d ↦{shr w} W (iLoc d)
abbrev jSh (w : Fin 32) : sProp 𝕄 := jLoc d ↦{shr w} W (jLoc d)
abbrev gBlk (w : Fin 32) (f : Buf (Elt F) (gLoc d)) : sProp 𝕄 := gLoc d ↦[blk w]{fullShare} f
abbrev hBlk (w : Fin 32) (f : Buf (Elt F) (hLoc d)) : sProp 𝕄 := hLoc d ↦[blk w]{fullShare} f

abbrev cellV (s : DmaSem sig) : GSem nD τ sig := (V d (cI L) (jI L), .dma s)

omit [FloatOps F] [Named F] in
/-- Three of a subcore's own counters, taken from the rest. -/
theorem ownSems0_three (a b c : DmaSem sig) (hab : a ≠ b) (hac : a ≠ c) (hbc : b ≠ c)
    (ha : (SemLoc.dma a : SemLoc sig).isScoped .scVector = true) (hb : (SemLoc.dma b : SemLoc sig).isScoped .scVector = true)
    (hc : (SemLoc.dma c : SemLoc sig).isScoped .scVector = true) :
    (ownSems0 (V d (cI L) (jI L)) : sProp 𝕄)
      = iprop(semVal (cellV d L a) 0 ∗ semVal (cellV d L b) 0 ∗ semVal (cellV d L c) 0
          ∗ bigSep ((((ownCells (V d (cI L) (jI L))).erase (cellV d L a)).erase (cellV d L b)).erase (cellV d L c)) fun g => semVal g 0) := by
  have ne : ∀ {x y : DmaSem sig}, x ≠ y → cellV d L y ≠ cellV d L x := fun h e => h (SemLoc.dma.inj (congrArg Prod.snd e)).symm
  unfold SparseCore.Cfg.ownSems0
  rw [SparseCore.bigSep_erase' ((mem_ownCells (g := cellV d L a)).mpr ⟨rfl, ha⟩),
    SparseCore.bigSep_erase' (Finset.mem_erase.mpr ⟨ne hab, (mem_ownCells (g := cellV d L b)).mpr ⟨rfl, hb⟩⟩),
    SparseCore.bigSep_erase' (Finset.mem_erase.mpr ⟨ne hbc, Finset.mem_erase.mpr ⟨ne hac, (mem_ownCells (g := cellV d L c)).mpr ⟨rfl, hc⟩⟩⟩)]

omit [FloatOps F] [Named F] in
/-- The two scratch buffers, taken from the rest of a subcore's own. -/
theorem ownBufs_two :
    (ownBufs (V d (cI L) (jI L)) : sProp 𝕄)
      = iprop((∃ f, (V d (cI L) (jI L)).loc cc1_scratch0 ↦{fullShare} f) ∗ (∃ f, (V d (cI L) (jI L)).loc cc1_scratch1 ↦{fullShare} f)
          ∗ bigSep (((ownRefs (τ := τ) (.scVector (cI L) (jI L))).erase ((Proc.scVector (cI L) (jI L)).devRef cc1_scratch0)).erase
              ((Proc.scVector (cI L) (jI L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cI L) (jI L))
    (b := (Proc.scVector (cI L) (jI L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cI L) (jI L)) (b := (Proc.scVector (cI L) (jI L)).devRef cc1_scratch1) rfl⟩)]

/-- What every round passes on: the scratch buffers, the counters at zero, the waits paid. -/
abbrev passed (O : CellTallies nD τ sig (HIx 1)) (Ws : Waits sig (HIx 1)) : sProp 𝕄 :=
  iprop((∃ f, (V d (cI L) (jI L)).loc cc1_scratch0 ↦{fullShare} f) ∗ (∃ f, (V d (cI L) (jI L)).loc cc1_scratch1 ↦{fullShare} f)
    ∗ ownSems0 (V d (cI L) (jI L)) ∗ ∃ W', ⌜∀ p ∈ W', p ∈ Ws ∨ p.2 = none⌝ ∗ owes (V d (cI L) (jI L)) O W')

/-- Before round `n` over the first list. -/
def fInv (O : CellTallies nD τ sig (HIx 1)) (Ws : Waits sig (HIx 1)) (n : ℕ) : sProp 𝕄 :=
  iprop(Transfers.MayWaits (V d (cI L) (jI L)) (default : HIx 1) O ∗ iSh W d (wid L) ∗ tSh W d (wid L)
    ∗ (∃ fo, ⌜Upto L (512 * n) (gOut W d) fo⌝ ∗ gBlk d (wid L) fo) ∗ passed d L O Ws)
/-- Before round `n` over the second list. -/
def cInv (O : CellTallies nD τ sig (HIx 1)) (Ws : Waits sig (HIx 1)) (n : ℕ) : sProp 𝕄 :=
  iprop(Transfers.MayWaits (V d (cI L) (jI L)) (default : HIx 1) O ∗ jSh W d (wid L) ∗ uSh W d (wid L)
    ∗ (∃ fo, ⌜Upto L (512 * n) (hOut W d) fo⌝ ∗ hBlk d (wid L) fo) ∗ passed d L O Ws)

omit [FloatOps F] [Named F] in
theorem semF_ne (n : Fin 10) : semFA n ≠ cc1_scratch2.sem ∧ semFA n ≠ semFB n ∧ cc1_scratch2.sem ≠ semFB n := by
  revert n; decide
omit [FloatOps F] [Named F] in
theorem semC_ne (n : Fin 10) : semCA n ≠ cc1_scratch2.sem ∧ semCA n ≠ semCB n ∧ cc1_scratch2.sem ≠ semCB n := by
  revert n; decide
omit [FloatOps F] [Named F] in
theorem sem_scoped (n : Fin 10) : (SemLoc.dma (semFA n) : SemLoc sig).isScoped .scVector = true ∧ (SemLoc.dma (semFB n) : SemLoc sig).isScoped .scVector = true
    ∧ (SemLoc.dma (semCA n) : SemLoc sig).isScoped .scVector = true ∧ (SemLoc.dma (semCB n) : SemLoc sig).isScoped .scVector = true
    ∧ (SemLoc.dma cc1_scratch2.sem : SemLoc sig).isScoped .scVector = true := by
  revert n; decide

omit [FloatOps F] [Named F] in
/-- The credits of a stream's rows add up to its block's. -/
theorem rows_credit {N : ℕ} (hg : (⟨2, ![N, 128]⟩ : Shape).Gathers 0 S512x128) :
    ∑ k, ((rV).slice (S512x128.rowRect hg.axis' k) (S512x128.stride_rowRect hg.axis' k)).view.dmaCredit = (rV).view.dmaCredit := by
  have h : ∀ k, ((rV).slice (S512x128.rowRect hg.axis' k) (S512x128.stride_rowRect hg.axis' k)).view.dmaCredit
      = sig.dmaCredit .scVector (Kind.table .scVector .vmem) cc1_scratch1.idx (S512x128.rowShape (0 : Fin 2)) .f32 := fun k => rfl
  rw [Finset.sum_congr rfl fun k _ => h k, Finset.sum_const, Finset.card_univ, Fintype.card_fin]
  show 512 * _ = _
  decide +kernel

omit [FloatOps F] [Named F] in
/-- A piece of the first list, read. -/
theorem read_i (n : Fin 10) (f : S163840.Idx → Elt F .i32) (y : S512.Idx) :
    (lstK L iV n).view.read (Elt F) f y = f (ix1 ⟨5120 * (wid L).val + 512 * n.val + (y 0).val, row_lt' L n y⟩) :=
  (View.read_apply _ _).trans ((cast_eq _ _).trans (congrArg f (list_at L n y (row_lt' L n y))))
omit [FloatOps F] [Named F] in
theorem read_j (n : Fin 10) (f : S163840.Idx → Elt F .i32) (y : S512.Idx) :
    (lstK L jV n).view.read (Elt F) f y = f (ix1 ⟨5120 * (wid L).val + 512 * n.val + (y 0).val, row_lt' L n y⟩) :=
  (View.read_apply _ _).trans ((cast_eq _ _).trans (congrArg f (list_at L n y (row_lt' L n y))))
omit [FloatOps F] [Named F] in
/-- All of a table, read. -/
theorem read_t (f : S409600x128.Idx → Elt F .f32) : (tAllK).view.read (Elt F) f = f := by
  funext y
  refine (View.read_apply _ _).trans ((cast_eq _ _).trans (congrArg f ?_))
  funext a; apply Fin.ext
  show (![0, 0] : Fin 2 → ℕ) a + 1 * (y a).val = (y a).val
  match a with
  | ⟨0, _⟩ => show 0 + 1 * (y 0).val = (y 0).val; omega
  | ⟨1, _⟩ => show 0 + 1 * (y 1).val = (y 1).val; omega
omit [FloatOps F] [Named F] in
theorem read_u (f : S106496x128.Idx → Elt F .f32) : (uAllK).view.read (Elt F) f = f := by
  funext y
  refine (View.read_apply _ _).trans ((cast_eq _ _).trans (congrArg f ?_))
  funext a; apply Fin.ext
  show (![0, 0] : Fin 2 → ℕ) a + 1 * (y a).val = (y a).val
  match a with
  | ⟨0, _⟩ => show 0 + 1 * (y 0).val = (y 0).val; omega
  | ⟨1, _⟩ => show 0 + 1 * (y 1).val = (y 1).val; omega

/-- One round over the first list keeps the invariant. -/
theorem fRound_step (hpre : PreOK W) (O : CellTallies nD τ sig (HIx 1)) (Ws : Waits sig (HIx 1)) (n : Fin 10) :
    fInv W d L O Ws n.val ⊢ wp frame (wpE (defs₀ (F := F)) 𝒱₀ (V d (cI L) (jI L)) none) Set.univ (fRound (F := F) L n) fun _ => fInv W d L O Ws (n.val + 1) := by
  unfold fInv passed fRound
  rw [ownSems0_three (F := F) d L (semFA n) cc1_scratch2.sem (semFB n) (semF_ne n).1 (semF_ne n).2.1 (semF_ne n).2.2
    (sem_scoped n).1 (sem_scoped n).2.2.2.2 (sem_scoped n).2.1]
  iintro ⟨#Hmw, Hi, Ht, ⟨%fo, %hfo, Hg⟩, ⟨%f8, H8⟩, ⟨%f9, H9⟩, ⟨Ha, Hb, Hc, Hrest⟩, %W', %hW', HO⟩
  iapply (Chunk.wp_round 𝒱₀ countersEmb none (lstK L iV n) tAllK (outK L gV n) sV rV (semFA n) cc1_scratch2.sem (semFB n)
    gathers_S409600x128_S512x128 rfl _ _ _ _ _ rfl _ (Memref.isWhole_whole _).set_eq_univ (Memref.isWhole_whole _).set_eq_univ
    (default : HIx 1) (rows_credit _) (by decide +kernel) (View.dmaCredit_pos _ (by decide +kernel)) (View.dmaCredit_pos _ (by decide +kernel)) (out_sub_g L n)
    (fl := W (iLoc d)) (ft := W (tLoc d)) (ql := shr (wid L)) (qt := shr (wid L)) (f8 := f8) (f9 := f9) (fo := fo) (O := O) (W := W')
    (fun x => (congrArg BitVec.toNat (read_i L n (W (iLoc d)) x)).trans_lt ((hpre d).1 _)))
  isplitr; · iexact Hmw
  isplitl [Hi]; · iexact Hi
  isplitl [Ht]; · iexact Ht
  isplitl [H8]; · iexact H8
  isplitl [H9]; · iexact H9
  isplitl [Hg]; · iexact Hg
  isplitl [Ha]; · iexact Ha
  isplitl [Hb]; · iexact Hb
  isplitl [Hc]; · iexact Hc
  isplitl [HO]; · iexact HO
  iintro ⟨Hi, Ht, H8, H9, Hg, Ha, Hb, Hc, %W'', %hW'', HO⟩
  isplitr; · iexact Hmw
  isplitl [Hi]; · iexact Hi
  isplitl [Ht]; · iexact Ht
  isplitl [Hg]
  · iexists _
    isplitr; swap
    · iexact Hg
    · ipureintro
      refine upto_write_g L n (gOut W d) fo _ (fun y => ?_) hfo
      refine (Chunk.gather_value (N := 409600) (C := 128) (R := 512) _ _ _ _ _ y).trans ?_
      unfold gOut Chunk.rowGather
      rw [read_t, read_i]
      rfl
  isplitl [H8]; · iexact H8
  isplitl [H9]; · iexact H9
  isplitl [Ha Hb Hc Hrest]
  · isplitl [Ha]; · iexact Ha
    isplitl [Hb]; · iexact Hb
    isplitl [Hc]; · iexact Hc
    iexact Hrest
  iexists W''
  isplitr; swap
  · iexact HO
  · ipureintro; intro p hp
    rcases hW'' p hp with h | h
    · exact hW' p h
    · exact .inr h

/-- One round over the second list keeps the invariant. -/
theorem cRound_step (hpre : PreOK W) (O : CellTallies nD τ sig (HIx 1)) (Ws : Waits sig (HIx 1)) (n : Fin 10) :
    cInv W d L O Ws n.val ⊢ wp frame (wpE (defs₀ (F := F)) 𝒱₀ (V d (cI L) (jI L)) none) Set.univ (cRound (F := F) L n) fun _ => cInv W d L O Ws (n.val + 1) := by
  unfold cInv passed cRound
  rw [ownSems0_three (F := F) d L (semCA n) cc1_scratch2.sem (semCB n) (semC_ne n).1 (semC_ne n).2.1 (semC_ne n).2.2
    (sem_scoped n).2.2.1 (sem_scoped n).2.2.2.2 (sem_scoped n).2.2.2.1]
  iintro ⟨#Hmw, Hi, Ht, ⟨%fo, %hfo, Hg⟩, ⟨%f8, H8⟩, ⟨%f9, H9⟩, ⟨Ha, Hb, Hc, Hrest⟩, %W', %hW', HO⟩
  iapply (Chunk.wp_round 𝒱₀ countersEmb none (lstK L jV n) uAllK (outK L hV n) sV rV (semCA n) cc1_scratch2.sem (semCB n)
    gathers_S106496x128_S512x128 rfl _ _ _ _ _ rfl _ (Memref.isWhole_whole _).set_eq_univ (Memref.isWhole_whole _).set_eq_univ
    (default : HIx 1) (rows_credit _) (by decide +kernel) (View.dmaCredit_pos _ (by decide +kernel)) (View.dmaCredit_pos _ (by decide +kernel)) (out_sub_h L n)
    (fl := W (jLoc d)) (ft := W (uLoc d)) (ql := shr (wid L)) (qt := shr (wid L)) (f8 := f8) (f9 := f9) (fo := fo) (O := O) (W := W')
    (fun x => (congrArg BitVec.toNat (read_j L n (W (jLoc d)) x)).trans_lt ((hpre d).2 _)))
  isplitr; · iexact Hmw
  isplitl [Hi]; · iexact Hi
  isplitl [Ht]; · iexact Ht
  isplitl [H8]; · iexact H8
  isplitl [H9]; · iexact H9
  isplitl [Hg]; · iexact Hg
  isplitl [Ha]; · iexact Ha
  isplitl [Hb]; · iexact Hb
  isplitl [Hc]; · iexact Hc
  isplitl [HO]; · iexact HO
  iintro ⟨Hi, Ht, H8, H9, Hg, Ha, Hb, Hc, %W'', %hW'', HO⟩
  isplitr; · iexact Hmw
  isplitl [Hi]; · iexact Hi
  isplitl [Ht]; · iexact Ht
  isplitl [Hg]
  · iexists _
    isplitr; swap
    · iexact Hg
    · ipureintro
      refine upto_write_h L n (hOut W d) fo _ (fun y => ?_) hfo
      refine (Chunk.gather_value (N := 106496) (C := 128) (R := 512) _ _ _ _ _ y).trans ?_
      unfold hOut Chunk.rowGather
      rw [read_u, read_j]
      rfl
  isplitl [H8]; · iexact H8
  isplitl [H9]; · iexact H9
  isplitl [Ha Hb Hc Hrest]
  · isplitl [Ha]; · iexact Ha
    isplitl [Hb]; · iexact Hb
    isplitl [Hc]; · iexact Hc
    iexact Hrest
  iexists W''
  isplitr; swap
  · iexact HO
  · ipureintro; intro p hp
    rcases hW'' p hp with h | h
    · exact hW' p h
    · exact .inr h

end Tile

end Cert.Proof.Ker

end
-- ==== Proof.KerCall.lean ====
/-
  The gathering call as the launch sees it: the task whole, what the handshakes carry, the call's buffers split over the
  thirty-two tasks and joined again.
-/
module

public import proofs.«01_k».proof.Proof.KerTile

@[expose] public section

set_option maxRecDepth 16384

noncomputable section

namespace Cert.Proof.Ker

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole main_v14_scv : Memref sig Kind.scVector Space.hbm S409600x128 EltTy.f32)
local notation "uV" => (Memref.whole main_v15_scv : Memref sig Kind.scVector Space.hbm S106496x128 EltTy.f32)
local notation "iV" => (Memref.whole main_v16_scv : Memref sig Kind.scVector Space.hbm S163840 EltTy.i32)
local notation "jV" => (Memref.whole main_v17_scv : Memref sig Kind.scVector Space.hbm S163840 EltTy.i32)
local notation "gV" => (Memref.whole main_v18_0_scv : Memref sig Kind.scVector Space.hbm S163840x128 EltTy.f32)
local notation "hV" => (Memref.whole main_v18_1_scv : Memref sig Kind.scVector Space.hbm S163840x128 EltTy.f32)
local notation "sV" => (Memref.whole cc1_scratch0 : Memref sig Kind.scVector Space.vmem S512 EltTy.i32)
local notation "rV" => (Memref.whole cc1_scratch1 : Memref sig Kind.scVector Space.vmem S512x128 EltTy.f32)

section Tile

variable [FloatOps F] [Named F] (W : (ℓ : Loc nD τ sig) → Buf (Elt F) ℓ)

/-- What task `w` takes. -/
abbrev taken (d : Dev nD) (w : Fin 32) : sProp 𝕄 :=
  iprop(tSh W d w ∗ uSh W d w ∗ iSh W d w ∗ jSh W d w ∗ gBlk d w (W (gLoc d)) ∗ hBlk d w (W (hLoc d)))
/-- What task `w` brings back. -/
abbrev brought (d : Dev nD) (w : Fin 32) : sProp 𝕄 :=
  iprop(tSh W d w ∗ uSh W d w ∗ iSh W d w ∗ jSh W d w ∗ gBlk d w (gOut W d) ∗ hBlk d w (hOut W d))

/-- The task at `(L 0, L 1)`: twenty rounds from what it takes to what it brings back. -/
theorem tile_body (d : Dev nD) (L : grid1.Coords) (hF : (K (F := F)).Facts) (hpre : PreOK W) (O : CellTallies nD τ sig (HIx 1)) (Ws : Waits sig (HIx 1)) (hO : ∀ g, O g none = 0) :
    iprop(levAts (K (F := F)).L (K (F := F)).lev ∗ emp ∗ taken W d (wid L)
        ∗ scopedBufs (V d (cI L) (jI L)) ∗ scopedSems0 (V d (cI L) (jI L)) ∗ owes (V d (cI L) (jI L)) O Ws)
      ⊢ wp frame (wpE (defs₀ (F := F)) 𝒱₀ (V d (cI L) (jI L)) none) Set.univ
          (Pipeline.chain ((List.finRange 10).map (fRound L) ++ (List.finRange 10).map (cRound L)))
          fun _ => iprop(brought W d (wid L)
            ∗ scopedBufs (V d (cI L) (jI L)) ∗ scopedSems0 (V d (cI L) (jI L))
            ∗ ∃ W', ⌜∀ p ∈ W', p ∈ Ws ∨ p.2 = none⌝ ∗ owes (V d (cI L) (jI L)) O W') := by
  rw [(K (F := F)).scopedBufs_V hF d (cI L) (jI L), SparseCore.Cfg.scopedSems0_V (Val := Elt F) d (cI L) (jI L), ownBufs_two,
    Chunk.chain_append, wp_bind]
  iintro ⟨#Hlv, -, ⟨Ht, Hu, Hi, Hj, Hg, Hh⟩, ⟨H8, H9, Hbufs⟩, Hsems, HO⟩
  ihave #Hmw := (show levAts (K (F := F)).L (K (F := F)).lev ⊢ Transfers.MayWaits (V d (cI L) (jI L)) (default : HIx 1) O from
    (K (F := F)).mayWaits_none (thr := V d (cI L) (jI L)) hO) $$ Hlv
  ihave Hw := (Chunk.wp_chain_inv (defs := defs₀ (F := F)) 𝒱₀ (V d (cI L) (jI L)) none 10 (fRound (F := F) L) (fInv W d L O Ws)
    (fun n => fRound_step W d L hpre O Ws n)) $$ [Hi Ht Hg H8 H9 Hsems HO]
  · unfold fInv passed
    isplitr; · iexact Hmw
    isplitl [Hi]; · iexact Hi
    isplitl [Ht]; · iexact Ht
    isplitl [Hg]
    · iexists _; isplitr; swap
      · iexact Hg
      · ipureintro; exact upto_zero L _ _
    isplitl [H8]; · iexact H8
    isplitl [H9]; · iexact H9
    isplitl [Hsems]; · iexact Hsems
    iexists Ws; isplitr; swap
    · iexact HO
    · ipureintro; exact fun p hp => .inl hp
  iapply wp_wand $$ [Hw]
  · iexact Hw
  iintro %_ Hf
  ihave Hf := (show fInv W d L O Ws 10 ⊢ iprop(Transfers.MayWaits (V d (cI L) (jI L)) (default : HIx 1) O ∗ iSh W d (wid L) ∗ tSh W d (wid L)
    ∗ (∃ fo, ⌜Upto L (512 * 10) (gOut W d) fo⌝ ∗ gBlk d (wid L) fo) ∗ passed d L O Ws) from Entails.of_eq rfl) $$ Hf
  icases Hf with ⟨-, Hi, Ht, ⟨%fo, %hfo, Hg⟩, Hp⟩
  ihave Hg := (Entails.of_eq (pointsTo_congr (upto_full L _ _ hfo))) $$ Hg
  ihave Hw := (Chunk.wp_chain_inv (defs := defs₀ (F := F)) 𝒱₀ (V d (cI L) (jI L)) none 10 (cRound (F := F) L) (cInv W d L O Ws)
    (fun n => cRound_step W d L hpre O Ws n)) $$ [Hj Hu Hh Hp]
  · unfold cInv
    isplitr; · iexact Hmw
    isplitl [Hj]; · iexact Hj
    isplitl [Hu]; · iexact Hu
    isplitl [Hh]
    · iexists _; isplitr; swap
      · iexact Hh
      · ipureintro; exact upto_zero L _ _
    iexact Hp
  iapply wp_wand $$ [Hw]
  · iexact Hw
  iintro %_ Hf
  ihave Hf := (show cInv W d L O Ws 10 ⊢ iprop(Transfers.MayWaits (V d (cI L) (jI L)) (default : HIx 1) O ∗ jSh W d (wid L) ∗ uSh W d (wid L)
    ∗ (∃ fo, ⌜Upto L (512 * 10) (hOut W d) fo⌝ ∗ hBlk d (wid L) fo) ∗ passed d L O Ws) from Entails.of_eq rfl) $$ Hf
  icases Hf with ⟨-, Hj, Hu, ⟨%fo', %hfo', Hh⟩, H8, H9, Hsems, HO⟩
  ihave Hh := (Entails.of_eq (pointsTo_congr (upto_full L _ _ hfo'))) $$ Hh
  isplitl [Ht Hu Hi Hj Hg Hh]
  · isplitl [Ht]; · iexact Ht
    isplitl [Hu]; · iexact Hu
    isplitl [Hi]; · iexact Hi
    isplitl [Hj]; · iexact Hj
    isplitl [Hg]; · iexact Hg
    iexact Hh
  isplitl [H8 H9 Hbufs]
  · isplitl [H8]; · iexact H8
    isplitl [H9]; · iexact H9
    iexact Hbufs
  isplitl [Hsems]; · iexact Hsems
  iexact HO

/-! ## What the handshakes carry -/

/-- The number of the task of core `c`, tile `i`. -/
abbrev wOf (c : Fin 2) (i : Fin 16) : Fin 32 := ⟨2 * i.val + c.val, by omega⟩

/-- Each core takes what its sixteen tasks take and hands back what they bring. -/
def P : (K (F := F)).Pay (nD := nD) (Val := Elt F) (Name := ℕ) (U := UU) where
  st := fun q d c => match q with | 0 => bigSep Finset.univ fun i : Fin 16 => taken W d (wOf (Fin.cast nCore_zero c) i)
  dn := fun q d c => match q with | 0 => bigSep Finset.univ fun i : Fin 16 => brought W d (wOf (Fin.cast nCore_zero c) i)
  go := fun q d c i => match q with | 0 => taken W d (wOf (Fin.cast nCore_zero c) (Fin.cast nSub_zero i))
  td := fun q d c i => match q with | 0 => brought W d (wOf (Fin.cast nCore_zero c) (Fin.cast nSub_zero i))
  x := fun _ _ => iprop(emp)

instance taken_storable (d : Dev nD) (w : Fin 32) : BI.Storable (upEmb : UEmb _ 𝕄) (taken W d w) := by unfold taken; infer_instance
instance brought_storable (d : Dev nD) (w : Fin 32) : BI.Storable (upEmb : UEmb _ 𝕄) (brought W d w) := by unfold brought; infer_instance

instance P_storable : (P (F := F) W).IsStorable where
  st q d c := match q with
    | 0 => (inferInstance : BI.Storable (upEmb : UEmb _ 𝕄) (bigSep Finset.univ fun i : Fin 16 => taken W d (wOf (Fin.cast nCore_zero c) i)))
  dn q d c := match q with
    | 0 => (inferInstance : BI.Storable (upEmb : UEmb _ 𝕄) (bigSep Finset.univ fun i : Fin 16 => brought W d (wOf (Fin.cast nCore_zero c) i)))
  go q d c i := match q with | 0 => taken_storable W d _
  td q d c i := match q with | 0 => brought_storable W d _

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sc_gather (coordsV c s) tV (Memref.isWhole_whole _) uV (Memref.isWhole_whole _) iV (Memref.isWhole_whole _) jV (Memref.isWhole_whole _)
        gV (Memref.isWhole_whole _) hV (Memref.isWhole_whole _) sV (Memref.isWhole_whole _) rV (Memref.isWhole_whole _) cc1_scratch2
        cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39) ⟨⟩ c s := rfl

omit [FloatOps F] [Named F] in
/-- A task's waits, in the launch theorem's wording. -/
theorem obl_post {thr : Thread nD τ} {A B C : sProp 𝕄} {O : CellTallies nD τ sig (HIx 1)} {Ws : Waits sig (HIx 1)} {q : Fin 1} :
    iprop(A ∗ B ∗ C ∗ ∃ W', ⌜∀ p ∈ W', p ∈ Ws ∨ p.2 = none⌝ ∗ owes thr O W')
      ⊢ iprop(A ∗ B ∗ C ∗ ∃ W', ⌜∀ p ∈ W', p ∈ Ws ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task meets its contract. -/
theorem tileObl (hF : (K (F := F)).Facts) (hpre : PreOK W) : (K (F := F)).TileObl (D (F := F)) 𝒱 (P W) v₀ 0 := by
  intro d c i O Ws hO _ _
  simp only [show (P W).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [body_eq]
  exact (tile_body W d (coordsV ⟨_, hci.1⟩ ⟨_, hci.2⟩) hF hpre O Ws hO).trans (wp_mono frame _ _ fun _ => obl_post)

/-- A core's takings are its tasks', and theirs its returns. -/
theorem vecSplit : (K (F := F)).VecSplit' (P W) 0 := by
  intro d c
  show (bigSep Finset.univ fun i : Fin 16 => taken W d (wOf (Fin.cast nCore_zero c) i)) ⊢ |={Set.univ}=> iprop(
      (bigSep Finset.univ fun i : Fin 16 => taken W d (wOf (Fin.cast nCore_zero c) i))
      ∗ ((bigSep Finset.univ fun i : Fin 16 => brought W d (wOf (Fin.cast nCore_zero c) i))
          -∗ (bigSep Finset.univ fun i : Fin 16 => brought W d (wOf (Fin.cast nCore_zero c) i))))
  iintro H
  imodintro
  isplitl [H]; · iexact H
  iintro H; iexact H

end Tile

/-! ## The buffers split over the tasks and join -/

section Join

variable (W : (ℓ : Loc nD τ sig) → Buf (Elt F) ℓ) (d : Dev nD)

theorem blk_disjoint : ∀ i ∈ (Finset.univ : Finset (Fin 32)), ∀ j ∈ (Finset.univ : Finset (Fin 32)), i ≠ j → Disjoint (blk i) (blk j) :=
  fun i _ j _ h => Finset.disjoint_left.mpr fun x hx hy => h (Fin.ext ((mem_blk'.mp hx).symm.trans (mem_blk'.mp hy)))

theorem blk_cover : (Finset.univ : Finset (Fin 32)).biUnion blk = Finset.univ := by
  ext x
  simp only [Finset.mem_biUnion, Finset.mem_univ, true_and, iff_true]
  have : (x 0).val < 163840 := (x 0).isLt
  exact ⟨⟨(x 0).val / 5120, by omega⟩, mem_blk'.mpr rfl⟩

theorem g_blocks (f : Buf (Elt F) (gLoc d)) : (gLoc d ↦{fullShare} f : sProp 𝕄) = bigSep Finset.univ fun w : Fin 32 => gBlk d w f := by
  rw [← pointsTo_biUnion Finset.univ (ℓ := gLoc d) blk blk_disjoint, blk_cover]; try rfl
theorem h_blocks (f : Buf (Elt F) (hLoc d)) : (hLoc d ↦{fullShare} f : sProp 𝕄) = bigSep Finset.univ fun w : Fin 32 => hBlk d w f := by
  rw [← pointsTo_biUnion Finset.univ (ℓ := hLoc d) blk blk_disjoint, blk_cover]; try rfl

/-- The task numbers are the pairs of a core and a tile. -/
def pairs : Fin 2 × Fin 16 ≃ Fin 32 where
  toFun p := wOf p.1 p.2
  invFun w := (⟨w.val % 2, by omega⟩, ⟨w.val / 2, by omega⟩)
  left_inv p := by ext <;> simp <;> omega
  right_inv w := by ext; simp; omega

/-- The six buffers whole, the two outputs at any contents, are the thirty-two tasks' parts at once. -/
theorem bufs_tasks (fg : Buf (Elt F) (gLoc d)) (fh : Buf (Elt F) (hLoc d)) :
    (iprop((tLoc d ↦{fullShare} W (tLoc d)) ∗ (uLoc d ↦{fullShare} W (uLoc d)) ∗ (iLoc d ↦{fullShare} W (iLoc d)) ∗ (jLoc d ↦{fullShare} W (jLoc d))
        ∗ (gLoc d ↦{fullShare} fg) ∗ (hLoc d ↦{fullShare} fh)) : sProp 𝕄)
      = bigSep Finset.univ fun c : Fin 2 => bigSep Finset.univ fun i : Fin 16 =>
          iprop(tSh W d (wOf c i) ∗ uSh W d (wOf c i) ∗ iSh W d (wOf c i) ∗ jSh W d (wOf c i) ∗ gBlk d (wOf c i) fg ∗ hBlk d (wOf c i) fh) := by
  refine Eq.trans ?_ ((bigSep_univ_equiv pairs (fun w : Fin 32 =>
    iprop(tSh W d w ∗ uSh W d w ∗ iSh W d w ∗ jSh W d w ∗ gBlk d w fg ∗ hBlk d w fh))).trans (bigSep_univ_prod _))
  rw [bigSep_sep', bigSep_sep', bigSep_sep', bigSep_sep', bigSep_sep', g_blocks, h_blocks,
    pointsTo_piecesOf Finset.univ (W (tLoc d)) (show 0 < 32 by decide) fullShare, pointsTo_piecesOf Finset.univ (W (uLoc d)) (show 0 < 32 by decide) fullShare,
    pointsTo_piecesOf Finset.univ (W (iLoc d)) (show 0 < 32 by decide) fullShare, pointsTo_piecesOf Finset.univ (W (jLoc d)) (show 0 < 32 by decide) fullShare]

end Join

end Cert.Proof.Ker

end
-- ==== Proof.KerPick.lean ====
/-
  The scoring body's rounds: each of its values named as a round's pick or as the lanes left after some rounds.
-/
module

public import proofs.«01_k».proof.Proof.Gen.KernelIdeal.Skeleton

@[expose] public section

set_option maxRecDepth 16384

noncomputable section

namespace Cert.Proof.Ker

open Cert.KernelIdeal Cert.KernelIdeal.Gen
open Idealize.ShloMosaic Idealize.ShloMosaic.TcCoe

variable {F : FTy → Type} [FloatOps F] [Named F]

/-- The lanes' numbers. -/
abbrev lanes : IVec S64x128 32 := iota .tc S64x128 32 [1] iota_S64x128_d1_w32

variable (x : FVec F S64x128 .f32) (ok : IVec S64x128 1)

/-- The scores where lanes are to be taken, below everything elsewhere. -/
def maskW : FVec F S64x128 .f32 := select ok x (broadcast S64x128 (Named.named κ "mask" 0xF149F2CA#32))
/-- Each row's greatest score to be taken. -/
def maxC : FVec F S64x1 .f32 :=
  shapeCast S64x1 (multiReduction .maximumf [1] S64 (maskW x ok) 0xFF800000#32 reduces_S64x128_S64 (.inl rfl) rfl) shapeCasts_S64_S64x1
/-- The same, on every lane. -/
def maxW : FVec F S64x128 .f32 := broadcastTo S64x128 (maxC x ok) broadcasts_S64x1_S64x128
/-- Each row's first lane that holds it. -/
def pickW : IVec S64x1 32 :=
  shapeCast S64x1 (multiReductionI .minsi [1] S64 (select (cmpf .oeq (maskW x ok) (maxW x ok)) lanes (broadcast S64x128 128#32))
    2147483647#32 reduces_S64x128_S64 rfl) shapeCasts_S64_S64x1
/-- The same, on every lane. -/
def pickB : IVec S64x128 32 := broadcastTo S64x128 (pickW x ok) broadcasts_S64x1_S64x128
/-- The lanes still to be taken after a round. -/
def nextOk : IVec S64x128 1 := andi ok (cmpi .ne lanes (pickB x ok))
/-- The value below everything, on every lane. -/
def below : FVec F S64x128 .f32 := broadcast S64x128 (Named.named κ "mask" 0xF149F2CA#32)

/-! ## The body's values -/

section Rules
variable (a b c : FVec F S64x128 .f32) (d : FVec F S1x128 .f32) (e : Vec F S1x128x128 .f32) (f : Vec F S1x1x128 .f32)

theorem pay9_eq : k0_pay9 a b c d e f = pickW (k0_pay6 a b c d e f) k0_pay7 := rfl
theorem pay10_eq : k0_pay10 a b c d e f = pickW (k0_pay6 a b c d e f) k0_pay8 := rfl
theorem pay11_eq : k0_pay11 a b c d e f = pickB (k0_pay6 a b c d e f) k0_pay7 := rfl
end Rules

theorem pay14_eq : k0_pay14 x lanes ok (pickB x ok) = pickW x (nextOk x ok) := rfl
theorem pay15_eq : k0_pay15 x lanes ok (pickW x ok) = pickW x (nextOk x ok) := rfl
theorem pay16_eq : k0_pay16 x lanes ok (pickB x ok) = nextOk x (nextOk x ok) := rfl
theorem pay17_eq : k0_pay17 x lanes ok (pickW x ok) = nextOk x (nextOk x ok) := rfl
theorem pay18_eq : k0_pay18 x lanes ok (pickW x ok) = maskW x (nextOk x (nextOk x ok)) := rfl
theorem pay19_eq : k0_pay19 x lanes ok (pickB x ok) = pickW x (nextOk x (nextOk x ok)) := rfl
theorem pay20_eq : k0_pay20 x lanes ok (pickW x ok) = maxW x (nextOk x (nextOk x ok)) := rfl
theorem pay21_eq : k0_pay21 lanes (maskW x ok) (maxW x ok) = pickW x ok := rfl
theorem pay24_eq : k0_pay24 x lanes ok (pickW x ok) = pickW x (nextOk x ok) := rfl
theorem pay25_eq : k0_pay25 x lanes ok (maskW x ok) (maxW x ok) = pickW x (nextOk x ok) := rfl
theorem pay26_eq : k0_pay26 x lanes ok (pickW x ok) = nextOk x (nextOk x ok) := rfl
theorem pay27_eq : k0_pay27 x lanes ok (maskW x ok) (maxW x ok) = nextOk x (nextOk x ok) := rfl
theorem pay28_eq : k0_pay28 x lanes ok (pickW x ok) = maskW x (nextOk x (nextOk x ok)) := rfl
theorem pay29_eq : k0_pay29 x lanes ok (maskW x ok) (maxW x ok) = maskW x (nextOk x (nextOk x ok)) := rfl
theorem pay30_eq : k0_pay30 x lanes ok (maskW x ok) (maxW x ok) = maxC x (nextOk x (nextOk x ok)) := rfl
theorem pay31_eq : k0_pay31 x lanes ok (pickW x ok) = maxW x (nextOk x (nextOk x ok)) := rfl
theorem pay32_eq : k0_pay32 lanes (maskW x ok) (maxW x ok) = pickW x ok := rfl
theorem pay33_eq : k0_pay33 lanes (maskW x ok) (maxC x ok) = pickW x ok := rfl
theorem pay36_eq : k0_pay36 x lanes ok (maskW x ok) (maxW x ok) = pickW x (nextOk x ok) := rfl
theorem pay37_eq : k0_pay37 x lanes ok (maskW x ok) (maxC x ok) = pickW x (nextOk x ok) := rfl
theorem pay38_eq : k0_pay38 x lanes ok (maskW x ok) (maxW x ok) = nextOk x (nextOk x ok) := rfl
theorem pay39_eq : k0_pay39 x lanes ok (maskW x ok) (maxC x ok) = nextOk x (nextOk x ok) := rfl
theorem pay40_eq : k0_pay40 x lanes ok (maskW x ok) (maxW x ok) = maskW x (nextOk x (nextOk x ok)) := rfl
theorem pay41_eq : k0_pay41 (F := F) = below := rfl
theorem pay42_eq : k0_pay42 lanes (maskW x ok) = pickW x ok := rfl
theorem pay43_eq : k0_pay43 x lanes ok below = pickW x ok := rfl
theorem pay45_eq : k0_pay45 x lanes ok below = nextOk x ok := rfl
theorem pay46_eq : k0_pay46 x lanes ok (maskW x ok) = pickW x (nextOk x ok) := rfl
theorem pay47_eq : k0_pay47 x lanes ok below = pickW x (nextOk x ok) := rfl
theorem pay48_eq : k0_pay48 x lanes ok (maskW x ok) = nextOk x (nextOk x ok) := rfl
theorem pay50_eq : k0_pay50 x lanes ok = pickW x ok := rfl
theorem pay51_eq : k0_pay51 x lanes ok (pickW x ok) = pickW x (nextOk x ok) := rfl
theorem pay52_eq : k0_pay52 x lanes ok = pickW x (nextOk x ok) := rfl
theorem pay53_eq : k0_pay53 x lanes ok (pickW x ok)
    = cmpf .oeq (maskW x (nextOk x (nextOk x ok))) (maxW x (nextOk x (nextOk x ok))) := rfl

/-! ## The rows' numbers -/

/-- The lanes still to be taken after some rounds. -/
def okN : ℕ → IVec S64x128 1
  | 0 => ok
  | n + 1 => nextOk x (okN n)
/-- The ten picks side by side. -/
def picks : IVec S64x10 32 :=
  concatenate S64x10 1 [⟨S64x1, pickW x (okN x ok 0)⟩, ⟨S64x1, pickW x (okN x ok 1)⟩, ⟨S64x1, pickW x (okN x ok 2)⟩, ⟨S64x1, pickW x (okN x ok 3)⟩,
    ⟨S64x1, pickW x (okN x ok 4)⟩, ⟨S64x1, pickW x (okN x ok 5)⟩, ⟨S64x1, pickW x (okN x ok 6)⟩, ⟨S64x1, pickW x (okN x ok 7)⟩,
    ⟨S64x1, pickW x (okN x ok 8)⟩, ⟨S64x1, pickW x (okN x ok 9)⟩]
    concatenates_S64x1_S64x1_S64x1_S64x1_S64x1_S64x1_S64x1_S64x1_S64x1_S64x1_S64x10_d1
/-- The numbers of the block's examples. -/
abbrev exNo (a : BitVec 32) : IVec S64x1 32 := k0_pay54 a
/-- The feature rows' numbers in the feature table. -/
def fNum (a : BitVec 32) : IVec S64x10 32 :=
  addi (picks x k0_pay7) (broadcastTo S64x10 (muli (exNo a) (broadcast S64x1 100#32)) broadcasts_S64x1_S64x10)
/-- The context rows' numbers in the context table. -/
def cNum (a : BitVec 32) : IVec S64x10 32 :=
  addi (subi (picks x k0_pay8) (broadcast S64x10 100#32)) (broadcastTo S64x10 (muli (exNo a) (broadcast S64x1 26#32)) broadcasts_S64x1_S64x10)

abbrev fOk (n : ℕ) := okN x k0_pay7 n
abbrev cOk (n : ℕ) := okN x k0_pay8 n

theorem pay55_eq (a : BitVec 32) : k0_pay55 a (pickW x (fOk x 0)) (pickW x (fOk x 1)) (pickW x (fOk x 2)) (pickW x (fOk x 3)) (pickW x (fOk x 4))
    (pickW x (fOk x 5)) (pickW x (fOk x 6)) (pickW x (fOk x 7)) (pickW x (fOk x 8)) (pickW x (fOk x 9)) = fNum x a := rfl
theorem pay57_eq (a : BitVec 32) : k0_pay57 a (pickW x (fOk x 0)) (pickW x (fOk x 1)) (pickW x (fOk x 2)) (pickW x (fOk x 3)) (pickW x (fOk x 4))
    (pickW x (fOk x 5)) (pickW x (fOk x 6)) (pickW x (fOk x 7)) (pickW x (fOk x 8)) (pickW x (fOk x 9)) = k0_pay59 (fNum x a) := rfl
theorem pay58_eq (v : IVec S64x10 32) : k0_pay58 v = k0_pay1 v := rfl
theorem pay56_eq (a : BitVec 32) : k0_pay56 a lanes (pickW x (cOk x 0)) (pickW x (cOk x 1)) (pickW x (cOk x 2)) (pickW x (cOk x 3)) (pickW x (cOk x 4))
    (pickW x (cOk x 5)) (pickW x (cOk x 6)) (pickW x (cOk x 7)) (pickW x (cOk x 8)) (cmpf .oeq (maskW x (cOk x 9)) (maxW x (cOk x 9))) 128#32 = cNum x a := rfl

end Cert.Proof.Ker

end
-- ==== Proof.KerIdx.lean ====
/-
  The scoring call of the program on the TensorCore: what its body leaves in its four results' blocks, over the blocks of
  its six operands, and the call over every unscoped buffer.
-/
module

public import proofs.«01_k».proof.Proof.KerSc
public import proofs.«01_k».proof.Proof.KerPick
public import proofs.«01_k».proof.Proof.Region
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Ker.Idx

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-! ## The body's accesses and its values -/

abbrev rF : Rect S64x100x32 := Rect.unit (s := S64x100x32) ![0, 0, 0] S64x100x32.size inb_S64x100x32_S64x100x32_0_0_0
abbrev rX : Rect S64x26x32 := Rect.unit (s := S64x26x32) ![0, 0, 0] S64x26x32.size inb_S64x26x32_S64x26x32_0_0_0
abbrev rQ : Rect S32x32 := Rect.unit (s := S32x32) ![0, 0] S32x32.size inb_S32x32_S32x32_0_0
abbrev rW0 : Rect S3x128x128 := Rect.unit (s := S3x128x128) ![0, 0, 0] S1x128x128.size inb_S3x128x128_S1x128x128_0_0_0
abbrev rW1 : Rect S3x128x128 := Rect.unit (s := S3x128x128) ![1, 0, 0] S1x128x128.size inb_S3x128x128_S1x128x128_1_0_0
abbrev rW2 : Rect S3x128x128 := Rect.unit (s := S3x128x128) ![2, 0, 0] S1x128x128.size inb_S3x128x128_S1x128x128_2_0_0
abbrev rB0 : Rect S3x1x128 := Rect.unit (s := S3x1x128) ![0, 0, 0] S1x1x128.size inb_S3x1x128_S1x1x128_0_0_0
abbrev rB1 : Rect S3x1x128 := Rect.unit (s := S3x1x128) ![1, 0, 0] S1x1x128.size inb_S3x1x128_S1x1x128_1_0_0
abbrev rB2 : Rect S3x1x128 := Rect.unit (s := S3x1x128) ![2, 0, 0] S1x1x128.size inb_S3x1x128_S1x1x128_2_0_0
abbrev rO : Rect S64x10 := Rect.unit (s := S64x10) ![0, 0] S64x10.size inb_S64x10_S64x10_0_0

section Body

variable (n : BitVec 32) (x0 : Vec F S64x100x32 .f32) (x1 : Vec F S64x26x32 .f32) (x2 : Vec F S32x32 .f32) (x3 : Vec F S32x32 .f32)
  (x4 : Vec F S3x128x128 .f32) (x5 : Vec F S3x1x128 .f32)

/-- The row sums of a block, side by side, on 128 lanes. -/
def sums : FVec F S64x128 .f32 := k0_pay2 (View.ld x0 rF) (View.ld x2 rQ) (View.ld x1 rX) (View.ld x3 rQ)
/-- After the first cross layer. -/
def lay1 : FVec F S64x128 .f32 := k0_pay3 (View.ld x0 rF) (View.ld x2 rQ) (View.ld x1 rX) (View.ld x3 rQ) (View.ld x4 rW0) (View.ld x5 rB0)
/-- The second layer's product. -/
def prod2 : FVec F S64x128 .f32 :=
  k0_pay4 (View.ld x0 rF) (View.ld x2 rQ) (View.ld x1 rX) (View.ld x3 rQ) (View.ld x4 rW0) (View.ld x5 rB0) (View.ld x4 rW1)
/-- The scores of a block. -/
def scores : FVec F S64x128 .f32 :=
  k0_pay6 (sums x0 x1 x2 x3) (lay1 x0 x1 x2 x3 x4 x5) (prod2 x0 x1 x2 x3 x4 x5) (k0_pay5 (View.ld x5 rB1)) (View.ld x4 rW2) (View.ld x5 rB2)
/-- The granules and places of the feature rows, and those of the context rows. -/
def fGran : IVec S64x10 32 := k0_pay59 (fNum (scores x0 x1 x2 x3 x4 x5) n)
def fPlace : IVec S64x10 32 := k0_pay1 (fNum (scores x0 x1 x2 x3 x4 x5) n)
def cGran : IVec S64x10 32 := k0_pay59 (cNum (scores x0 x1 x2 x3 x4 x5) n)
def cPlace : IVec S64x10 32 := k0_pay1 (cNum (scores x0 x1 x2 x3 x4 x5) n)

/-- A result's block after the body. -/
def whole (v : IVec S64x10 32) : Vec F S64x10 .i32 := View.canon [⟨rO, v⟩]

end Body

/-- The store covers the block. -/
theorem cover_idx (p0 : Vec F S64x10 .i32) (y : S64x10.Idx) :
    ∃ pc ∈ ([⟨rO, p0⟩] : List (View.Piece (Elt F) S64x10 .i32)), y ∈ pc.1.set :=
  View.cover_of_tiled [⟨rO, p0⟩] S64x10.size (by rfl) y

theorem okN_succ (x : FVec F S64x128 .f32) (ok : IVec S64x128 1) (n : ℕ) : nextOk x (okN x ok n) = okN x ok (n + 1) := rfl
theorem pay9_at {a b c : FVec F S64x128 .f32} {d : FVec F S1x128 .f32} {e : Vec F S1x128x128 .f32} {f : Vec F S1x1x128 .f32} :
    k0_pay9 a b c d e f = pickW (k0_pay6 a b c d e f) (okN (k0_pay6 a b c d e f) k0_pay7 0) := rfl
theorem pay10_at {a b c : FVec F S64x128 .f32} {d : FVec F S1x128 .f32} {e : Vec F S1x128x128 .f32} {f : Vec F S1x1x128 .f32} :
    k0_pay10 a b c d e f = pickW (k0_pay6 a b c d e f) (okN (k0_pay6 a b c d e f) k0_pay8 0) := rfl
theorem pay11_at {a b c : FVec F S64x128 .f32} {d : FVec F S1x128 .f32} {e : Vec F S1x128x128 .f32} {f : Vec F S1x1x128 .f32} :
    k0_pay11 a b c d e f = pickB (k0_pay6 a b c d e f) (okN (k0_pay6 a b c d e f) k0_pay7 0) := rfl

set_option maxHeartbeats 4000000 in
/-- The body, from the operands' staging memrefs at `x0 … x5` and the results' at anything, leaves the operands' as they
    were and the results' at the granules and places of the picked rows. -/
theorem sound_idx (c : Dev nD) (E : Set ℕ) (i : grid0.Coords)
    (a1 : Memref sig .tc .vmem S64x100x32 .f32) (h1 : a1.IsWhole)
    (a2 : Memref sig .tc .vmem S64x26x32 .f32) (h2 : a2.IsWhole)
    (a3 : Memref sig .tc .vmem S32x32 .f32) (h3 : a3.IsWhole)
    (a4 : Memref sig .tc .vmem S32x32 .f32) (h4 : a4.IsWhole)
    (a5 : Memref sig .tc .vmem S3x128x128 .f32) (h5 : a5.IsWhole)
    (a6 : Memref sig .tc .vmem S3x1x128 .f32) (h6 : a6.IsWhole)
    (a7 : Memref sig .tc .vmem S64x10 .i32) (h7 : a7.IsWhole)
    (a8 : Memref sig .tc .vmem S64x10 .i32) (h8 : a8.IsWhole)
    (a9 : Memref sig .tc .vmem S64x10 .i32) (h9 : a9.IsWhole)
    (a10 : Memref sig .tc .vmem S64x10 .i32) (h10 : a10.IsWhole)
    (x0 : Vec F S64x100x32 .f32) (x1 : Vec F S64x26x32 .f32) (x2 : Vec F S32x32 .f32) (x3 : Vec F S32x32 .f32) (x4 : Vec F S3x128x128 .f32) (x5 : Vec F S3x1x128 .f32)
    (Q : PUnit → sProp 𝕄) :
    iprop(owns (c : Thread nD τ) a1 fullShare x0
        ∗ owns (c : Thread nD τ) a2 fullShare x1
        ∗ owns (c : Thread nD τ) a3 fullShare x2
        ∗ owns (c : Thread nD τ) a4 fullShare x3
        ∗ owns (c : Thread nD τ) a5 fullShare x4
        ∗ owns (c : Thread nD τ) a6 fullShare x5
        ∗ (∃ d, owns (c : Thread nD τ) a7 fullShare d)
        ∗ (∃ d, owns (c : Thread nD τ) a8 fullShare d)
        ∗ (∃ d, owns (c : Thread nD τ) a9 fullShare d)
        ∗ (∃ d, owns (c : Thread nD τ) a10 fullShare d)
        ∗ (iprop(owns (c : Thread nD τ) a1 fullShare x0
        ∗ owns (c : Thread nD τ) a2 fullShare x1
        ∗ owns (c : Thread nD τ) a3 fullShare x2
        ∗ owns (c : Thread nD τ) a4 fullShare x3
        ∗ owns (c : Thread nD τ) a5 fullShare x4
        ∗ owns (c : Thread nD τ) a6 fullShare x5
        ∗ owns (c : Thread nD τ) a7 fullShare (whole (fGran (BitVec.ofNat 32 (i 0).val) x0 x1 x2 x3 x4 x5))
        ∗ owns (c : Thread nD τ) a8 fullShare (whole (fPlace (BitVec.ofNat 32 (i 0).val) x0 x1 x2 x3 x4 x5))
        ∗ owns (c : Thread nD τ) a9 fullShare (whole (cGran (BitVec.ofNat 32 (i 0).val) x0 x1 x2 x3 x4 x5))
        ∗ owns (c : Thread nD τ) a10 fullShare (whole (cPlace (BitVec.ofNat 32 (i 0).val) x0 x1 x2 x3 x4 x5))) -∗ Q ⟨⟩))
      ⊢ wp frame (wpE (defs₀ (F := F)) Variants.none c none) E (cc0__idx_body i a1 h1 a2 h2 a3 h3 a4 h4 a5 h5 a6 h6 a7 h7 a8 h8 a9 h9 a10 h10) Q := by
  simp only [cc0__idx_body_eq_skeleton]; unfold cc0__idx_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (View.read_writes_eq_canon _ _ _ (cover_idx _)).trans ?_
    simp only [pay9_at, pay10_at, pay11_at, pay14_eq, pay15_eq, pay16_eq, pay17_eq, pay18_eq, pay19_eq, pay20_eq, pay21_eq, pay24_eq, pay25_eq, pay26_eq, pay27_eq, pay28_eq, pay29_eq, pay30_eq, pay31_eq, pay32_eq, pay33_eq, pay36_eq, pay37_eq, pay38_eq, pay39_eq, pay40_eq, pay41_eq, pay42_eq, pay43_eq, pay45_eq, pay46_eq, pay47_eq, pay48_eq, pay50_eq, pay51_eq, pay52_eq, pay53_eq, okN_succ, Nat.reduceAdd, pay55_eq, pay56_eq, pay57_eq, pay58_eq]
    rfl
  isplitl [H7]
  · iexists _; isplitr
    swap; · iexact H7
    ipureintro
    refine (View.read_writes_eq_canon _ _ _ (cover_idx _)).trans ?_
    simp only [pay9_at, pay10_at, pay11_at, pay14_eq, pay15_eq, pay16_eq, pay17_eq, pay18_eq, pay19_eq, pay20_eq, pay21_eq, pay24_eq, pay25_eq, pay26_eq, pay27_eq, pay28_eq, pay29_eq, pay30_eq, pay31_eq, pay32_eq, pay33_eq, pay36_eq, pay37_eq, pay38_eq, pay39_eq, pay40_eq, pay41_eq, pay42_eq, pay43_eq, pay45_eq, pay46_eq, pay47_eq, pay48_eq, pay50_eq, pay51_eq, pay52_eq, pay53_eq, okN_succ, Nat.reduceAdd, pay55_eq, pay56_eq, pay57_eq, pay58_eq]
    rfl
  isplitl [H8]
  · iexists _; isplitr
    swap; · iexact H8
    ipureintro
    refine (View.read_writes_eq_canon _ _ _ (cover_idx _)).trans ?_
    simp only [pay9_at, pay10_at, pay11_at, pay14_eq, pay15_eq, pay16_eq, pay17_eq, pay18_eq, pay19_eq, pay20_eq, pay21_eq, pay24_eq, pay25_eq, pay26_eq, pay27_eq, pay28_eq, pay29_eq, pay30_eq, pay31_eq, pay32_eq, pay33_eq, pay36_eq, pay37_eq, pay38_eq, pay39_eq, pay40_eq, pay41_eq, pay42_eq, pay43_eq, pay45_eq, pay46_eq, pay47_eq, pay48_eq, pay50_eq, pay51_eq, pay52_eq, pay53_eq, okN_succ, Nat.reduceAdd, pay55_eq, pay56_eq, pay57_eq, pay58_eq]
    rfl
  iexists _; isplitr
  swap; · iexact H9
  ipureintro
  refine (View.read_writes_eq_canon _ _ _ (cover_idx _)).trans ?_
  simp only [pay9_at, pay10_at, pay11_at, pay14_eq, pay15_eq, pay16_eq, pay17_eq, pay18_eq, pay19_eq, pay20_eq, pay21_eq, pay24_eq, pay25_eq, pay26_eq, pay27_eq, pay28_eq, pay29_eq, pay30_eq, pay31_eq, pay32_eq, pay33_eq, pay36_eq, pay37_eq, pay38_eq, pay39_eq, pay40_eq, pay41_eq, pay42_eq, pay43_eq, pay45_eq, pay46_eq, pay47_eq, pay48_eq, pay50_eq, pay51_eq, pay52_eq, pay53_eq, okN_succ, Nat.reduceAdd, pay55_eq, pay56_eq, pay57_eq, pay58_eq]
  rfl

/-! ## The proof data -/

variable (V : (c : Dev nD) → (b : Ref sig .tc) → Buf (Elt F) ((c : Thread nD τ).loc b))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The number of point `t`. -/
abbrev ptNo (t : Fin cfg0.N) : BitVec 32 := BitVec.ofNat 32 ((grid0.coords t) 0).val

/-- The results' blocks at point `t`. -/
def oblk6 (c : Dev nD) (t : Fin cfg0.N) : Vec F S64x10 .i32 := whole (fGran (ptNo t) (iblk V c 0 t) (iblk V c 1 t) (iblk V c 2 t) (iblk V c 3 t) (iblk V c 4 t) (iblk V c 5 t))
def oblk7 (c : Dev nD) (t : Fin cfg0.N) : Vec F S64x10 .i32 := whole (fPlace (ptNo t) (iblk V c 0 t) (iblk V c 1 t) (iblk V c 2 t) (iblk V c 3 t) (iblk V c 4 t) (iblk V c 5 t))
def oblk8 (c : Dev nD) (t : Fin cfg0.N) : Vec F S64x10 .i32 := whole (cGran (ptNo t) (iblk V c 0 t) (iblk V c 1 t) (iblk V c 2 t) (iblk V c 3 t) (iblk V c 4 t) (iblk V c 5 t))
def oblk9 (c : Dev nD) (t : Fin cfg0.N) : Vec F S64x10 .i32 := whole (cPlace (ptNo t) (iblk V c 0 t) (iblk V c 1 t) (iblk V c 2 t) (iblk V c 3 t) (iblk V c 4 t) (iblk V c 5 t))

/-- The core's debt and recorded waits around the call, before the gathering call. -/
abbrev idxOwed (c : Dev nD) : CellTallies nD τ sig (HIx 1) := (K (F := F)).Otc c 0
abbrev idxRec (c : Dev nD) : Set (SemLoc sig × HIx 1) := {p | (K (F := F)).lev (T c, p.1) p.2 ≤ 8 * 0}

/-- The call's proof data: the arrays as the call finds them; after the body each operand's buffer at its block and the
    results' at `oblk6 … oblk9`. -/
def dat (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => oblk6 V c t
    | ⟨7, _⟩ => oblk7 V c t
    | ⟨8, _⟩ => oblk8 V c t
    | ⟨9, _⟩ => oblk9 V c t
  Φ _ := Pipeline.scopedRest (Ix := HIx 1) (Name := ℕ) (U := UU) (Lvl := ℕ) (Val := Elt F) spec0 c
  q _ := fullShare
  owed _ := idxOwed (F := F) c
  recorded _ := idxRec (F := F) c

/-- The proof data's arrays are the entry contents. -/
theorem dat_A (c : Dev nD) (w : Fin cfg0.W) : (dat V c).A w = V c (Pipeline.arrRef spec0 w) := by
  dsimp only [dat]

/-- The results' blocks are what the proof data say of windows 6 to 9. -/
theorem dat_after_6 (c : Dev nD) (t : Fin cfg0.N) : (dat V c).after 6 t = oblk6 V c t := by dsimp only [dat]
theorem dat_after_7 (c : Dev nD) (t : Fin cfg0.N) : (dat V c).after 7 t = oblk7 V c t := by dsimp only [dat]
theorem dat_after_8 (c : Dev nD) (t : Fin cfg0.N) : (dat V c).after 8 t = oblk8 V c t := by dsimp only [dat]
theorem dat_after_9 (c : Dev nD) (t : Fin cfg0.N) : (dat V c).after 9 t = oblk9 V c t := by dsimp only [dat]

/-- An operand's current staging buffer holds its block at every point, fetched there or not. -/
theorem before_of (c : Dev nD) (w : Fin cfg0.W) (hin : (cfg0.win w).isOut = false) (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dat V c).after w t) = (dat V c).blockOf w t)
    (t : Fin cfg0.N) (d) : (dat V c).before w t d = (dat V c).fetched w t d :=
  (dat V c).before_in_eq_fetched w hin hlive hclip hkeep t d

theorem before_0 (c : Dev nD) (t : Fin cfg0.N) (d) : (dat V c).before 0 t d = iblk V c 0 t := before_of V c 0 rfl (fun _ => rfl) (fun _ _ _ => rfl) (fun _ => rfl) t d
theorem before_1 (c : Dev nD) (t : Fin cfg0.N) (d) : (dat V c).before 1 t d = iblk V c 1 t := before_of V c 1 rfl (fun _ => rfl) (fun _ _ _ => rfl) (fun _ => rfl) t d
theorem before_2 (c : Dev nD) (t : Fin cfg0.N) (d) : (dat V c).before 2 t d = iblk V c 2 t := before_of V c 2 rfl (fun _ => rfl) (fun _ _ _ => rfl) (fun _ => rfl) t d
theorem before_3 (c : Dev nD) (t : Fin cfg0.N) (d) : (dat V c).before 3 t d = iblk V c 3 t := before_of V c 3 rfl (fun _ => rfl) (fun _ _ _ => rfl) (fun _ => rfl) t d
theorem before_4 (c : Dev nD) (t : Fin cfg0.N) (d) : (dat V c).before 4 t d = iblk V c 4 t := before_of V c 4 rfl (fun _ => rfl) (fun _ _ _ => rfl) (fun _ => rfl) t d
theorem before_5 (c : Dev nD) (t : Fin cfg0.N) (d) : (dat V c).before 5 t d = iblk V c 5 t := before_of V c 5 rfl (fun _ => rfl) (fun _ _ _ => rfl) (fun _ => rfl) t d

/-- The body table's row at a point is the body at that point's staging memrefs. -/
theorem row_idx (t : Fin cfg0.N) : defs₀ (F := F) .tc cfg0.body (cfg0.bodyArgs t (cfg0.slots t)) = bodyAt0 t := by
  unfold defs₀; rfl

/-- What the body is called with at a point. -/
def idxPre (c : Dev nD) (t : Fin cfg0.N) : sProp 𝕄 :=
  iprop((dat V c).Φ t.castSucc ∗ (dat V c).owesAt none t.castSucc
    ∗ (∃ d, owns (c : Thread nD τ) (st0_0 t) fullShare ((dat V c).before 0 t d)) ∗ (∃ d, owns (c : Thread nD τ) (st0_1 t) fullShare ((dat V c).before 1 t d))
    ∗ (∃ d, owns (c : Thread nD τ) (st0_2 t) fullShare ((dat V c).before 2 t d)) ∗ (∃ d, owns (c : Thread nD τ) (st0_3 t) fullShare ((dat V c).before 3 t d))
    ∗ (∃ d, owns (c : Thread nD τ) (st0_4 t) fullShare ((dat V c).before 4 t d)) ∗ (∃ d, owns (c : Thread nD τ) (st0_5 t) fullShare ((dat V c).before 5 t d))
    ∗ (∃ d, owns (c : Thread nD τ) (st0_6 t) fullShare ((dat V c).before 6 t d)) ∗ (∃ d, owns (c : Thread nD τ) (st0_7 t) fullShare ((dat V c).before 7 t d))
    ∗ (∃ d, owns (c : Thread nD τ) (st0_8 t) fullShare ((dat V c).before 8 t d)) ∗ (∃ d, owns (c : Thread nD τ) (st0_9 t) fullShare ((dat V c).before 9 t d)))

/-- What it returns. -/
def idxPost (c : Dev nD) (t : Fin cfg0.N) : sProp 𝕄 :=
  iprop((dat V c).Φ t.succ ∗ (dat V c).owesAt none t.succ
    ∗ owns (c : Thread nD τ) (st0_0 t) fullShare ((dat V c).after 0 t) ∗ owns (c : Thread nD τ) (st0_1 t) fullShare ((dat V c).after 1 t)
    ∗ owns (c : Thread nD τ) (st0_2 t) fullShare ((dat V c).after 2 t) ∗ owns (c : Thread nD τ) (st0_3 t) fullShare ((dat V c).after 3 t)
    ∗ owns (c : Thread nD τ) (st0_4 t) fullShare ((dat V c).after 4 t) ∗ owns (c : Thread nD τ) (st0_5 t) fullShare ((dat V c).after 5 t)
    ∗ owns (c : Thread nD τ) (st0_6 t) fullShare ((dat V c).after 6 t) ∗ owns (c : Thread nD τ) (st0_7 t) fullShare ((dat V c).after 7 t)
    ∗ owns (c : Thread nD τ) (st0_8 t) fullShare ((dat V c).after 8 t) ∗ owns (c : Thread nD τ) (st0_9 t) fullShare ((dat V c).after 9 t))

/-- The body at any point. -/
theorem sound_body (c : Dev nD) (t : Fin cfg0.N) :
    idxPre V c t ⊢ wp frame (wpE (defs₀ (F := F)) Variants.none c none) Set.univ (bodyAt0 t) (fun _ => idxPost V c t) := by
  unfold idxPre idxPost bodyAt0
  simp only [before_0, before_1, before_2, before_3, before_4, before_5]
  rw [show (dat V c).Φ t.succ = (dat V c).Φ t.castSucc from rfl,
    show (dat V c).owesAt none t.succ = (dat V c).owesAt none t.castSucc from rfl, dat_after_6, dat_after_7, dat_after_8, dat_after_9]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_idx c Set.univ (grid0.coords t) _ _ _ _ _ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation. -/
theorem body_idx (c : Dev nD) : BodyObligation (dat V c) (defs₀ (F := F)) Variants.none none Set.univ := fun t => by
  rw [bigSep_W0, bigSep_W0, row_idx]
  exact triple_restated (sound_body V c t) rfl .rfl fun _ => .rfl

/-! ## The call as a step of @main -/

/-- The results' arrays after the call. -/
def arr6 (c : Dev nD) : Buf (Elt F) ((c : Thread nD τ).loc main_v13_0) := (dat V c).arrAt 6 cfg0.N
def arr7 (c : Dev nD) : Buf (Elt F) ((c : Thread nD τ).loc main_v13_1) := (dat V c).arrAt 7 cfg0.N
def arr8 (c : Dev nD) : Buf (Elt F) ((c : Thread nD τ).loc main_v13_2) := (dat V c).arrAt 8 cfg0.N
def arr9 (c : Dev nD) : Buf (Elt F) ((c : Thread nD τ).loc main_v13_3) := (dat V c).arrAt 9 cfg0.N

/-- Every unscoped buffer after the call: the results' at those, the others as before. -/
def idxVal (c : Dev nD) : (b : Ref sig .tc) → Buf (Elt F) ((c : Thread nD τ).loc b) :=
  Function.update (Function.update (Function.update (Function.update (V c) main_v13_0 (arr6 V c)) main_v13_1 (arr7 V c)) main_v13_2 (arr8 V c)) main_v13_3 (arr9 V c)

theorem idxVal_of_ne (c : Dev nD) (b : Ref sig .tc) (h0 : b ≠ main_v13_0) (h1 : b ≠ main_v13_1) (h2 : b ≠ main_v13_2) (h3 : b ≠ main_v13_3) :
    idxVal V c b = V c b := by
  unfold idxVal
  rw [Function.update_of_ne h3, Function.update_of_ne h2, Function.update_of_ne h1, Function.update_of_ne h0]
theorem idxVal_0 (c : Dev nD) : idxVal V c main_v13_0 = arr6 V c := by
  unfold idxVal
  rw [Function.update_of_ne (by decide), Function.update_of_ne (by decide), Function.update_of_ne (by decide), Function.update_self]
theorem idxVal_1 (c : Dev nD) : idxVal V c main_v13_1 = arr7 V c := by
  unfold idxVal
  rw [Function.update_of_ne (by decide), Function.update_of_ne (by decide), Function.update_self]
theorem idxVal_2 (c : Dev nD) : idxVal V c main_v13_2 = arr8 V c := by
  unfold idxVal
  rw [Function.update_of_ne (by decide), Function.update_self]
theorem idxVal_3 (c : Dev nD) : idxVal V c main_v13_3 = arr9 V c := by
  unfold idxVal
  rw [Function.update_self]

/-- The debts name no window's wait. -/
theorem owed_none (c : Dev nD) (n : ℕ) (g : GSem nD τ sig) : (K (F := F)).Otc c n g none = 0 := by
  by_contra h
  have := SparseCore.Cfg.lev_of_Otc_pos (Nat.pos_of_ne_zero h)
  rw [SparseCore.Cfg.lev_none] at this
  omega

/-- An operand's array is as the call found it. -/
theorem arr_in (c : Dev nD) (w : Fin cfg0.W) (hw : (cfg0.win w).isOut = false) (h0 : Pipeline.arrRef spec0 w ≠ main_v13_0)
    (h1 : Pipeline.arrRef spec0 w ≠ main_v13_1) (h2 : Pipeline.arrRef spec0 w ≠ main_v13_2) (h3 : Pipeline.arrRef spec0 w ≠ main_v13_3) :
    (dat V c).arrAt w cfg0.N = idxVal V c (Pipeline.arrRef spec0 w) :=
  ((dat V c).arrAt_in w hw _).trans ((dat_A V c w).trans (idxVal_of_ne V c _ h0 h1 h2 h3).symm)

theorem arr_all (c : Dev nD) : ∀ w : Fin cfg0.W, (dat V c).arrAt w cfg0.N = idxVal V c (Pipeline.arrRef spec0 w)
  | 0 => arr_in V c 0 rfl (by decide) (by decide) (by decide) (by decide)
  | 1 => arr_in V c 1 rfl (by decide) (by decide) (by decide) (by decide)
  | 2 => arr_in V c 2 rfl (by decide) (by decide) (by decide) (by decide)
  | 3 => arr_in V c 3 rfl (by decide) (by decide) (by decide) (by decide)
  | 4 => arr_in V c 4 rfl (by decide) (by decide) (by decide) (by decide)
  | 5 => arr_in V c 5 rfl (by decide) (by decide) (by decide) (by decide)
  | 6 => (idxVal_0 V c).symm
  | 7 => (idxVal_1 V c).symm
  | 8 => (idxVal_2 V c).symm
  | 9 => (idxVal_3 V c).symm

theorem idx_rest (c : Dev nD) (b : Ref sig .tc) (hb : b ∉ Finset.univ.image (Pipeline.arrRef spec0)) : idxVal V c b = V c b :=
  idxVal_of_ne V c b (fun h => hb (by rw [h]; exact Finset.mem_image.mpr ⟨6, Finset.mem_univ _, rfl⟩)) (fun h => hb (by rw [h]; exact Finset.mem_image.mpr ⟨7, Finset.mem_univ _, rfl⟩)) (fun h => hb (by rw [h]; exact Finset.mem_image.mpr ⟨8, Finset.mem_univ _, rfl⟩)) (fun h => hb (by rw [h]; exact Finset.mem_image.mpr ⟨9, Finset.mem_univ _, rfl⟩))

theorem idx_pairs (c : Dev nD) : cfg0.waitPairs (none : HIx 1) ⊆ idxRec (F := F) c := fun p hp => by
  obtain ⟨w, s, rfl⟩ := hp
  show (K (F := F)).lev _ none ≤ _
  rw [SparseCore.Cfg.lev_none]

theorem idx_phi (c : Dev nD) (t : Fin (cfg0.N + 1)) : (dat V c).Φ t = Pipeline.scopedRest (Ix := HIx 1) (Name := ℕ) (U := UU) (Lvl := ℕ) (Val := Elt F) spec0 c := by
  dsimp only [dat]

theorem idx_share (c : Dev nD) (w : Fin cfg0.W) : (dat V c).share w = fullShare := (dat V c).share_full (fun _ => rfl) w

end Cert.Proof.Ker.Idx

end
-- ==== Proof.KerOut.lean ====
/-
  The projecting call of the program on the TensorCore: what its body leaves in the result's block, over the blocks of
  its nine operands, and the call over every unscoped buffer.
-/
module

public import proofs.«01_k».proof.Proof.KerSc
public import proofs.«01_k».proof.Proof.Region
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Ker

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-! ## The body's accesses and its values -/

abbrev rG : Rect S640x128 := Rect.unit (s := S640x128) ![0, 0] S640x128.size inb_S640x128_S640x128_0_0
abbrev rA : Rect S640x1 := Rect.unit (s := S640x1) ![0, 0] S640x1.size inb_S640x1_S640x1_0_0
abbrev rH : Rect S64x1280 := Rect.unit (s := S64x1280) ![0, 0] S64x1280.size inb_S64x1280_S64x1280_0_0
abbrev rB : Rect S64x10 := Rect.unit (s := S64x10) ![0, 0] S64x10.size inb_S64x10_S64x10_0_0
abbrev rQ : Rect S32x320 := Rect.unit (s := S32x320) ![0, 0] S32x320.size inb_S32x320_S32x320_0_0
abbrev rC : Rect S320x320 := Rect.unit (s := S320x320) ![0, 0] S320x320.size inb_S320x320_S320x320_0_0
abbrev rL : Rect S1x320 := Rect.unit (s := S1x320) ![0, 0] S1x320.size inb_S1x320_S1x320_0_0
abbrev rO : Rect S640x320 := Rect.unit (s := S640x320) ![0, 0] S640x320.size inb_S640x320_S640x320_0_0

section Body

variable (x0 : Vec F S640x128 .f32) (x1 : Vec F S64x1280 .f32) (x2 : Vec F S640x1 .i32) (x3 : Vec F S64x10 .i32)
  (x4 : Vec F S32x320 .f32) (x5 : Vec F S320x320 .f32) (x6 : Vec F S320x320 .f32) (x7 : Vec F S1x320 .f32) (x8 : Vec F S1x320 .f32)

/-- The feature rows of a block, each picked out of its granule. -/
def fRow : FVec F S640x32 .f32 := k2_pay2 (View.ld x0 rG) (View.ld x2 rA)
/-- The context granules of a block. -/
def cAll : FVec F S64x1280 .f32 := k2_pay3 (View.ld x1 rH)
/-- The first nine context rows of a block, each picked out of its granule, in the text's order; and the last one as far
    as the text has it there. -/
def cRow0 : FVec F S64x32 .f32 := k2_pay5 (View.ld x1 rH) (View.ld x3 rB)
/-- The places of a block's context rows. -/
def cPl : IVec S64x10 32 := k2_pay4 (F := F) (View.ld x3 rB)
def cRow1 : FVec F S64x32 .f32 := k2_pay7 (cAll x1) (k2_pay6 (F := F) (View.ld x3 rB)) (Scalar.ofBits .f32 0x00000000#32)
def cRow2 : FVec F S64x32 .f32 := k2_pay11 (cAll x1) (k2_pay8 (cPl x3)) (k2_pay9 (F := F)) (k2_pay10 (cPl x3))
def cRow3 : FVec F S64x32 .f32 := k2_pay15 (cAll x1) (k2_pay12 (cPl x3)) (k2_pay13 (cAll x1) (cPl x3)) (k2_pay14 (cPl x3)) (Scalar.ofBits .f32 0x3F800000#32) (Scalar.ofBits .f32 0x00000000#32)
def cRow4 : FVec F S64x32 .f32 := k2_pay19 (cAll x1) (k2_pay16 (cPl x3)) (k2_pay17 (cAll x1) (cPl x3)) k2_pay18
def cRow5 : FVec F S64x32 .f32 := k2_pay23 (cAll x1) (k2_pay20 (cPl x3)) (k2_pay21 (cAll x1) (cPl x3)) (k2_pay22 (cAll x1) (cPl x3))
def cRow6 : FVec F S64x32 .f32 := k2_pay27 (cAll x1) (k2_pay25 (cAll x1) (cPl x3)) (k2_pay26 (cPl x3))
def cRow7 : FVec F S64x32 .f32 := k2_pay28 (cAll x1) (cPl x3)
def cRow8 : FVec F S64x32 .f32 := k2_pay32 (cAll x1) (k2_pay29 (cPl x3)) (k2_pay30 (F := F)) k2_pay31
def cWord9 : IVec S64x1 32 := k2_pay33 (cPl x3)
def cPart9 : FVec F S64x32 .f32 := addf (k2_pay34 (F := F)) (k2_pay35 (cAll x1) (cPl x3))

/-- A block's projected rows before the normalisation. -/
def pre : FVec F S640x320 .f32 :=
  k2_pay36 (fRow x0 x2) (cAll x1) (cRow0 x1 x3) (cRow1 x1 x3) (cRow2 x1 x3) (cRow3 x1 x3) (cRow4 x1 x3) (cRow5 x1 x3) (cRow6 x1 x3) (cRow7 x1 x3) (cRow8 x1 x3)
    (cWord9 x3) (k2_pay34 (F := F)) (k2_pay35 (cAll x1) (cPl x3)) (View.ld x4 rQ) (View.ld x5 rC)
/-- Their means. -/
def mean : FVec F S640x320 .f32 :=
  matmul dot_S640x320_S320x320_S640x320_1_0_0_1_n_n none (pre x0 x1 x2 x3 x4 x5) (k2_pay37 (View.ld x6 rC)) (constant S640x320 .f32 0x00000000#32)
/-- What the body stores. -/
def stored : FVec F S640x320 .f32 :=
  k2_pay1 (pre x0 x1 x2 x3 x4 x5) (k2_pay37 (View.ld x6 rC)) (constant S640x320 .f32 0x00000000#32) (View.ld x6 rC) (View.ld x7 rL) (View.ld x8 rL)
/-- The result's block after the body. -/
def outBlk : Vec F S640x320 .f32 := View.canon [⟨rO, stored x0 x1 x2 x3 x4 x5 x6 x7 x8⟩]

end Body

/-- The store covers the block. -/
theorem cover_out (p0 : Vec F S640x320 .f32) (y : S640x320.Idx) :
    ∃ pc ∈ ([⟨rO, p0⟩] : List (View.Piece (Elt F) S640x320 .f32)), y ∈ pc.1.set :=
  View.cover_of_tiled [⟨rO, p0⟩] S640x320.size (by rfl) y

set_option maxHeartbeats 1000000 in
/-- The body, from the operands' staging memrefs at `x0 … x8` and the result's at anything, leaves the operands' as they
    were and the result's at `outBlk`. -/
theorem sound_out (c : Dev nD) (E : Set ℕ) (i : grid2.Coords)
    (a1 : Memref sig .tc .vmem S640x128 .f32) (h1 : a1.IsWhole) (a2 : Memref sig .tc .vmem S64x1280 .f32) (h2 : a2.IsWhole)
    (a3 : Memref sig .tc .vmem S640x1 .i32) (h3 : a3.IsWhole) (a4 : Memref sig .tc .vmem S64x10 .i32) (h4 : a4.IsWhole)
    (a5 : Memref sig .tc .vmem S32x320 .f32) (h5 : a5.IsWhole) (a6 : Memref sig .tc .vmem S320x320 .f32) (h6 : a6.IsWhole)
    (a7 : Memref sig .tc .vmem S320x320 .f32) (h7 : a7.IsWhole) (a8 : Memref sig .tc .vmem S1x320 .f32) (h8 : a8.IsWhole)
    (a9 : Memref sig .tc .vmem S1x320 .f32) (h9 : a9.IsWhole) (a10 : Memref sig .tc .vmem S640x320 .f32) (h10 : a10.IsWhole)
    (x0 : Vec F S640x128 .f32) (x1 : Vec F S64x1280 .f32) (x2 : Vec F S640x1 .i32) (x3 : Vec F S64x10 .i32)
    (x4 : Vec F S32x320 .f32) (x5 : Vec F S320x320 .f32) (x6 : Vec F S320x320 .f32) (x7 : Vec F S1x320 .f32) (x8 : Vec F S1x320 .f32)
    (Q : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ (∃ d, owns (c : Thread nD τ) a10 fullShare d)
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ owns (c : Thread nD τ) a10 fullShare (outBlk x0 x1 x2 x3 x4 x5 x6 x7 x8)) -∗ Q ⟨⟩))
      ⊢ wp frame (wpE (defs₀ (F := F)) Variants.none c none) E (cc2__out_body i a1 h1 a2 h2 a3 h3 a4 h4 a5 h5 a6 h6 a7 h7 a8 h8 a9 h9 a10 h10) Q := by
  simp only [cc2__out_body_eq_skeleton]; unfold cc2__out_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  iexists _; isplitr
  swap; · iexact H9
  ipureintro
  refine (View.read_writes_eq_canon _ _ _ (cover_out _)).trans ?_
  rfl

/-! ## The proof data -/

variable (V : (c : Dev nD) → (b : Ref sig .tc) → Buf (Elt F) ((c : Thread nD τ).loc b))

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The result's block at point `t`. -/
def oblk (c : Dev nD) (t : Fin cfg2.N) : Vec F S640x320 .f32 :=
  outBlk (iblk V c 0 t) (iblk V c 1 t) (iblk V c 2 t) (iblk V c 3 t) (iblk V c 4 t) (iblk V c 5 t) (iblk V c 6 t) (iblk V c 7 t) (iblk V c 8 t)

/-- The core's debt and recorded waits around the call, after the gathering call. -/
abbrev outOwed (c : Dev nD) : CellTallies nD τ sig (HIx 1) := (K (F := F)).Otc c 1
abbrev outRec (c : Dev nD) : Set (SemLoc sig × HIx 1) := {p | (K (F := F)).lev (T c, p.1) p.2 ≤ 8 * 1}

/-- The call's proof data: the arrays as the call finds them; after the body each operand's buffer at its block and the
    result's at `oblk`. -/
def dat (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => oblk V c t
  Φ _ := Pipeline.scopedRest (Ix := HIx 1) (Name := ℕ) (U := UU) (Lvl := ℕ) (Val := Elt F) spec2 c
  q _ := fullShare
  owed _ := outOwed (F := F) c
  recorded _ := outRec (F := F) c

/-- The proof data's arrays are the entry contents. -/
theorem dat_A (c : Dev nD) (w : Fin cfg2.W) : (dat V c).A w = V c (Pipeline.arrRef spec2 w) := by
  dsimp only [dat]

/-- The result's block is what the proof data say of window 9. -/
theorem dat_after_out (c : Dev nD) (t : Fin cfg2.N) : (dat V c).after 9 t = oblk V c t := by dsimp only [dat]

/-- An operand's current staging buffer holds its block at every point, fetched there or not. -/
theorem before_of (c : Dev nD) (w : Fin cfg2.W) (hin : (cfg2.win w).isOut = false) (hlive : ∀ i, cfg2.idle w i = false)
    (hclip : ∀ t t' : Fin cfg2.N, (cfg2.win w).index t = (cfg2.win w).index t' → (cfg2.win w).clip (cfg2.grid.coords t) = (cfg2.win w).clip (cfg2.grid.coords t'))
    (hkeep : ∀ t, (cfg2.win w).cut (cfg2.grid.coords t) ((dat V c).after w t) = (dat V c).blockOf w t)
    (t : Fin cfg2.N) (d) : (dat V c).before w t d = (dat V c).fetched w t d :=
  (dat V c).before_in_eq_fetched w hin hlive hclip hkeep t d

theorem before_0 (c : Dev nD) (t : Fin cfg2.N) (d) : (dat V c).before 0 t d = iblk V c 0 t := before_of V c 0 rfl (fun _ => rfl) (fun _ _ _ => rfl) (fun _ => rfl) t d
theorem before_1 (c : Dev nD) (t : Fin cfg2.N) (d) : (dat V c).before 1 t d = iblk V c 1 t := before_of V c 1 rfl (fun _ => rfl) (fun _ _ _ => rfl) (fun _ => rfl) t d
theorem before_2 (c : Dev nD) (t : Fin cfg2.N) (d) : (dat V c).before 2 t d = iblk V c 2 t := before_of V c 2 rfl (fun _ => rfl) (fun _ _ _ => rfl) (fun _ => rfl) t d
theorem before_3 (c : Dev nD) (t : Fin cfg2.N) (d) : (dat V c).before 3 t d = iblk V c 3 t := before_of V c 3 rfl (fun _ => rfl) (fun _ _ _ => rfl) (fun _ => rfl) t d
theorem before_4 (c : Dev nD) (t : Fin cfg2.N) (d) : (dat V c).before 4 t d = iblk V c 4 t := before_of V c 4 rfl (fun _ => rfl) (fun _ _ _ => rfl) (fun _ => rfl) t d
theorem before_5 (c : Dev nD) (t : Fin cfg2.N) (d) : (dat V c).before 5 t d = iblk V c 5 t := before_of V c 5 rfl (fun _ => rfl) (fun _ _ _ => rfl) (fun _ => rfl) t d
theorem before_6 (c : Dev nD) (t : Fin cfg2.N) (d) : (dat V c).before 6 t d = iblk V c 6 t := before_of V c 6 rfl (fun _ => rfl) (fun _ _ _ => rfl) (fun _ => rfl) t d
theorem before_7 (c : Dev nD) (t : Fin cfg2.N) (d) : (dat V c).before 7 t d = iblk V c 7 t := before_of V c 7 rfl (fun _ => rfl) (fun _ _ _ => rfl) (fun _ => rfl) t d
theorem before_8 (c : Dev nD) (t : Fin cfg2.N) (d) : (dat V c).before 8 t d = iblk V c 8 t := before_of V c 8 rfl (fun _ => rfl) (fun _ _ _ => rfl) (fun _ => rfl) t d

/-- The body table's row at a point is the body at that point's staging memrefs. -/
theorem row_out (t : Fin cfg2.N) : defs₀ (F := F) .tc cfg2.body (cfg2.bodyArgs t (cfg2.slots t)) = bodyAt2 t := by
  unfold defs₀; rfl

/-- What the body is called with at a point. -/
def outPre (c : Dev nD) (t : Fin cfg2.N) : sProp 𝕄 :=
  iprop((dat V c).Φ t.castSucc ∗ (dat V c).owesAt none t.castSucc
    ∗ (∃ d, owns (c : Thread nD τ) (st2_0 t) fullShare ((dat V c).before 0 t d)) ∗ (∃ d, owns (c : Thread nD τ) (st2_1 t) fullShare ((dat V c).before 1 t d))
    ∗ (∃ d, owns (c : Thread nD τ) (st2_2 t) fullShare ((dat V c).before 2 t d)) ∗ (∃ d, owns (c : Thread nD τ) (st2_3 t) fullShare ((dat V c).before 3 t d))
    ∗ (∃ d, owns (c : Thread nD τ) (st2_4 t) fullShare ((dat V c).before 4 t d)) ∗ (∃ d, owns (c : Thread nD τ) (st2_5 t) fullShare ((dat V c).before 5 t d))
    ∗ (∃ d, owns (c : Thread nD τ) (st2_6 t) fullShare ((dat V c).before 6 t d)) ∗ (∃ d, owns (c : Thread nD τ) (st2_7 t) fullShare ((dat V c).before 7 t d))
    ∗ (∃ d, owns (c : Thread nD τ) (st2_8 t) fullShare ((dat V c).before 8 t d)) ∗ (∃ d, owns (c : Thread nD τ) (st2_9 t) fullShare ((dat V c).before 9 t d)))

/-- What it returns. -/
def outPost (c : Dev nD) (t : Fin cfg2.N) : sProp 𝕄 :=
  iprop((dat V c).Φ t.succ ∗ (dat V c).owesAt none t.succ
    ∗ owns (c : Thread nD τ) (st2_0 t) fullShare ((dat V c).after 0 t) ∗ owns (c : Thread nD τ) (st2_1 t) fullShare ((dat V c).after 1 t)
    ∗ owns (c : Thread nD τ) (st2_2 t) fullShare ((dat V c).after 2 t) ∗ owns (c : Thread nD τ) (st2_3 t) fullShare ((dat V c).after 3 t)
    ∗ owns (c : Thread nD τ) (st2_4 t) fullShare ((dat V c).after 4 t) ∗ owns (c : Thread nD τ) (st2_5 t) fullShare ((dat V c).after 5 t)
    ∗ owns (c : Thread nD τ) (st2_6 t) fullShare ((dat V c).after 6 t) ∗ owns (c : Thread nD τ) (st2_7 t) fullShare ((dat V c).after 7 t)
    ∗ owns (c : Thread nD τ) (st2_8 t) fullShare ((dat V c).after 8 t) ∗ owns (c : Thread nD τ) (st2_9 t) fullShare ((dat V c).after 9 t))

/-- The body at any point. -/
theorem sound_body (c : Dev nD) (t : Fin cfg2.N) :
    outPre V c t ⊢ wp frame (wpE (defs₀ (F := F)) Variants.none c none) Set.univ (bodyAt2 t) (fun _ => outPost V c t) := by
  unfold outPre outPost bodyAt2
  simp only [before_0, before_1, before_2, before_3, before_4, before_5, before_6, before_7, before_8]
  rw [show (dat V c).Φ t.succ = (dat V c).Φ t.castSucc from rfl,
    show (dat V c).owesAt none t.succ = (dat V c).owesAt none t.castSucc from rfl, dat_after_out]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_out c Set.univ (grid2.coords t) _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation. -/
theorem body_out (c : Dev nD) : BodyObligation (dat V c) (defs₀ (F := F)) Variants.none none Set.univ := fun t => by
  rw [bigSep_W2, bigSep_W2, row_out]
  exact triple_restated (sound_body V c t) rfl .rfl fun _ => .rfl

/-! ## The call as a step of @main -/

/-- No prefetched table. -/
abbrev adm : (p : Fin 2) → (pcfgs (F := F) p).Adm := fun p => (cfgs p).toPCfg_adm

/-- The result's array after the call. -/
def outArr (c : Dev nD) : Buf (Elt F) ((c : Thread nD τ).loc main_v49) := (dat V c).arrAt 9 cfg2.N

/-- Every unscoped buffer after the call: the result's at `outArr`, the others as before. -/
def outVal (c : Dev nD) (b : Ref sig .tc) : Buf (Elt F) ((c : Thread nD τ).loc b) :=
  Function.update (V c) main_v49 (outArr V c) b

theorem owed_none (c : Dev nD) (n : ℕ) (g : GSem nD τ sig) : (K (F := F)).Otc c n g none = 0 := by
  by_contra h
  have := SparseCore.Cfg.lev_of_Otc_pos (Nat.pos_of_ne_zero h)
  rw [SparseCore.Cfg.lev_none] at this
  omega

/-- An operand's array is as the call found it. -/
theorem arr_in (c : Dev nD) (w : Fin cfg2.W) (hw : (cfg2.win w).isOut = false) (hne : Pipeline.arrRef spec2 w ≠ main_v49) :
    (dat V c).arrAt w cfg2.N = outVal V c (Pipeline.arrRef spec2 w) :=
  ((dat V c).arrAt_in w hw _).trans ((dat_A V c w).trans (Function.update_of_ne hne _ _).symm)

theorem arr_out (c : Dev nD) : ∀ w : Fin cfg2.W, (dat V c).arrAt w cfg2.N = outVal V c (Pipeline.arrRef spec2 w)
  | 0 => arr_in V c 0 rfl (by decide)
  | 1 => arr_in V c 1 rfl (by decide)
  | 2 => arr_in V c 2 rfl (by decide)
  | 3 => arr_in V c 3 rfl (by decide)
  | 4 => arr_in V c 4 rfl (by decide)
  | 5 => arr_in V c 5 rfl (by decide)
  | 6 => arr_in V c 6 rfl (by decide)
  | 7 => arr_in V c 7 rfl (by decide)
  | 8 => arr_in V c 8 rfl (by decide)
  | 9 => (Function.update_self main_v49 (outArr V c) (V c)).symm

theorem out_rest (c : Dev nD) (b : Ref sig .tc) (hb : b ∉ Finset.univ.image (Pipeline.arrRef spec2)) : outVal V c b = V c b :=
  Function.update_of_ne (fun h => hb (by rw [h]; exact Finset.mem_image.mpr ⟨9, Finset.mem_univ _, rfl⟩)) _ _

theorem out_pairs (c : Dev nD) : cfg2.waitPairs (none : HIx 1) ⊆ outRec (F := F) c := fun p hp => by
  obtain ⟨w, s, rfl⟩ := hp
  show (K (F := F)).lev _ none ≤ _
  rw [SparseCore.Cfg.lev_none]; omega

theorem out_phi (c : Dev nD) (t : Fin (cfg2.N + 1)) : (dat V c).Φ t = Pipeline.scopedRest (Ix := HIx 1) (Name := ℕ) (U := UU) (Lvl := ℕ) (Val := Elt F) spec2 c := by
  dsimp only [dat]

theorem out_share (c : Dev nD) (w : Fin cfg2.W) : (dat V c).share w = fullShare := (dat V c).share_full (fun _ => rfl) w

end Cert.Proof.Ker

end
-- ==== Proof.KerSegs.lean ====
/-
  The two TensorCore calls of the program as steps of @main, each over every unscoped buffer.
-/
module

public import proofs.«01_k».proof.Proof.KerIdx
public import proofs.«01_k».proof.Proof.KerOut
public import proofs.«01_k».proof.Proof.Region
public import Idealize.ShloMosaic.Lib.Pipeline.RegionsOwned
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Ker

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (V0 V1 : (c : Dev nD) → (b : Ref sig .tc) → Buf (Elt F) ((c : Thread nD τ).loc b))

set_option backward.isDefEq.respectTransparency.types false in
/-- The two calls' proof data. -/
def dats : (p : Fin 2) → (c : Dev nD) → Dat τ (Elt F) (HIx 1) ℕ UU ℕ (Pipeline.pin pcfgs (adm (F := F)) p) c
  | 0 => fun c => Idx.dat V0 c
  | 1 => fun c => dat V1 c

theorem idx_waits (c : Dev nD) : (levAts (K (F := F)).L (K (F := F)).lev : sProp 𝕄)
    ⊢ Pipeline.cellsWaits (Pipeline.pin pcfgs (adm (F := F))) (dats V0 V1) none 0 c :=
  Pipeline.cellsWaits_intro _ _ _ 0 c fun _ _ _ => (K (F := F)).mayWait_none _ (owed_none c 0)

theorem out_waits (c : Dev nD) : (levAts (K (F := F)).L (K (F := F)).lev : sProp 𝕄)
    ⊢ Pipeline.cellsWaits (Pipeline.pin pcfgs (adm (F := F))) (dats V0 V1) none 1 c :=
  Pipeline.cellsWaits_intro _ _ _ 1 c fun _ _ _ => (K (F := F)).mayWait_none _ (owed_none c 1)

theorem idx_loose (c : Dev nD) : Pipeline.BodyObligationLoose (dats V0 V1 0 c) (defs₀ (F := F)) Variants.none none Set.univ := (Idx.body_idx V0 c).loose
theorem out_loose (c : Dev nD) : Pipeline.BodyObligationLoose (dats V0 V1 1 c) (defs₀ (F := F)) Variants.none none Set.univ := (body_out V1 c).loose

set_option backward.isDefEq.respectTransparency.types false in
/-- The scoring call, entered with the unscoped buffers at `V0` and left with them at `Idx.idxVal V0`. -/
def idxSeg : Pipeline.RegionSeg pcfgs (adm (F := F)) (dats V0 V1) none defs₀ Variants.none (K (F := F)).L (K (F := F)).lev 0 :=
  Region.seg pcfgs adm (dats V0 V1) none defs₀ Variants.none (K (F := F)).L (K (F := F)).lev 0 winFacts0 block_pos0 arr_whole0 stage_whole0 rfl
    (idx_loose V0 V1) (idx_waits V0 V1) (fun c => Idx.idxOwed c) (fun c => Idx.idxRec (F := F) c) (fun _ _ => rfl) (fun _ _ => rfl)
    Idx.idx_pairs (Idx.idx_phi V0) (Idx.idx_share V0)
    V0 (Idx.idxVal V0) (fun c w => Idx.dat_A V0 c w) (Idx.arr_all V0) (Idx.idx_rest V0)

set_option backward.isDefEq.respectTransparency.types false in
/-- The projecting call, entered with the unscoped buffers at `V1` and left with them at `outVal V1`. -/
def outSeg : Pipeline.RegionSeg pcfgs (adm (F := F)) (dats V0 V1) none defs₀ Variants.none (K (F := F)).L (K (F := F)).lev 1 :=
  Region.seg pcfgs adm (dats V0 V1) none defs₀ Variants.none (K (F := F)).L (K (F := F)).lev 1 winFacts2 block_pos2 arr_whole2 stage_whole2 rfl
    (out_loose V0 V1) (out_waits V0 V1) (fun c => outOwed c) (fun c => outRec (F := F) c) (fun _ _ => rfl) (fun _ _ => rfl)
    out_pairs (out_phi V1) (out_share V1)
    V1 (outVal V1) (fun c w => dat_A V1 c w) (arr_out V1) (out_rest V1)

end Cert.Proof.Ker

end
-- ==== Proof.KerOps.lean ====
/-
  The host operations of the program: three stretches, with the two calls between them.
-/
module

public import proofs.«01_k».proof.Proof.KerSc
public import Idealize.ShloMosaic.Lib.StableHlo.Run

@[expose] public section

set_option maxRecDepth 16384

noncomputable section

namespace Cert.Proof.Ker

open Cert.KernelIdeal Cert.KernelIdeal.Gen

open Idealize.ShloMosaic Idealize.ShloMosaic.TcCoe
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)

variable {F : FTy → Type} [FloatOps F] [Named F]

/-! ## The host operations -/

/-- The padded tables of the scoring call. -/
abbrev opsI : List (HloOp τ sig (Elt F)) :=
  [ nullary main_cst (constant S_ .f32 0x00000000#32),
    unary main_cst main_v0 (broadcastInDim S3x128x128 ![] bcast_S_S3x128x128 : (⟨S_, .f32⟩ : BufTy).Contents (Elt F) → (⟨S3x128x128, .f32⟩ : BufTy).Contents (Elt F)),
    unary main_arg4 main_v1 ((transpose S3x126x126 [0, 2, 1] · transposes_S3x126x126_S3x126x126_0_2_1) : (⟨S3x126x126, .f32⟩ : BufTy).Contents (Elt F) → (⟨S3x126x126, .f32⟩ : BufTy).Contents (Elt F)),
    nullary main_c (constantI S_ 32 0#32),
    unary main_c main_v2 (broadcastInDim S1 ![] bcast_S_S1 : (⟨S_, .i32⟩ : BufTy).Contents (Elt F) → (⟨S1, .i32⟩ : BufTy).Contents (Elt F)),
    nullary main_c_0 (constantI S_ 32 0#32),
    unary main_c_0 main_v3 (broadcastInDim S1 ![] bcast_S_S1 : (⟨S_, .i32⟩ : BufTy).Contents (Elt F) → (⟨S1, .i32⟩ : BufTy).Contents (Elt F)),
    binary main_v2 main_v3 main_v4 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v0 main_v4 main_v1 main_v5 ((fun x i u => Host.scatter scatter_S3x128x128_S2_S3x126x126_012_n_12_0 (fun _ b => b) x i u) : (⟨S3x128x128, .f32⟩ : BufTy).Contents (Elt F) → (⟨S2, .i32⟩ : BufTy).Contents (Elt F) → (⟨S3x126x126, .f32⟩ : BufTy).Contents (Elt F) → (⟨S3x128x128, .f32⟩ : BufTy).Contents (Elt F)),
    nullary main_cst_1 (constant S_ .f32 0x00000000#32),
    unary main_cst_1 main_v6 (broadcastInDim S3x1x128 ![] bcast_S_S3x1x128 : (⟨S_, .f32⟩ : BufTy).Contents (Elt F) → (⟨S3x1x128, .f32⟩ : BufTy).Contents (Elt F)),
    nullary main_c_2 (constantI S_ 32 0#32),
    unary main_c_2 main_v7 (broadcastInDim S1 ![] bcast_S_S1 : (⟨S_, .i32⟩ : BufTy).Contents (Elt F) → (⟨S1, .i32⟩ : BufTy).Contents (Elt F)),
    nullary main_c_3 (constantI S_ 32 0#32),
    unary main_c_3 main_v8 (broadcastInDim S1 ![] bcast_S_S1 : (⟨S_, .i32⟩ : BufTy).Contents (Elt F) → (⟨S1, .i32⟩ : BufTy).Contents (Elt F)),
    binary main_v7 main_v8 main_v9 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v6 main_v9 main_arg5 main_v10 ((fun x i u => Host.scatter scatter_S3x1x128_S2_S3x126_01_1_12_0 (fun _ b => b) x i u) : (⟨S3x1x128, .f32⟩ : BufTy).Contents (Elt F) → (⟨S2, .i32⟩ : BufTy).Contents (Elt F) → (⟨S3x126, .f32⟩ : BufTy).Contents (Elt F) → (⟨S3x1x128, .f32⟩ : BufTy).Contents (Elt F)),
    unary main_arg2 main_v11 ((transpose S32x32 [1, 0] · transposes_S32x32_S32x32_1_0) : (⟨S32x32, .f32⟩ : BufTy).Contents (Elt F) → (⟨S32x32, .f32⟩ : BufTy).Contents (Elt F)),
    unary main_arg3 main_v12 ((transpose S32x32 [1, 0] · transposes_S32x32_S32x32_1_0) : (⟨S32x32, .f32⟩ : BufTy).Contents (Elt F) → (⟨S32x32, .f32⟩ : BufTy).Contents (Elt F)) ]

abbrev opsA : List (HloOp τ sig (Elt F)) :=
  [ reshape main_arg0 main_v14 (rfl : (.f32 : EltTy) = .f32) shapeCasts_S16384x100x32_S409600x128,
    reshape main_arg1 main_v15 (rfl : (.f32 : EltTy) = .f32) shapeCasts_S16384x26x32_S106496x128,
    reshape main_v13_0 main_v16 (rfl : (.i32 : EltTy) = .i32) shapeCasts_S16384x10_S163840,
    reshape main_v13_2 main_v17 (rfl : (.i32 : EltTy) = .i32) shapeCasts_S16384x10_S163840 ]

abbrev opsB : List (HloOp τ sig (Elt F)) :=
  [ unary main_arg2 main_v19 ((transpose S32x32 [1, 0] · transposes_S32x32_S32x32_1_0) : (⟨S32x32, .f32⟩ : BufTy).Contents (Elt F) → (⟨S32x32, .f32⟩ : BufTy).Contents (Elt F)),
    reshape main_v19 main_v20 (rfl : (.f32 : EltTy) = .f32) shapeCasts_S32x32_S1x32x1x32,
    unary main_v20 main_v21 (broadcastInDim S1x32x10x32 ![0, 1, 2, 3] bcast_S1x32x1x32_S1x32x10x32_0_1_2_3 : (⟨S1x32x1x32, .f32⟩ : BufTy).Contents (Elt F) → (⟨S1x32x10x32, .f32⟩ : BufTy).Contents (Elt F)),
    reshape main_v21 main_v22 (rfl : (.f32 : EltTy) = .f32) shapeCasts_S1x32x10x32_S32x320,
    nullary main_v23 (iotaInDim S10x10 32 0),
    nullary main_v24 (iotaInDim S10x10 32 1),
    nullary main_c_4 (constantI S_ 32 0#32),
    unary main_c_4 main_v25 (broadcastInDim S10x10 ![] bcast_S_S10x10 : (⟨S_, .i32⟩ : BufTy).Contents (Elt F) → (⟨S10x10, .i32⟩ : BufTy).Contents (Elt F)),
    binary main_v23 main_v25 main_v26 (addi : (⟨S10x10, .i32⟩ : BufTy).Contents (Elt F) → (⟨S10x10, .i32⟩ : BufTy).Contents (Elt F) → (⟨S10x10, .i32⟩ : BufTy).Contents (Elt F)),
    binary main_v26 main_v24 main_v27 (cmpi .eq : (⟨S10x10, .i32⟩ : BufTy).Contents (Elt F) → (⟨S10x10, .i32⟩ : BufTy).Contents (Elt F) → (⟨S10x10, .i1⟩ : BufTy).Contents (Elt F)),
    unary main_v27 main_v28 (uitofp .f32 : (⟨S10x10, .i1⟩ : BufTy).Contents (Elt F) → (⟨S10x10, .f32⟩ : BufTy).Contents (Elt F)),
    unary main_arg3 main_v29 ((transpose S32x32 [1, 0] · transposes_S32x32_S32x32_1_0) : (⟨S32x32, .f32⟩ : BufTy).Contents (Elt F) → (⟨S32x32, .f32⟩ : BufTy).Contents (Elt F)),
    TRef.unary (TRef.of (T := ⟨S10x10, .f32⟩) main_v28) (TRef.of (T := ⟨S10x1x10x1, .f32⟩) main_call0_v0) (broadcastInDim S10x1x10x1 ![0, 2] bcast_S10x10_S10x1x10x1_0_2),
    TRef.unary (TRef.of (T := ⟨S32x32, .f32⟩) main_v29) (TRef.of (T := ⟨S1x32x1x32, .f32⟩) main_call0_v1) (broadcastInDim S1x32x1x32 ![1, 3] bcast_S32x32_S1x32x1x32_1_3),
    TRef.unary (TRef.of (T := ⟨S10x1x10x1, .f32⟩) main_call0_v0) (TRef.of (T := ⟨S10x32x10x32, .f32⟩) main_call0_v2) (broadcastInDim S10x32x10x32 ![0, 1, 2, 3] bcast_S10x1x10x1_S10x32x10x32_0_1_2_3),
    TRef.unary (TRef.of (T := ⟨S1x32x1x32, .f32⟩) main_call0_v1) (TRef.of (T := ⟨S10x32x10x32, .f32⟩) main_call0_v3) (broadcastInDim S10x32x10x32 ![0, 1, 2, 3] bcast_S1x32x1x32_S10x32x10x32_0_1_2_3),
    TRef.binary (TRef.of (T := ⟨S10x32x10x32, .f32⟩) main_call0_v2) (TRef.of (T := ⟨S10x32x10x32, .f32⟩) main_call0_v3) (TRef.of (T := ⟨S10x32x10x32, .f32⟩) main_call0_v4) mulf,
    TRef.reshape (TRef.of (T := ⟨S10x32x10x32, .f32⟩) main_call0_v4) (TRef.of (T := ⟨S320x320, .f32⟩) main_v30) (rfl : (.f32 : EltTy) = .f32) shapeCasts_S10x32x10x32_S320x320,
    nullary main_v31 (iotaInDim S10x10 32 0),
    nullary main_v32 (iotaInDim S10x10 32 1),
    nullary main_c_5 (constantI S_ 32 0#32),
    unary main_c_5 main_v33 (broadcastInDim S10x10 ![] bcast_S_S10x10 : (⟨S_, .i32⟩ : BufTy).Contents (Elt F) → (⟨S10x10, .i32⟩ : BufTy).Contents (Elt F)),
    binary main_v31 main_v33 main_v34 (addi : (⟨S10x10, .i32⟩ : BufTy).Contents (Elt F) → (⟨S10x10, .i32⟩ : BufTy).Contents (Elt F) → (⟨S10x10, .i32⟩ : BufTy).Contents (Elt F)),
    binary main_v34 main_v32 main_v35 (cmpi .eq : (⟨S10x10, .i32⟩ : BufTy).Contents (Elt F) → (⟨S10x10, .i32⟩ : BufTy).Contents (Elt F) → (⟨S10x10, .i1⟩ : BufTy).Contents (Elt F)),
    unary main_v35 main_v36 (uitofp .f32 : (⟨S10x10, .i1⟩ : BufTy).Contents (Elt F) → (⟨S10x10, .f32⟩ : BufTy).Contents (Elt F)),
    nullary main_cst_6 (constant S_ .f32 0x3D000000#32),
    unary main_cst_6 main_v37 (broadcastInDim S32x32 ![] bcast_S_S32x32 : (⟨S_, .f32⟩ : BufTy).Contents (Elt F) → (⟨S32x32, .f32⟩ : BufTy).Contents (Elt F)),
    TRef.unary (TRef.of (T := ⟨S10x10, .f32⟩) main_v36) (TRef.of (T := ⟨S10x1x10x1, .f32⟩) main_call1_v0) (broadcastInDim S10x1x10x1 ![0, 2] bcast_S10x10_S10x1x10x1_0_2),
    TRef.unary (TRef.of (T := ⟨S32x32, .f32⟩) main_v37) (TRef.of (T := ⟨S1x32x1x32, .f32⟩) main_call1_v1) (broadcastInDim S1x32x1x32 ![1, 3] bcast_S32x32_S1x32x1x32_1_3),
    TRef.unary (TRef.of (T := ⟨S10x1x10x1, .f32⟩) main_call1_v0) (TRef.of (T := ⟨S10x32x10x32, .f32⟩) main_call1_v2) (broadcastInDim S10x32x10x32 ![0, 1, 2, 3] bcast_S10x1x10x1_S10x32x10x32_0_1_2_3),
    TRef.unary (TRef.of (T := ⟨S1x32x1x32, .f32⟩) main_call1_v1) (TRef.of (T := ⟨S10x32x10x32, .f32⟩) main_call1_v3) (broadcastInDim S10x32x10x32 ![0, 1, 2, 3] bcast_S1x32x1x32_S10x32x10x32_0_1_2_3),
    TRef.binary (TRef.of (T := ⟨S10x32x10x32, .f32⟩) main_call1_v2) (TRef.of (T := ⟨S10x32x10x32, .f32⟩) main_call1_v3) (TRef.of (T := ⟨S10x32x10x32, .f32⟩) main_call1_v4) mulf,
    TRef.reshape (TRef.of (T := ⟨S10x32x10x32, .f32⟩) main_call1_v4) (TRef.of (T := ⟨S320x320, .f32⟩) main_v38) (rfl : (.f32 : EltTy) = .f32) shapeCasts_S10x32x10x32_S320x320,
    reshape main_arg6 main_v39 (rfl : (.f32 : EltTy) = .f32) shapeCasts_S32_S1x32,
    unary main_v39 main_v40 (broadcastInDim S10x32 ![0, 1] bcast_S1x32_S10x32_0_1 : (⟨S1x32, .f32⟩ : BufTy).Contents (Elt F) → (⟨S10x32, .f32⟩ : BufTy).Contents (Elt F)),
    reshape main_v40 main_v41 (rfl : (.f32 : EltTy) = .f32) shapeCasts_S10x32_S320,
    reshape main_v41 main_v42 (rfl : (.f32 : EltTy) = .f32) shapeCasts_S320_S1x320,
    reshape main_arg7 main_v43 (rfl : (.f32 : EltTy) = .f32) shapeCasts_S32_S1x32,
    unary main_v43 main_v44 (broadcastInDim S10x32 ![0, 1] bcast_S1x32_S10x32_0_1 : (⟨S1x32, .f32⟩ : BufTy).Contents (Elt F) → (⟨S10x32, .f32⟩ : BufTy).Contents (Elt F)),
    reshape main_v44 main_v45 (rfl : (.f32 : EltTy) = .f32) shapeCasts_S10x32_S320,
    reshape main_v45 main_v46 (rfl : (.f32 : EltTy) = .f32) shapeCasts_S320_S1x320,
    reshape main_v18_1 main_v47 (rfl : (.f32 : EltTy) = .f32) shapeCasts_S163840x128_S16384x1280,
    reshape main_v13_1 main_v48 (rfl : (.i32 : EltTy) = .i32) shapeCasts_S16384x10_S163840x1 ]

abbrev opsC : List (HloOp τ sig (Elt F)) :=
  [ reshape main_v49 main_v50 (rfl : (.f32 : EltTy) = .f32) shapeCasts_S163840x320_S16384x100x32 ]

set_option maxHeartbeats 4000000 in
/-- @main is its three stretches of host operations with the two calls between them. -/
theorem main_split (d : Dev nD) : main (F := F) d
    = (seq opsI >>= fun _ => Prog.lift (.customCall (SparseCore.inner (Pipeline.entry 0)) ()) >>= fun _ => seq opsA >>= fun _ => sc.run d 0 >>= fun _ => seq opsB >>= fun _ =>
        Prog.lift (.customCall (SparseCore.inner (Pipeline.entry 1)) ()) >>= fun _ => seq opsC >>= fun _ => pure ⟨⟩) := rfl

theorem opsI_sub : (opsI : List (HloOp τ sig (Elt F))).Forall fun op => op.bufs ⊆ tcRefs τ sig :=
  ⟨nullary_bufs_sub .., unary_bufs_sub .., unary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., nullary_bufs_sub .., unary_bufs_sub .., binary_bufs_sub .., ternary_bufs_sub .., unary_bufs_sub .., unary_bufs_sub ..⟩
theorem opsA_sub : (opsA : List (HloOp τ sig (Elt F))).Forall fun op => op.bufs ⊆ tcRefs τ sig :=
  ⟨reshape_bufs_sub .., reshape_bufs_sub .., reshape_bufs_sub .., reshape_bufs_sub ..⟩
theorem opsC_sub : (opsC : List (HloOp τ sig (Elt F))).Forall fun op => op.bufs ⊆ tcRefs τ sig := reshape_bufs_sub ..
theorem opsB_sub : (opsB : List (HloOp τ sig (Elt F))).Forall fun op => op.bufs ⊆ tcRefs τ sig :=
  ⟨unary_bufs_sub .., reshape_bufs_sub .., unary_bufs_sub .., reshape_bufs_sub .., nullary_bufs_sub .., nullary_bufs_sub .., nullary_bufs_sub .., unary_bufs_sub .., binary_bufs_sub .., binary_bufs_sub .., unary_bufs_sub .., unary_bufs_sub .., unary_bufs_sub .., unary_bufs_sub .., unary_bufs_sub .., unary_bufs_sub .., binary_bufs_sub .., reshape_bufs_sub .., nullary_bufs_sub .., nullary_bufs_sub .., nullary_bufs_sub .., unary_bufs_sub .., binary_bufs_sub .., binary_bufs_sub .., unary_bufs_sub .., nullary_bufs_sub .., unary_bufs_sub .., unary_bufs_sub .., unary_bufs_sub .., unary_bufs_sub .., unary_bufs_sub .., binary_bufs_sub .., reshape_bufs_sub .., reshape_bufs_sub .., unary_bufs_sub .., reshape_bufs_sub .., reshape_bufs_sub .., reshape_bufs_sub .., unary_bufs_sub .., reshape_bufs_sub .., reshape_bufs_sub .., reshape_bufs_sub .., reshape_bufs_sub ..⟩

theorem opsI_fresh : (opsI : List (HloOp τ sig (Elt F))).Forall fun op => op.fresh = ∅ := ⟨rfl, rfl, rfl, rfl, rfl, rfl, rfl, rfl, rfl, rfl, rfl, rfl, rfl, rfl, rfl, rfl, rfl, rfl, rfl⟩
theorem opsA_fresh : (opsA : List (HloOp τ sig (Elt F))).Forall fun op => op.fresh = ∅ := ⟨rfl, rfl, rfl, rfl⟩
theorem opsC_fresh : (opsC : List (HloOp τ sig (Elt F))).Forall fun op => op.fresh = ∅ := rfl
theorem opsB_fresh : (opsB : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.Proof.Ker

end
-- ==== Proof.KerRun.lean ====
/-
  The program's run: the host operations that pad the cross layers' weights, the scoring call, the host operations that
  lay out the index lists and the tables, the gathering call, the host
  operations that build the projection tables, the normalising call, and the last reshape.
-/
module

public import proofs.«01_k».proof.Proof.KerCall
public import proofs.«01_k».proof.Proof.KerSegs
public import proofs.«01_k».proof.Proof.KerOps
public import Idealize.ShloMosaic.Lib.Pipeline.RegionsOwned

@[expose] public section

set_option maxRecDepth 16384

noncomputable section

namespace Cert.Proof.Ker

open Cert.KernelIdeal Cert.KernelIdeal.Gen

open Idealize.ShloMosaic Idealize.ShloMosaic.TcCoe
open Idealize.ShloMosaic.StableHlo
open Idealize.ShloMosaic.SparseCore.Cfg (HIx Pay)
open Idealize.ShloMosaic.Pipeline (Dat ucRefs sub_ucRefs unscopedBufs_held unscopedBufsBut unscopedBufs_sdiff owesWithin)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)

variable {F : FTy → Type} [FloatOps F] [Named F]

local notation "𝕄" => MT nD τ sig (HIx 1) (Elt F) ℕ UU ℕ

/-! ## The contents of the buffers along @main -/

variable (m : (ℓ : Loc nD τ sig) → Buf (Elt F) ℓ)

/-- Before the scoring call. -/
def valI (d : Dev nD) : Valuation τ sig (Elt F) := after opsI fun b => m (d, b)
/-- The same, at each core's references. -/
abbrev VI (d : Dev nD) (b : Ref sig .tc) : Buf (Elt F) ((d : Thread nD τ).loc b) := valI m d (Proc.devRef .tc b)
/-- After the scoring call. -/
def valJ (d : Dev nD) : Valuation τ sig (Elt F) :=
  Function.update (Function.update (Function.update (Function.update (valI m d) (Proc.devRef .tc main_v13_0) (Idx.arr6 (VI m) d))
    (Proc.devRef .tc main_v13_1) (Idx.arr7 (VI m) d)) (Proc.devRef .tc main_v13_2) (Idx.arr8 (VI m) d)) (Proc.devRef .tc main_v13_3) (Idx.arr9 (VI m) d)
/-- Before the gathering call: the four reshapes done. -/
def val1 (d : Dev nD) : Valuation τ sig (Elt F) := after opsA (valJ m d)
/-- The same, by location. -/
def W : (ℓ : Loc nD τ sig) → Buf (Elt F) ℓ := fun ℓ => val1 m ℓ.1 ℓ.2
/-- After the gathering call. -/
def val2 (d : Dev nD) : Valuation τ sig (Elt F) :=
  Function.update (Function.update (val1 m d) (Proc.devRef .tc main_v18_0) (gOut (W m) d)) (Proc.devRef .tc main_v18_1) (hOut (W m) d)
/-- Before the normalising call. -/
def val3 (d : Dev nD) : Valuation τ sig (Elt F) := after opsB (val2 m d)
/-- The same, at each core's references. -/
abbrev V3 (d : Dev nD) (b : Ref sig .tc) : Buf (Elt F) ((d : Thread nD τ).loc b) := val3 m d (Proc.devRef .tc b)
/-- After the normalising call. -/
def val4 (d : Dev nD) : Valuation τ sig (Elt F) := Function.update (val3 m d) (Proc.devRef .tc main_v49) (outArr (V3 m) d)
/-- At the end. -/
def val5 (d : Dev nD) : Valuation τ sig (Elt F) := after opsC (val4 m d)

theorem valJ_ne (d : Dev nD) (b : Ref sig .tc) (h0 : b ≠ main_v13_0) (h1 : b ≠ main_v13_1) (h2 : b ≠ main_v13_2) (h3 : b ≠ main_v13_3) :
    valJ m d (Proc.devRef .tc b) = valI m d (Proc.devRef .tc b) := by
  unfold valJ
  rw [Function.update_of_ne (fun h => h3 (Proc.devRef_injective _ h)), Function.update_of_ne (fun h => h2 (Proc.devRef_injective _ h)),
    Function.update_of_ne (fun h => h1 (Proc.devRef_injective _ h)), Function.update_of_ne (fun h => h0 (Proc.devRef_injective _ h))]
theorem valJ_0 (d : Dev nD) : valJ m d (Proc.devRef .tc main_v13_0) = Idx.arr6 (VI m) d := by
  unfold valJ
  rw [Function.update_of_ne (by decide), Function.update_of_ne (by decide), Function.update_of_ne (by decide), Function.update_self]
theorem valJ_1 (d : Dev nD) : valJ m d (Proc.devRef .tc main_v13_1) = Idx.arr7 (VI m) d := by
  unfold valJ
  rw [Function.update_of_ne (by decide), Function.update_of_ne (by decide), Function.update_self]
theorem valJ_2 (d : Dev nD) : valJ m d (Proc.devRef .tc main_v13_2) = Idx.arr8 (VI m) d := by
  unfold valJ
  rw [Function.update_of_ne (by decide), Function.update_self]
theorem valJ_3 (d : Dev nD) : valJ m d (Proc.devRef .tc main_v13_3) = Idx.arr9 (VI m) d := by
  unfold valJ
  rw [Function.update_self]

/-- The scoring call leaves every unscoped buffer at `valJ`. -/
theorem valJ_eq (d : Dev nD) (b : Ref sig .tc) : Idx.idxVal (VI m) d b = valJ m d (Proc.devRef .tc b) := by
  by_cases h0 : b = main_v13_0
  · subst h0; exact (Idx.idxVal_0 _ d).trans (valJ_0 m d).symm
  by_cases h1 : b = main_v13_1
  · subst h1; exact (Idx.idxVal_1 _ d).trans (valJ_1 m d).symm
  by_cases h2 : b = main_v13_2
  · subst h2; exact (Idx.idxVal_2 _ d).trans (valJ_2 m d).symm
  by_cases h3 : b = main_v13_3
  · subst h3; exact (Idx.idxVal_3 _ d).trans (valJ_3 m d).symm
  exact (Idx.idxVal_of_ne _ d b h0 h1 h2 h3).trans (valJ_ne m d b h0 h1 h2 h3).symm

theorem held_valJ (d : Dev nD) : (unscopedBufs d (Idx.idxVal (VI m) d) : sProp 𝕄) = held (d : Thread nD τ) (ucRefs τ sig) (valJ m d) := by
  rw [← unscopedBufs_held]
  congr 1
  exact funext fun b => valJ_eq m d b

/-- The six buffers the gathering call works on. -/
abbrev six : Finset (Ref sig .tc) := {main_v14, main_v15, main_v16, main_v17, main_v18_0, main_v18_1}

theorem held_six (d : Dev nD) (V : Valuation τ sig (Elt F)) :
    (held (d : Thread nD τ) (ucRefs τ sig) V : sProp 𝕄)
      = iprop(((tLoc d ↦{fullShare} V (Proc.devRef .tc main_v14)) ∗ (uLoc d ↦{fullShare} V (Proc.devRef .tc main_v15))
          ∗ (iLoc d ↦{fullShare} V (Proc.devRef .tc main_v16)) ∗ (jLoc d ↦{fullShare} V (Proc.devRef .tc main_v17))
          ∗ (gLoc d ↦{fullShare} V (Proc.devRef .tc main_v18_0)) ∗ (hLoc d ↦{fullShare} V (Proc.devRef .tc main_v18_1)))
        ∗ unscopedBufsBut six d fun b => V (Proc.devRef .tc b)) := by
  rw [← unscopedBufs_held, unscopedBufs_sdiff six (by decide) d]
  congr 1
  unfold six
  rw [SparseCore.bigSep_insert' (by decide), SparseCore.bigSep_insert' (by decide), SparseCore.bigSep_insert' (by decide),
    SparseCore.bigSep_insert' (by decide), SparseCore.bigSep_insert' (by decide), bigSep_singleton]

/-- The other buffers are the same before and after the gathering call. -/
theorem but_six (d : Dev nD) :
    (unscopedBufsBut six d (fun b => val1 m d (Proc.devRef .tc b)) : sProp 𝕄) = unscopedBufsBut six d fun b => val2 m d (Proc.devRef .tc b) := by
  unfold unscopedBufsBut
  refine bigSep_congr fun b hb => ?_
  have hb' := (Finset.mem_sdiff.mp hb).2
  have h0 : b ≠ main_v18_0 := fun h => hb' (by rw [h]; decide)
  have h1 : b ≠ main_v18_1 := fun h => hb' (by rw [h]; decide)
  congr 1
  show val1 m d (Proc.devRef .tc b) = val2 m d (Proc.devRef .tc b)
  unfold val2
  rw [Function.update_of_ne (fun h => h1 (Proc.devRef_injective _ h)), Function.update_of_ne (fun h => h0 (Proc.devRef_injective _ h))]

/-- What the gathering call is started with, all tasks together. -/
theorem st_eq (d : Dev nD) : (bigSep Finset.univ fun c : Fin ((K (F := F)).nCore 0) => (P (W m)).st 0 d c : sProp 𝕄)
    = iprop((tLoc d ↦{fullShare} W m (tLoc d)) ∗ (uLoc d ↦{fullShare} W m (uLoc d)) ∗ (iLoc d ↦{fullShare} W m (iLoc d))
        ∗ (jLoc d ↦{fullShare} W m (jLoc d)) ∗ (gLoc d ↦{fullShare} W m (gLoc d)) ∗ (hLoc d ↦{fullShare} W m (hLoc d))) :=
  (bufs_tasks (W m) d (W m (gLoc d)) (W m (hLoc d))).symm

/-- What it gives back. -/
theorem dn_eq (d : Dev nD) : (bigSep Finset.univ fun c : Fin ((K (F := F)).nCore 0) => (P (W m)).dn 0 d c : sProp 𝕄)
    = iprop((tLoc d ↦{fullShare} W m (tLoc d)) ∗ (uLoc d ↦{fullShare} W m (uLoc d)) ∗ (iLoc d ↦{fullShare} W m (iLoc d))
        ∗ (jLoc d ↦{fullShare} W m (jLoc d)) ∗ (gLoc d ↦{fullShare} gOut (W m) d) ∗ (hLoc d ↦{fullShare} hOut (W m) d)) :=
  (bufs_tasks (W m) d (gOut (W m) d) (hOut (W m) d)).symm

theorem val2_g (d : Dev nD) : val2 m d (Proc.devRef .tc main_v18_0) = gOut (W m) d := by
  unfold val2
  rw [Function.update_of_ne (by decide), Function.update_self]

theorem val2_h (d : Dev nD) : val2 m d (Proc.devRef .tc main_v18_1) = hOut (W m) d := by
  unfold val2
  rw [Function.update_self]

theorem val2_ne (d : Dev nD) (b : Ref sig .tc) (h0 : b ≠ main_v18_0) (h1 : b ≠ main_v18_1) :
    val2 m d (Proc.devRef .tc b) = W m ((d : Thread nD τ).loc b) := by
  unfold val2
  rw [Function.update_of_ne (fun h => h1 (Proc.devRef_injective _ h)), Function.update_of_ne (fun h => h0 (Proc.devRef_injective _ h))]
  rfl

/-- The six buffers and the rest, after the gathering call. -/
theorem held_back (d : Dev nD) :
    iprop(((tLoc d ↦{fullShare} W m (tLoc d)) ∗ (uLoc d ↦{fullShare} W m (uLoc d)) ∗ (iLoc d ↦{fullShare} W m (iLoc d))
        ∗ (jLoc d ↦{fullShare} W m (jLoc d)) ∗ (gLoc d ↦{fullShare} gOut (W m) d) ∗ (hLoc d ↦{fullShare} hOut (W m) d))
        ∗ unscopedBufsBut six d fun b => val1 m d (Proc.devRef .tc b))
      = (held (d : Thread nD τ) (ucRefs τ sig) (val2 m d) : sProp 𝕄) := by
  rw [held_six, but_six, val2_g, val2_h, val2_ne m d main_v14 (by decide) (by decide), val2_ne m d main_v15 (by decide) (by decide),
    val2_ne m d main_v16 (by decide) (by decide), val2_ne m d main_v17 (by decide) (by decide)]

/-! ## @main on the TensorCore -/

/-- The launch's ghost state: the handshakes' rounds, the staging rounds, the transfers' counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The ghost state of the two TensorCore calls on one core. -/
def G (d : Dev nD) : sProp 𝕄 :=
  iprop((bigSep Finset.univ fun p => Pipeline.cellsGhost (Pipeline.pin (pcfgs (F := F)) adm) EP p d)
    ∗ (bigSep Finset.univ fun p => (Pipeline.toksInit (Pipeline.pin (pcfgs (F := F)) adm) EP p d : sProp 𝕄)))

theorem G_eq (d : Dev nD) : (G d : sProp 𝕄) = iprop((Pipeline.cellsGhost (Pipeline.pin (pcfgs (F := F)) adm) EP 0 d ∗ Pipeline.cellsGhost (Pipeline.pin (pcfgs (F := F)) adm) EP 1 d)
    ∗ (Pipeline.toksInit (Pipeline.pin (pcfgs (F := F)) adm) EP 0 d ∗ Pipeline.toksInit (Pipeline.pin (pcfgs (F := F)) adm) EP 1 d)) := by
  unfold G
  rw [BI.bigSep_fin_two, BI.bigSep_fin_two]
  rfl

theorem ghost_parts : (ownU (u₀ (F := F)) : sProp 𝕄)
    ⊢ iprop(BI.own (EH (initOf (K (F := F)).hsCells (K (F := F)).hsToks))
        ∗ BI.own (EP (initOf (Pipeline.cells (Pipeline.pin (pcfgs (F := F)) adm) cellOf_inj) (Pipeline.launchToks (Pipeline.pin (pcfgs (F := F)) adm) cellOf_inj)))) := by
  unfold u₀ EP
  exact (ownU_pair _ _).trans (sep_mono .rfl ((own_pair_emb (embR : Emb (UP × Counters) 𝕄) _ 1).trans sep_elim_left))

theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (W m)).x q thr) := by
  iintro Hu
  ihave H := ghost_parts $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G; rw [bigSep_sep']; isplitl [Hg] <;> iassumption
  rw [show (bigSep Finset.univ fun thr : Thread nD τ => bigSep Finset.univ fun q : Fin 1 => (P (F := F) (W m)).x q thr) = bigSep Finset.univ fun _ => iprop(emp) from
    bigSep_congr fun _ _ => bigSep_univ_of_subsingleton (0 : Fin 1), bigSep_emps]
  iempintro

/-- What the core's debts are while it is between the calls. -/
theorem owes_at (d : Dev nD) (n : ℕ) : ((K (F := F)).tcSt EH d n : sProp 𝕄)
    ⊢ iprop(owesWithin d ((K (F := F)).Otc d n) {p | (K (F := F)).lev (T d, p.1) p.2 ≤ 8 * n}
        ∗ (owesWithin d ((K (F := F)).Otc d n) {p | (K (F := F)).lev (T d, p.1) p.2 ≤ 8 * n} -∗ (K (F := F)).tcSt EH d n)) := by
  unfold SparseCore.Cfg.tcSt owesWithin
  iintro ⟨⟨%W, %hW, HO⟩, Hrest⟩
  isplitl [HO]
  · iexists W; isplitr; · ipureintro; exact fun p hp => hW p hp
    iexact HO
  iintro ⟨%W', %hW', HO⟩
  isplitl [HO]
  · iexists W'; isplitr; · ipureintro; exact fun p hp => hW' hp
    iexact HO
  iexact Hrest

theorem val4_eq (d : Dev nD) (b : Ref sig .tc) : outVal (V3 m) d b = val4 m d (Proc.devRef .tc b) := by
  unfold outVal val4
  by_cases h : b = main_v49
  · subst h; rw [Function.update_self, Function.update_self]
  · rw [Function.update_of_ne h, Function.update_of_ne (fun h' => h (Proc.devRef_injective _ h'))]

/-- What the certificate reads at the end: every unscoped buffer. -/
abbrev FIN (d : Dev nD) : sProp 𝕄 := unscopedBufs d fun b => val5 m d (Proc.devRef .tc b)

/-- Every unscoped buffer after the normalising call. -/
theorem held_val4 (d : Dev nD) : (unscopedBufs d (outVal (V3 m) d) : sProp 𝕄) = held (d : Thread nD τ) (ucRefs τ sig) (val4 m d) := by
  rw [← unscopedBufs_held]
  congr 1
  exact funext fun b => val4_eq m d b

variable (ρ : Dev nD → PrngReg)

/-- A TensorCore call as the launch's own step. -/
theorem lift_call (p : Fin 2) : (Prog.lift (.customCall (SparseCore.inner (Pipeline.entry p)) ())
      : Prog (TpuEff nD τ sig (Elt F) (SparseCore.Sig (ΛP (F := F)) 1) .tc) PUnit)
    = SparseCore.liftProg (.op (.customCall (Pipeline.entry p) ()) fun r => .ret r) := rfl

set_option backward.isDefEq.respectTransparency.types false in
/-- A TensorCore call as a step of @main. -/
theorem call_step [∀ e, Nonempty (Elt F e)] (p : Fin 2)
    (seg : Pipeline.RegionSeg pcfgs (adm (F := F)) (dats (VI m) (V3 m)) none defs₀ Variants.none (K (F := F)).L (K (F := F)).lev p) (d : Dev nD) (Q : PUnit → sProp 𝕄) :
    iprop((iprop(boundary (d : Thread nD τ) ∗ seg.post d) -∗ Q ⟨⟩)
        ∗ boundary (d : Thread nD τ) ∗ seg.pre d
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (d : Thread nD τ) none) Set.univ
          (Prog.lift (.customCall (SparseCore.inner (Pipeline.entry p)) ())) Q := by
  rw [lift_call]
  refine BIBase.Entails.trans ?_ ((K (F := F)).wp_liftProg (D (F := F)) 𝒱 (d : Thread nD τ) Set.univ none (.op (.customCall (Pipeline.entry p) ()) fun r => .ret r) Q)
  refine BIBase.Entails.trans ?_ (Pipeline.RegionSeg.wp pcfgs adm (dats (VI m) (V3 m)) none cellOf_inj EP defs₀ Variants.none (K (F := F)).L (K (F := F)).lev seg d none (fun _ h => nomatch h) (fun r => .ret r) Q)
  refine sep_mono ?_ .rfl
  iintro Hk ⟨Hb, Hp⟩
  rw [wp_ret]; imodintro
  iapply Hk
  isplitl [Hb] <;> iassumption

/-- The scoring call: every unscoped buffer from `VI` to `valJ`. -/
theorem idx_step [∀ e, Nonempty (Elt F e)] (d : Dev nD) (Q : PUnit → sProp 𝕄) :
    iprop((iprop(boundary (d : Thread nD τ) ∗ unscopedBufs d (Idx.idxVal (VI m) d) ∗ owesWithin d (Idx.idxOwed (F := F) d) (Idx.idxRec (F := F) d)) -∗ Q ⟨⟩)
        ∗ boundary (d : Thread nD τ) ∗ (unscopedBufs d (VI m d) ∗ owesWithin d (Idx.idxOwed (F := F) d) (Idx.idxRec (F := F) d))
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (d : Thread nD τ) none) Set.univ
          (Prog.lift (.customCall (SparseCore.inner (Pipeline.entry 0)) ())) Q :=
  call_step m 0 (idxSeg (VI m) (V3 m)) d Q

/-- The projecting call: every unscoped buffer from `V3` to `outVal V3`. -/
theorem out_step [∀ e, Nonempty (Elt F e)] (d : Dev nD) (Q : PUnit → sProp 𝕄) :
    iprop((iprop(boundary (d : Thread nD τ) ∗ unscopedBufs d (outVal (V3 m) d) ∗ owesWithin d (outOwed (F := F) d) (outRec (F := F) d)) -∗ Q ⟨⟩)
        ∗ boundary (d : Thread nD τ) ∗ (unscopedBufs d (V3 m d) ∗ owesWithin d (outOwed (F := F) d) (outRec (F := F) d))
        ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (d : Thread nD τ) none) Set.univ
          (Prog.lift (.customCall (SparseCore.inner (Pipeline.entry 1)) ())) Q :=
  call_step m 1 (outSeg (VI m) (V3 m)) d Q

set_option backward.isDefEq.respectTransparency.types false in
theorem hmain [∀ e, Nonempty (Elt F e)] (κ : GSem nD τ sig → ℕ) (d : Dev nD) :
    iprop((K (F := F)).ctx EH (P (W m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_split, show (unscopedBufs d (fun b => m ((SparseCore.T d).loc b)) : sProp 𝕄) = held (d : Thread nD τ) (ucRefs τ sig) (fun b => m (d, b)) from
    unscopedBufs_held d (fun b => m (d, b))]
  iintro ⟨#Hctx, Hst, ⟨Hb, Hh, Hts, -⟩, HG⟩
  ihave #Hla := ((K (F := F)).ctx_levAts κ) $$ Hctx
  ihave Hbh := (show iprop(boundary (SparseCore.T d) ∗ held (d : Thread nD τ) (ucRefs τ sig) (fun b => m (d, b))) ⊢ (_ : sProp 𝕄) from .rfl) $$ [Hb Hh]
  · isplitl [Hb] <;> iassumption
  iapply (wp_seq 𝒱 none Set.univ d (ucRefs τ sig) _ opsI (fun op h => sub_ucRefs op ((List.forall_iff_forall_mem.mp opsI_sub) op h))
    (fun op h => (List.forall_iff_forall_mem.mp opsI_fresh) op h) _) $$ Hbh
  rw [show (held (d : Thread nD τ) (ucRefs τ sig) (after opsI (fun b => m (d, b))) : sProp 𝕄) = unscopedBufs d (VI m d) from (unscopedBufs_held d (valI m d)).symm]
  iintro ⟨Hb, Hub⟩
  ihave HO := (owes_at d 0) $$ Hst
  icases HO with ⟨HO, Hst⟩
  ihave HG := (Entails.of_eq (G_eq d)) $$ HG
  icases HG with ⟨⟨Hg0, Hg⟩, Ht0, Ht⟩
  rw [wp_bind]
  iapply (idx_step m d _)
  isplitl [Hst Hts Hg Ht]
  swap
  · isplitl [Hb]; · iexact Hb
    isplitl [Hub HO]
    · isplitl [Hub] <;> iassumption
    isplitr; · iexact Hla
    isplitl [Hg0]; · iexact Hg0
    iexact Ht0
  iintro ⟨Hb, Hu, HO⟩
  ihave Hst := Hst $$ HO
  ihave Hh := (Entails.of_eq (held_valJ m d)) $$ Hu
  ihave Hbh := (show iprop(boundary (SparseCore.T d) ∗ held (d : Thread nD τ) (ucRefs τ sig) (valJ m d)) ⊢ (_ : sProp 𝕄) from .rfl) $$ [Hb Hh]
  · isplitl [Hb] <;> iassumption
  iapply (wp_seq 𝒱 none Set.univ d (ucRefs τ sig) _ opsA (fun op h => sub_ucRefs op ((List.forall_iff_forall_mem.mp opsA_sub) op h))
    (fun op h => (List.forall_iff_forall_mem.mp opsA_fresh) op h) _) $$ Hbh
  rw [show after opsA (valJ m d) = val1 m d from rfl, held_six]
  iintro ⟨Hb, Hsix, Hbut⟩
  rw [wp_bind]
  iapply ((K (F := F)).wp_run (D (F := F)) 𝒱 (EH := EH) (P := P (W m)) κ d 0) $$ [Hst Hsix Hbut Hb Hts Hg Ht]
  isplitr; · iexact Hctx
  isplitl [Hst]; · iexact Hst
  isplitl [Hsix]
  · rw [st_eq]; iexact Hsix
  iintro ⟨Hst, Hdn⟩
  ihave Hsix := (Entails.of_eq (dn_eq m d)) $$ Hdn
  ihave Hh := (Entails.of_eq (held_back m d)) $$ [Hsix Hbut]
  · isplitl [Hsix] <;> iassumption
  ihave Hbh := (show iprop(boundary (SparseCore.T d) ∗ held (d : Thread nD τ) (ucRefs τ sig) (val2 m d)) ⊢ (_ : sProp 𝕄) from .rfl) $$ [Hb Hh]
  · isplitl [Hb] <;> iassumption
  iapply (wp_seq 𝒱 none Set.univ d (ucRefs τ sig) _ opsB (fun op h => sub_ucRefs op ((List.forall_iff_forall_mem.mp opsB_sub) op h))
    (fun op h => (List.forall_iff_forall_mem.mp opsB_fresh) op h) _) $$ Hbh
  rw [show (held (d : Thread nD τ) (ucRefs τ sig) (after opsB (val2 m d)) : sProp 𝕄) = unscopedBufs d (V3 m d) from (unscopedBufs_held d (val3 m d)).symm]
  iintro ⟨Hb, Hub⟩
  ihave HO := (show iprop((K (F := F)).tcSt EH d ((0 : Fin 1).val + 1)) ⊢ (_ : sProp 𝕄) from owes_at d 1) $$ Hst
  icases HO with ⟨HO, Hst⟩
  rw [wp_bind]
  iapply (out_step m d _)
  isplitl [Hst Hts]
  · iintro ⟨Hb, Hu, HO⟩
    ihave Hh := (Entails.of_eq (held_val4 m d)) $$ Hu
    ihave Hbh := (show iprop(boundary (SparseCore.T d) ∗ held (d : Thread nD τ) (ucRefs τ sig) (val4 m d)) ⊢ (_ : sProp 𝕄) from .rfl) $$ [Hb Hh]
    · isplitl [Hb] <;> iassumption
    iapply (wp_seq 𝒱 none Set.univ d (ucRefs τ sig) _ opsC (fun op h => sub_ucRefs op ((List.forall_iff_forall_mem.mp opsC_sub) op h))
      (fun op h => (List.forall_iff_forall_mem.mp opsC_fresh) op h) _) $$ Hbh
    rw [show (held (d : Thread nD τ) (ucRefs τ sig) (after opsC (val4 m d)) : sProp 𝕄) = FIN m d from (unscopedBufs_held d (val5 m d)).symm]
    iintro ⟨Hb, Hub⟩
    rw [wp_pure]; imodintro
    isplitl [Hst HO]; · iapply Hst; iexact HO
    isplitl [Hub]; · iexact Hub
    isplitl [Hb] <;> iassumption
  isplitl [Hb]; · iexact Hb
  isplitl [Hub HO]
  · isplitl [Hub] <;> iassumption
  isplitr; · iexact Hla
  isplitl [Hg]; · iexact Hg
  iexact Ht

/-! ## The program's run -/

def fq (d : Dev nD) (s' : Phys nD τ sig (Elt F)) : Prop :=
  ∀ b : Ref sig .tc, ¬ b.isScoped → s'.mem.mem ((d : Thread nD τ).loc b) = val5 m d (Proc.devRef .tc b)

theorem hfin (d : Dev nD) (s' : Phys nD τ sig (Elt F)) : iprop(FIN m d ∗ SI s') ⊢ (⌜fq m d s'⌝ : sProp 𝕄) := by
  have one : ∀ b : Ref sig .tc, iprop(FIN m d ∗ SI s') ⊢ (⌜¬ b.isScoped → s'.mem.mem ((d : Thread nD τ).loc b) = val5 m d (Proc.devRef .tc b)⌝ : sProp 𝕄) := by
    intro b
    by_cases hb : b.isScoped
    · iintro -; ipureintro; exact fun h => absurd hb h
    unfold FIN unscopedBufs
    rw [SparseCore.bigSep_erase' (Finset.mem_filter.mpr ⟨Finset.mem_univ b, hb⟩)]
    iintro ⟨⟨Hb, -⟩, HSI⟩
    ihave H := (SI_pointsTo_agree (st := s') (ℓ := (d : Thread nD τ).loc b) (I := Finset.univ) (q := fullShare) (f := val5 m d (Proc.devRef .tc b))) $$ [HSI Hb]
    · isplitl [HSI] <;> iassumption
    icases H with %h
    ipureintro; exact fun _ => funext fun i => h i (Finset.mem_univ i)
  unfold fq
  exact (forall_intro one).trans pure_forall.2

/-- From a memory whose lists name rows of the tables, the program runs to an end with every semaphore at zero and every
    unscoped buffer at `val5`. -/
theorem run_main [∀ e, Nonempty (Elt F e)] (hpre : PreOK (W m)) :
    θ_run (Cert.KernelIdeal.defs (F := F)) (Cert.KernelIdeal.threads (F := F)) ⟨m, fun _ => 0, ρ⟩
      fun r => (∀ (d : Dev nD) (b : Ref sig .tc), ¬ b.isScoped → r.2.mem ((d : Thread nD τ).loc b) = val5 m d (Proc.devRef .tc b)) ∧ r.2.sem = fun _ => 0 :=
  SparseCore.Cfg.θ_run_sc_quiescent (K := K (F := F)) (D := D (F := F)) (𝒱 := 𝒱) (EH := EH) (P := P (W m)) (A := ∅) facts v₀
    (fun q hq => match q with | 0 => nomatch hq)
    (fun q _ => match q with | 0 => tileObl (W m) facts hpre)
    (fun q _ => match q with | 0 => SparseCore.Cfg.VecSplit.of_plain (vecSplit (W m)))
    m ρ main (fun d => G d) (FIN m) (u₀ (F := F)) ((sep_elim_left).trans (hu₀ m)) (hmain m ρ) (fq m) (hfin m)
    (fun r => (∀ (d : Dev nD) (b : Ref sig .tc), ¬ b.isScoped → r.2.mem ((d : Thread nD τ).loc b) = val5 m d (Proc.devRef .tc b)) ∧ r.2.sem = fun _ => 0)
    (fun _ h hz => ⟨h, hz⟩)

end Cert.Proof.Ker

end
-- ==== Proof.KerFrame.lean ====
/-
  The program's runs from start to end: the arguments end as they began, and what the precondition says of the index
  arguments.
-/
module

public import proofs.«01_k».proof.Proof.KerRun
public import proofs.«01_k».proof.Proof.Gen.Pre_finite
public import Idealize.ShloMosaic.Lib.ReduceAll
public import Idealize.ShloMosaic.Lib.WordCmp

@[expose] public section

set_option maxRecDepth 16384

noncomputable section

namespace Cert.Proof.Ker

open Cert.KernelIdeal Cert.KernelIdeal.Gen

open Idealize.ShloMosaic Idealize.ShloMosaic.TcCoe
open Idealize.ShloMosaic.StableHlo
open Idealize.SL.Sem

variable {F : FTy → Type} [FloatOps F] [Named F]

variable (m : (ℓ : Loc nD τ sig) → Buf (Elt F) ℓ)

/-! ## The buffers that the host operations write -/

abbrev wI : List (Ref sig .tc) :=
  [main_cst, main_v0, main_v1, main_c, main_v2, main_c_0, main_v3, main_v4, main_v5, main_cst_1, main_v6, main_c_2, main_v7, main_c_3,
    main_v8, main_v9, main_v10, main_v11, main_v12]
abbrev wJ : List (Ref sig .tc) := [main_v13_0, main_v13_1, main_v13_2, main_v13_3]
abbrev wA : List (Ref sig .tc) := [main_v14, main_v15, main_v16, main_v17]
abbrev wB : List (Ref sig .tc) :=
  [main_v19, main_v20, main_v21, main_v22, main_v23, main_v24, main_c_4, main_v25, main_v26, main_v27, main_v28, main_v29,
    main_call0_v0, main_call0_v1, main_call0_v2, main_call0_v3, main_call0_v4, main_v30, main_v31, main_v32, main_c_5, main_v33, main_v34,
    main_v35, main_v36, main_cst_6, main_v37, main_call1_v0, main_call1_v1, main_call1_v2, main_call1_v3, main_call1_v4, main_v38,
    main_v39, main_v40, main_v41, main_v42, main_v43, main_v44, main_v45, main_v46, main_v47, main_v48]
abbrev wC : List (Ref sig .tc) := [main_v50]

theorem opsI_writes : (opsI : List (HloOp τ sig (Elt F))).Forall fun op => op.writes ⊆ (wI.map (Proc.devRef (τ := τ) .tc)).toFinset :=
  forall_writes_sub_of_map rfl
theorem opsA_writes : (opsA : List (HloOp τ sig (Elt F))).Forall fun op => op.writes ⊆ (wA.map (Proc.devRef (τ := τ) .tc)).toFinset :=
  forall_writes_sub_of_map rfl
theorem opsB_writes : (opsB : List (HloOp τ sig (Elt F))).Forall fun op => op.writes ⊆ (wB.map (Proc.devRef (τ := τ) .tc)).toFinset :=
  forall_writes_sub_of_map rfl
theorem opsC_writes : (opsC : List (HloOp τ sig (Elt F))).Forall fun op => op.writes ⊆ (wC.map (Proc.devRef (τ := τ) .tc)).toFinset :=
  forall_writes_sub_of_map rfl

/-- A buffer that the first stretch does not write holds its first contents before the scoring call. -/
theorem valI_kept (d : Dev nD) (r : Ref sig .tc) (h : r ∉ wI) : VI m d r = m (d, Proc.devRef .tc r) :=
  after_of_writes_sub opsI _ opsI_writes h
/-- A buffer that neither the first stretch nor the scoring call writes holds its first contents after the call. -/
theorem valJ_kept (d : Dev nD) (r : Ref sig .tc) (h : r ∉ wI) (hj : r ∉ wJ) : valJ m d (Proc.devRef .tc r) = m (d, Proc.devRef .tc r) :=
  (valJ_ne m d r (fun e => hj (by subst e; decide)) (fun e => hj (by subst e; decide)) (fun e => hj (by subst e; decide))
    (fun e => hj (by subst e; decide))).trans (valI_kept m d r h)
/-- A buffer that neither the four reshapes nor the gathering call writes holds what the scoring call left. -/
theorem val2_left (d : Dev nD) (r : Ref sig .tc) (h : r ∉ wA) (h0 : r ≠ main_v18_0) (h1 : r ≠ main_v18_1) :
    val2 m d (Proc.devRef .tc r) = valJ m d (Proc.devRef .tc r) := (val2_ne m d r h0 h1).trans (after_of_writes_sub opsA _ opsA_writes h)
/-- A buffer that nothing up to the gathering call's end writes holds its first contents. -/
theorem val2_kept (d : Dev nD) (r : Ref sig .tc) (h : r ∉ wI ++ (wJ ++ wA)) (h0 : r ≠ main_v18_0) (h1 : r ≠ main_v18_1) :
    val2 m d (Proc.devRef .tc r) = m (d, Proc.devRef .tc r) := by
  simp only [List.mem_append, not_or] at h
  exact (val2_left m d r h.2.2 h0 h1).trans (valJ_kept m d r h.1 h.2.1)
/-- A buffer that nothing writes ends with its first contents. -/
theorem val5_kept (d : Dev nD) (r : Ref sig .tc) (hA : r ∉ wI ++ (wJ ++ wA)) (h0 : r ≠ main_v18_0) (h1 : r ≠ main_v18_1) (hB : r ∉ wB) (h5 : r ≠ main_v49) (hC : r ∉ wC) :
    val5 m d (Proc.devRef .tc r) = m (d, Proc.devRef .tc r) :=
  (after_of_writes_sub opsC _ opsC_writes hC).trans <|
    (Function.update_of_ne (fun e => h5 (Proc.devRef_injective _ e)) _ _).trans <|
    (after_of_writes_sub opsB _ opsB_writes hB).trans (val2_kept m d r hA h0 h1)

/-! ## The precondition -/

/-- A magnitude below the largest float's successor is that of a real. -/
theorem real_of_flag (v : EReal) (e : FloatOps.cmpf (F := Ideal) (φ := .f32) .olt (FloatOps.absf (F := Ideal) (φ := .f32) v) (FloatOps.ofBits (F := Ideal) (φ := .f32) 0x7F800000#32) = 1#1) :
    ∃ r : ℝ, v = r := by
  have ht : (FloatOps.ofBits (F := Ideal) (φ := .f32) 0x7F800000#32 : EReal) = ⊤ := by
    show Ideal.ofBits .f32 0x7F800000#32 = ⊤
    simp [Ideal.ofBits, Ideal.ieee]
  rw [ht] at e
  have h : max v (-v) < ⊤ := by
    by_contra hn
    have : FloatOps.cmpf (F := Ideal) (φ := .f32) .olt (FloatOps.absf (F := Ideal) (φ := .f32) v) (⊤ : EReal) = 0#1 := by
      show BitVec.ofBool (decide (max v (-v) < ⊤)) = 0#1
      rw [decide_eq_false hn]; rfl
    rw [this] at e
    exact absurd e (by decide)
  rw [max_lt_iff] at h
  induction v with
  | bot => exact absurd h.2 (by simp)
  | top => exact absurd h.1 (by simp)
  | coe r => exact ⟨r, rfl⟩

/-- What the precondition says: every entry of the arguments that the scores are made of is a real. -/
theorem finite_iff (a0 : FVec Ideal S16384x100x32 .f32) (a1 : FVec Ideal S16384x26x32 .f32) (a2 a3 : FVec Ideal S32x32 .f32)
    (a4 : FVec Ideal S3x126x126 .f32) (a5 : FVec Ideal S3x126 .f32) (a6 a7 : FVec Ideal S32 .f32)
    (h : Cert.Pre_finite.fn (F := Ideal) a0 a1 a2 a3 a4 a5 a6 a7 = fun _ => 1#1) :
    (∀ x, ∃ r : ℝ, a0 x = r) ∧ (∀ x, ∃ r : ℝ, a1 x = r) ∧ (∀ x, ∃ r : ℝ, a2 x = r) ∧ (∀ x, ∃ r : ℝ, a3 x = r)
      ∧ (∀ x, ∃ r : ℝ, a4 x = r) ∧ (∀ x, ∃ r : ℝ, a5 x = r) := by
  have e := congrFun h ix0
  unfold Cert.Pre_finite.fn Cert.Pre_finite.fn_part1 at e
  have hss : Subsingleton Cert.Pre_finite.S_.Idx := ⟨fun a b => funext fun i => i.elim0⟩
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun x => real_of_flag _ (Host.reduce_andi_all _ _ _ _ _ e0 x), fun x => real_of_flag _ (Host.reduce_andi_all _ _ _ _ _ e1 x),
    fun x => real_of_flag _ (Host.reduce_andi_all _ _ _ _ _ e2 x), fun x => real_of_flag _ (Host.reduce_andi_all _ _ _ _ _ e3 x),
    fun x => real_of_flag _ (Host.reduce_andi_all _ _ _ _ _ e4 x), fun x => real_of_flag _ (Host.reduce_andi_all _ _ _ _ _ e5 x)⟩

/-- The lists that the gathering call reads are the granule numbers, in row-major order. -/
theorem list_f (d : Dev nD) : W m (iLoc d) = shapeCast S163840 (Idx.arr6 (VI m) d) shapeCasts_S16384x10_S163840 := by
  rw [← valJ_0]
  show after opsA (valJ m d) (Proc.devRef .tc main_v16) = _
  after_results_simp <;> rfl
theorem list_c (d : Dev nD) : W m (jLoc d) = shapeCast S163840 (Idx.arr8 (VI m) d) shapeCasts_S16384x10_S163840 := by
  rw [← valJ_2]
  show after opsA (valJ m d) (Proc.devRef .tc main_v17) = _
  after_results_simp <;> rfl

/-- Granule numbers of the tables' granules are what the gathering call asks for. -/
theorem preOK (h2 : ∀ (d : Dev nD) (x : S16384x10.Idx), BitVec.toNat (Idx.arr6 (VI m) d x) < 409600)
    (h4 : ∀ (d : Dev nD) (x : S16384x10.Idx), BitVec.toNat (Idx.arr8 (VI m) d x) < 106496) : PreOK (W m) := by
  intro d
  rw [list_f, list_c]
  exact ⟨fun x => h2 d _, fun x => h4 d _⟩

end Cert.Proof.Ker

end
-- ==== Proof.KerRows.lean ====
/-
  What the normalising call computes, entry by entry, over the extended reals: the rows picked out of their granules, the
  projected products, their means, and the stored values.
-/
module

public import proofs.«01_k».proof.Proof.KerOut
public import Idealize.ShloMosaic.Lib.Pointwise
public import Idealize.ShloMosaic.Lib.Pointwise.Select
public import Idealize.ShloMosaic.Lib.Pipeline.Value

@[expose] public section

set_option maxRecDepth 16384

noncomputable section

namespace Cert.Proof.Ker

open Cert.KernelIdeal Cert.KernelIdeal.Gen
open Idealize.ShloMosaic Idealize.ShloMosaic.TcCoe
open Idealize.SL.Sem

/-! ## One of four -/

/-- Four values, each kept where a word names its number, add up to the one that the word names. -/
theorem pick_four (w : BitVec 32) (f : (g : ℕ) → g < 4 → EReal) (f0 f1 f2 f3 : EReal) (h : w.toNat < 4)
    (h0 : f0 = f 0 (by decide)) (h1 : f1 = f 1 (by decide)) (h2 : f2 = f 2 (by decide)) (h3 : f3 = f 3 (by decide)) :
    Scalar.select (IntOp.cmpi .eq w 0#32) f0 0 + Scalar.select (IntOp.cmpi .eq w 1#32) f1 0
      + Scalar.select (IntOp.cmpi .eq w 2#32) f2 0 + Scalar.select (IntOp.cmpi .eq w 3#32) f3 0 = f w.toNat h := by
  have hw : w = 0#32 ∨ w = 1#32 ∨ w = 2#32 ∨ w = 3#32 := by
    have : w.toNat = 0 ∨ w.toNat = 1 ∨ w.toNat = 2 ∨ w.toNat = 3 := by omega
    rcases this with e | e | e | e
    · exact Or.inl (BitVec.eq_of_toNat_eq e)
    · exact Or.inr (Or.inl (BitVec.eq_of_toNat_eq e))
    · exact Or.inr (Or.inr (Or.inl (BitVec.eq_of_toNat_eq e)))
    · exact Or.inr (Or.inr (Or.inr (BitVec.eq_of_toNat_eq e)))
  subst h0 h1 h2 h3
  rcases hw with rfl | rfl | rfl | rfl <;> simp [Scalar.select, IntOp.cmpi]

/-- A matrix read at two spellings of one column. -/
theorem at_col {a b : ℕ} (x : (⟨2, ![a, b]⟩ : Shape).Idx → EReal) (r : Fin a) (l l' : Fin b) (h : l.val = l'.val) :
    x (ix2 r l) = x (ix2 r l') := by rw [Fin.ext h]

/-! ## The picked rows -/

variable (x0 : Vec Ideal S640x128 .f32) (x1 : Vec Ideal S64x1280 .f32) (x2 : Vec Ideal S640x1 .i32) (x3 : Vec Ideal S64x10 .i32)
  (x4 : Vec Ideal S32x320 .f32) (x5 : Vec Ideal S320x320 .f32) (x6 : Vec Ideal S320x320 .f32) (x7 : Vec Ideal S1x320 .f32) (x8 : Vec Ideal S1x320 .f32)

/-- A feature row is the part of its granule that its place names. -/
theorem fRow_apply (r : Fin 640) (c : Fin 32) (h : (x2 (ix2 r 0)).toNat < 4) :
    fRow x0 x2 (ix2 r c) = x0 (ix2 r ⟨32 * (x2 (ix2 r 0)).toNat + c.val, by omega⟩) := by
  pointwise [fRow, k2_pay2]
  exact pick_four _ (fun g hg => x0 (ix2 r ⟨32 * g + c.val, by omega⟩)) _ _ _ _ h
    (at_col _ _ _ _ (by dsimp only; omega)) (at_col _ _ _ _ (by dsimp only)) (at_col _ _ _ _ (by dsimp only)) (at_col _ _ _ _ (by dsimp only))

/-- The last context row of a block, its four parts together. -/
def cRow9 : FVec Ideal S64x32 .f32 :=
  addf (addf (addf (cPart9 x1 x3)
    (mulf (broadcastTo S64x32 (select (cmpi .eq (cWord9 x3) (broadcast S64x1 1#32)) (broadcast S64x1 (Scalar.ofBits .f32 0x3F800000#32)) (broadcast S64x1 (Scalar.ofBits .f32 0x00000000#32))) broadcasts_S64x1_S64x32)
      (extractStridedSlice S64x32 ![0, 1184] (cAll x1) slices_S64x1280_o0_1184_S64x32)))
    (mulf (broadcastTo S64x32 (select (cmpi .eq (cWord9 x3) (broadcast S64x1 2#32)) (broadcast S64x1 (Scalar.ofBits .f32 0x3F800000#32)) (broadcast S64x1 (Scalar.ofBits .f32 0x00000000#32))) broadcasts_S64x1_S64x32)
      (extractStridedSlice S64x32 ![0, 1216] (cAll x1) slices_S64x1280_o0_1216_S64x32)))
    (mulf (broadcastTo S64x32 (select (cmpi .eq (cWord9 x3) (broadcast S64x1 3#32)) (broadcast S64x1 (Scalar.ofBits .f32 0x3F800000#32)) (broadcast S64x1 (Scalar.ofBits .f32 0x00000000#32))) broadcasts_S64x1_S64x32)
      (extractStridedSlice S64x32 ![0, 1248] (cAll x1) slices_S64x1280_o0_1248_S64x32))

/-- The ten context rows. -/
def cRows : Fin 10 → (S64x32.Idx → EReal) :=
  ![cRow0 x1 x3, cRow1 x1 x3, cRow2 x1 x3, cRow3 x1 x3, cRow4 x1 x3, cRow5 x1 x3, cRow6 x1 x3, cRow7 x1 x3, cRow8 x1 x3, cRow9 x1 x3]

/-- A context row's entry, as the part of its granule that its place names. -/
abbrev cAt (k : Fin 10) (r : Fin 64) (c : Fin 32) (g : ℕ) (hg : g < 4) : EReal := x1 (ix2 r ⟨128 * k.val + 32 * g + c.val, by omega⟩)

set_option maxHeartbeats 4000000 in
/-- Each context row is the part of its granule that its place names. -/
theorem cRows_apply (k : Fin 10) (r : Fin 64) (c : Fin 32) (h : (x3 (ix2 r k)).toNat < 4) :
    cRows x1 x3 k (ix2 r c) = x1 (ix2 r ⟨128 * k.val + 32 * (x3 (ix2 r k)).toNat + c.val, by omega⟩) := by
  match k, h with
  | ⟨0, _⟩, h =>
    show cRow0 x1 x3 (ix2 r c) = _
    pointwise [cRow0, k2_pay5, k2_pay3, k2_pay4]
    have e := pick_four _ (cAt x1 0 r c) _ _ _ _ h (at_col _ _ ⟨c.val, by omega⟩ _ (by simp)) (at_col _ _ ⟨32 + c.val, by omega⟩ _ (by simp))
      (at_col _ _ ⟨64 + c.val, by omega⟩ _ (by simp)) (at_col _ _ ⟨96 + c.val, by omega⟩ _ (by simp))
    exact e.trans (at_col _ _ _ _ (by simp))
  | ⟨1, _⟩, h =>
    show cRow1 x1 x3 (ix2 r c) = _
    pointwise [cRow1, cAll, cPl, k2_pay3, k2_pay4, k2_pay7, k2_pay6]
    refine pick_four _ (cAt x1 1 r c) _ _ _ _ h ?_ ?_ ?_ ?_ <;> exact at_col _ _ _ _ (by simp)
  | ⟨2, _⟩, h =>
    show cRow2 x1 x3 (ix2 r c) = _
    pointwise [cRow2, cAll, cPl, k2_pay3, k2_pay4, k2_pay8, k2_pay9, k2_pay10, k2_pay11]
    refine pick_four _ (cAt x1 2 r c) _ _ _ _ h ?_ ?_ ?_ ?_ <;> exact at_col _ _ _ _ (by simp)
  | ⟨3, _⟩, h =>
    show cRow3 x1 x3 (ix2 r c) = _
    pointwise [cRow3, cAll, cPl, k2_pay3, k2_pay4, k2_pay12, k2_pay13, k2_pay14, k2_pay15]
    refine pick_four _ (cAt x1 3 r c) _ _ _ _ h ?_ ?_ ?_ ?_ <;> exact at_col _ _ _ _ (by simp)
  | ⟨4, _⟩, h =>
    show cRow4 x1 x3 (ix2 r c) = _
    pointwise [cRow4, cAll, cPl, k2_pay3, k2_pay4, k2_pay16, k2_pay17, k2_pay18, k2_pay19]
    refine pick_four _ (cAt x1 4 r c) _ _ _ _ h ?_ ?_ ?_ ?_ <;> exact at_col _ _ _ _ (by simp)
  | ⟨5, _⟩, h =>
    show cRow5 x1 x3 (ix2 r c) = _
    pointwise [cRow5, cAll, cPl, k2_pay3, k2_pay4, k2_pay20, k2_pay21, k2_pay22, k2_pay23]
    refine pick_four _ (cAt x1 5 r c) _ _ _ _ h ?_ ?_ ?_ ?_ <;> exact at_col _ _ _ _ (by simp)
  | ⟨6, _⟩, h =>
    show cRow6 x1 x3 (ix2 r c) = _
    pointwise [cRow6, cAll, cPl, k2_pay3, k2_pay4, k2_pay24, k2_pay25, k2_pay26, k2_pay27]
    refine pick_four _ (cAt x1 6 r c) _ _ _ _ h ?_ ?_ ?_ ?_ <;> exact at_col _ _ _ _ (by simp)
  | ⟨7, _⟩, h =>
    show cRow7 x1 x3 (ix2 r c) = _
    pointwise [cRow7, cAll, cPl, k2_pay3, k2_pay4, k2_pay28]
    refine pick_four _ (cAt x1 7 r c) _ _ _ _ h ?_ ?_ ?_ ?_ <;> exact at_col _ _ _ _ (by simp)
  | ⟨8, _⟩, h =>
    show cRow8 x1 x3 (ix2 r c) = _
    pointwise [cRow8, cAll, cPl, k2_pay3, k2_pay4, k2_pay29, k2_pay30, k2_pay31, k2_pay32]
    refine pick_four _ (cAt x1 8 r c) _ _ _ _ h ?_ ?_ ?_ ?_ <;> exact at_col _ _ _ _ (by simp)
  | ⟨9, _⟩, h =>
    show cRow9 x1 x3 (ix2 r c) = _
    pointwise [cRow9, cPart9, cWord9, cAll, cPl, k2_pay3, k2_pay4, k2_pay33, k2_pay34, k2_pay35]
    refine pick_four _ (cAt x1 9 r c) _ _ _ _ h ?_ ?_ ?_ ?_ <;> exact at_col _ _ _ _ (by simp)

/-! ## The projected products -/

/-- The ten context rows side by side. -/
def cat : FVec Ideal S64x320 .f32 :=
  concatenate S64x320 1 (List.ofFn fun n : Fin 10 => (⟨S64x32, cRows x1 x3 n⟩ : (s : Shape) × (s.Idx → EReal)))
    concatenates_S64x32_S64x32_S64x32_S64x32_S64x32_S64x32_S64x32_S64x32_S64x32_S64x32_S64x320_d1

theorem cat_apply (r : Fin 64) (j : Fin 10) (c : Fin 32) : cat x1 x3 (ix2 r ⟨j.val * 32 + c.val, by omega⟩) = cRows x1 x3 j (ix2 r c) := by
  refine concatenate_ofFn_apply (t := S64x320) (s₁ := S64x32) 1 (cRows x1 x3) _ rfl 32 rfl _ j ?_ _ ?_ ?_
  · show (j.val * 32 + c.val) / 32 = j.val; omega
  · show c.val = (j.val * 32 + c.val) % 32; omega
  · intro b hb
    match b with
    | ⟨0, _⟩ => rfl
    | ⟨1, _⟩ => exact absurd rfl hb

/-- The two projections and their product. -/
def projected (a : FVec Ideal S640x32 .f32) (b : FVec Ideal S64x320 .f32) (q : FVec Ideal S32x320 .f32) (w : FVec Ideal S320x320 .f32) : FVec Ideal S640x320 .f32 :=
  shapeCast S640x320 (mulf
    (shapeCast S64x10x320 (matmul dot_S640x32_S32x320_S640x320_1_0_0_1_n_n none a (shapeCast S32x320 q shapeCasts_S32x320_S32x320)
      (constant S640x320 .f32 0x00000000#32)) shapeCasts_S640x320_S64x10x320)
    (broadcastTo S64x10x320 (shapeCast S64x1x320 (matmul dot_S64x320_S320x320_S64x320_1_0_0_1_n_n none b (shapeCast S320x320 w shapeCasts_S320x320_S320x320)
      (constant S64x320 .f32 0x00000000#32)) shapeCasts_S64x320_S64x1x320) broadcasts_S64x1x320_S64x10x320)) shapeCasts_S64x10x320_S640x320

theorem pre_eq : pre x0 x1 x2 x3 x4 x5 = projected (fRow x0 x2) (cat x1 x3) (View.ld x4 rQ) (View.ld x5 rC) := rfl

theorem projected_apply (a : FVec Ideal S640x32 .f32) (b : FVec Ideal S64x320 .f32) (q : FVec Ideal S32x320 .f32) (w : FVec Ideal S320x320 .f32)
    (r : Fin 64) (i : Fin 10) (l : Fin 320) :
    projected a b q w (ix2 ⟨r.val * 10 + i.val, by omega⟩ l)
      = (∑ k : Fin 32, a (ix2 ⟨r.val * 10 + i.val, by omega⟩ k) * q (ix2 k l)) * ∑ k : Fin 320, b (ix2 r k) * w (ix2 k l) := by
  pointwise [projected]

theorem mean_apply (r : Fin 640) (l : Fin 320) :
    mean x0 x1 x2 x3 x4 x5 x6 (ix2 r l) = ∑ x : Fin 320, pre x0 x1 x2 x3 x4 x5 (ix2 r x) * x6 (ix2 x l) := by
  pointwise [mean, k2_pay37]

theorem stored_apply (r : Fin 640) (l : Fin 320) : stored x0 x1 x2 x3 x4 x5 x6 x7 x8 (ix2 r l)
    = (pre x0 x1 x2 x3 x4 x5 (ix2 r l) - mean x0 x1 x2 x3 x4 x5 x6 (ix2 r l))
        * (Ideal.rsqrt ((∑ x : Fin 320, (pre x0 x1 x2 x3 x4 x5 (ix2 r x) - mean x0 x1 x2 x3 x4 x5 x6 (ix2 r x))
              * (pre x0 x1 x2 x3 x4 x5 (ix2 r x) - mean x0 x1 x2 x3 x4 x5 x6 (ix2 r x)) * x6 (ix2 x l)) + Ideal.ofBits .f32 0x3727C5AC#32)
            * x7 (ix2 0 l)) + x8 (ix2 0 l) := by
  pointwise [stored, mean, k2_pay1, k2_pay37]

theorem outBlk_eq : outBlk x0 x1 x2 x3 x4 x5 x6 x7 x8 = stored x0 x1 x2 x3 x4 x5 x6 x7 x8 :=
  View.canon_unit_zero (by funext i; fin_cases i <;> rfl) _ _

end Cert.Proof.Ker

end
-- ==== Proof.KerBlock.lean ====
/-
  The normalising call's result array, entry by entry, in the contents of its operands' arrays.
-/
module

public import proofs.«01_k».proof.Proof.KerRows
public import proofs.«01_k».proof.Proof.Norm
public import Idealize.ShloMosaic.Lib.Pipeline.ValueKit

@[expose] public section

set_option maxRecDepth 16384

noncomputable section

namespace Cert.Proof.Ker

open Cert.KernelIdeal Cert.KernelIdeal.Gen
open Idealize.ShloMosaic Idealize.ShloMosaic.TcCoe
open Idealize.SL.Sem
open Idealize.ShloMosaic.Pipeline (Dat)

/-! ## One block -/

section Block

variable (x0 : Vec Ideal S640x128 .f32) (x1 : Vec Ideal S64x1280 .f32) (x2 : Vec Ideal S640x1 .i32) (x3 : Vec Ideal S64x10 .i32)
  (x4 : Vec Ideal S32x320 .f32) (x5 : Vec Ideal S320x320 .f32) (x6 : Vec Ideal S320x320 .f32) (x7 : Vec Ideal S1x320 .f32) (x8 : Vec Ideal S1x320 .f32)
  (wq wc : Fin 32 → Fin 32 → EReal) (g b : Fin 32 → EReal)

/-- What the five tables hold, in the matrices and rows they are made of. -/
structure Tables : Prop where
  q : ∀ (k : Fin 32) (j : Fin 10) (c : Fin 32), x4 (ix2 k ⟨j.val * 32 + c.val, by omega⟩) = wq c k
  c : ∀ (i : Fin 10) (k : Fin 32) (j : Fin 10) (c : Fin 32),
    x5 (ix2 ⟨i.val * 32 + k.val, by omega⟩ ⟨j.val * 32 + c.val, by omega⟩) = if i = j then wc c k else 0
  p : ∀ (i : Fin 10) (k : Fin 32) (j : Fin 10) (c : Fin 32),
    x6 (ix2 ⟨i.val * 32 + k.val, by omega⟩ ⟨j.val * 32 + c.val, by omega⟩) = if i = j then Ideal.ofBits .f32 0x3D000000#32 else 0
  g : ∀ (j : Fin 10) (c : Fin 32), x7 (ix2 0 ⟨j.val * 32 + c.val, by omega⟩) = g c
  b : ∀ (j : Fin 10) (c : Fin 32), x8 (ix2 0 ⟨j.val * 32 + c.val, by omega⟩) = b c

/-- The projected products of a block's row, for context row `j`. -/
def zBlk (r : Fin 64) (i j : Fin 10) (h2 : (x2 (ix2 ⟨r.val * 10 + i.val, by omega⟩ 0)).toNat < 4) (h3 : (x3 (ix2 r j)).toNat < 4) (c : Fin 32) : EReal :=
  (∑ k : Fin 32, x0 (ix2 ⟨r.val * 10 + i.val, by omega⟩ ⟨32 * (x2 (ix2 ⟨r.val * 10 + i.val, by omega⟩ 0)).toNat + k.val, by omega⟩) * wq c k)
    * ∑ k : Fin 32, x1 (ix2 r ⟨128 * j.val + 32 * (x3 (ix2 r j)).toNat + k.val, by omega⟩) * wc c k

theorem pre_apply (T : Tables x4 x5 x6 x7 x8 wq wc g b) (r : Fin 64) (i j : Fin 10)
    (h2 : (x2 (ix2 ⟨r.val * 10 + i.val, by omega⟩ 0)).toNat < 4) (h3 : (x3 (ix2 r j)).toNat < 4) (c : Fin 32) :
    pre x0 x1 x2 x3 x4 x5 (ix2 ⟨r.val * 10 + i.val, by omega⟩ ⟨j.val * 32 + c.val, by omega⟩) = zBlk x0 x1 x2 x3 wq wc r i j h2 h3 c := by
  rw [pre_eq, projected_apply]
  unfold zBlk
  congr 1
  · refine Finset.sum_congr rfl fun k _ => ?_
    rw [fRow_apply _ _ _ _ h2]
    exact congrArg (x0 _ * ·) ((congrFun (View.ld_unit_zero (by funext a; fin_cases a <;> rfl) _ x4) _).trans (T.q k j c))
  · have e5 : View.ld x5 rC = x5 := View.ld_unit_zero (by funext a; fin_cases a <;> rfl) _ x5
    rw [e5, Norm.sum_group _ _ (wc c) j fun i k => T.c i k j c]
    refine Finset.sum_congr rfl fun k _ => ?_
    rw [cat_apply, cRows_apply _ _ _ _ _ h3]

/-- A block's row against the block-diagonal mean: the sum over one group of 32. -/
theorem group_mean (T : Tables x4 x5 x6 x7 x8 wq wc g b) (a : Fin 320 → EReal) (j : Fin 10) (c : Fin 32) :
    ∑ x : Fin 320, a x * x6 (ix2 x ⟨j.val * 32 + c.val, by omega⟩)
      = ∑ k : Fin 32, a ⟨j.val * 32 + k.val, by omega⟩ * Ideal.ofBits .f32 0x3D000000#32 :=
  Norm.sum_group _ _ (fun _ => Ideal.ofBits .f32 0x3D000000#32) j fun i k => T.p i k j c

theorem mean_at (T : Tables x4 x5 x6 x7 x8 wq wc g b) (r : Fin 64) (i j : Fin 10)
    (h2 : (x2 (ix2 ⟨r.val * 10 + i.val, by omega⟩ 0)).toNat < 4) (h3 : (x3 (ix2 r j)).toNat < 4) (c : Fin 32) :
    mean x0 x1 x2 x3 x4 x5 x6 (ix2 ⟨r.val * 10 + i.val, by omega⟩ ⟨j.val * 32 + c.val, by omega⟩)
      = ∑ k : Fin 32, zBlk x0 x1 x2 x3 wq wc r i j h2 h3 k * Ideal.ofBits .f32 0x3D000000#32 := by
  rw [mean_apply, group_mean x4 x5 x6 x7 x8 wq wc g b T]
  exact Finset.sum_congr rfl fun k _ => by rw [pre_apply x0 x1 x2 x3 x4 x5 x6 x7 x8 wq wc g b T r i j h2 h3 k]

/-- What a block's entry ends with: the normalisation of its row of projected products. -/
theorem outBlk_apply (T : Tables x4 x5 x6 x7 x8 wq wc g b) (r : Fin 64) (i j : Fin 10)
    (h2 : (x2 (ix2 ⟨r.val * 10 + i.val, by omega⟩ 0)).toNat < 4) (h3 : (x3 (ix2 r j)).toNat < 4) (c : Fin 32) :
    outBlk x0 x1 x2 x3 x4 x5 x6 x7 x8 (ix2 ⟨r.val * 10 + i.val, by omega⟩ ⟨j.val * 32 + c.val, by omega⟩)
      = Norm.row (zBlk x0 x1 x2 x3 wq wc r i j h2 h3) g b c := by
  rw [outBlk_eq, stored_apply, group_mean x4 x5 x6 x7 x8 wq wc g b T, T.g j c, T.b j c]
  simp only [pre_apply x0 x1 x2 x3 x4 x5 x6 x7 x8 wq wc g b T r i j h2 h3, mean_at x0 x1 x2 x3 x4 x5 x6 x7 x8 wq wc g b T r i j h2 h3]
  exact Norm.row_of_products _ g b c _ rfl

end Block

/-! ## From blocks to arrays -/

variable (V : (c : Dev nD) → (b : Ref sig .tc) → Buf (Elt Ideal) ((c : Thread nD τ).loc b))

theorem idx2 : ∀ t : Fin cfg2.N, win2_0.index t = ![t.val, 0] ∧ win2_1.index t = ![t.val, 0] ∧ win2_2.index t = ![t.val, 0] ∧ win2_3.index t = ![t.val, 0]
    ∧ win2_4.index t = ![0, 0] ∧ win2_5.index t = ![0, 0] ∧ win2_6.index t = ![0, 0] ∧ win2_7.index t = ![0, 0] ∧ win2_8.index t = ![0, 0] ∧ win2_9.index t = ![t.val, 0] :=
  (by decide +kernel : ∀ t : Fin grid2.N, _)

theorem t_lt (t : Fin cfg2.N) : t.val < 256 := t.isLt

theorem iblk_0 (c : Dev nD) (t : Fin cfg2.N) (r : Fin 640) (l : Fin 128) :
    (show Vec Ideal S640x128 .f32 from iblk V c 0 t) (ix2 r l) = V c main_v18_0 (ix2 ⟨t.val * 640 + r.val, by have := t_lt t; omega⟩ l) := by
  blk_ext [iblk, idx2 t]
theorem iblk_1 (c : Dev nD) (t : Fin cfg2.N) (r : Fin 64) (l : Fin 1280) :
    (show Vec Ideal S64x1280 .f32 from iblk V c 1 t) (ix2 r l) = V c main_v47 (ix2 ⟨t.val * 64 + r.val, by have := t_lt t; omega⟩ l) := by
  blk_ext [iblk, idx2 t]
theorem iblk_2 (c : Dev nD) (t : Fin cfg2.N) (r : Fin 640) :
    (show Vec Ideal S640x1 .i32 from iblk V c 2 t) (ix2 r 0) = V c main_v48 (ix2 ⟨t.val * 640 + r.val, by have := t_lt t; omega⟩ 0) := by
  blk_ext [iblk, idx2 t]
theorem iblk_3 (c : Dev nD) (t : Fin cfg2.N) (r : Fin 64) (l : Fin 10) :
    (show Vec Ideal S64x10 .i32 from iblk V c 3 t) (ix2 r l) = V c main_v13_3 (ix2 ⟨t.val * 64 + r.val, by have := t_lt t; omega⟩ l) := by
  blk_ext [iblk, idx2 t]
theorem iblk_4 (c : Dev nD) (t : Fin cfg2.N) : iblk V c 4 t = V c main_v22 := by blk_ext! [iblk, idx2 t]
theorem iblk_5 (c : Dev nD) (t : Fin cfg2.N) : iblk V c 5 t = V c main_v30 := by blk_ext! [iblk, idx2 t]
theorem iblk_6 (c : Dev nD) (t : Fin cfg2.N) : iblk V c 6 t = V c main_v38 := by blk_ext! [iblk, idx2 t]
theorem iblk_7 (c : Dev nD) (t : Fin cfg2.N) : iblk V c 7 t = V c main_v42 := by blk_ext! [iblk, idx2 t]
theorem iblk_8 (c : Dev nD) (t : Fin cfg2.N) : iblk V c 8 t = V c main_v46 := by blk_ext! [iblk, idx2 t]

/-- The result's array is what its blocks say, block by block. -/
theorem outArr_eq (c : Dev nD) (G : S163840x320.Idx → EReal)
    (h : ∀ (t : Fin cfg2.N) (r : Fin 640) (l : Fin 320), oblk V c t (ix2 r l) = G (ix2 ⟨t.val * 640 + r.val, by have := t_lt t; omega⟩ l)) : outArr V c = G := by
  refine (dat V c).arrAt_eq_of_covers 9 G (by decide +kernel) fun t _ y => ?_
  blk_simp
  rw [dat_after_out]
  refine (congrArg (oblk V c t) (ix2_eta (y : S640x320.Idx)).symm).trans ((h t (y 0) (y 1)).trans (congrArg G ?_))
  blk_ext [idx2 t]

end Cert.Proof.Ker

end
-- ==== Proof.KerTables.lean ====
/-
  The tables that the host operations make for the normalising call, entry by entry: the ten-fold first matrix, the
  block-diagonal second one, the block-diagonal mean, and the ten-fold scale and shift; and the two reshaped operands.
-/
module

public import proofs.«01_k».proof.Proof.KerOps
public import proofs.«01_k».proof.Proof.Norm
public import Idealize.ShloMosaic.Lib.Pointwise
public import Idealize.ShloMosaic.Lib.Pointwise.Select

@[expose] public section

set_option maxRecDepth 16384

noncomputable section

namespace Cert.Proof.Ker

open Cert.KernelIdeal Cert.KernelIdeal.Gen
open Idealize.ShloMosaic Idealize.ShloMosaic.TcCoe
open Idealize.ShloMosaic.StableHlo

/-! ## The tables -/

variable (w : FVec Ideal S32x32 .f32) (g : FVec Ideal S32 .f32)

/-- A matrix transposed and set ten times side by side. -/
def tabQ : FVec Ideal S32x320 .f32 :=
  shapeCast S32x320 (broadcastInDim S1x32x10x32 ![0, 1, 2, 3] bcast_S1x32x1x32_S1x32x10x32_0_1_2_3
    (shapeCast S1x32x1x32 (transpose S32x32 [1, 0] w transposes_S32x32_S32x32_1_0) shapeCasts_S32x32_S1x32x1x32)) shapeCasts_S1x32x10x32_S32x320

theorem tabQ_apply (k : Fin 32) (j : Fin 10) (c : Fin 32) : tabQ w (ix2 k ⟨j.val * 32 + c.val, by omega⟩) = w (ix2 c k) := by
  pointwise [tabQ]

/-- The ten-row identity matrix. -/
def eye : FVec Ideal S10x10 .f32 :=
  uitofp .f32 (cmpi .eq (addi (iotaInDim S10x10 32 0) (broadcastInDim S10x10 ![] bcast_S_S10x10 (constantI S_ 32 0#32))) (iotaInDim S10x10 32 1))

theorem eye_apply (i j : Fin 10) : eye (ix2 i j) = if i = j then 1 else 0 := by
  pointwise [eye]
  have h : IntOp.cmpi .eq (IntOp.addi (BitVec.ofNat 32 i.val) 0#32) (BitVec.ofNat 32 j.val) = if i = j then 1#1 else 0#1 := by
    revert i j; decide +kernel
  rw [h]
  split
  · show ((((1#1 : BitVec 1).toNat : ℝ)) : EReal) = 1
    simp
  · show ((((0#1 : BitVec 1).toNat : ℝ)) : EReal) = 0
    simp

/-- The block matrix with a matrix's multiples by the entries of another as blocks. -/
def kron (e : FVec Ideal S10x10 .f32) (v : FVec Ideal S32x32 .f32) : FVec Ideal S320x320 .f32 :=
  shapeCast S320x320 (mulf
    (broadcastInDim S10x32x10x32 ![0, 1, 2, 3] bcast_S10x1x10x1_S10x32x10x32_0_1_2_3 (broadcastInDim S10x1x10x1 ![0, 2] bcast_S10x10_S10x1x10x1_0_2 e))
    (broadcastInDim S10x32x10x32 ![0, 1, 2, 3] bcast_S1x32x1x32_S10x32x10x32_0_1_2_3 (broadcastInDim S1x32x1x32 ![1, 3] bcast_S32x32_S1x32x1x32_1_3 v)))
    shapeCasts_S10x32x10x32_S320x320

theorem kron_apply (e : FVec Ideal S10x10 .f32) (v : FVec Ideal S32x32 .f32) (i : Fin 10) (k : Fin 32) (j : Fin 10) (c : Fin 32) :
    kron e v (ix2 ⟨i.val * 32 + k.val, by omega⟩ ⟨j.val * 32 + c.val, by omega⟩) = e (ix2 i j) * v (ix2 k c) := by
  pointwise [kron]

/-- A row set ten times side by side. -/
def tile : FVec Ideal S1x320 .f32 :=
  shapeCast S1x320 (shapeCast S320 (broadcastInDim S10x32 ![0, 1] bcast_S1x32_S10x32_0_1 (shapeCast S1x32 g shapeCasts_S32_S1x32)) shapeCasts_S10x32_S320) shapeCasts_S320_S1x320

theorem tile_apply (j : Fin 10) (c : Fin 32) : tile g (ix2 0 ⟨j.val * 32 + c.val, by omega⟩) = g (ix1 c) := by
  pointwise [tile]

/-! ## The buffers after the second stretch -/

variable (V : Valuation τ sig (Elt Ideal))

set_option maxHeartbeats 4000000 in
theorem opsB_v22 : after opsB V (Proc.devRef .tc main_v22) = tabQ (V (Proc.devRef .tc main_arg2)) := by
  simp only [opsB, TRef.binary, TRef.nullary, TRef.ternary, TRef.unary, TRef.reshape, TRef.toBuf, TRef.ofBuf, cast_eq]
  after_results_simp <;> rfl
set_option maxHeartbeats 4000000 in
theorem opsB_v30 : after opsB V (Proc.devRef .tc main_v30)
    = kron eye (transpose S32x32 [1, 0] (V (Proc.devRef .tc main_arg3)) transposes_S32x32_S32x32_1_0) := by
  simp only [opsB, TRef.binary, TRef.nullary, TRef.ternary, TRef.unary, TRef.reshape, TRef.toBuf, TRef.ofBuf, cast_eq]
  after_results_simp <;> rfl
set_option maxHeartbeats 4000000 in
theorem opsB_v38 : after opsB V (Proc.devRef .tc main_v38)
    = kron eye (broadcastInDim S32x32 ![] bcast_S_S32x32 (constant S_ .f32 0x3D000000#32)) := by
  simp only [opsB, TRef.binary, TRef.nullary, TRef.ternary, TRef.unary, TRef.reshape, TRef.toBuf, TRef.ofBuf, cast_eq]
  after_results_simp <;> rfl
set_option maxHeartbeats 4000000 in
theorem opsB_v42 : after opsB V (Proc.devRef .tc main_v42) = tile (V (Proc.devRef .tc main_arg6)) := by
  simp only [opsB, TRef.binary, TRef.nullary, TRef.ternary, TRef.unary, TRef.reshape, TRef.toBuf, TRef.ofBuf, cast_eq]
  after_results_simp <;> rfl
set_option maxHeartbeats 4000000 in
theorem opsB_v46 : after opsB V (Proc.devRef .tc main_v46) = tile (V (Proc.devRef .tc main_arg7)) := by
  simp only [opsB, TRef.binary, TRef.nullary, TRef.ternary, TRef.unary, TRef.reshape, TRef.toBuf, TRef.ofBuf, cast_eq]
  after_results_simp <;> rfl
set_option maxHeartbeats 4000000 in
theorem opsB_v47 : after opsB V (Proc.devRef .tc main_v47) = shapeCast S16384x1280 (V (Proc.devRef .tc main_v18_1)) shapeCasts_S163840x128_S16384x1280 := by
  simp only [opsB, TRef.binary, TRef.nullary, TRef.ternary, TRef.unary, TRef.reshape, TRef.toBuf, TRef.ofBuf, cast_eq]
  after_results_simp <;> rfl
set_option maxHeartbeats 4000000 in
theorem opsB_v48 : after opsB V (Proc.devRef .tc main_v48) = shapeCast S163840x1 (V (Proc.devRef .tc main_v13_1)) shapeCasts_S16384x10_S163840x1 := by
  simp only [opsB, TRef.binary, TRef.nullary, TRef.ternary, TRef.unary, TRef.reshape, TRef.toBuf, TRef.ofBuf, cast_eq]
  after_results_simp <;> rfl

end Cert.Proof.Ker

end
-- ==== Proof.KerValue.lean ====
/-
  The value of the program's result: every entry is what the mathematics say of the arguments.
-/
module

public import proofs.«01_k».proof.Proof.KerFrame
public import proofs.«01_k».proof.Proof.KerBlock
public import proofs.«01_k».proof.Proof.KerTables
public import proofs.«01_k».proof.Proof.TailSpec

@[expose] public section

set_option maxRecDepth 16384

noncomputable section

namespace Cert.Proof.Ker

open Cert.KernelIdeal Cert.KernelIdeal.Gen
open Idealize.ShloMosaic Idealize.ShloMosaic.TcCoe
open Idealize.ShloMosaic.StableHlo
open Idealize.SL.Sem

variable (m : (ℓ : Loc nD τ sig) → Buf (Elt Ideal) ℓ) (d : Dev nD)

/-- The arguments and the scoring call's results, at their literal shapes. -/
abbrev a0 : FVec Ideal S16384x100x32 .f32 := m ((d.tc : Thread nD τ).loc main_arg0)
abbrev a1 : FVec Ideal S16384x26x32 .f32 := m ((d.tc : Thread nD τ).loc main_arg1)
abbrev a2 : IVec S16384x10 32 := Idx.arr6 (VI m) d
abbrev a3 : IVec S16384x10 32 := Idx.arr7 (VI m) d
abbrev a4 : IVec S16384x10 32 := Idx.arr8 (VI m) d
abbrev a5 : IVec S16384x10 32 := Idx.arr9 (VI m) d
abbrev a6 : FVec Ideal S32x32 .f32 := m ((d.tc : Thread nD τ).loc main_arg2)
abbrev a7 : FVec Ideal S32x32 .f32 := m ((d.tc : Thread nD τ).loc main_arg3)
abbrev a8 : FVec Ideal S32 .f32 := m ((d.tc : Thread nD τ).loc main_arg6)
abbrev a9 : FVec Ideal S32 .f32 := m ((d.tc : Thread nD τ).loc main_arg7)

/-! ## The tables and the reshaped arguments before the gathering call -/

theorem table_f : W m (tLoc d) = shapeCast S409600x128 (a0 m d) shapeCasts_S16384x100x32_S409600x128 := by
  rw [show a0 m d = valJ m d (Proc.devRef .tc main_arg0) from (valJ_kept m d main_arg0 (by decide) (by decide)).symm]
  show after opsA (valJ m d) (Proc.devRef .tc main_v14) = _
  after_results_simp <;> rfl
theorem table_c : W m (uLoc d) = shapeCast S106496x128 (a1 m d) shapeCasts_S16384x26x32_S106496x128 := by
  rw [show a1 m d = valJ m d (Proc.devRef .tc main_arg1) from (valJ_kept m d main_arg1 (by decide) (by decide)).symm]
  show after opsA (valJ m d) (Proc.devRef .tc main_v15) = _
  after_results_simp <;> rfl

/-- Row `4 v + p` of the feature table, in the granules that the reshape makes. -/
theorem granule_f (A : FVec Ideal S16384x100x32 .f32) (v : Fin 409600) (p : ℕ) (hp : p < 4) (k : Fin 32) :
    shapeCast S409600x128 A shapeCasts_S16384x100x32_S409600x128 (ix2 v ⟨32 * p + k.val, by omega⟩) = Spec.fAt A (4 * v.val + p) k := by
  pointwise [Spec.fAt]
  have hv := v.isLt
  exact congrArg A ((ix3_inj ..).2 ⟨Fin.ext (by show v.val / 25 = (4 * v.val + p) / 100 % 16384; omega),
    Fin.ext (by show v.val % 25 * 4 + (32 * p + k.val) / 32 = (4 * v.val + p) % 100; omega), rfl⟩)
/-- Row `4 v + p` of the context table. -/
theorem granule_c (A : FVec Ideal S16384x26x32 .f32) (v : Fin 106496) (p : ℕ) (hp : p < 4) (k : Fin 32) :
    shapeCast S106496x128 A shapeCasts_S16384x26x32_S106496x128 (ix2 v ⟨32 * p + k.val, by omega⟩) = Spec.cAt A (4 * v.val + p) k := by
  pointwise [Spec.cAt]
  have hv := v.isLt
  exact congrArg A ((ix3_inj ..).2 ⟨Fin.ext (by show (v.val * 128 + (32 * p + k.val)) / 832 = (4 * v.val + p) / 26 % 16384; omega),
    Fin.ext (by show (v.val * 128 + (32 * p + k.val)) / 32 % 26 = (4 * v.val + p) % 26; omega), rfl⟩)

/-- The lists, at an entry. -/
theorem list_at_entry (l : IVec S16384x10 32) (e : Fin 16384) (i : Fin 10) :
    shapeCast S163840 l shapeCasts_S16384x10_S163840 (ix1 ⟨e.val * 10 + i.val, by omega⟩) = l (ix2 e i) := by
  pointwise

/-- A gathered feature entry: row `p` of the granule that the list names. -/
theorem gOut_apply (e : Fin 16384) (i : Fin 10) (p : ℕ) (hp : p < 4) (k : Fin 32) (hg : (a2 m d (ix2 e i)).toNat < 409600) :
    gOut (W m) d (ix2 ⟨e.val * 10 + i.val, by omega⟩ ⟨32 * p + k.val, by omega⟩) = Spec.fAt (a0 m d) (4 * (a2 m d (ix2 e i)).toNat + p) k := by
  show W m (tLoc d) (ix2 (Fin.ofNat 409600 (W m (iLoc d) (ix1 ⟨e.val * 10 + i.val, by omega⟩)).toNat) ⟨32 * p + k.val, by omega⟩) = _
  rw [table_f, list_f]
  refine (granule_f (a0 m d) _ p hp k).trans ?_
  rw [show (Fin.ofNat 409600 (BitVec.toNat (shapeCast S163840 (a2 m d) shapeCasts_S16384x10_S163840 (ix1 ⟨e.val * 10 + i.val, by omega⟩)))).val
    = (a2 m d (ix2 e i)).toNat by rw [list_at_entry]; exact Nat.mod_eq_of_lt hg]

/-- A gathered context entry. -/
theorem hOut_apply (e : Fin 16384) (i : Fin 10) (p : ℕ) (hp : p < 4) (k : Fin 32) (hg : (a4 m d (ix2 e i)).toNat < 106496) :
    hOut (W m) d (ix2 ⟨e.val * 10 + i.val, by omega⟩ ⟨32 * p + k.val, by omega⟩) = Spec.cAt (a1 m d) (4 * (a4 m d (ix2 e i)).toNat + p) k := by
  show W m (uLoc d) (ix2 (Fin.ofNat 106496 (W m (jLoc d) (ix1 ⟨e.val * 10 + i.val, by omega⟩)).toNat) ⟨32 * p + k.val, by omega⟩) = _
  rw [table_c, list_c]
  refine (granule_c (a1 m d) _ p hp k).trans ?_
  rw [show (Fin.ofNat 106496 (BitVec.toNat (shapeCast S163840 (a4 m d) shapeCasts_S16384x10_S163840 (ix1 ⟨e.val * 10 + i.val, by omega⟩)))).val
    = (a4 m d (ix2 e i)).toNat by rw [list_at_entry]; exact Nat.mod_eq_of_lt hg]

/-! ## What the normalising call finds -/

theorem V3_g : V3 m d main_v18_0 = gOut (W m) d :=
  (after_of_writes_sub opsB _ opsB_writes (by decide)).trans (val2_g m d)
theorem V3_h : V3 m d main_v47 = shapeCast S16384x1280 (hOut (W m) d) shapeCasts_S163840x128_S16384x1280 :=
  (opsB_v47 _).trans (congrArg (fun v => shapeCast S16384x1280 v shapeCasts_S163840x128_S16384x1280) (val2_h m d))
theorem V3_p : V3 m d main_v48 = shapeCast S163840x1 (a3 m d) shapeCasts_S16384x10_S163840x1 :=
  (opsB_v48 _).trans (congrArg (fun v => shapeCast S163840x1 v shapeCasts_S16384x10_S163840x1) ((val2_left m d main_v13_1 (by decide) (by decide) (by decide)).trans (valJ_1 m d)))
theorem V3_a5 : V3 m d main_v13_3 = a5 m d :=
  (after_of_writes_sub opsB _ opsB_writes (by decide)).trans ((val2_left m d main_v13_3 (by decide) (by decide) (by decide)).trans (valJ_3 m d))

theorem tables : Tables (V3 m d main_v22) (V3 m d main_v30) (V3 m d main_v38) (V3 m d main_v42) (V3 m d main_v46)
    (fun c k => a6 m d (ix2 c k)) (fun c k => a7 m d (ix2 c k)) (fun c => a8 m d (ix1 c)) (fun c => a9 m d (ix1 c)) where
  q k j c := by
    rw [show V3 m d main_v22 = tabQ (a6 m d) from (opsB_v22 _).trans (congrArg tabQ (val2_kept m d main_arg2 (by decide) (by decide) (by decide)))]
    exact tabQ_apply _ k j c
  c i k j c := by
    rw [show V3 m d main_v30 = kron eye (transpose S32x32 [1, 0] (a7 m d) transposes_S32x32_S32x32_1_0) from (opsB_v30 _).trans
      (congrArg (fun v => kron eye (transpose S32x32 [1, 0] v transposes_S32x32_S32x32_1_0)) (val2_kept m d main_arg3 (by decide) (by decide) (by decide))),
      kron_apply, eye_apply]
    pointwise
    rw [ite_mul, one_mul, zero_mul]
  p i k j c := by
    rw [show V3 m d main_v38 = _ from opsB_v38 _, kron_apply, eye_apply]
    pointwise
    rw [ite_mul, one_mul, zero_mul]
  g j c := by
    rw [show V3 m d main_v42 = tile (a8 m d) from (opsB_v42 _).trans (congrArg tile (val2_kept m d main_arg6 (by decide) (by decide) (by decide)))]
    exact tile_apply _ j c
  b j c := by
    rw [show V3 m d main_v46 = tile (a9 m d) from (opsB_v46 _).trans (congrArg tile (val2_kept m d main_arg7 (by decide) (by decide) (by decide)))]
    exact tile_apply _ j c

/-! ## The result -/

variable (h2 : ∀ x, (a2 m d x).toNat < 409600) (h3 : ∀ x, (a3 m d x).toNat < 4) (h4 : ∀ x, (a4 m d x).toNat < 106496) (h5 : ∀ x, (a5 m d x).toNat < 4)

/-- The mathematics on the program's arguments. -/
abbrev spec (e : Fin 16384) (i j : Fin 10) (c : Fin 32) : EReal :=
  Spec.out (a0 m d) (a1 m d) (a2 m d) (a3 m d) (a4 m d) (a5 m d) (a6 m d) (a7 m d) (a8 m d) (a9 m d) e i j c

/-- The projecting call's result array. -/
def outG (x : S163840x320.Idx) : EReal :=
  spec m d ⟨(x 0).val / 10, by have : (x 0).val < 163840 := (x 0).isLt; omega⟩ ⟨(x 0).val % 10, by omega⟩
    ⟨(x 1).val / 32, by have : (x 1).val < 320 := (x 1).isLt; omega⟩ ⟨(x 1).val % 32, by omega⟩

theorem outG_apply (e : Fin 16384) (i j : Fin 10) (c : Fin 32) :
    outG m d (ix2 ⟨e.val * 10 + i.val, by omega⟩ ⟨j.val * 32 + c.val, by omega⟩) = spec m d e i j c := by
  unfold outG
  congr 1 <;> refine Fin.ext ?_
  · show (e.val * 10 + i.val) / 10 = e.val; omega
  · show (e.val * 10 + i.val) % 10 = i.val; omega
  · show (j.val * 32 + c.val) / 32 = j.val; omega
  · show (j.val * 32 + c.val) % 32 = c.val; omega

/-- The blocks of the call's operands at a point, at their literal shapes. -/
def b0 (t : Fin cfg2.N) : Vec Ideal S640x128 .f32 := iblk (V3 m) d 0 t
def b1 (t : Fin cfg2.N) : Vec Ideal S64x1280 .f32 := iblk (V3 m) d 1 t
def b2 (t : Fin cfg2.N) : Vec Ideal S640x1 .i32 := iblk (V3 m) d 2 t
def b3 (t : Fin cfg2.N) : Vec Ideal S64x10 .i32 := iblk (V3 m) d 3 t

theorem oblk_eq (t : Fin cfg2.N) : oblk (V3 m) d t
    = outBlk (b0 m d t) (b1 m d t) (b2 m d t) (b3 m d t) (V3 m d main_v22) (V3 m d main_v30) (V3 m d main_v38) (V3 m d main_v42) (V3 m d main_v46) := by
  unfold oblk b0 b1 b2 b3
  rw [iblk_4, iblk_5, iblk_6, iblk_7, iblk_8]

/-- The places of a block's feature rows. -/
theorem b2_apply (t : Fin cfg2.N) (r : Fin 64) (i : Fin 10) :
    b2 m d t (ix2 ⟨r.val * 10 + i.val, by omega⟩ 0) = a3 m d (ix2 ⟨t.val * 64 + r.val, by have := t_lt t; omega⟩ i) := by
  have ht := t_lt t
  refine (iblk_2 (V3 m) d t ⟨r.val * 10 + i.val, by omega⟩).trans ?_
  rw [V3_p]
  pointwise
  exact congrArg (a3 m d) ((ix2_inj ..).2 ⟨Fin.ext (by show (t.val * 640 + (r.val * 10 + i.val)) / 10 = t.val * 64 + r.val; omega), rfl⟩)

/-- The places of a block's context rows. -/
theorem b3_apply (t : Fin cfg2.N) (r : Fin 64) (j : Fin 10) :
    b3 m d t (ix2 r j) = a5 m d (ix2 ⟨t.val * 64 + r.val, by have := t_lt t; omega⟩ j) :=
  (iblk_3 (V3 m) d t r j).trans (congrFun (V3_a5 m d) _)

include h2 in
/-- A block's feature granules. -/
theorem b0_apply (t : Fin cfg2.N) (r : Fin 64) (i : Fin 10) (p : ℕ) (hp : p < 4) (k : Fin 32) :
    b0 m d t (ix2 ⟨r.val * 10 + i.val, by omega⟩ ⟨32 * p + k.val, by omega⟩)
      = Spec.fAt (a0 m d) (4 * (a2 m d (ix2 ⟨t.val * 64 + r.val, by have := t_lt t; omega⟩ i)).toNat + p) k := by
  have ht := t_lt t
  refine (iblk_0 (V3 m) d t ⟨r.val * 10 + i.val, by omega⟩ ⟨32 * p + k.val, by omega⟩).trans ?_
  rw [V3_g, ← gOut_apply m d _ i p hp k (h2 _)]
  exact congrArg (gOut (W m) d) ((ix2_inj ..).2 ⟨Fin.ext (by show t.val * 640 + (r.val * 10 + i.val) = (t.val * 64 + r.val) * 10 + i.val; omega), rfl⟩)

include h4 in
/-- A block's context granules. -/
theorem b1_apply (t : Fin cfg2.N) (r : Fin 64) (j : Fin 10) (p : ℕ) (hp : p < 4) (k : Fin 32) :
    b1 m d t (ix2 r ⟨128 * j.val + 32 * p + k.val, by omega⟩)
      = Spec.cAt (a1 m d) (4 * (a4 m d (ix2 ⟨t.val * 64 + r.val, by have := t_lt t; omega⟩ j)).toNat + p) k := by
  have ht := t_lt t
  refine (iblk_1 (V3 m) d t r ⟨128 * j.val + 32 * p + k.val, by omega⟩).trans ?_
  rw [V3_h, ← hOut_apply m d _ j p hp k (h4 _)]
  pointwise
  exact congrArg (hOut (W m) d) ((ix2_inj ..).2 ⟨Fin.ext (by dsimp only; omega), Fin.ext (by dsimp only; omega)⟩)

include h2 h3 h4 h5 in
/-- One entry of one block. -/
theorem oblk_apply (t : Fin cfg2.N) (r : Fin 64) (i j : Fin 10) (c : Fin 32) :
    oblk (V3 m) d t (ix2 ⟨r.val * 10 + i.val, by omega⟩ ⟨j.val * 32 + c.val, by omega⟩)
      = spec m d ⟨t.val * 64 + r.val, by have := t_lt t; omega⟩ i j c := by
  have ht := t_lt t
  rw [oblk_eq]
  refine (outBlk_apply _ _ _ _ _ _ _ _ _ _ _ _ _ (tables m d) r i j (by rw [b2_apply]; exact h3 _) (by rw [b3_apply]; exact h5 _) c).trans ?_
  refine congrArg (fun z => Norm.row z _ _ c) (funext fun c' => ?_)
  unfold zBlk Spec.zRow Spec.num
  refine congrArg₂ (· * ·) (Finset.sum_congr rfl fun k _ => congrArg (· * _) ?_) (Finset.sum_congr rfl fun k _ => congrArg (· * _) ?_)
  · rw [b0_apply m d h2 t r i _ (by rw [b2_apply]; exact h3 _), b2_apply]
  · rw [b1_apply m d h4 t r j _ (by rw [b3_apply]; exact h5 _), b3_apply]

include h2 h3 h4 h5 in
/-- The projecting call's result. -/
theorem outArr_value : outArr (V3 m) d = outG m d := by
  refine outArr_eq (V3 m) d (outG m d) fun t r l => ?_
  have ht := t_lt t
  have e := oblk_apply m d h2 h3 h4 h5 t ⟨r.val / 10, by omega⟩ ⟨r.val % 10, by omega⟩ ⟨l.val / 32, by omega⟩ ⟨l.val % 32, by omega⟩
  rw [← outG_apply] at e
  refine Eq.trans (congrArg (oblk (V3 m) d t) ?_) (e.trans (congrArg (outG m d) ?_))
  · exact (ix2_inj ..).2 ⟨Fin.ext (by dsimp only; omega), Fin.ext (by dsimp only; omega)⟩
  · exact (ix2_inj ..).2 ⟨Fin.ext (by dsimp only; omega), Fin.ext (by dsimp only; omega)⟩

/-- The program's result, at its literal shape. -/
def res : FVec Ideal S16384x100x32 .f32 := val5 m d (Proc.devRef .tc main_v50)

include h2 h3 h4 h5 in
/-- THE VALUE: every entry of the result. -/
theorem res_apply (e : Fin 16384) (i j : Fin 10) (c : Fin 32) : res m d (ix3 e ⟨i.val * 10 + j.val, by omega⟩ c) = spec m d e i j c := by
  have hr : res m d = shapeCast S16384x100x32 (outG m d) shapeCasts_S163840x320_S16384x100x32 := by
    unfold res val5
    rw [← outArr_value m d h2 h3 h4 h5]
    after_results_simp
    rw [val4, Function.update_self]
    rfl
  rw [hr, ← outG_apply]
  pointwise
  exact congrArg (outG m d) ((ix2_inj ..).2 ⟨Fin.ext (by dsimp only; omega), Fin.ext (by dsimp only; omega)⟩)

end Cert.Proof.Ker

end
-- ==== Proof.Ranks.lean ====
/-
  Taking the greatest entry of a row over and over: each round takes the first greatest of the entries not yet taken. The
  entries taken, in order, are the first ones of the stable sort of the row, greatest first.
-/
module

public import Idealize.ShloMosaic.Lib.SortPrefix
public import Idealize.ShloMosaic.Lib.WordArith
public import Idealize.ShloMosaic.Lib.WordCmp
public import Idealize.ShloMosaic.Lib.Pointwise
public import Idealize.ShloMosaic.PureOps.Ideal.Laws

@[expose] public section

set_option maxRecDepth 4096

noncomputable section

namespace Cert.Proof.Ranks

open Idealize.ShloMosaic

/-! ## The stable sort, and the order that ties break by position -/

variable {M : ℕ}

/-- Entry `a` is greater than entry `b`. -/
abbrev greater (key : Fin M → EReal) (a b : Fin M) : Bool := decide (key b < key a)
/-- Entry `a` is greater than entry `b`, or equal to it and earlier. -/
abbrev ahead (key : Fin M → EReal) (a b : Fin M) : Bool := greater key a b || (decide (key a = key b) && decide (a < b))

theorem ahead_strict (key : Fin M → EReal) : StrictTotalBefore (ahead key) :=
  StrictTotalBefore.of_key_then_position (fun a b : EReal => decide (b < a)) key (fun a => by simp)
    (fun a b c h h' => by simp only [decide_eq_true_eq] at *; exact h'.trans h)
    (fun a b => by
      simp only [decide_eq_true_eq]
      rcases lt_trichotomy a b with h | h | h
      · exact Or.inr (Or.inr h)
      · exact Or.inr (Or.inl h)
      · exact Or.inl h)

/-- On positions in increasing order the two orders sort alike. -/
theorem stableSort_ahead (key : Fin M → EReal) (l : List (Fin M)) (hl : l.Pairwise (· < ·)) :
    stableSort (greater key) l = stableSort (ahead key) l := by
  induction l with
  | nil => rfl
  | cons a l ih =>
    rw [List.pairwise_cons] at hl
    rw [stableSort, stableSort, ih hl.2]
    refine insertBefore_congr _ _ a _ fun b hb => ?_
    have hab : a < b := hl.1 b ((perm_stableSort _ l).mem_iff.mp hb)
    have : decide (b < a) = false := decide_eq_false hab.asymm
    simp [ahead, this]

/-- So the sort by value alone is the sort by value and position. -/
theorem sortedFrom_greater (key : Fin M → EReal) : sortedFrom (greater key) = sortedFrom (ahead key) := by
  have h : sortPositions M (greater key) = sortPositions M (ahead key) := stableSort_ahead key _ (List.pairwise_lt_finRange M)
  funext k
  simp only [sortedFrom, List.get_eq_getElem, h]
  rfl

/-- Entries taken one after the other, each the first greatest of those not taken before, are the sort's first ones. -/
theorem sortedFrom_of_rounds {K : ℕ} (hK : K ≤ M) (key : Fin M → EReal) (σ : Fin K → Fin M)
    (hinj : ∀ i j : Fin K, j < i → σ j ≠ σ i)
    (hbest : ∀ (i : Fin K) (q : Fin M), (∀ j < i, σ j ≠ q) → key q < key (σ i) ∨ (key q = key (σ i) ∧ σ i ≤ q)) (i : Fin K) :
    sortedFrom (greater key) (i.castLE hK) = σ i := by
  have hinj' : Function.Injective σ := fun a b h => by
    rcases lt_trichotomy a b with hab | hab | hab
    · exact absurd h (hinj b a hab)
    · exact hab
    · exact absurd h.symm (hinj a b hab)
  have hno : ∀ (i : Fin K) (q : Fin M), (∀ j < i, σ j ≠ q) → ahead key q (σ i) = false := fun i q hq => by
    rcases hbest i q hq with h | ⟨h, h'⟩
    · simp [ahead, h.asymm, h.ne]
    · simp [ahead, h, not_lt.mpr h']
  rw [sortedFrom_greater]
  refine (ahead_strict key).sortedFrom_eq_of_prefix hK σ hinj' (fun i j hij => hno i (σ j) fun j' hj' h => ?_) (fun i p hp => hno i p fun j _ => hp j) i
  exact hinj j j' (hj'.trans hij) h

/-! ## A round on words -/

/-- A row's entry, or below everything where it is not to be taken. -/
abbrev masked (x : Fin 128 → EReal) (ok : Fin 128 → BitVec 1) (l : Fin 128) : EReal := Scalar.select (ok l) (x l) ⊥
/-- The greatest entry to be taken. -/
abbrev top (x : Fin 128 → EReal) (ok : Fin 128 → BitVec 1) : EReal := Finset.univ.fold max ⊥ (masked x ok)
/-- A lane's number where the lane holds that entry, 128 elsewhere. -/
abbrev lane (x : Fin 128 → EReal) (ok : Fin 128 → BitVec 1) (l : Fin 128) : BitVec 32 :=
  Scalar.select (FloatOps.cmpf (F := Ideal) (φ := .f32) .oeq (masked x ok l) (top x ok)) (BitVec.ofNat 32 l.val) 128#32
/-- The first lane that holds it. -/
def pick (x : Fin 128 → EReal) (ok : Fin 128 → BitVec 1) : BitVec 32 := Finset.univ.fold IntOp.minsi 2147483647#32 (lane x ok)
/-- The lanes still to be taken after a round. -/
def next (x : Fin 128 → EReal) (ok : Fin 128 → BitVec 1) (l : Fin 128) : BitVec 1 :=
  IntOp.andi (ok l) (IntOp.cmpi .ne (BitVec.ofNat 32 l.val) (pick x ok))
/-- The lanes still to be taken after some rounds. -/
def rest (x : Fin 128 → EReal) (ok : Fin 128 → BitVec 1) : ℕ → Fin 128 → BitVec 1
  | 0 => ok
  | n + 1 => next x (rest x ok n)

/-- The least of a set of words that one of them attains. -/
theorem fold_minsi (f : Fin 128 → BitVec 32) (p : Fin 128) (hp : ∀ q, (f p).toNat ≤ (f q).toNat) (hf : ∀ q, (f q).toNat < 2 ^ 31) :
    Finset.univ.fold IntOp.minsi 2147483647#32 f = f p := by
  have key : ∀ s : Finset (Fin 128), (f p).toNat ≤ (s.fold IntOp.minsi 2147483647#32 f).toNat
      ∧ (s.fold IntOp.minsi 2147483647#32 f).toNat < 2 ^ 31 ∧ (p ∈ s → s.fold IntOp.minsi 2147483647#32 f = f p) := by
    intro s
    induction s using Finset.induction with
    | empty =>
      have := hf p
      refine ⟨?_, by simp, fun h => by simp at h⟩
      simp only [Finset.fold_empty, BitVec.toNat_ofNat]; omega
    | insert a s ha ih =>
      obtain ⟨h1, h2, h3⟩ := ih
      rw [Finset.fold_insert ha]
      have hm := WordArith.toNat_minsi_of_lt (f a) (s.fold IntOp.minsi 2147483647#32 f) (hf a) h2
      refine ⟨by rw [hm]; exact le_min (hp a) h1, by rw [hm]; exact lt_of_le_of_lt (min_le_left _ _) (hf a), fun h => BitVec.eq_of_toNat_eq ?_⟩
      rw [hm]
      rcases Finset.mem_insert.mp h with rfl | h
      · exact min_eq_left h1
      · rw [h3 h]; exact min_eq_right (hp a)
  exact (key Finset.univ).2.2 (Finset.mem_univ p)

theorem top_eq_sup (x : Fin 128 → EReal) (ok : Fin 128 → BitVec 1) : top x ok = Finset.univ.sup (masked x ok) := rfl

/-- A round takes the first greatest entry of those to be taken. -/
theorem pick_spec (x : Fin 128 → EReal) (ok : Fin 128 → BitVec 1) (hne : ∃ l, ok l = 1#1) (hx : ∀ l, ok l = 1#1 → x l ≠ ⊥) :
    ∃ p : Fin 128, ok p = 1#1 ∧ (∀ q, ok q = 1#1 → x q < x p ∨ (x q = x p ∧ p ≤ q)) ∧ pick x ok = BitVec.ofNat 32 p.val := by
  classical
  have hle : ∀ l, masked x ok l ≤ top x ok := fun l => by rw [top_eq_sup]; exact Finset.le_sup (Finset.mem_univ l)
  obtain ⟨l0, hl0⟩ := hne
  have hm0 : ∀ l, ok l = 1#1 → masked x ok l = x l := fun l h => by simp [masked, Scalar.select, h]
  have hbot : ⊥ < top x ok := lt_of_lt_of_le (bot_lt_iff_ne_bot.mpr (hx l0 hl0)) (hm0 l0 hl0 ▸ hle l0)
  have hat : ∃ l, masked x ok l = top x ok := by
    obtain ⟨l, -, h⟩ := Finset.exists_mem_eq_sup Finset.univ ⟨l0, Finset.mem_univ l0⟩ (masked x ok)
    exact ⟨l, by rw [top_eq_sup, h]⟩
  have hok : ∀ l, masked x ok l = top x ok → ok l = 1#1 := fun l h => by
    by_contra hc
    have : masked x ok l = ⊥ := by simp only [masked, Scalar.select]; exact if_neg hc
    rw [this] at h; exact hbot.ne h
  let S : Finset (Fin 128) := Finset.univ.filter fun l => masked x ok l = top x ok
  have hS : S.Nonempty := ⟨hat.choose, Finset.mem_filter.mpr ⟨Finset.mem_univ _, hat.choose_spec⟩⟩
  have hpS := (Finset.mem_filter.mp (S.min'_mem hS)).2
  have hlane : ∀ l, lane x ok l = if masked x ok l = top x ok then BitVec.ofNat 32 l.val else 128#32 := fun l => by
    by_cases h : masked x ok l = top x ok
    · rw [if_pos h]; unfold lane; rw [h]; simp [Scalar.select, FloatOps.cmpf, Ideal.cmp]
    · rw [if_neg h]; unfold lane
      have e : FloatOps.cmpf (F := Ideal) (φ := .f32) .oeq (masked x ok l) (top x ok) = 0#1 := by
        simp only [FloatOps.cmpf, Ideal.cmp, decide_eq_false h]; rfl
      rw [e]; exact if_neg (by decide)
  refine ⟨S.min' hS, hok _ hpS, fun q hq => ?_, ?_⟩
  · rcases lt_or_eq_of_le (hle q) with h | h
    · left; rw [hm0 q hq, ← hpS, hm0 _ (hok _ hpS)] at h; exact h
    · right
      refine ⟨?_, S.min'_le q (Finset.mem_filter.mpr ⟨Finset.mem_univ _, h⟩)⟩
      rw [← hm0 q hq, h, ← hpS, hm0 _ (hok _ hpS)]
  · unfold pick
    rw [fold_minsi (lane x ok) (S.min' hS) (fun q => ?_) (fun q => ?_), hlane, if_pos hpS]
    · rw [hlane, if_pos hpS, hlane]
      have hlt := (S.min' hS).isLt
      by_cases h : masked x ok q = top x ok
      · rw [if_pos h, BitVec.toNat_ofNat, BitVec.toNat_ofNat, Nat.mod_eq_of_lt (by omega), Nat.mod_eq_of_lt (by omega)]
        exact S.min'_le q (Finset.mem_filter.mpr ⟨Finset.mem_univ _, h⟩)
      · rw [if_neg h, BitVec.toNat_ofNat, Nat.mod_eq_of_lt (by omega)]
        show _ ≤ 128; omega
    · rw [hlane]; split
      · rw [BitVec.toNat_ofNat]; omega
      · decide

/-! ## Ten rounds -/

/-- The lane a round takes. -/
def took (x : Fin 128 → EReal) (ok : Fin 128 → BitVec 1) (n : ℕ) : ℕ := (pick x (rest x ok n)).toNat

theorem next_iff (x : Fin 128 → EReal) (ok : Fin 128 → BitVec 1) (l : Fin 128) :
    next x ok l = 1#1 ↔ ok l = 1#1 ∧ l.val ≠ (pick x ok).toNat := by
  unfold next
  rw [show ∀ a b : BitVec 1, (IntOp.andi a b = 1#1 ↔ a = 1#1 ∧ b = 1#1) by decide]
  refine and_congr_right fun _ => ?_
  have hl := l.isLt
  have : (BitVec.ofNat 32 l.val).toNat = l.val := by rw [BitVec.toNat_ofNat]; omega
  simp only [IntOp.cmpi]
  rw [show ((BitVec.ofBool (BitVec.ofNat 32 l.val != pick x ok)) = 1#1 ↔ (BitVec.ofNat 32 l.val != pick x ok) = true) from
    WordCmp.ofBool_eq_one_iff _, bne_iff_ne]
  constructor
  · intro h h'; exact h (BitVec.eq_of_toNat_eq (by rw [this, h']))
  · intro h h'; rw [← h'] at h; omega

/-- As long as lanes are left, each round takes the first greatest of the entries not taken before, and the lanes left
    are those not taken. -/
theorem rounds (x : Fin 128 → EReal) (ok : Fin 128 → BitVec 1) (o : ℕ) (hoM : o + M ≤ 128) (hok : ∀ l, ok l = 1#1 ↔ o ≤ l.val ∧ l.val < o + M)
    (hx : ∀ l, ok l = 1#1 → x l ≠ ⊥) (n : ℕ) (hn : n < M) :
    (∀ l, rest x ok n l = 1#1 ↔ ok l = 1#1 ∧ ∀ j < n, took x ok j ≠ l.val)
      ∧ ∃ p : Fin 128, took x ok n = p.val ∧ pick x (rest x ok n) = BitVec.ofNat 32 p.val ∧ rest x ok n p = 1#1
        ∧ ∀ q, rest x ok n q = 1#1 → x q < x p ∨ (x q = x p ∧ p ≤ q) := by
  have step : (∀ l, rest x ok n l = 1#1 ↔ ok l = 1#1 ∧ ∀ j < n, took x ok j ≠ l.val) →
      ∃ p : Fin 128, took x ok n = p.val ∧ pick x (rest x ok n) = BitVec.ofNat 32 p.val ∧ rest x ok n p = 1#1
        ∧ ∀ q, rest x ok n q = 1#1 → x q < x p ∨ (x q = x p ∧ p ≤ q) := by
    intro hr
    have hne : ∃ l, rest x ok n l = 1#1 := by
      by_contra hc
      push Not at hc
      have hsub : Finset.Ico o (o + M) ⊆ (Finset.range n).image (took x ok) := fun v hv => by
        rw [Finset.mem_Ico] at hv
        have h1 := hc ⟨v, by omega⟩
        rw [Ne, hr] at h1
        push Not at h1
        obtain ⟨j, hj, h⟩ := h1 ((hok _).mpr hv)
        exact Finset.mem_image.mpr ⟨j, Finset.mem_range.mpr hj, h⟩
      have := (Finset.card_le_card hsub).trans Finset.card_image_le
      rw [Nat.card_Ico, Finset.card_range] at this
      omega
    obtain ⟨p, h1, h2, h3⟩ := pick_spec x (rest x ok n) hne fun l hl => hx l ((hr l).mp hl).1
    have hp := p.isLt
    exact ⟨p, by unfold took; rw [h3, BitVec.toNat_ofNat]; omega, h3, h1, h2⟩
  have hr : ∀ l, rest x ok n l = 1#1 ↔ ok l = 1#1 ∧ ∀ j < n, took x ok j ≠ l.val := by
    clear step
    induction n with
    | zero => intro l; simp [rest]
    | succ n ih =>
      intro l
      rw [rest, next_iff, ih (by omega)]
      constructor
      · rintro ⟨⟨h1, h2⟩, h3⟩
        refine ⟨h1, fun j hj => ?_⟩
        rcases Nat.lt_succ_iff_lt_or_eq.mp hj with h | rfl
        · exact h2 j h
        · exact fun h => h3 h.symm
      · rintro ⟨h1, h2⟩
        exact ⟨⟨h1, fun j hj => h2 j (by omega)⟩, fun h => h2 n (by omega) h.symm⟩
  exact ⟨hr, step hr⟩

/-- The lanes taken, counted from the first lane to be taken, are the positions that the stable sort puts first. -/
theorem pick_sorted {K : ℕ} (hK : K ≤ M) (x : Fin 128 → EReal) (ok : Fin 128 → BitVec 1) (o : ℕ) (hoM : o + M ≤ 128)
    (hok : ∀ l, ok l = 1#1 ↔ o ≤ l.val ∧ l.val < o + M) (hx : ∀ l, ok l = 1#1 → x l ≠ ⊥) (i : Fin K) :
    pick x (rest x ok i.val)
      = BitVec.ofNat 32 (o + (sortedFrom (greater fun k : Fin M => x ⟨o + k.val, by omega⟩) (i.castLE hK)).val) := by
  have R := fun n hn => rounds x ok o hoM hok hx n hn
  have hlt : ∀ i : Fin K, i.val < M := fun i => lt_of_lt_of_le i.isLt hK
  have hin : ∀ i : Fin K, o ≤ took x ok i.val ∧ took x ok i.val < o + M := fun i => by
    obtain ⟨h1, p, h2, -, h3, -⟩ := R i.val (hlt i)
    rw [h2]; exact (hok p).mp ((h1 p).mp h3).1
  let σ : Fin K → Fin M := fun i => ⟨took x ok i.val - o, by have := hin i; omega⟩
  have hσ : ∀ i, (σ i).val = took x ok i.val - o := fun _ => rfl
  have e := sortedFrom_of_rounds hK (fun k : Fin M => x ⟨o + k.val, by omega⟩) σ (fun i j hji h => ?_) (fun i q hq => ?_) i
  · rw [e]
    obtain ⟨-, p, h2, h3, -, -⟩ := R i.val (hlt i)
    rw [h3, hσ, h2]
    have := hin i
    rw [h2] at this
    exact congrArg (BitVec.ofNat 32) (by omega)
  · obtain ⟨h1, p, h2, -, h3, -⟩ := R i.val (hlt i)
    refine ((h1 p).mp h3).2 j.val hji ?_
    have a := congrArg Fin.val h
    have e1 := hσ i
    have e2 := hσ j
    have := hin i; have := hin j
    show took x ok j.val = _
    rw [← h2]
    omega
  · obtain ⟨h1, p, h2, -, h3, h4⟩ := R i.val (hlt i)
    have hp : p = ⟨o + (σ i).val, by have := (σ i).isLt; omega⟩ := Fin.ext (by have := hin i; have e1 := hσ i; show p.val = o + (σ i).val; omega)
    have hq' : rest x ok i.val ⟨o + q.val, by have := q.isLt; omega⟩ = 1#1 := (h1 _).mpr ⟨(hok _).mpr ⟨by show o ≤ o + q.val; omega, by have := q.isLt; show o + q.val < _; omega⟩, fun j hj h => by
      refine hq ⟨j, by omega⟩ hj (Fin.ext ?_)
      have e1 := hσ ⟨j, by omega⟩
      rw [e1]
      have h' : took x ok j = o + q.val := h
      show took x ok j - o = q.val
      omega⟩
    rcases h4 _ hq' with h | ⟨h, h'⟩
    · left; rw [hp] at h; exact h
    · right
      rw [hp] at h h'
      refine ⟨h, ?_⟩
      have := Fin.le_def.mp h'
      rw [Fin.le_def]
      simp only at this; omega

end Cert.Proof.Ranks

end
-- ==== Proof.Score.lean ====
/-
  The scores: each example's 126 row sums, three cross layers, and the order in which the rows are picked.
-/
module

public import proofs.«01_k».proof.Proof.Ranks
public import proofs.«01_k».proof.Proof.Norm

@[expose] public section

noncomputable section

namespace Cert.Proof.Score

open Idealize.ShloMosaic

/-! ## One cross layer -/

/-- One cross layer: the scores' product with the row sums, after a matrix and a bias, added to the scores. -/
def lay {n : ℕ} (w : Fin n → Fin n → EReal) (b x0 x : Fin n → EReal) (l : Fin n) : EReal := x0 l * ((∑ k : Fin n, x k * w k l) + b l) + x l

/-- On lanes past the rows, where the row sums and the scores are zero, a layer leaves zero. -/
theorem lay_high {n : ℕ} (w : Fin n → Fin n → EReal) (b x0 x : Fin n → EReal) (l : Fin n) (h0 : x0 l = 0) (h : x l = 0) : lay w b x0 x l = 0 := by
  unfold lay; rw [h0, h, zero_mul, zero_add]

/-- A sum over 128 lanes of which the last two hold zero. -/
theorem sum_low (f : Fin 128 → EReal) (h : ∀ l : Fin 128, 126 ≤ l.val → f l = 0) : ∑ l : Fin 128, f l = ∑ l : Fin 126, f ⟨l.val, by omega⟩ := by
  rw [show (∑ l : Fin 128, f l) = ∑ l : Fin (126 + 2), f l from rfl, Fin.sum_univ_add]
  rw [Finset.sum_eq_zero (s := (Finset.univ : Finset (Fin 2))) fun l _ => h _ (by show 126 ≤ 126 + l.val; omega), add_zero]
  rfl

/-- A layer on 128 lanes is the layer on 126 where the last two lanes hold zero. -/
theorem lay_low (w' : Fin 128 → Fin 128 → EReal) (b' x0' x' : Fin 128 → EReal) (w : Fin 126 → Fin 126 → EReal) (b x0 x : Fin 126 → EReal)
    (hw : ∀ k l : Fin 126, w' ⟨k.val, by omega⟩ ⟨l.val, by omega⟩ = w k l) (hb : ∀ l : Fin 126, b' ⟨l.val, by omega⟩ = b l)
    (h0 : ∀ l : Fin 126, x0' ⟨l.val, by omega⟩ = x0 l) (hx : ∀ l : Fin 126, x' ⟨l.val, by omega⟩ = x l)
    (hz : ∀ l : Fin 128, 126 ≤ l.val → x' l = 0) (l : Fin 126) : lay w' b' x0' x' ⟨l.val, by omega⟩ = lay w b x0 x l := by
  unfold lay
  rw [h0, hb, hx, sum_low _ fun k hk => by rw [hz k hk, zero_mul]]
  simp only [hx, hw]

/-! ## The scores of an example -/

section
variable (A : (⟨3, ![16384, 100, 32]⟩ : Shape).Idx → EReal) (B : (⟨3, ![16384, 26, 32]⟩ : Shape).Idx → EReal)
  (wq wc : (⟨2, ![32, 32]⟩ : Shape).Idx → EReal) (W : (⟨3, ![3, 126, 126]⟩ : Shape).Idx → EReal) (b : (⟨2, ![3, 126]⟩ : Shape).Idx → EReal)
  (g bt : (⟨1, ![32]⟩ : Shape).Idx → EReal)

/-- Entry `k` of a projected feature row, and of a projected context row. -/
def fEnt (e : Fin 16384) (l : Fin 100) (k : Fin 32) : EReal := ∑ j : Fin 32, A (ix3 e l j) * wq (ix2 k j)
def cEnt (e : Fin 16384) (l : Fin 26) (k : Fin 32) : EReal := ∑ j : Fin 32, B (ix3 e l j) * wc (ix2 k j)

/-- An example's row sums: the features', then the context's. -/
def sums (e : Fin 16384) (l : Fin 126) : EReal :=
  if h : l.val < 100 then ∑ k : Fin 32, fEnt A wq e ⟨l.val, h⟩ k else ∑ k : Fin 32, cEnt B wc e ⟨l.val - 100, by omega⟩ k

/-- The matrix and the bias of a layer. -/
def mat (d : Fin 3) (k l : Fin 126) : EReal := W (ix3 d l k)
def bias (d : Fin 3) (l : Fin 126) : EReal := b (ix2 d l)

/-- The scores after one, two and three layers. -/
def one (e : Fin 16384) : Fin 126 → EReal := lay (mat W 0) (bias b 0) (sums A B wq wc e) (sums A B wq wc e)
def two (e : Fin 16384) : Fin 126 → EReal := lay (mat W 1) (bias b 1) (sums A B wq wc e) (one A B wq wc W b e)
def score (e : Fin 16384) : Fin 126 → EReal := lay (mat W 2) (bias b 2) (sums A B wq wc e) (two A B wq wc W b e)

/-- The features' scores and the context's. -/
def fScore (e : Fin 16384) (l : Fin 100) : EReal := score A B wq wc W b e ⟨l.val, by omega⟩
def cScore (e : Fin 16384) (l : Fin 26) : EReal := score A B wq wc W b e ⟨100 + l.val, by omega⟩

/-- The picked feature row and context row at each of ten places: the greatest scores first, among equals the first row. -/
def fPick (e : Fin 16384) (i : Fin 10) : Fin 100 := sortedFrom (Ranks.greater (fScore A B wq wc W b e)) (i.castLE (by decide))
def cPick (e : Fin 16384) (i : Fin 10) : Fin 26 := sortedFrom (Ranks.greater (cScore A B wq wc W b e)) (i.castLE (by decide))

/-- The result's entry: the normalised product of the picked rows. -/
def out (e : Fin 16384) (i j : Fin 10) (c : Fin 32) : EReal :=
  Norm.row (fun k => fEnt A wq e (fPick A B wq wc W b e i) k * cEnt B wc e (cPick A B wq wc W b e j) k) (fun k => g (ix1 k)) (fun k => bt (ix1 k)) c

/-! ## The scores are reals where the arguments are -/

/-- A value that is a real. -/
def IsReal (v : EReal) : Prop := ∃ r : ℝ, v = r

theorem IsReal.add {v w : EReal} (hv : IsReal v) (hw : IsReal w) : IsReal (v + w) := by
  obtain ⟨r, rfl⟩ := hv; obtain ⟨s, rfl⟩ := hw; exact ⟨r + s, (EReal.coe_add r s).symm⟩
theorem IsReal.mul {v w : EReal} (hv : IsReal v) (hw : IsReal w) : IsReal (v * w) := by
  obtain ⟨r, rfl⟩ := hv; obtain ⟨s, rfl⟩ := hw; exact ⟨r * s, (EReal.coe_mul r s).symm⟩
theorem IsReal.sum {n : ℕ} {f : Fin n → EReal} (h : ∀ k, IsReal (f k)) : IsReal (∑ k : Fin n, f k) := by
  refine Finset.sum_induction f IsReal (fun _ _ => IsReal.add) ⟨0, rfl⟩ fun k _ => h k
theorem IsReal.lay {n : ℕ} {w : Fin n → Fin n → EReal} {b x0 x : Fin n → EReal} (hw : ∀ k l, IsReal (w k l)) (hb : ∀ l, IsReal (b l))
    (h0 : ∀ l, IsReal (x0 l)) (hx : ∀ l, IsReal (x l)) (l : Fin n) : IsReal (Score.lay w b x0 x l) :=
  ((h0 l).mul ((IsReal.sum fun k => (hx k).mul (hw k l)).add (hb l))).add (hx l)
theorem IsReal.ne_bot {v : EReal} (h : IsReal v) : v ≠ ⊥ := by obtain ⟨r, rfl⟩ := h; exact EReal.coe_ne_bot r

/-- Where the arguments are reals, so is every score. -/
theorem score_real (hA : ∀ x, IsReal (A x)) (hB : ∀ x, IsReal (B x)) (hq : ∀ x, IsReal (wq x)) (hc : ∀ x, IsReal (wc x)) (hW : ∀ x, IsReal (W x)) (hb : ∀ x, IsReal (b x))
    (e : Fin 16384) (l : Fin 126) : IsReal (score A B wq wc W b e l) := by
  have hs : ∀ l, IsReal (sums A B wq wc e l) := fun l => by
    unfold sums
    split
    · exact IsReal.sum fun k => IsReal.sum fun j => (hA _).mul (hq _)
    · exact IsReal.sum fun k => IsReal.sum fun j => (hB _).mul (hc _)
  exact IsReal.lay (fun _ _ => hW _) (fun _ => hb _) hs (IsReal.lay (fun _ _ => hW _) (fun _ => hb _) hs (IsReal.lay (fun _ _ => hW _) (fun _ => hb _) hs hs)) l

end

end Cert.Proof.Score

end
-- ==== Proof.KerScore.lean ====
/-
  What the scoring call computes, entry by entry, over the extended reals: a block's scores, and the picked rows'
  numbers.
-/
module

public import proofs.«01_k».proof.Proof.KerIdx
public import proofs.«01_k».proof.Proof.Score
public import Idealize.ShloMosaic.Lib.Pointwise
public import Idealize.ShloMosaic.Lib.Pointwise.Select
public import Idealize.ShloMosaic.Lib.Pipeline.Value
public import Idealize.ShloMosaic.Lib.Routing.Words

@[expose] public section

set_option maxRecDepth 16384

noncomputable section

namespace Cert.Proof.Ker.Idx

open Cert.KernelIdeal Cert.KernelIdeal.Gen
open Idealize.ShloMosaic Idealize.ShloMosaic.TcCoe
open Idealize.SL.Sem

variable (x0 : Vec Ideal S64x100x32 .f32) (x1 : Vec Ideal S64x26x32 .f32) (x2 : Vec Ideal S32x32 .f32) (x3 : Vec Ideal S32x32 .f32)
  (x4 : Vec Ideal S3x128x128 .f32) (x5 : Vec Ideal S3x1x128 .f32)

/-! ## A block's scores -/

theorem sums_f (r : Fin 64) (l : Fin 100) : sums x0 x1 x2 x3 (ix2 r ⟨l.val, by omega⟩)
    = ∑ k : Fin 32, ∑ j : Fin 32, x0 (ix3 r l j) * x2 (ix2 j k) := by
  unfold sums
  rw [View.ld_unit_zero (by funext a; fin_cases a <;> rfl) _ x0, View.ld_unit_zero (by funext a; fin_cases a <;> rfl) _ x1,
    View.ld_unit_zero (by funext a; fin_cases a <;> rfl) _ x2, View.ld_unit_zero (by funext a; fin_cases a <;> rfl) _ x3]
  pointwise [k0_pay2]

theorem sums_c (r : Fin 64) (l : Fin 26) : sums x0 x1 x2 x3 (ix2 r ⟨100 + l.val, by omega⟩)
    = ∑ k : Fin 32, ∑ j : Fin 32, x1 (ix3 r l j) * x3 (ix2 j k) := by
  unfold sums
  rw [View.ld_unit_zero (by funext a; fin_cases a <;> rfl) _ x0, View.ld_unit_zero (by funext a; fin_cases a <;> rfl) _ x1,
    View.ld_unit_zero (by funext a; fin_cases a <;> rfl) _ x2, View.ld_unit_zero (by funext a; fin_cases a <;> rfl) _ x3]
  pointwise [k0_pay2]

theorem sums_z (r : Fin 64) (l : Fin 128) (h : 126 ≤ l.val) : sums x0 x1 x2 x3 (ix2 r l) = 0 := by
  unfold sums
  pointwise [k0_pay2]
  rw [dif_neg (by omega), dif_neg (by omega)]

/-- A row of the sums. -/
abbrev sumRow (r : Fin 64) (l : Fin 128) : EReal := sums x0 x1 x2 x3 (ix2 r l)
/-- A layer's matrix and bias in the padded tables. -/
abbrev padMat (d : Fin 3) (k l : Fin 128) : EReal := x4 (ix3 d k l)
abbrev padBias (d : Fin 3) (l : Fin 128) : EReal := x5 (ix3 d 0 l)

/-- A block's scores are three layers over the padded tables. -/
theorem scores_apply (r : Fin 64) (l : Fin 128) : scores x0 x1 x2 x3 x4 x5 (ix2 r l)
    = Score.lay (padMat x4 2) (padBias x5 2) (sumRow x0 x1 x2 x3 r) (Score.lay (padMat x4 1) (padBias x5 1) (sumRow x0 x1 x2 x3 r)
        (Score.lay (padMat x4 0) (padBias x5 0) (sumRow x0 x1 x2 x3 r) (sumRow x0 x1 x2 x3 r))) l := by
  unfold scores prod2 lay1
  pointwise [k0_pay6, k0_pay5, k0_pay4, k0_pay3]
  rfl

/-- What a block's operands hold, in the arguments: row `r` of the block is example `e`. -/
structure Holds (A : FVec Ideal S16384x100x32 .f32) (B : FVec Ideal S16384x26x32 .f32) (wq wc : FVec Ideal S32x32 .f32)
    (W : (⟨3, ![3, 126, 126]⟩ : Shape).Idx → EReal) (b : (⟨2, ![3, 126]⟩ : Shape).Idx → EReal) (r : Fin 64) (e : Fin 16384) : Prop where
  f : ∀ (l : Fin 100) (j : Fin 32), x0 (ix3 r l j) = A (ix3 e l j)
  c : ∀ (l : Fin 26) (j : Fin 32), x1 (ix3 r l j) = B (ix3 e l j)
  q : ∀ j k : Fin 32, x2 (ix2 j k) = wq (ix2 k j)
  x : ∀ j k : Fin 32, x3 (ix2 j k) = wc (ix2 k j)
  w : ∀ (d : Fin 3) (k l : Fin 126), x4 (ix3 d ⟨k.val, by omega⟩ ⟨l.val, by omega⟩) = W (ix3 d l k)
  b : ∀ (d : Fin 3) (l : Fin 126), x5 (ix3 d 0 ⟨l.val, by omega⟩) = b (ix2 d l)

section Rows

variable {A : FVec Ideal S16384x100x32 .f32} {B : FVec Ideal S16384x26x32 .f32} {wq wc : FVec Ideal S32x32 .f32}
    {W : (⟨3, ![3, 126, 126]⟩ : Shape).Idx → EReal} {b : (⟨2, ![3, 126]⟩ : Shape).Idx → EReal} {r : Fin 64} {e : Fin 16384}
    (H : Holds x0 x1 x2 x3 x4 x5 A B wq wc W b r e)

include H in
/-- The sums on the rows' lanes. -/
theorem sums_at (l : Fin 126) : sumRow x0 x1 x2 x3 r ⟨l.val, by omega⟩ = Score.sums A B wq wc e l := by
  unfold Score.sums
  by_cases h : l.val < 100
  · rw [dif_pos h]
    refine (sums_f x0 x1 x2 x3 r ⟨l.val, h⟩).trans ?_
    exact Finset.sum_congr rfl fun k _ => Finset.sum_congr rfl fun j _ => by rw [H.f, H.q]
  · rw [dif_neg h]
    have e' := sums_c x0 x1 x2 x3 r ⟨l.val - 100, by omega⟩
    have hl : (⟨100 + (l.val - 100), by omega⟩ : Fin 128) = ⟨l.val, by omega⟩ := Fin.ext (by dsimp only; omega)
    unfold sumRow
    rw [← hl, e']
    exact Finset.sum_congr rfl fun k _ => Finset.sum_congr rfl fun j _ => by rw [H.c, H.x]

include H in
/-- The scores on the rows' lanes. -/
theorem scores_at (l : Fin 126) : scores x0 x1 x2 x3 x4 x5 (ix2 r ⟨l.val, by omega⟩) = Score.score A B wq wc W b e l := by
  rw [scores_apply]
  have hs := sums_at x0 x1 x2 x3 x4 x5 H
  have hz : ∀ l : Fin 128, 126 ≤ l.val → sumRow x0 x1 x2 x3 r l = 0 := fun l hl => sums_z x0 x1 x2 x3 r l hl
  have h1 := Score.lay_low (padMat x4 0) (padBias x5 0) _ _ (Score.mat W 0) (Score.bias b 0) _ _ (H.w 0) (H.b 0) hs hs hz
  have hz1 : ∀ l : Fin 128, 126 ≤ l.val → Score.lay (padMat x4 0) (padBias x5 0) (sumRow x0 x1 x2 x3 r) (sumRow x0 x1 x2 x3 r) l = 0 :=
    fun l hl => Score.lay_high _ _ _ _ l (hz l hl) (hz l hl)
  have h2 := Score.lay_low (padMat x4 1) (padBias x5 1) _ _ (Score.mat W 1) (Score.bias b 1) _ _ (H.w 1) (H.b 1) hs h1 hz1
  have hz2 := fun (l : Fin 128) (hl : 126 ≤ l.val) => Score.lay_high (padMat x4 1) (padBias x5 1) _ _ l (hz l hl) (hz1 l hl)
  exact Score.lay_low (padMat x4 2) (padBias x5 2) _ _ (Score.mat W 2) (Score.bias b 2) _ _ (H.w 2) (H.b 2) hs h2 hz2 l

end Rows

/-! ## The picks -/

section Picks

variable (x : FVec Ideal S64x128 .f32) (ok : IVec S64x128 1) (r : Fin 64)

theorem mask_bot : (Named.named (F := Ideal) κ "mask" (φ := .f32) 0xF149F2CA#32 : EReal) = ⊥ := rfl

theorem pick_apply : pickW x ok (ix2 r 0) = Ranks.pick (fun l => x (ix2 r l)) (fun l => ok (ix2 r l)) := by
  pointwise [pickW, maskW, maxW, maxC, multiReduction_maximumf_eq_fold, multiReductionI_eq_fold]
  rw [mask_bot, show Ideal.ofBits .f32 0xFF800000#32 = ⊥ by simp [Ideal.ofBits, Ideal.ieee]]
  unfold Ranks.pick
  refine congrArg (fun f => Finset.fold IntOp.minsi (2147483647#32) f Finset.univ) (funext fun l => ?_)
  show _ = Scalar.select (BitVec.ofBool (decide (Ranks.masked (fun l => x (ix2 r l)) (fun l => ok (ix2 r l)) l = Ranks.top (fun l => x (ix2 r l)) (fun l => ok (ix2 r l))))) _ _
  by_cases h : Ranks.masked (fun l => x (ix2 r l)) (fun l => ok (ix2 r l)) l = Ranks.top (fun l => x (ix2 r l)) (fun l => ok (ix2 r l))
  · rw [if_pos h, decide_eq_true h]; rfl
  · rw [if_neg h, decide_eq_false h]; rfl

theorem okN_apply (n : ℕ) (l : Fin 128) : okN x ok n (ix2 r l) = Ranks.rest (fun l => x (ix2 r l)) (fun l => ok (ix2 r l)) n l := by
  induction n generalizing l with
  | zero => rfl
  | succ n ih =>
    show nextOk x (okN x ok n) (ix2 r l) = _
    pointwise [nextOk, pickB]
    rw [pick_apply, ih, funext ih]
    rfl

theorem picks_apply (i : Fin 10) : picks x ok (ix2 r i) = pickW x (okN x ok i.val) (ix2 r 0) := by
  refine concatenate_ofFn_unit_apply (t := S64x10) (s₁ := S64x1) 1 (fun n : Fin 10 => pickW x (okN x ok n.val)) _ rfl rfl _ i rfl _ ?_
  intro b hb
  match b with
  | ⟨0, _⟩ => rfl
  | ⟨1, _⟩ => exact absurd rfl hb

/-- The picks are the sort's first places. -/
theorem picks_sorted {M : ℕ} (hK : 10 ≤ M) (o : ℕ) (hoM : o + M ≤ 128) (hok : ∀ l : Fin 128, ok (ix2 r l) = 1#1 ↔ o ≤ l.val ∧ l.val < o + M)
    (hx : ∀ l : Fin 128, ok (ix2 r l) = 1#1 → x (ix2 r l) ≠ ⊥) (i : Fin 10) :
    picks x ok (ix2 r i) = BitVec.ofNat 32 (o + (sortedFrom (Ranks.greater fun k : Fin M => x (ix2 r ⟨o + k.val, by omega⟩)) (i.castLE hK)).val) := by
  rw [picks_apply, pick_apply]
  simp only [okN_apply]
  exact Ranks.pick_sorted hK (fun l => x (ix2 r l)) (fun l => ok (ix2 r l)) o hoM hok hx i

theorem fValid (l : Fin 128) : k0_pay7 (ix2 r l) = 1#1 ↔ 0 ≤ l.val ∧ l.val < 0 + 100 := by
  pointwise [k0_pay7]
  revert l
  decide +kernel

theorem cValid (l : Fin 128) : k0_pay8 (ix2 r l) = 1#1 ↔ 100 ≤ l.val ∧ l.val < 100 + 26 := by
  pointwise [k0_pay8]
  revert l
  decide +kernel

end Picks

/-! ## Words -/

/-- A number below 2³¹, divided by four. -/
theorem gran_word (v : IVec S64x10 32) (r : Fin 64) (i : Fin 10) (n : ℕ) (hn : n < 2 ^ 31) (hv : v (ix2 r i) = BitVec.ofNat 32 n) :
    k0_pay59 v (ix2 r i) = BitVec.ofNat 32 (n / 4) := by
  pointwise [k0_pay59]
  rw [hv, Routing.divsi_word _ hn (by decide) (by decide), Routing.remsi_word _ hn (by decide) (by decide)]
  by_cases h : n = 0
  · subst h; decide
  · have hi : (BitVec.ofNat 32 n).toInt = n := by
      rw [BitVec.toInt_eq_toNat_of_lt (by rw [BitVec.toNat_ofNat]; omega), BitVec.toNat_ofNat, Nat.mod_eq_of_lt (by omega)]
    have hs : IntOp.cmpi .sgt (BitVec.ofNat 32 n) 0#32 = 1#1 := by
      show BitVec.ofBool ((0#32).slt (BitVec.ofNat 32 n)) = 1#1
      have : (0#32).slt (BitVec.ofNat 32 n) = true := by
        simp only [BitVec.slt, decide_eq_true_eq, hi, BitVec.toInt_zero]
        omega
      rw [this]; rfl
    have hl : IntOp.cmpi .slt (BitVec.ofNat 32 n) 0#32 = 0#1 := by
      show BitVec.ofBool ((BitVec.ofNat 32 n).slt 0#32) = 0#1
      have : (BitVec.ofNat 32 n).slt 0#32 = false := by
        simp only [BitVec.slt, decide_eq_false_iff_not, hi, BitVec.toInt_zero]
        omega
      rw [this]; rfl
    rw [hs, hl]
    generalize BitVec.ofNat 32 (n / 4) = q
    generalize IntOp.cmpi CmpIPredicate.ne (BitVec.ofNat 32 (n % 4)) 0#32 = c
    revert c
    intro c
    have : ∀ c : BitVec 1, IntOp.andi (IntOp.cmpi CmpIPredicate.ne (IntOp.subi (BitVec.setWidth 32 1#1) (BitVec.setWidth 32 0#1))
      (Scalar.subi (Scalar.extui (Scalar.cmpi CmpIPredicate.sgt 4#32 0#32)) (Scalar.extui (Scalar.cmpi CmpIPredicate.slt 4#32 0#32)))) c = 0#1 := by decide
    rw [this]; rfl

/-- Its remainder. -/
theorem place_word (v : IVec S64x10 32) (r : Fin 64) (i : Fin 10) (n : ℕ) (hn : n < 2 ^ 31) (hv : v (ix2 r i) = BitVec.ofNat 32 n) :
    k0_pay1 v (ix2 r i) = BitVec.ofNat 32 (n % 4) := by
  pointwise [k0_pay1]
  rw [hv, show (Scalar.select (Scalar.cmpi CmpIPredicate.eq 4#32 0#32) 1#32 4#32 : BitVec 32) = BitVec.ofNat 32 4 by decide,
    Routing.remsi_word _ hn (by decide) (by decide)]
  have h4 : n % 4 = 0 ∨ n % 4 = 1 ∨ n % 4 = 2 ∨ n % 4 = 3 := by omega
  rcases h4 with h | h | h | h <;> rw [h] <;> decide

/-- The numbers of a block's examples. -/
theorem exNo_apply (t : ℕ) (r : Fin 64) : exNo (BitVec.ofNat 32 t) (ix2 r 0) = BitVec.ofNat 32 (t * 64 + r.val) := by
  pointwise [exNo, k0_pay54]
  show BitVec.ofNat 32 t * BitVec.ofNat 32 64 + BitVec.ofNat 32 r.val = _
  rw [← BitVec.ofNat_mul, ← BitVec.ofNat_add]

theorem fNum_apply (x : FVec Ideal S64x128 .f32) (t : ℕ) (r : Fin 64) (i : Fin 10) (p : ℕ) (hp : picks x k0_pay7 (ix2 r i) = BitVec.ofNat 32 (0 + p)) :
    fNum x (BitVec.ofNat 32 t) (ix2 r i) = BitVec.ofNat 32 (100 * (t * 64 + r.val) + p) := by
  pointwise [fNum]
  rw [hp, exNo_apply]
  show BitVec.ofNat 32 (0 + p) + BitVec.ofNat 32 (t * 64 + r.val) * BitVec.ofNat 32 100 = _
  rw [← BitVec.ofNat_mul, ← BitVec.ofNat_add]
  exact congrArg (BitVec.ofNat 32) (by omega)

theorem cNum_apply (x : FVec Ideal S64x128 .f32) (t : ℕ) (r : Fin 64) (i : Fin 10) (p : ℕ) (hp : picks x k0_pay8 (ix2 r i) = BitVec.ofNat 32 (100 + p)) :
    cNum x (BitVec.ofNat 32 t) (ix2 r i) = BitVec.ofNat 32 (26 * (t * 64 + r.val) + p) := by
  pointwise [cNum]
  rw [hp, exNo_apply]
  show (BitVec.ofNat 32 (100 + p) - BitVec.ofNat 32 100) + BitVec.ofNat 32 (t * 64 + r.val) * BitVec.ofNat 32 26 = _
  have : BitVec.ofNat 32 (100 + p) - BitVec.ofNat 32 100 = BitVec.ofNat 32 p := by
    rw [BitVec.ofNat_add, BitVec.add_comm, BitVec.add_sub_cancel]
  rw [this, ← BitVec.ofNat_mul, ← BitVec.ofNat_add]
  exact congrArg (BitVec.ofNat 32) (by omega)

end Cert.Proof.Ker.Idx

end
-- ==== Proof.KerPicks.lean ====
/-
  The scoring call's result arrays, entry by entry, in the contents of its operands' arrays.
-/
module

public import proofs.«01_k».proof.Proof.KerScore
public import Idealize.ShloMosaic.Lib.Pipeline.ValueKit

@[expose] public section

set_option maxRecDepth 16384

noncomputable section

namespace Cert.Proof.Ker.Idx

open Cert.KernelIdeal Cert.KernelIdeal.Gen
open Idealize.ShloMosaic Idealize.ShloMosaic.TcCoe
open Idealize.SL.Sem
open Idealize.ShloMosaic.Pipeline (Dat)

variable (V : (c : Dev nD) → (b : Ref sig .tc) → Buf (Elt Ideal) ((c : Thread nD τ).loc b)) (c : Dev nD)

theorem idx0 : ∀ t : Fin cfg0.N, win0_0.index t = ![t.val, 0, 0] ∧ win0_1.index t = ![t.val, 0, 0] ∧ win0_2.index t = ![0, 0] ∧ win0_3.index t = ![0, 0]
    ∧ win0_4.index t = ![0, 0, 0] ∧ win0_5.index t = ![0, 0, 0] ∧ win0_6.index t = ![t.val, 0] ∧ win0_7.index t = ![t.val, 0]
    ∧ win0_8.index t = ![t.val, 0] ∧ win0_9.index t = ![t.val, 0] :=
  (by decide +kernel : ∀ t : Fin grid0.N, _)

theorem ptNo_eq : ∀ t : Fin cfg0.N, ptNo t = BitVec.ofNat 32 t.val :=
  (by decide +kernel : ∀ t : Fin grid0.N, BitVec.ofNat 32 ((grid0.coords t) 0).val = BitVec.ofNat 32 t.val)

theorem t_lt (t : Fin cfg0.N) : t.val < 256 := t.isLt

/-- The example of a block's row. -/
abbrev exOf (t : Fin cfg0.N) (r : Fin 64) : Fin 16384 := ⟨t.val * 64 + r.val, by have := t_lt t; omega⟩

theorem iblk_0 (t : Fin cfg0.N) (r : Fin 64) (l : Fin 100) (k : Fin 32) :
    (show Vec Ideal S64x100x32 .f32 from iblk V c 0 t) (ix3 r l k) = V c main_arg0 (ix3 (exOf t r) l k) := by
  blk_ext [iblk, idx0 t]
theorem iblk_1 (t : Fin cfg0.N) (r : Fin 64) (l : Fin 26) (k : Fin 32) :
    (show Vec Ideal S64x26x32 .f32 from iblk V c 1 t) (ix3 r l k) = V c main_arg1 (ix3 (exOf t r) l k) := by
  blk_ext [iblk, idx0 t]
theorem iblk_2 (t : Fin cfg0.N) : iblk V c 2 t = V c main_v11 := by blk_ext! [iblk, idx0 t]
theorem iblk_3 (t : Fin cfg0.N) : iblk V c 3 t = V c main_v12 := by blk_ext! [iblk, idx0 t]
theorem iblk_4 (t : Fin cfg0.N) : iblk V c 4 t = V c main_v5 := by blk_ext! [iblk, idx0 t]
theorem iblk_5 (t : Fin cfg0.N) : iblk V c 5 t = V c main_v10 := by blk_ext! [iblk, idx0 t]

/-- What the call's operands hold, in the arguments. -/
structure Operands (A : FVec Ideal S16384x100x32 .f32) (B : FVec Ideal S16384x26x32 .f32) (wq wc : FVec Ideal S32x32 .f32)
    (W : (⟨3, ![3, 126, 126]⟩ : Shape).Idx → EReal) (b : (⟨2, ![3, 126]⟩ : Shape).Idx → EReal) : Prop where
  opF : V c main_arg0 = A
  opC : V c main_arg1 = B
  opQ : ∀ j k : Fin 32, (show Vec Ideal S32x32 .f32 from V c main_v11) (ix2 j k) = wq (ix2 k j)
  opX : ∀ j k : Fin 32, (show Vec Ideal S32x32 .f32 from V c main_v12) (ix2 j k) = wc (ix2 k j)
  opW : ∀ (d : Fin 3) (k l : Fin 126), (show Vec Ideal S3x128x128 .f32 from V c main_v5) (ix3 d ⟨k.val, by omega⟩ ⟨l.val, by omega⟩) = W (ix3 d l k)
  opB : ∀ (d : Fin 3) (l : Fin 126), (show Vec Ideal S3x1x128 .f32 from V c main_v10) (ix3 d 0 ⟨l.val, by omega⟩) = b (ix2 d l)

/-- The arguments are reals. -/
structure Reals (A : FVec Ideal S16384x100x32 .f32) (B : FVec Ideal S16384x26x32 .f32) (wq wc : FVec Ideal S32x32 .f32)
    (W : (⟨3, ![3, 126, 126]⟩ : Shape).Idx → EReal) (b : (⟨2, ![3, 126]⟩ : Shape).Idx → EReal) : Prop where
  f : ∀ x, Score.IsReal (A x)
  c : ∀ x, Score.IsReal (B x)
  q : ∀ x, Score.IsReal (wq x)
  x : ∀ x, Score.IsReal (wc x)
  w : ∀ x, Score.IsReal (W x)
  b : ∀ x, Score.IsReal (b x)

variable {V c} {A : FVec Ideal S16384x100x32 .f32} {B : FVec Ideal S16384x26x32 .f32} {wq wc : FVec Ideal S32x32 .f32}
    {W : (⟨3, ![3, 126, 126]⟩ : Shape).Idx → EReal} {b : (⟨2, ![3, 126]⟩ : Shape).Idx → EReal}

/-- What a block's operands hold. -/
theorem Operands.blk (H : Operands V c A B wq wc W b) (t : Fin cfg0.N) (r : Fin 64) :
    Holds (iblk V c 0 t) (iblk V c 1 t) (iblk V c 2 t) (iblk V c 3 t) (iblk V c 4 t) (iblk V c 5 t) A B wq wc W b r (exOf t r) where
  f l j := (iblk_0 V c t r l j).trans (congrFun H.opF _)
  c l j := (iblk_1 V c t r l j).trans (congrFun H.opC _)
  q j k := (congrFun (iblk_2 V c t) _).trans (H.opQ j k)
  x j k := (congrFun (iblk_3 V c t) _).trans (H.opX j k)
  w d k l := (congrFun (iblk_4 V c t) _).trans (H.opW d k l)
  b d l := (congrFun (iblk_5 V c t) _).trans (H.opB d l)

/-- The number of a picked feature row among all, and of a picked context row. -/
def fRow (A : FVec Ideal S16384x100x32 .f32) (B : FVec Ideal S16384x26x32 .f32) (wq wc : FVec Ideal S32x32 .f32)
    (W : (⟨3, ![3, 126, 126]⟩ : Shape).Idx → EReal) (b : (⟨2, ![3, 126]⟩ : Shape).Idx → EReal) (e : Fin 16384) (i : Fin 10) : ℕ :=
  100 * e.val + (Score.fPick A B wq wc W b e i).val
def cRow (A : FVec Ideal S16384x100x32 .f32) (B : FVec Ideal S16384x26x32 .f32) (wq wc : FVec Ideal S32x32 .f32)
    (W : (⟨3, ![3, 126, 126]⟩ : Shape).Idx → EReal) (b : (⟨2, ![3, 126]⟩ : Shape).Idx → EReal) (e : Fin 16384) (i : Fin 10) : ℕ :=
  26 * e.val + (Score.cPick A B wq wc W b e i).val

theorem fRow_lt (e : Fin 16384) (i : Fin 10) : fRow A B wq wc W b e i < 1638400 := by
  unfold fRow
  have := (Score.fPick A B wq wc W b e i).isLt
  omega
theorem cRow_lt (e : Fin 16384) (i : Fin 10) : cRow A B wq wc W b e i < 425984 := by
  unfold cRow
  have := (Score.cPick A B wq wc W b e i).isLt
  omega

section Block

variable {x0 : Vec Ideal S64x100x32 .f32} {x1 : Vec Ideal S64x26x32 .f32} {x2 x3 : Vec Ideal S32x32 .f32}
  {x4 : Vec Ideal S3x128x128 .f32} {x5 : Vec Ideal S3x1x128 .f32} {r : Fin 64} {e : Fin 16384}

/-- A block's scores on the rows' lanes are above −∞. -/
theorem scores_ne_bot (H : Holds x0 x1 x2 x3 x4 x5 A B wq wc W b r e) (R : Reals A B wq wc W b) (l : Fin 128) (hl : l.val < 126) :
    scores x0 x1 x2 x3 x4 x5 (ix2 r l) ≠ ⊥ := by
  have h := scores_at x0 x1 x2 x3 x4 x5 H ⟨l.val, hl⟩
  exact fun hb => (Score.score_real A B wq wc W b R.f R.c R.q R.x R.w R.b e ⟨l.val, hl⟩).ne_bot (h.symm.trans hb)

theorem fNum_row (H : Holds x0 x1 x2 x3 x4 x5 A B wq wc W b r e) (R : Reals A B wq wc W b) (t : ℕ) (ht : t * 64 + r.val = e.val) (i : Fin 10) :
    fNum (scores x0 x1 x2 x3 x4 x5) (BitVec.ofNat 32 t) (ix2 r i) = BitVec.ofNat 32 (fRow A B wq wc W b e i) := by
  have hk : (fun k : Fin 100 => scores x0 x1 x2 x3 x4 x5 (ix2 r ⟨0 + k.val, by omega⟩)) = Score.fScore A B wq wc W b e := funext fun k => by
    refine Eq.trans (congrArg _ (congrArg (ix2 r) (Fin.ext (Nat.zero_add k.val)))) (scores_at x0 x1 x2 x3 x4 x5 H ⟨k.val, by omega⟩)
  have hp := picks_sorted (scores x0 x1 x2 x3 x4 x5) k0_pay7 r (M := 100) (by decide) 0 (by decide) (fValid r)
    (fun l hl => scores_ne_bot H R l (by have := (fValid r l).1 hl; omega)) i
  rw [hk] at hp
  rw [fNum_apply _ t r i _ hp, ht]
  rfl

theorem cNum_row (H : Holds x0 x1 x2 x3 x4 x5 A B wq wc W b r e) (R : Reals A B wq wc W b) (t : ℕ) (ht : t * 64 + r.val = e.val) (i : Fin 10) :
    cNum (scores x0 x1 x2 x3 x4 x5) (BitVec.ofNat 32 t) (ix2 r i) = BitVec.ofNat 32 (cRow A B wq wc W b e i) := by
  have hk : (fun k : Fin 26 => scores x0 x1 x2 x3 x4 x5 (ix2 r ⟨100 + k.val, by omega⟩)) = Score.cScore A B wq wc W b e := funext fun k =>
    scores_at x0 x1 x2 x3 x4 x5 H ⟨100 + k.val, by omega⟩
  have hp := picks_sorted (scores x0 x1 x2 x3 x4 x5) k0_pay8 r (M := 26) (by decide) 100 (by decide) (cValid r)
    (fun l hl => scores_ne_bot H R l (by have := (cValid r l).1 hl; omega)) i
  rw [hk] at hp
  rw [cNum_apply _ t r i _ hp, ht]
  rfl

end Block

theorem whole_eq (v : IVec S64x10 32) : whole (F := Ideal) v = v :=
  View.canon_unit_zero (by funext i; fin_cases i <;> rfl) _ _

section Arrays

variable (H : Operands V c A B wq wc W b) (R : Reals A B wq wc W b)

include H R

/-- The granule numbers of the picked feature rows. -/
theorem arr6_eq : arr6 V c = fun y : S16384x10.Idx => BitVec.ofNat 32 (fRow A B wq wc W b (y 0) (y 1) / 4) := by
  refine (dat V c).arrAt_eq_of_covers 6 _ (by decide +kernel) fun t _ y => ?_
  blk_simp
  rw [dat_after_6]
  unfold oblk6
  rw [whole_eq, ptNo_eq]
  refine (congrArg _ (ix2_eta (y : S64x10.Idx)).symm).trans ((gran_word _ (y 0) (y 1) _ (by have := fRow_lt (A := A) (B := B) (wq := wq) (wc := wc) (W := W) (b := b) (exOf t (y 0)) (y 1); omega)
    (fNum_row (H.blk t (y 0)) R t.val rfl (y 1))).trans ?_)
  refine congrArg (fun y : S16384x10.Idx => BitVec.ofNat 32 (fRow A B wq wc W b (y 0) (y 1) / 4)) (a₁ := ix2 (exOf t (y 0)) (y 1)) ?_
  blk_ext [idx0 t]

/-- The places in them. -/
theorem arr7_eq : arr7 V c = fun y : S16384x10.Idx => BitVec.ofNat 32 (fRow A B wq wc W b (y 0) (y 1) % 4) := by
  refine (dat V c).arrAt_eq_of_covers 7 _ (by decide +kernel) fun t _ y => ?_
  blk_simp
  rw [dat_after_7]
  unfold oblk7
  rw [whole_eq, ptNo_eq]
  refine (congrArg _ (ix2_eta (y : S64x10.Idx)).symm).trans ((place_word _ (y 0) (y 1) _ (by have := fRow_lt (A := A) (B := B) (wq := wq) (wc := wc) (W := W) (b := b) (exOf t (y 0)) (y 1); omega)
    (fNum_row (H.blk t (y 0)) R t.val rfl (y 1))).trans ?_)
  refine congrArg (fun y : S16384x10.Idx => BitVec.ofNat 32 (fRow A B wq wc W b (y 0) (y 1) % 4)) (a₁ := ix2 (exOf t (y 0)) (y 1)) ?_
  blk_ext [idx0 t]

/-- The granule numbers of the picked context rows. -/
theorem arr8_eq : arr8 V c = fun y : S16384x10.Idx => BitVec.ofNat 32 (cRow A B wq wc W b (y 0) (y 1) / 4) := by
  refine (dat V c).arrAt_eq_of_covers 8 _ (by decide +kernel) fun t _ y => ?_
  blk_simp
  rw [dat_after_8]
  unfold oblk8
  rw [whole_eq, ptNo_eq]
  refine (congrArg _ (ix2_eta (y : S64x10.Idx)).symm).trans ((gran_word _ (y 0) (y 1) _ (by have := cRow_lt (A := A) (B := B) (wq := wq) (wc := wc) (W := W) (b := b) (exOf t (y 0)) (y 1); omega)
    (cNum_row (H.blk t (y 0)) R t.val rfl (y 1))).trans ?_)
  refine congrArg (fun y : S16384x10.Idx => BitVec.ofNat 32 (cRow A B wq wc W b (y 0) (y 1) / 4)) (a₁ := ix2 (exOf t (y 0)) (y 1)) ?_
  blk_ext [idx0 t]

/-- The places in them. -/
theorem arr9_eq : arr9 V c = fun y : S16384x10.Idx => BitVec.ofNat 32 (cRow A B wq wc W b (y 0) (y 1) % 4) := by
  refine (dat V c).arrAt_eq_of_covers 9 _ (by decide +kernel) fun t _ y => ?_
  blk_simp
  rw [dat_after_9]
  unfold oblk9
  rw [whole_eq, ptNo_eq]
  refine (congrArg _ (ix2_eta (y : S64x10.Idx)).symm).trans ((place_word _ (y 0) (y 1) _ (by have := cRow_lt (A := A) (B := B) (wq := wq) (wc := wc) (W := W) (b := b) (exOf t (y 0)) (y 1); omega)
    (cNum_row (H.blk t (y 0)) R t.val rfl (y 1))).trans ?_)
  refine congrArg (fun y : S16384x10.Idx => BitVec.ofNat 32 (cRow A B wq wc W b (y 0) (y 1) % 4)) (a₁ := ix2 (exOf t (y 0)) (y 1)) ?_
  blk_ext [idx0 t]

end Arrays

end Cert.Proof.Ker.Idx

end
-- ==== Proof.Pad.lean ====
/-
  Padding as it prints: an array written into the low corner of a larger one by a scatter whose index words are zero.
-/
module

public import Idealize.ShloMosaic.PureOps.Ideal
public import Idealize.ShloMosaic.Lib.Pointwise
public import Idealize.ShloMosaic.Lib.Routing.OpsSet

@[expose] public section

noncomputable section

namespace Cert.Proof.Pad

open Idealize.ShloMosaic

variable {α : Type}

/-- With every index word zero, the element at which an update's window coordinates point is the update's, where no other
    update points there. -/
theorem corner {s si u : Shape} {w : ℕ} (d : ScatterDims s si u) (x0 : s.Idx → α) (idx : IVec si w) (hi : ∀ i, idx i = 0#w) (upd : u.Idx → α) (ι : s.Idx)
    (k : u.Idx) (hk : ∀ a, d.window k a = (ι a).val) (hu : ∀ k' : u.Idx, (∀ a, d.window k' a = (ι a).val) → k' = k) :
    Host.scatter d (fun _ b => b) x0 idx upd ι = upd k := by
  have hs : ∀ j a, d.start j idx a = 0 := fun j a => by
    unfold ScatterDims.start
    split
    · rw [hi, BitVec.toInt_zero]
    · rfl
  have hl : ∀ j, d.resultIdx? j idx = some ι ↔ ∀ a, d.window j a = (ι a).val := fun j => by
    unfold ScatterDims.resultIdx?
    simp only [hs, zero_add]
    constructor
    · intro h a
      split at h
      · have := congrArg Fin.val (congrFun (Option.some.inj h) a)
        simpa using this
      · exact absurd h (by simp)
    · intro h
      rw [dif_pos fun a => ⟨by omega, by rw [h a]; have := (ι a).isLt; omega⟩]
      exact congrArg some (funext fun a => Fin.ext (by simpa using h a))
  exact Routing.scatter_set_hit d x0 idx upd ι _ (fun k' hk' => congrArg upd (hu k' ((hl k').1 hk'))) k ((hl k).2 hk)

/-- The dimension numbers of `x.at[:, :m, :n].set(y)`. -/
abbrev dims3 (D M N m n : ℕ) (wf : ScatterDims.WF ⟨3, ![D, M, N]⟩ ⟨1, ![2]⟩ ⟨3, ![D, m, n]⟩ [0, 1, 2] [] [1, 2] 0) :
    ScatterDims ⟨3, ![D, M, N]⟩ ⟨1, ![2]⟩ ⟨3, ![D, m, n]⟩ where
  updateWindowDims := [0, 1, 2]
  insertedWindowDims := []
  scatterDimsToOperandDims := [1, 2]
  indexVectorDim := 0
  wf := wf

/-- A padded array of matrices, inside the matrices. -/
theorem apply3 {D M N m n w : ℕ} (wf : ScatterDims.WF ⟨3, ![D, M, N]⟩ ⟨1, ![2]⟩ ⟨3, ![D, m, n]⟩ [0, 1, 2] [] [1, 2] 0)
    (x0 : (⟨3, ![D, M, N]⟩ : Shape).Idx → α) (idx : IVec ⟨1, ![2]⟩ w) (hi : ∀ i, idx i = 0#w) (upd : (⟨3, ![D, m, n]⟩ : Shape).Idx → α)
    (d : Fin D) (k : Fin m) (l : Fin n) (hk : k.val < M) (hl : l.val < N) :
    Host.scatter (dims3 D M N m n wf) (fun _ b => b) x0 idx upd (ix3 d ⟨k.val, hk⟩ ⟨l.val, hl⟩) = upd (ix3 d k l) := by
  have hw : ∀ (j : (⟨3, ![D, m, n]⟩ : Shape).Idx) (a : Fin 3), (dims3 D M N m n wf).window j a = (j a).val := fun j a => by
    have hm : a ∈ (dims3 D M N m n wf).sKept := List.mem_filter.2 ⟨List.mem_finRange _, by simp⟩
    unfold ScatterDims.window
    rw [dif_pos hm]
    match a with
    | ⟨0, _⟩ => rfl
    | ⟨1, _⟩ => rfl
    | ⟨2, _⟩ => rfl
  refine corner _ x0 idx hi upd _ (ix3 d k l) (fun a => ?_) fun k' h => ?_
  · rw [hw]
    match a with
    | ⟨0, _⟩ => rfl
    | ⟨1, _⟩ => rfl
    | ⟨2, _⟩ => rfl
  · funext a
    refine Fin.ext ?_
    have := (hw k' a).symm.trans (h a)
    match a with
    | ⟨0, _⟩ => exact this
    | ⟨1, _⟩ => exact this
    | ⟨2, _⟩ => exact this

/-- The dimension numbers of `x.at[:, 0, :n].set(y)`. -/
abbrev dims2 (D M N n : ℕ) (wf : ScatterDims.WF ⟨3, ![D, M, N]⟩ ⟨1, ![2]⟩ ⟨2, ![D, n]⟩ [0, 1] [1] [1, 2] 0) :
    ScatterDims ⟨3, ![D, M, N]⟩ ⟨1, ![2]⟩ ⟨2, ![D, n]⟩ where
  updateWindowDims := [0, 1]
  insertedWindowDims := [1]
  scatterDimsToOperandDims := [1, 2]
  indexVectorDim := 0
  wf := wf

/-- A padded array of rows, inside the rows. -/
theorem apply2 {D M N n w : ℕ} (hM : 0 < M) (wf : ScatterDims.WF ⟨3, ![D, M, N]⟩ ⟨1, ![2]⟩ ⟨2, ![D, n]⟩ [0, 1] [1] [1, 2] 0)
    (x0 : (⟨3, ![D, M, N]⟩ : Shape).Idx → α) (idx : IVec ⟨1, ![2]⟩ w) (hi : ∀ i, idx i = 0#w) (upd : (⟨2, ![D, n]⟩ : Shape).Idx → α)
    (d : Fin D) (l : Fin n) (hl : l.val < N) :
    Host.scatter (dims2 D M N n wf) (fun _ b => b) x0 idx upd (ix3 d ⟨0, hM⟩ ⟨l.val, hl⟩) = upd (ix2 d l) := by
  have hw0 : ∀ j : (⟨2, ![D, n]⟩ : Shape).Idx, (dims2 D M N n wf).window j (0 : Fin 3) = (j 0).val := fun j => by
    unfold ScatterDims.window
    rw [dif_pos (show (0 : Fin 3) ∈ (dims2 D M N n wf).sKept from List.mem_filter.2 ⟨List.mem_finRange _, by simp⟩)]
    rfl
  have hw1 : ∀ j : (⟨2, ![D, n]⟩ : Shape).Idx, (dims2 D M N n wf).window j (1 : Fin 3) = 0 := fun j => by
    unfold ScatterDims.window
    rw [dif_neg fun h => (of_decide_eq_true (List.mem_filter.1 h).2) (by simp)]
  have hw2 : ∀ j : (⟨2, ![D, n]⟩ : Shape).Idx, (dims2 D M N n wf).window j (2 : Fin 3) = (j 1).val := fun j => by
    unfold ScatterDims.window
    rw [dif_pos (show (2 : Fin 3) ∈ (dims2 D M N n wf).sKept from List.mem_filter.2 ⟨List.mem_finRange _, by simp⟩)]
    rfl
  refine corner _ x0 idx hi upd _ (ix2 d l) (fun a => ?_) fun k' h => ?_
  · match a with
    | ⟨0, _⟩ => exact hw0 _
    | ⟨1, _⟩ => exact hw1 _
    | ⟨2, _⟩ => exact hw2 _
  · funext a
    refine Fin.ext ?_
    match a with
    | ⟨0, _⟩ => exact (hw0 k').symm.trans (h 0)
    | ⟨1, _⟩ => exact (hw2 k').symm.trans (h 2)

end Cert.Proof.Pad

end
-- ==== Proof.KerResult.lean ====
/-
  The whole program's result in its own arguments: what the scoring call hands on, and every entry what the mathematics say.
-/
module

public import proofs.«01_k».proof.Proof.KerValue
public import proofs.«01_k».proof.Proof.KerPicks
public import proofs.«01_k».proof.Proof.Pad

@[expose] public section

set_option maxRecDepth 16384

noncomputable section

namespace Cert.Proof.Ker

open Cert.KernelIdeal Cert.KernelIdeal.Gen
open Idealize.ShloMosaic Idealize.ShloMosaic.TcCoe
open Idealize.ShloMosaic.StableHlo
open Idealize.SL.Sem

variable (m : (ℓ : Loc nD τ sig) → Buf (Elt Ideal) ℓ) (d : Dev nD)

/-- The layers' matrices and biases, at their literal shapes. -/
abbrev aW : FVec Ideal S3x126x126 .f32 := m ((d.tc : Thread nD τ).loc main_arg4)
abbrev aB : FVec Ideal S3x126 .f32 := m ((d.tc : Thread nD τ).loc main_arg5)

/-! ## What the scoring call finds -/

/-- The two index words of a padding write. -/
def zeros : IVec S2 32 := concatenate S2 0 [⟨S1, broadcastInDim S1 ![] bcast_S_S1 (constantI S_ 32 0#32)⟩,
  ⟨S1, broadcastInDim S1 ![] bcast_S_S1 (constantI S_ 32 0#32)⟩] concatenates_S1_S1_S2_d0

theorem zeros_apply (i) : zeros i = 0#32 := by
  rw [← ix1_eta i]
  generalize i 0 = j
  pointwise [zeros]
  split <;> rfl

theorem tab_W : VI m d main_v5 = Host.scatter scatter_S3x128x128_S2_S3x126x126_012_n_12_0 (fun _ b => b)
    (broadcastInDim S3x128x128 ![] bcast_S_S3x128x128 (constant S_ .f32 0x00000000#32)) zeros
    (transpose S3x126x126 [0, 2, 1] (aW m d) transposes_S3x126x126_S3x126x126_0_2_1) := by
  show after opsI (fun b => m (d, b)) (Proc.devRef .tc main_v5) = _
  after_results_simp <;> rfl
theorem tab_b : VI m d main_v10 = Host.scatter scatter_S3x1x128_S2_S3x126_01_1_12_0 (fun _ b => b)
    (broadcastInDim S3x1x128 ![] bcast_S_S3x1x128 (constant S_ .f32 0x00000000#32)) zeros (aB m d) := by
  show after opsI (fun b => m (d, b)) (Proc.devRef .tc main_v10) = _
  after_results_simp <;> rfl
theorem tab_q : VI m d main_v11 = transpose S32x32 [1, 0] (a6 m d) transposes_S32x32_S32x32_1_0 := by
  show after opsI (fun b => m (d, b)) (Proc.devRef .tc main_v11) = _
  after_results_simp <;> rfl
theorem tab_x : VI m d main_v12 = transpose S32x32 [1, 0] (a7 m d) transposes_S32x32_S32x32_1_0 := by
  show after opsI (fun b => m (d, b)) (Proc.devRef .tc main_v12) = _
  after_results_simp <;> rfl

theorem operands : Idx.Operands (VI m) d (a0 m d) (a1 m d) (a6 m d) (a7 m d) (aW m d) (aB m d) where
  opF := valI_kept m d main_arg0 (by decide)
  opC := valI_kept m d main_arg1 (by decide)
  opQ j k := by
    rw [tab_q]
    pointwise
  opX j k := by
    rw [tab_x]
    pointwise
  opW d' k l := by
    rw [tab_W]
    refine (Pad.apply3 (D := 3) (M := 128) (N := 128) (m := 126) (n := 126) (by exact scatter_S3x128x128_S2_S3x126x126_012_n_12_0.wf) _ zeros zeros_apply _ d' k l (by omega) (by omega)).trans ?_
    pointwise
  opB d' l := by
    rw [tab_b]
    exact Pad.apply2 (D := 3) (M := 1) (N := 128) (n := 126) (by decide) (by exact scatter_S3x1x128_S2_S3x126_01_1_12_0.wf) _ zeros zeros_apply _ d' l (by omega)

/-- The precondition, of a memory. -/
abbrev Finite : Prop := Cert.Pre_finite.fn (F := Ideal) (a0 m d) (a1 m d) (a6 m d) (a7 m d) (aW m d) (aB m d) (a8 m d) (a9 m d) = fun _ => 1#1

theorem reals (h : Finite m d) : Idx.Reals (a0 m d) (a1 m d) (a6 m d) (a7 m d) (aW m d) (aB m d) :=
  have e := finite_iff _ _ _ _ _ _ _ _ h
  ⟨e.1, e.2.1, e.2.2.1, e.2.2.2.1, e.2.2.2.2.1, e.2.2.2.2.2⟩

/-! ## The picked rows' numbers -/

/-- The number of a picked row among all rows. -/
abbrev fNo (e : Fin 16384) (i : Fin 10) : ℕ := Idx.fRow (a0 m d) (a1 m d) (a6 m d) (a7 m d) (aW m d) (aB m d) e i
abbrev cNo (e : Fin 16384) (i : Fin 10) : ℕ := Idx.cRow (a0 m d) (a1 m d) (a6 m d) (a7 m d) (aW m d) (aB m d) e i

theorem fNo_lt (e : Fin 16384) (i : Fin 10) : fNo m d e i < 1638400 := Idx.fRow_lt e i
theorem cNo_lt (e : Fin 16384) (i : Fin 10) : cNo m d e i < 425984 := Idx.cRow_lt e i

section

variable (h : Finite m d)

include h

theorem a2_toNat (x : S16384x10.Idx) : (a2 m d x).toNat = fNo m d (x 0) (x 1) / 4 := by
  have hl := fNo_lt m d (x 0) (x 1)
  rw [show a2 m d x = BitVec.ofNat 32 (fNo m d (x 0) (x 1) / 4) from congrFun (Idx.arr6_eq (operands m d) (reals m d h)) x, BitVec.toNat_ofNat, Nat.mod_eq_of_lt (by omega)]
theorem a3_toNat (x : S16384x10.Idx) : (a3 m d x).toNat = fNo m d (x 0) (x 1) % 4 := by
  rw [show a3 m d x = BitVec.ofNat 32 (fNo m d (x 0) (x 1) % 4) from congrFun (Idx.arr7_eq (operands m d) (reals m d h)) x, BitVec.toNat_ofNat, Nat.mod_eq_of_lt (by omega)]
theorem a4_toNat (x : S16384x10.Idx) : (a4 m d x).toNat = cNo m d (x 0) (x 1) / 4 := by
  have hl := cNo_lt m d (x 0) (x 1)
  rw [show a4 m d x = BitVec.ofNat 32 (cNo m d (x 0) (x 1) / 4) from congrFun (Idx.arr8_eq (operands m d) (reals m d h)) x, BitVec.toNat_ofNat, Nat.mod_eq_of_lt (by omega)]
theorem a5_toNat (x : S16384x10.Idx) : (a5 m d x).toNat = cNo m d (x 0) (x 1) % 4 := by
  rw [show a5 m d x = BitVec.ofNat 32 (cNo m d (x 0) (x 1) % 4) from congrFun (Idx.arr9_eq (operands m d) (reals m d h)) x, BitVec.toNat_ofNat, Nat.mod_eq_of_lt (by omega)]

theorem a2_lt (x : S16384x10.Idx) : (a2 m d x).toNat < 409600 := by
  have hl := fNo_lt m d (x 0) (x 1)
  rw [a2_toNat m d h]; omega
theorem a3_lt (x : S16384x10.Idx) : (a3 m d x).toNat < 4 := by
  rw [a3_toNat m d h]; omega
theorem a4_lt (x : S16384x10.Idx) : (a4 m d x).toNat < 106496 := by
  have hl := cNo_lt m d (x 0) (x 1)
  rw [a4_toNat m d h]; omega
theorem a5_lt (x : S16384x10.Idx) : (a5 m d x).toNat < 4 := by
  rw [a5_toNat m d h]; omega

/-- The numbers that the normalising call reads name the picked rows. -/
theorem num_f (e : Fin 16384) (i : Fin 10) : Spec.num (a2 m d (ix2 e i)) (a3 m d (ix2 e i)) = fNo m d e i := by
  unfold Spec.num
  rw [a2_toNat m d h, a3_toNat m d h]
  exact Nat.div_add_mod _ _
theorem num_c (e : Fin 16384) (i : Fin 10) : Spec.num (a4 m d (ix2 e i)) (a5 m d (ix2 e i)) = cNo m d e i := by
  unfold Spec.num
  rw [a4_toNat m d h, a5_toNat m d h]
  exact Nat.div_add_mod _ _

/-- Every entry of the whole program's result, in its arguments. -/
theorem res_arg (e : Fin 16384) (i j : Fin 10) (c : Fin 32) : res m d (ix3 e ⟨i.val * 10 + j.val, by omega⟩ c)
    = Score.out (a0 m d) (a1 m d) (a6 m d) (a7 m d) (aW m d) (aB m d) (a8 m d) (a9 m d) e i j c := by
  refine (res_apply m d (a2_lt m d h) (a3_lt m d h) (a4_lt m d h) (a5_lt m d h) e i j c).trans ?_
  unfold spec Spec.out Score.out
  refine congrArg (fun z => Norm.row z _ _ c) (funext fun k => ?_)
  unfold Spec.zRow
  rw [num_f m d h, num_c m d h]
  have hf : ∀ l, Spec.fAt (a0 m d) (fNo m d e i) l = a0 m d (ix3 e (Score.fPick (a0 m d) (a1 m d) (a6 m d) (a7 m d) (aW m d) (aB m d) e i) l) := fun l => by
    have hp := (Score.fPick (a0 m d) (a1 m d) (a6 m d) (a7 m d) (aW m d) (aB m d) e i).isLt
    unfold Spec.fAt fNo Idx.fRow
    exact congrArg (a0 m d) ((ix3_inj ..).2 ⟨Fin.ext (by show _ / 100 % 16384 = e.val; omega), Fin.ext (by show _ % 100 = _; omega), rfl⟩)
  have hc : ∀ l, Spec.cAt (a1 m d) (cNo m d e j) l = a1 m d (ix3 e (Score.cPick (a0 m d) (a1 m d) (a6 m d) (a7 m d) (aW m d) (aB m d) e j) l) := fun l => by
    have hp := (Score.cPick (a0 m d) (a1 m d) (a6 m d) (a7 m d) (aW m d) (aB m d) e j).isLt
    unfold Spec.cAt cNo Idx.cRow
    exact congrArg (a1 m d) ((ix3_inj ..).2 ⟨Fin.ext (by show _ / 26 % 16384 = e.val; omega), Fin.ext (by show _ % 26 = _; omega), rfl⟩)
  simp only [hf, hc]
  rfl

end

end Cert.Proof.Ker

end
-- ==== Proof.BatchTake.lean ====
/-
  `take_along_axis` of rows, as it prints: a gather whose first axis is the example on both sides.
-/
module

public import Idealize.ShloMosaic.PureOps.Ideal
public import Idealize.ShloMosaic.Lib.Pointwise

@[expose] public section

noncomputable section

namespace Cert.Proof.BatchTake

open Idealize.ShloMosaic

variable {α : Type}

/-- The dimension numbers of `take_along_axis(x, idx, 1)` for `x : [R, N, K]` and `idx : [R, C, 1]`. -/
abbrev dims (R N K C : ℕ)
    (wf : GatherDims.WF ⟨3, ![R, N, K]⟩ ⟨3, ![R, C, 1]⟩ ⟨3, ![R, C, K]⟩ [2] [1] [0] [1] [0] 2 ![1, 1, K]) :
    GatherDims ⟨3, ![R, N, K]⟩ ⟨3, ![R, C, 1]⟩ ⟨3, ![R, C, K]⟩ where
  offsetDims := [2]
  collapsedSliceDims := [1]
  operandBatchingDims := [0]
  startIndicesBatchingDims := [0]
  startIndexMap := [1]
  indexVectorDim := 2
  sliceSizes := ![1, 1, K]
  wf := wf

/-- Entry `(a, b, k)` is entry `k` of example `a`'s row that the number at `(a, b)` names, clamped into the rows. -/
theorem apply {R N K C w : ℕ} (hN : 0 < N)
    (wf : GatherDims.WF ⟨3, ![R, N, K]⟩ ⟨3, ![R, C, 1]⟩ ⟨3, ![R, C, K]⟩ [2] [1] [0] [1] [0] 2 ![1, 1, K])
    (x : (⟨3, ![R, N, K]⟩ : Shape).Idx → α) (idx : IVec ⟨3, ![R, C, 1]⟩ w) (a : Fin R) (b : Fin C) (k : Fin K) :
    Host.gather (dims R N K C wf) x idx (ix3 a b k) = x (ix3 a ⟨min (idx (ix3 a b 0)).toInt.toNat (N - 1), by omega⟩ k) := by
  show x ((dims R N K C wf).operandIdx (ix3 a b k) idx) = _
  congr 1
  funext c
  refine Fin.ext ?_
  show (dims R N K C wf).start (ix3 a b k) idx c + (dims R N K C wf).batchCoord (ix3 a b k) c + (dims R N K C wf).offCoord (ix3 a b k) c = _
  match c with
  | ⟨0, _⟩ =>
    rw [GatherDims.start_batching _ _ _ _ (List.mem_singleton.mpr rfl), Nat.zero_add,
      GatherDims.offCoord_eq_zero _ _ _ (fun h => ((GatherDims.mem_sKept _ _).mp h).2 (List.mem_singleton.mpr rfl)), Nat.add_zero]
    unfold GatherDims.batchCoord
    rw [dif_pos (show (⟨0, _⟩ : Fin 3) ∈ (dims R N K C wf).operandBatchingDims from List.mem_singleton.mpr rfl)]
    rfl
  | ⟨1, _⟩ =>
    rw [GatherDims.batchCoord_eq_zero _ _ _ (fun h => absurd (List.mem_singleton.mp h) (by simp)), Nat.add_zero,
      GatherDims.offCoord_eq_zero _ _ _ (fun h => ((GatherDims.mem_sKept _ _).mp h).1 (List.mem_singleton.mpr rfl)), Nat.add_zero]
    unfold GatherDims.start
    rw [dif_pos (show (⟨1, _⟩ : Fin 3) ∈ (dims R N K C wf).startIndexMap from List.mem_singleton.mpr rfl)]
    have hsi : (dims R N K C wf).siIdx (ix3 a b k) ⟨List.idxOf (⟨1, by decide⟩ : Fin 3) (dims R N K C wf).startIndexMap,
        List.idxOf_lt_length_iff.2 (List.mem_singleton.mpr rfl)⟩ = ix3 a b 0 := by
      funext e; refine Fin.ext ?_
      match e with
      | ⟨0, _⟩ => rfl
      | ⟨1, _⟩ => rfl
      | ⟨2, _⟩ => rfl
    rw [hsi]
    rfl
  | ⟨2, _⟩ =>
    rw [GatherDims.batchCoord_eq_zero _ _ _ (fun h => absurd (List.mem_singleton.mp h) (by simp)), Nat.add_zero]
    unfold GatherDims.start
    rw [dif_neg (show ¬ (⟨2, _⟩ : Fin 3) ∈ (dims R N K C wf).startIndexMap from fun h => absurd (List.mem_singleton.mp h) (by simp)), Nat.zero_add]
    unfold GatherDims.offCoord
    rw [dif_pos ((GatherDims.mem_sKept _ _).mpr ⟨fun h => absurd (List.mem_singleton.mp h) (by simp), fun h => absurd (List.mem_singleton.mp h) (by simp)⟩)]
    rfl

end Cert.Proof.BatchTake

end
-- ==== Proof.RefValue.lean ====
/-
  The value of the reference's result: its term taken apart, and every entry what the mathematics say.
-/
module

public import proofs.«01_k».proof.Proof.Gen.ReferenceIdeal.Run
public import proofs.«01_k».proof.Proof.BatchTake
public import proofs.«01_k».proof.Proof.Score
public import Idealize.ShloMosaic.Lib.Pointwise.Select
public import Idealize.ShloMosaic.Lib.ReduceAll
public import Idealize.ShloMosaic.Lib.WordCmp

@[expose] public section

set_option maxRecDepth 16384

noncomputable section

namespace Cert.Proof.RefValue

open Cert.ReferenceIdeal Cert.ReferenceIdeal.Gen
open Idealize.ShloMosaic Idealize.ShloMosaic.TcCoe
open Idealize.ShloMosaic.StableHlo
open Idealize.SL.Sem

/-! ## The reference's term, in parts -/

/-- The projected rows. -/
def projF (A : FVec Ideal S16384x100x32 .f32) (w : FVec Ideal S32x32 .f32) : FVec Ideal S16384x100x32 .f32 :=
  Host.dotGeneral dot_S16384x100x32_S32x32_S16384x100x32_2_0_01_1_n_n none A (transpose S32x32 [1, 0] w transposes_S32x32_S32x32_1_0)
def projC (B : FVec Ideal S16384x26x32 .f32) (w : FVec Ideal S32x32 .f32) : FVec Ideal S16384x26x32 .f32 :=
  Host.dotGeneral dot_S16384x26x32_S32x32_S16384x26x32_2_0_01_1_n_n none B (transpose S32x32 [1, 0] w transposes_S32x32_S32x32_1_0)
/-- Their sums, side by side. -/
def rowSums (f : FVec Ideal S16384x100x32 .f32) (c : FVec Ideal S16384x26x32 .f32) : FVec Ideal S16384x126 .f32 :=
  concatenate S16384x126 1 [⟨S16384x100, (Host.reduceAdd f (constant S_ .f32 0x00000000#32) reducesTo_S16384x100x32_S16384x100_d2 h_S_)⟩,
    ⟨S16384x26, (Host.reduceAdd c (constant S_ .f32 0x00000000#32) reducesTo_S16384x26x32_S16384x26_d2 h_S_)⟩] concatenates_S16384x100_S16384x26_S16384x126_d1
/-- The three layers. -/
def layer0 (s x : FVec Ideal S16384x126 .f32) (W : FVec Ideal S3x126x126 .f32) (b : FVec Ideal S3x126 .f32) : FVec Ideal S16384x126 .f32 :=
  addf (mulf s (addf (Host.dotGeneral dot_S16384x126_S126x126_S16384x126_1_0_0_1_n_n none x (transpose S126x126 [1, 0] (shapeCast S126x126 (extractStridedSlice S1x126x126 ![0, 0, 0] W slices_S3x126x126_S1x126x126_0_0_0) shapeCasts_S1x126x126_S126x126) transposes_S126x126_S126x126_1_0)) (broadcastInDim S16384x126 ![0, 1] bcast_S1x126_S16384x126_0_1 (broadcastInDim S1x126 ![1] bcast_S126_S1x126_1 (shapeCast S126 (extractStridedSlice S1x126 ![0, 0] b slices_S3x126_S1x126_0_0) shapeCasts_S1x126_S126))))) x
def layer1 (s x : FVec Ideal S16384x126 .f32) (W : FVec Ideal S3x126x126 .f32) (b : FVec Ideal S3x126 .f32) : FVec Ideal S16384x126 .f32 :=
  addf (mulf s (addf (Host.dotGeneral dot_S16384x126_S126x126_S16384x126_1_0_0_1_n_n none x (transpose S126x126 [1, 0] (shapeCast S126x126 (extractStridedSlice S1x126x126 ![1, 0, 0] W slices_S3x126x126_S1x126x126_1_0_0) shapeCasts_S1x126x126_S126x126) transposes_S126x126_S126x126_1_0)) (broadcastInDim S16384x126 ![0, 1] bcast_S1x126_S16384x126_0_1 (broadcastInDim S1x126 ![1] bcast_S126_S1x126_1 (shapeCast S126 (extractStridedSlice S1x126 ![1, 0] b slices_S3x126_S1x126_1_0) shapeCasts_S1x126_S126))))) x
def layer2 (s x : FVec Ideal S16384x126 .f32) (W : FVec Ideal S3x126x126 .f32) (b : FVec Ideal S3x126 .f32) : FVec Ideal S16384x126 .f32 :=
  addf (mulf s (addf (Host.dotGeneral dot_S16384x126_S126x126_S16384x126_1_0_0_1_n_n none x (transpose S126x126 [1, 0] (shapeCast S126x126 (extractStridedSlice S1x126x126 ![2, 0, 0] W slices_S3x126x126_S1x126x126_2_0_0) shapeCasts_S1x126x126_S126x126) transposes_S126x126_S126x126_1_0)) (broadcastInDim S16384x126 ![0, 1] bcast_S1x126_S16384x126_0_1 (broadcastInDim S1x126 ![1] bcast_S126_S1x126_1 (shapeCast S126 (extractStridedSlice S1x126 ![2, 0] b slices_S3x126_S1x126_2_0) shapeCasts_S1x126_S126))))) x
/-- The places of the largest scores. -/
def topF (x : FVec Ideal S16384x100 .f32) : IVec S16384x10 32 := (Host.topK S16384x10 1 (FloatOps.cmpfTotal .gt) x sliceFits_S16384x100_S16384x10).2
def topC (x : FVec Ideal S16384x26 .f32) : IVec S16384x10 32 := (Host.topK S16384x10 1 (FloatOps.cmpfTotal .gt) x sliceFits_S16384x26_S16384x10).2
/-- The places, a negative one counted from the end of the `n` rows. -/
def places (t : IVec S16384x10 32) (n : BitVec 32) : IVec S16384x10x1 32 :=
  select (cmpi .slt (broadcastInDim S16384x10x1 ![0, 1] bcast_S16384x10_S16384x10x1_0_1 t) (broadcastInDim S16384x10x1 ![] bcast_S_S16384x10x1 (constantI S_ 32 0#32)))
    (addi (broadcastInDim S16384x10x1 ![0, 1] bcast_S16384x10_S16384x10x1_0_1 t) (broadcastInDim S16384x10x1 ![] bcast_S_S16384x10x1 (constantI S_ 32 n)))
    (broadcastInDim S16384x10x1 ![0, 1] bcast_S16384x10_S16384x10x1_0_1 t)
/-- Whether a place lies within the rows, each of them `≤ n`. -/
def within (p : IVec S16384x10x1 32) (n : BitVec 32) : IVec S16384x10 1 :=
  Host.reduce IntOp.andi (andi (cmpi .sge p (broadcastInDim S16384x10x1 ![] bcast_S_S16384x10x1 (constantI S_ 32 0#32)))
    (cmpi .sle p (broadcastInDim S16384x10x1 ![0, 1, 2] bcast_S1x1x1_S16384x10x1_0_1_2 (broadcastInDim S1x1x1 ![2] bcast_S1_S1x1x1_2 (constantI S1 32 n)))))
    (constantI S_ 1 1#1) reducesTo_S16384x10x1_S16384x10_d2 h_S_
/-- The picked rows. -/
def takeF (f : FVec Ideal S16384x100x32 .f32) (p : IVec S16384x10x1 32) : FVec Ideal S16384x10x32 .f32 :=
  select (broadcastInDim S16384x10x32 ![0, 1] bcast_S16384x10_S16384x10x32_0_1 (within p 99#32))
    (Host.gather gather_S16384x100x32_S16384x10x1_S16384x10x32_2_1_0_0_1_2_1132 f p)
    (broadcastInDim S16384x10x32 ![] bcast_S_S16384x10x32 (constant S_ .f32 0x7FC00000#32))
def takeC (c : FVec Ideal S16384x26x32 .f32) (p : IVec S16384x10x1 32) : FVec Ideal S16384x10x32 .f32 :=
  select (broadcastInDim S16384x10x32 ![0, 1] bcast_S16384x10_S16384x10x32_0_1 (within p 25#32))
    (Host.gather gather_S16384x26x32_S16384x10x1_S16384x10x32_2_1_0_0_1_2_1132 c p)
    (broadcastInDim S16384x10x32 ![] bcast_S_S16384x10x32 (constant S_ .f32 0x7FC00000#32))
/-- All products of a feature row and a context row. -/
def prods (f c : FVec Ideal S16384x10x32 .f32) : FVec Ideal S16384x10x10x32 .f32 :=
  mulf (broadcastInDim S16384x10x10x32 ![0, 1, 2, 3] bcast_S16384x10x1x32_S16384x10x10x32_0_1_2_3 (broadcastInDim S16384x10x1x32 ![0, 1, 3] bcast_S16384x10x32_S16384x10x1x32_0_1_3 f))
    (broadcastInDim S16384x10x10x32 ![0, 1, 2, 3] bcast_S16384x1x10x32_S16384x10x10x32_0_1_2_3 (broadcastInDim S16384x1x10x32 ![0, 2, 3] bcast_S16384x10x32_S16384x1x10x32_0_2_3 c))
/-- The sums along the last axis. -/
def lastSums (z : FVec Ideal S16384x10x10x32 .f32) : FVec Ideal S16384x10x10x1 .f32 :=
  broadcastInDim S16384x10x10x1 ![0, 1, 2] bcast_S16384x10x10_S16384x10x10x1_0_1_2
    (Host.reduceAdd z (constant S_ .f32 0x00000000#32) reducesTo_S16384x10x10x32_S16384x10x10_d3 h_S_)
/-- The entries less their mean. -/
def centred (z : FVec Ideal S16384x10x10x32 .f32) : FVec Ideal S16384x10x10x32 .f32 :=
  subf z (broadcastInDim S16384x10x10x32 ![0, 1, 2, 3] bcast_S16384x10x10x1_S16384x10x10x32_0_1_2_3
    (Host.divf (lastSums z) (broadcastInDim S16384x10x10x1 ![] bcast_S_S16384x10x10x1 (constant S_ .f32 0x42000000#32))))
/-- What the variance divides by. -/
def count : FVec Ideal S_ .f32 := subf (constant S_ .f32 0x42000000#32) (sitofp .f32 (constantI S_ 32 0#32))
/-- The mean of squares. -/
def variance (z : FVec Ideal S16384x10x10x32 .f32) : FVec Ideal S16384x10x10x1 .f32 :=
  select (broadcastInDim S16384x10x10x1 ![] bcast_S_S16384x10x10x1 (cmpf .ogt count (constant S_ .f32 0x00000000#32)))
    (Host.divf (lastSums (mulf (centred z) (centred z))) (broadcastInDim S16384x10x10x1 ![] bcast_S_S16384x10x10x1 count))
    (broadcastInDim S16384x10x10x1 ![] bcast_S_S16384x10x10x1 (constant S_ .f32 0x7FC00000#32))
/-- The normalised rows. -/
def normed (z : FVec Ideal S16384x10x10x32 .f32) (g b : FVec Ideal S32 .f32) : FVec Ideal S16384x10x10x32 .f32 :=
  addf (mulf (Host.divf (centred z) (broadcastInDim S16384x10x10x32 ![0, 1, 2, 3] bcast_S16384x10x10x1_S16384x10x10x32_0_1_2_3
      (Host.sqrt (addf (variance z) (broadcastInDim S16384x10x10x1 ![] bcast_S_S16384x10x10x1 (constant S_ .f32 0x3727C5AC#32))))))
    (broadcastInDim S16384x10x10x32 ![0, 1, 2, 3] bcast_S1x1x1x32_S16384x10x10x32_0_1_2_3 (broadcastInDim S1x1x1x32 ![3] bcast_S32_S1x1x1x32_3 g)))
    (broadcastInDim S16384x10x10x32 ![0, 1, 2, 3] bcast_S1x1x1x32_S16384x10x10x32_0_1_2_3 (broadcastInDim S1x1x1x32 ![3] bcast_S32_S1x1x1x32_3 b))

variable (A : FVec Ideal S16384x100x32 .f32) (B : FVec Ideal S16384x26x32 .f32) (wq wc : FVec Ideal S32x32 .f32)
  (W : FVec Ideal S3x126x126 .f32) (b : FVec Ideal S3x126 .f32) (g bt : FVec Ideal S32 .f32)

/-- The row sums, the scores, the picked places, the picked rows and the result, in the arguments. -/
def sums : FVec Ideal S16384x126 .f32 := rowSums (projF A wq) (projC B wc)
def scores : FVec Ideal S16384x126 .f32 :=
  layer2 (sums A B wq wc) (layer1 (sums A B wq wc) (layer0 (sums A B wq wc) (sums A B wq wc) W b) W b) W b
def fTop : IVec S16384x10 32 := topF (extractStridedSlice S16384x100 ![0, 0] (scores A B wq wc W b) slices_S16384x126_S16384x100_0_0)
def cTop : IVec S16384x10 32 := topC (extractStridedSlice S16384x26 ![0, 100] (scores A B wq wc W b) slices_S16384x126_S16384x26_0_100)
def rowsF : FVec Ideal S16384x10x32 .f32 := takeF (projF A wq) (places (fTop A B wq wc W b) 100#32)
def rowsC : FVec Ideal S16384x10x32 .f32 := takeC (projC B wc) (places (cTop A B wq wc W b) 26#32)
def res : FVec Ideal S16384x100x32 .f32 := shapeCast S16384x100x32
  (normed (prods (rowsF A B wq wc W b) (rowsC A B wq wc W b)) g bt) shapeCasts_S16384x10x10x32_S16384x100x32

/-! ## The run's terms are these -/

section Terms
variable (V0 : Valuation τ sig (Elt Ideal))

abbrev a0 : FVec Ideal S16384x100x32 .f32 := V0 (Proc.devRef .tc main_arg0)
abbrev a1 : FVec Ideal S16384x26x32 .f32 := V0 (Proc.devRef .tc main_arg1)
abbrev a2 : FVec Ideal S32x32 .f32 := V0 (Proc.devRef .tc main_arg2)
abbrev a3 : FVec Ideal S32x32 .f32 := V0 (Proc.devRef .tc main_arg3)
abbrev a4 : FVec Ideal S3x126x126 .f32 := V0 (Proc.devRef .tc main_arg4)
abbrev a5 : FVec Ideal S3x126 .f32 := V0 (Proc.devRef .tc main_arg5)
abbrev a6 : FVec Ideal S32 .f32 := V0 (Proc.devRef .tc main_arg6)
abbrev a7 : FVec Ideal S32 .f32 := V0 (Proc.devRef .tc main_arg7)

theorem v1_eq : Value.res_main_v1 V0 = projF (a0 V0) (a2 V0) := by unfold Value.res_main_v1; rfl
theorem v3_eq : Value.res_main_v3 V0 = projC (a1 V0) (a3 V0) := by unfold Value.res_main_v3; rfl
theorem v6_eq : Value.res_main_v6 V0 = sums (a0 V0) (a1 V0) (a2 V0) (a3 V0) := by
  unfold Value.res_main_v6
  rw [v1_eq, v3_eq]; rfl
theorem v17_eq : Value.res_main_v17 V0 = layer0 (sums (a0 V0) (a1 V0) (a2 V0) (a3 V0)) (sums (a0 V0) (a1 V0) (a2 V0) (a3 V0)) (a4 V0) (a5 V0) := by
  unfold Value.res_main_v17
  rw [v6_eq]; rfl
theorem v28_eq : Value.res_main_v28 V0 = layer1 (sums (a0 V0) (a1 V0) (a2 V0) (a3 V0))
    (layer0 (sums (a0 V0) (a1 V0) (a2 V0) (a3 V0)) (sums (a0 V0) (a1 V0) (a2 V0) (a3 V0)) (a4 V0) (a5 V0)) (a4 V0) (a5 V0) := by
  unfold Value.res_main_v28
  rw [v6_eq, v17_eq]; rfl
theorem v39_eq : Value.res_main_v39 V0 = scores (a0 V0) (a1 V0) (a2 V0) (a3 V0) (a4 V0) (a5 V0) := by
  unfold Value.res_main_v39
  rw [v6_eq, v28_eq]; rfl
theorem call0_eq : Value.res_main_call0_v4 V0 = places (fTop (a0 V0) (a1 V0) (a2 V0) (a3 V0) (a4 V0) (a5 V0)) 100#32 := by
  unfold Value.res_main_call0_v4 Value.res_main_v42 Value.res_main_v40
  rw [v39_eq]; rfl
theorem call1_eq : Value.res_main_call1_v4 V0 = places (cTop (a0 V0) (a1 V0) (a2 V0) (a3 V0) (a4 V0) (a5 V0)) 26#32 := by
  unfold Value.res_main_call1_v4 Value.res_main_v44 Value.res_main_v41
  rw [v39_eq]; rfl
theorem v50_eq : Value.res_main_v50 V0 = prods (rowsF (a0 V0) (a1 V0) (a2 V0) (a3 V0) (a4 V0) (a5 V0)) (rowsC (a0 V0) (a1 V0) (a2 V0) (a3 V0) (a4 V0) (a5 V0)) := by
  unfold Value.res_main_v50
  rw [call0_eq, call1_eq, v1_eq, v3_eq]; rfl
theorem centred_eq : Value.res_main_call2_v5 V0 = centred (prods (rowsF (a0 V0) (a1 V0) (a2 V0) (a3 V0) (a4 V0) (a5 V0)) (rowsC (a0 V0) (a1 V0) (a2 V0) (a3 V0) (a4 V0) (a5 V0))) := by
  unfold Value.res_main_call2_v5
  rw [v50_eq]; rfl
theorem count_eq : Value.res_main_call2_v8 V0 = count := by
  unfold Value.res_main_call2_v8; rfl
theorem res_eq : Value.val2 V0 (Proc.devRef .tc main_v69) = res (a0 V0) (a1 V0) (a2 V0) (a3 V0) (a4 V0) (a5 V0) (a6 V0) (a7 V0) := by
  refine (Value.val2_main_v69 V0).trans ?_
  rw [v50_eq, centred_eq, count_eq]; rfl

end Terms

/-! ## Entry by entry -/

theorem projF_apply (e : Fin 16384) (l : Fin 100) (k : Fin 32) : projF A wq (ix3 e l k) = Score.fEnt A wq e l k := by
  pointwise [projF]
  rfl
theorem projC_apply (e : Fin 16384) (l : Fin 26) (k : Fin 32) : projC B wc (ix3 e l k) = Score.cEnt B wc e l k := by
  pointwise [projC]
  rfl

theorem sums_apply (e : Fin 16384) (l : Fin 126) : sums A B wq wc (ix2 e l) = Score.sums A B wq wc e l := by
  pointwise [sums, rowSums]
  simp only [projF_apply, projC_apply]
  rfl

theorem layer0_apply (s x : FVec Ideal S16384x126 .f32) (e : Fin 16384) (l : Fin 126) :
    layer0 s x W b (ix2 e l) = Score.lay (Score.mat W 0) (Score.bias b 0) (fun l => s (ix2 e l)) (fun l => x (ix2 e l)) l := by
  pointwise [layer0]
  rfl
theorem layer1_apply (s x : FVec Ideal S16384x126 .f32) (e : Fin 16384) (l : Fin 126) :
    layer1 s x W b (ix2 e l) = Score.lay (Score.mat W 1) (Score.bias b 1) (fun l => s (ix2 e l)) (fun l => x (ix2 e l)) l := by
  pointwise [layer1]
  rfl
theorem layer2_apply (s x : FVec Ideal S16384x126 .f32) (e : Fin 16384) (l : Fin 126) :
    layer2 s x W b (ix2 e l) = Score.lay (Score.mat W 2) (Score.bias b 2) (fun l => s (ix2 e l)) (fun l => x (ix2 e l)) l := by
  pointwise [layer2]
  rfl

theorem scores_apply (e : Fin 16384) (l : Fin 126) : scores A B wq wc W b (ix2 e l) = Score.score A B wq wc W b e l := by
  unfold scores
  rw [layer2_apply]
  simp only [layer1_apply, layer0_apply, sums_apply]
  rfl

/-- The order of the reference's sort is the greater score first. -/
theorem gt_eq (u v : EReal) : (FloatOps.cmpfTotal (F := Ideal) (φ := .f32) .gt u v == 1#1) = decide (v < u) := by
  show (BitVec.ofBool (decide (v < u)) == 1#1) = _
  cases decide (v < u) <;> rfl

theorem sortF_apply (x : FVec Ideal S16384x100 .f32) (e : Fin 16384) (l : Fin 100) :
    (Host.sort2 S16384x100 1 (fun l r => FloatOps.cmpfTotal (F := Ideal) (φ := .f32) .gt l.1 r.1) x (iotaInDim S16384x100 32 1)).2 (ix2 e l)
      = BitVec.ofNat 32 (sortedFrom (Ranks.greater fun l : Fin 100 => x (ix2 e l)) l).val := by
  have hj : ∀ k : Fin 100, Shape.Idx.along (s := S16384x100) (ix2 e l) 1 k = ix2 e k := fun k => by
    funext a
    match a with
    | ⟨0, _⟩ => rfl
    | ⟨1, _⟩ => rfl
  have hs : (fun k k' : Fin 100 => (FloatOps.cmpfTotal (F := Ideal) (φ := .f32) .gt (x (Shape.Idx.along (s := S16384x100) (ix2 e l) 1 k)) (x (Shape.Idx.along (s := S16384x100) (ix2 e l) 1 k')) == 1#1))
      = Ranks.greater fun l : Fin 100 => x (ix2 e l) :=
    funext fun k => funext fun k' => by rw [hj, hj]; exact gt_eq _ _
  show iotaInDim S16384x100 32 1 (Shape.Idx.along (s := S16384x100) (ix2 e l) 1
    (sortedFrom (fun k k' : Fin 100 => (FloatOps.cmpfTotal (F := Ideal) (φ := .f32) .gt (x (Shape.Idx.along (s := S16384x100) (ix2 e l) 1 k)) (x (Shape.Idx.along (s := S16384x100) (ix2 e l) 1 k')) == 1#1)) l)) = _
  rw [hs]
  exact (congrArg (iotaInDim S16384x100 32 1) (hj _) : iotaInDim S16384x100 32 1 _ = iotaInDim S16384x100 32 1 _)

theorem topF_apply (x : FVec Ideal S16384x100 .f32) (e : Fin 16384) (i : Fin 10) :
    topF x (ix2 e i) = BitVec.ofNat 32 (sortedFrom (Ranks.greater fun l : Fin 100 => x (ix2 e l)) (i.castLE (by decide))).val := by
  refine Eq.trans ?_ (sortF_apply x e (i.castLE (by decide)))
  show (Host.sort2 S16384x100 1 (fun l r => FloatOps.cmpfTotal (F := Ideal) (φ := .f32) .gt l.1 r.1) x (iotaInDim S16384x100 32 1)).2 _ = _
  refine congrArg _ (funext fun a => Fin.ext ?_)
  match a with
  | ⟨0, _⟩ => exact Nat.zero_add _
  | ⟨1, _⟩ => exact Nat.zero_add _

theorem sortC_apply (x : FVec Ideal S16384x26 .f32) (e : Fin 16384) (l : Fin 26) :
    (Host.sort2 S16384x26 1 (fun l r => FloatOps.cmpfTotal (F := Ideal) (φ := .f32) .gt l.1 r.1) x (iotaInDim S16384x26 32 1)).2 (ix2 e l)
      = BitVec.ofNat 32 (sortedFrom (Ranks.greater fun l : Fin 26 => x (ix2 e l)) l).val := by
  have hj : ∀ k : Fin 26, Shape.Idx.along (s := S16384x26) (ix2 e l) 1 k = ix2 e k := fun k => by
    funext a
    match a with
    | ⟨0, _⟩ => rfl
    | ⟨1, _⟩ => rfl
  have hs : (fun k k' : Fin 26 => (FloatOps.cmpfTotal (F := Ideal) (φ := .f32) .gt (x (Shape.Idx.along (s := S16384x26) (ix2 e l) 1 k)) (x (Shape.Idx.along (s := S16384x26) (ix2 e l) 1 k')) == 1#1))
      = Ranks.greater fun l : Fin 26 => x (ix2 e l) :=
    funext fun k => funext fun k' => by rw [hj, hj]; exact gt_eq _ _
  show iotaInDim S16384x26 32 1 (Shape.Idx.along (s := S16384x26) (ix2 e l) 1
    (sortedFrom (fun k k' : Fin 26 => (FloatOps.cmpfTotal (F := Ideal) (φ := .f32) .gt (x (Shape.Idx.along (s := S16384x26) (ix2 e l) 1 k)) (x (Shape.Idx.along (s := S16384x26) (ix2 e l) 1 k')) == 1#1)) l)) = _
  rw [hs]
  exact (congrArg (iotaInDim S16384x26 32 1) (hj _) : iotaInDim S16384x26 32 1 _ = iotaInDim S16384x26 32 1 _)

theorem topC_apply (x : FVec Ideal S16384x26 .f32) (e : Fin 16384) (i : Fin 10) :
    topC x (ix2 e i) = BitVec.ofNat 32 (sortedFrom (Ranks.greater fun l : Fin 26 => x (ix2 e l)) (i.castLE (by decide))).val := by
  refine Eq.trans ?_ (sortC_apply x e (i.castLE (by decide)))
  show (Host.sort2 S16384x26 1 (fun l r => FloatOps.cmpfTotal (F := Ideal) (φ := .f32) .gt l.1 r.1) x (iotaInDim S16384x26 32 1)).2 _ = _
  refine congrArg _ (funext fun a => Fin.ext ?_)
  match a with
  | ⟨0, _⟩ => exact Nat.zero_add _
  | ⟨1, _⟩ => exact Nat.zero_add _

theorem lastSums_apply (z : FVec Ideal S16384x10x10x32 .f32) (e : Fin 16384) (i j : Fin 10) : lastSums z (ix4 e i j 0) = ∑ k : Fin 32, z (ix4 e i j k) := by
  pointwise [lastSums]

theorem count_apply (i) : count i = Ideal.ofBits .f32 0x42000000#32 := by
  pointwise [count]
  show _ - (((0#32 : BitVec 32).toInt : ℝ) : EReal) = _
  simp

theorem centred_apply (z : FVec Ideal S16384x10x10x32 .f32) (e : Fin 16384) (i j : Fin 10) (k : Fin 32) :
    centred z (ix4 e i j k) = z (ix4 e i j k) - Ideal.div (∑ k : Fin 32, z (ix4 e i j k)) (Ideal.ofBits .f32 0x42000000#32) := by
  pointwise [centred, lastSums]

theorem variance_apply (z : FVec Ideal S16384x10x10x32 .f32) (e : Fin 16384) (i j : Fin 10) :
    variance z (ix4 e i j 0) = Ideal.div (∑ k : Fin 32, centred z (ix4 e i j k) * centred z (ix4 e i j k)) (Ideal.ofBits .f32 0x42000000#32) := by
  pointwise [variance, lastSums]
  have hc : (0 : EReal) < Ideal.ofBits .f32 0x42000000#32 := by
    rw [Norm.ofBits_32]; norm_num
  rw [count_apply, if_pos hc]

theorem normed_apply (z : FVec Ideal S16384x10x10x32 .f32) (e : Fin 16384) (i j : Fin 10) (k : Fin 32) :
    normed z g bt (ix4 e i j k) = Norm.row (fun k => z (ix4 e i j k)) (fun k => g (ix1 k)) (fun k => bt (ix1 k)) k := by
  pointwise [normed]
  rw [variance_apply]
  simp only [centred_apply]
  rfl

theorem prods_apply (f d : FVec Ideal S16384x10x32 .f32) (e : Fin 16384) (i j : Fin 10) (k : Fin 32) :
    prods f d (ix4 e i j k) = f (ix3 e i k) * d (ix3 e j k) := by
  pointwise [prods]

/-- A place in range is taken as it is. -/
theorem places_apply (t : IVec S16384x10 32) (n : BitVec 32) (e : Fin 16384) (i : Fin 10) (p : ℕ) (hp : p < 2 ^ 31) (ht : t (ix2 e i) = BitVec.ofNat 32 p) :
    places t n (ix3 e i 0) = BitVec.ofNat 32 p := by
  pointwise [places]
  rw [ht]
  have hi : (BitVec.ofNat 32 p).toInt = p := by
    rw [BitVec.toInt_eq_toNat_of_lt (by rw [BitVec.toNat_ofNat]; omega), BitVec.toNat_ofNat, Nat.mod_eq_of_lt (by omega)]
  have hn : IntOp.cmpi CmpIPredicate.slt (BitVec.ofNat 32 p) 0#32 = 0#1 := by
    show BitVec.ofBool ((BitVec.ofNat 32 p).slt 0#32) = 0#1
    have : (BitVec.ofNat 32 p).slt 0#32 = false := by
      simp only [BitVec.slt, decide_eq_false_iff_not, hi, BitVec.toInt_zero]
      omega
    rw [this]; rfl
  rw [hn]; rfl

theorem toInt_small (p : ℕ) (hp : p < 2 ^ 31) : (BitVec.ofNat 32 p).toInt = p := by
  rw [BitVec.toInt_eq_toNat_of_lt (by rw [BitVec.toNat_ofNat]; omega), BitVec.toNat_ofNat, Nat.mod_eq_of_lt (by omega)]

/-- Where every place lies within the rows, the reference sees so. -/
theorem within_apply (q : IVec S16384x10x1 32) (n : ℕ) (hn : n < 2 ^ 31) (hq : ∀ (e : Fin 16384) (i : Fin 10), ∃ p, p ≤ n ∧ q (ix3 e i 0) = BitVec.ofNat 32 p)
    (e : Fin 16384) (i : Fin 10) : within q (BitVec.ofNat 32 n) (ix2 e i) = 1#1 := by
  unfold within
  refine Host.reduce_andi_one _ _ _ _ _ rfl fun x => ?_
  obtain ⟨p, hp, hx⟩ := hq (x 0) (x 1)
  have hx' : q x = BitVec.ofNat 32 p := by
    rw [← hx]
    refine congrArg q (funext fun a => ?_)
    match a with
    | ⟨0, _⟩ => rfl
    | ⟨1, _⟩ => rfl
    | ⟨2, _⟩ => exact Subsingleton.elim (α := Fin 1) _ _
  show IntOp.andi (IntOp.cmpi .sge (q x) 0#32) (IntOp.cmpi .sle (q x) (BitVec.ofNat 32 n)) = 1#1
  rw [hx']
  have h1 : (0#32).sle (BitVec.ofNat 32 p) = true := by
    simp only [BitVec.sle, decide_eq_true_eq, toInt_small p (by omega), BitVec.toInt_zero]
    omega
  have h2 : (BitVec.ofNat 32 p).sle (BitVec.ofNat 32 n) = true := by
    simp only [BitVec.sle, decide_eq_true_eq, toInt_small p (by omega), toInt_small n hn]
    omega
  show IntOp.andi (BitVec.ofBool ((0#32).sle (BitVec.ofNat 32 p))) (BitVec.ofBool ((BitVec.ofNat 32 p).sle (BitVec.ofNat 32 n))) = 1#1
  rw [h1, h2]; rfl

theorem fTop_apply (e : Fin 16384) (i : Fin 10) : fTop A B wq wc W b (ix2 e i) = BitVec.ofNat 32 (Score.fPick A B wq wc W b e i).val := by
  unfold fTop
  rw [topF_apply]
  have hx : (fun l : Fin 100 => extractStridedSlice S16384x100 ![0, 0] (scores A B wq wc W b) slices_S16384x126_S16384x100_0_0 (ix2 e l)) = Score.fScore A B wq wc W b e :=
    funext fun l => Eq.trans (by pointwise []) (scores_apply A B wq wc W b e ⟨l.val, by omega⟩)
  rw [hx]; rfl
theorem cTop_apply (e : Fin 16384) (i : Fin 10) : cTop A B wq wc W b (ix2 e i) = BitVec.ofNat 32 (Score.cPick A B wq wc W b e i).val := by
  unfold cTop
  rw [topC_apply]
  have hx : (fun l : Fin 26 => extractStridedSlice S16384x26 ![0, 100] (scores A B wq wc W b) slices_S16384x126_S16384x26_0_100 (ix2 e l)) = Score.cScore A B wq wc W b e :=
    funext fun l => Eq.trans (by pointwise []) (scores_apply A B wq wc W b e ⟨100 + l.val, by omega⟩)
  rw [hx]; rfl

theorem rowsF_apply (e : Fin 16384) (i : Fin 10) (k : Fin 32) :
    rowsF A B wq wc W b (ix3 e i k) = Score.fEnt A wq e (Score.fPick A B wq wc W b e i) k := by
  have hq : ∀ (e : Fin 16384) (i : Fin 10), places (fTop A B wq wc W b) 100#32 (ix3 e i 0) = BitVec.ofNat 32 (Score.fPick A B wq wc W b e i).val := fun e i =>
    places_apply _ _ e i _ (by have := (Score.fPick A B wq wc W b e i).isLt; omega) (fTop_apply A B wq wc W b e i)
  unfold rowsF
  generalize hP : places (fTop A B wq wc W b) 100#32 = P at hq ⊢
  have hw : within P 99#32 (ix2 e i) = 1#1 := within_apply P 99 (by decide) (fun e i => ⟨_, by have := (Score.fPick A B wq wc W b e i).isLt; omega, hq e i⟩) e i
  have hg := BatchTake.apply (R := 16384) (N := 100) (K := 32) (C := 10) (by decide) (by exact gather_S16384x100x32_S16384x10x1_S16384x10x32_2_1_0_0_1_2_1132.wf) (projF A wq) P e i k
  have hn : (⟨min (P (ix3 e i 0)).toInt.toNat (100 - 1), by omega⟩ : Fin 100) = Score.fPick A B wq wc W b e i := Fin.ext (by
    have h := (Score.fPick A B wq wc W b e i).isLt
    dsimp only
    rw [hq, toInt_small _ (by omega)]
    omega)
  rw [hn, projF_apply] at hg
  unfold takeF
  show Scalar.select (broadcastInDim S16384x10x32 ![0, 1] bcast_S16384x10_S16384x10x32_0_1 (within P 99#32) (ix3 e i k))
    (Host.gather gather_S16384x100x32_S16384x10x1_S16384x10x32_2_1_0_0_1_2_1132 (projF A wq) P (ix3 e i k)) _ = _
  rw [show broadcastInDim S16384x10x32 ![0, 1] bcast_S16384x10_S16384x10x32_0_1 (within P 99#32) (ix3 e i k) = 1#1 from Eq.trans (by pointwise []) hw]
  exact hg

theorem rowsC_apply (e : Fin 16384) (i : Fin 10) (k : Fin 32) :
    rowsC A B wq wc W b (ix3 e i k) = Score.cEnt B wc e (Score.cPick A B wq wc W b e i) k := by
  have hq : ∀ (e : Fin 16384) (i : Fin 10), places (cTop A B wq wc W b) 26#32 (ix3 e i 0) = BitVec.ofNat 32 (Score.cPick A B wq wc W b e i).val := fun e i =>
    places_apply _ _ e i _ (by have := (Score.cPick A B wq wc W b e i).isLt; omega) (cTop_apply A B wq wc W b e i)
  unfold rowsC
  generalize hP : places (cTop A B wq wc W b) 26#32 = P at hq ⊢
  have hw : within P 25#32 (ix2 e i) = 1#1 := within_apply P 25 (by decide) (fun e i => ⟨_, by have := (Score.cPick A B wq wc W b e i).isLt; omega, hq e i⟩) e i
  have hg := BatchTake.apply (R := 16384) (N := 26) (K := 32) (C := 10) (by decide) (by exact gather_S16384x26x32_S16384x10x1_S16384x10x32_2_1_0_0_1_2_1132.wf) (projC B wc) P e i k
  have hn : (⟨min (P (ix3 e i 0)).toInt.toNat (26 - 1), by omega⟩ : Fin 26) = Score.cPick A B wq wc W b e i := Fin.ext (by
    have h := (Score.cPick A B wq wc W b e i).isLt
    dsimp only
    rw [hq, toInt_small _ (by omega)]
    omega)
  rw [hn, projC_apply] at hg
  unfold takeC
  show Scalar.select (broadcastInDim S16384x10x32 ![0, 1] bcast_S16384x10_S16384x10x32_0_1 (within P 25#32) (ix3 e i k))
    (Host.gather gather_S16384x26x32_S16384x10x1_S16384x10x32_2_1_0_0_1_2_1132 (projC B wc) P (ix3 e i k)) _ = _
  rw [show broadcastInDim S16384x10x32 ![0, 1] bcast_S16384x10_S16384x10x32_0_1 (within P 25#32) (ix3 e i k) = 1#1 from Eq.trans (by pointwise []) hw]
  exact hg

/-- Every entry of the reference's result. -/
theorem res_apply (e : Fin 16384) (i j : Fin 10) (k : Fin 32) :
    res A B wq wc W b g bt (ix3 e ⟨i.val * 10 + j.val, by omega⟩ k) = Score.out A B wq wc W b g bt e i j k := by
  unfold res
  generalize hz : prods _ _ = z
  have hs : (shapeCast S16384x100x32 (normed z g bt) shapeCasts_S16384x10x10x32_S16384x100x32) (ix3 e ⟨i.val * 10 + j.val, by omega⟩ k) = normed z g bt (ix4 e i j k) := by
    pointwise []
  refine hs.trans ?_
  rw [normed_apply]
  subst hz
  unfold Score.out
  exact congrArg (fun z => Norm.row z _ _ k) (funext fun l => by rw [prods_apply, rowsF_apply, rowsC_apply])

end Cert.Proof.RefValue

end
-- ==== Proof.lean ====
module

public import proofs.«01_k».proof.Defs
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailRefIdeal
public import proofs.«01_k».proof.Proof.Gen.TailRefIdeal.Run
public import proofs.«01_k».proof.Proof.Gen.Pre_rows_exist
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.TailSame
public import proofs.«01_k».proof.Proof.TailRun
public import proofs.«01_k».proof.Proof.TailFrame
public import proofs.«01_k».proof.Proof.TailValue
public import proofs.«01_k».proof.Proof.TailRef
public import proofs.«01_k».proof.Proof.KerResult
public import proofs.«01_k».proof.Proof.RefValue
public import Idealize.ShloMosaic.Adequacy
public import Idealize.ShloMosaic.Init

@[expose] public section

noncomputable section

namespace Cert.Proof

open Idealize.ShloMosaic Idealize.SL.Sem

/-! ## The kernel's frames -/

section frames

open Cert.TailIdeal

variable {F : FTy → Type} [FloatOps F]

/-- Buffers that nothing writes. -/
abbrev Kept (r : Ref sig .tc) : Prop :=
  r ∉ TailSc.wA ∧ r ≠ main_v4_0 ∧ r ≠ main_v4_1 ∧ r ∉ TailSc.wB ∧ r ≠ main_v35 ∧ r ∉ TailSc.wC ∧ ¬ r.isScoped

/-- What the run leaves in a buffer that nothing writes. -/
theorem kept_of_run {m : (ℓ : Loc nD τ sig) → Buf (Elt F) ℓ} {mem : (ℓ : Loc nD τ sig) → Buf (Elt F) ℓ} {c : Dev nD} (r : Ref sig .tc) (hr : Kept r)
    (h : ∀ (d : Dev nD) (b : Ref sig .tc), ¬ b.isScoped → mem ((d.tc : Thread nD τ).loc b) = TailSc.val5 m d (Proc.devRef .tc b)) :
    mem ((c.tc : Thread nD τ).loc r) = m ((c.tc : Thread nD τ).loc r) :=
  (h c r hr.2.2.2.2.2.2).trans (TailSc.val5_kept m c r hr.1 hr.2.1 hr.2.2.1 hr.2.2.2.1 hr.2.2.2.2.1 hr.2.2.2.2.2.1)

/-- From granule numbers that exist the run ends with the arguments as they were and every semaphore at zero. -/
theorem frame_run [∀ e, Nonempty (Elt F e)] (m : (ℓ : Loc nD τ sig) → Buf (Elt F) ℓ) (ρ : Dev nD → PrngReg)
    (h2 : ∀ (d : Dev nD) (x : S16384x10.Idx), BitVec.toNat (m ((d.tc : Thread nD τ).loc main_arg2) x) < 409600)
    (h4 : ∀ (d : Dev nD) (x : S16384x10.Idx), BitVec.toNat (m ((d.tc : Thread nD τ).loc main_arg4) x) < 106496) :
    θ_run (Cert.TailIdeal.defs (F := F)) (Cert.TailIdeal.threads (F := F)) ⟨m, fun _ => 0, ρ⟩ fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) ∧ r.2.sem = fun _ => 0 :=
  (θ_run Cert.TailIdeal.defs _ _).mono (fun r h => ⟨fun c => ⟨kept_of_run Cert.TailIdeal.main_arg0 (by decide) h.1, kept_of_run Cert.TailIdeal.main_arg1 (by decide) h.1, kept_of_run Cert.TailIdeal.main_arg2 (by decide) h.1, kept_of_run Cert.TailIdeal.main_arg3 (by decide) h.1, kept_of_run Cert.TailIdeal.main_arg4 (by decide) h.1, kept_of_run Cert.TailIdeal.main_arg5 (by decide) h.1, kept_of_run Cert.TailIdeal.main_arg6 (by decide) h.1, kept_of_run Cert.TailIdeal.main_arg7 (by decide) h.1, kept_of_run Cert.TailIdeal.main_arg8 (by decide) h.1, kept_of_run Cert.TailIdeal.main_arg9 (by decide) h.1⟩, h.2⟩) (TailSc.run_main m ρ (TailSc.preOK m h2 h4))

end frames

/-- The kernel as printed runs to an end from granule numbers and places that exist, leaves its arguments and ends with every semaphore at zero. -/
theorem frame_tail : Cert.quiescent_Tail (hTail := Cert.Tail.Gen.facts) (hPre_rows_exist := Cert.Pre_rows_exist.Gen.facts) := fun m ρ hpre => by
  refine (congrArg₂ (fun D T => θ_run D T ⟨m, fun _ => 0, ρ⟩ _) defs_same threads_same).mpr ?_
  exact frame_run (F := Bits) m ρ
      (fun d x => (TailSc.rows_exist_iff _ _ _ _ _ _ _ _ _ _ (hpre d)).1 x)
      (fun d x => (TailSc.rows_exist_iff _ _ _ _ _ _ _ _ _ _ (hpre d)).2.2.1 x)

/-- The run of the kernel at exact arithmetic: the result's value, the arguments and the semaphores. -/
theorem run_ideal (m : (ℓ : Loc Cert.TailIdeal.nD Cert.TailIdeal.τ Cert.TailIdeal.sig) → Buf (Elt Ideal) ℓ) (ρ : Dev Cert.TailIdeal.nD → PrngReg) (hpre : @Cert.Pre_TailIdeal Cert.Pre_rows_exist.Gen.facts m) :
    θ_run (Cert.TailIdeal.defs (F := Ideal)) (Cert.TailIdeal.threads (F := Ideal)) ⟨m, fun _ => 0, ρ⟩
      fun r => (∀ (d : Dev Cert.TailIdeal.nD) (b : Ref Cert.TailIdeal.sig .tc), ¬ b.isScoped → r.2.mem ((d.tc : Thread Cert.TailIdeal.nD Cert.TailIdeal.τ).loc b) = TailSc.val5 m d (Proc.devRef .tc b)) ∧ r.2.sem = fun _ => 0 :=
  TailSc.run_main (F := Ideal) m ρ (TailSc.preOK m
      (fun d x => (TailSc.rows_exist_iff _ _ _ _ _ _ _ _ _ _ (hpre d)).1 x)
      (fun d x => (TailSc.rows_exist_iff _ _ _ _ _ _ _ _ _ _ (hpre d)).2.2.1 x))

/-- The same of the kernel at exact arithmetic. -/
theorem frame_tailIdeal : Cert.quiescent_TailIdeal (hTailIdeal := Cert.TailIdeal.Gen.facts) (hPre_rows_exist := Cert.Pre_rows_exist.Gen.facts) := fun m ρ hpre =>
  frame_run (F := Ideal) m ρ
    (fun d x => (TailSc.rows_exist_iff _ _ _ _ _ _ _ _ _ _ (hpre d)).1 x)
    (fun d x => (TailSc.rows_exist_iff _ _ _ _ _ _ _ _ _ _ (hpre d)).2.2.1 x)

/-- The reference runs to an end from any memory. -/
theorem frame_tailRef : Cert.quiescent_TailRefIdeal (hTailRefIdeal := Cert.TailRefIdeal.Gen.facts) := fun m ρ _ =>
  (θ_run Cert.TailRefIdeal.defs _ _).mono (fun r h => ⟨fun c => (h c).2, sem_eq_zero_of_no_sems (by decide) r.2⟩) (Cert.TailRefIdeal.Value.run m ρ)

/-- The two results agree entry by entry. -/
theorem same (m : (ℓ : Loc Cert.TailIdeal.nD Cert.TailIdeal.τ Cert.TailIdeal.sig) → Buf (Elt Ideal) ℓ)
    (m' : (ℓ : Loc Cert.TailRefIdeal.nD Cert.TailRefIdeal.τ Cert.TailRefIdeal.sig) → Buf (Elt Ideal) ℓ) (c : Dev Cert.TailIdeal.nD) (hpre : @Cert.Pre_TailIdeal Cert.Pre_rows_exist.Gen.facts m)
    (h : m' ((c.tc : Thread Cert.TailRefIdeal.nD Cert.TailRefIdeal.τ).loc Cert.TailRefIdeal.main_arg0) = m ((c.tc : Thread Cert.TailIdeal.nD Cert.TailIdeal.τ).loc Cert.TailIdeal.main_arg0) ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1) ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2) ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3) ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4) ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5) ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6) ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7) ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8) ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) :
    Cert.TailRefIdeal.Value.res_main_v49 m' c = TailSc.res m c := by
  obtain ⟨g2, g3, g4, g5⟩ := TailSc.rows_exist_iff _ _ _ _ _ _ _ _ _ _ (hpre c)
  obtain ⟨e0, e1, e2, e3, e4, e5, e6, e7, e8, e9⟩ := h
  refine Spec.ext _ _ fun e i j k => ?_
  rw [TailSc.res_apply m c g2 g3 g4 g5 e i j k]
  refine (TailRef.res_apply m' c (fun x => by rw [e2]; exact g2 x) (fun x => by rw [e3]; exact g3 x) (fun x => by rw [e4]; exact g4 x) (fun x => by rw [e5]; exact g5 x) e i j k).trans ?_
  rw [e0, e1, e2, e3, e4, e5, e6, e7, e8, e9]

/-- From memories that agree on the arguments, kernel and reference end with the same result. -/
theorem algebraic_tail : Cert.algebraic_TailIdeal_TailRefIdeal (hTailIdeal := Cert.TailIdeal.Gen.facts) (hTailRefIdeal := Cert.TailRefIdeal.Gen.facts) (hPre_rows_exist := Cert.Pre_rows_exist.Gen.facts) :=
  fun m ρ m' ρ' hpre hagree => ⟨fun c => TailSc.res m c,
    (θ_run Cert.TailIdeal.defs _ _).mono (fun r h c => ⟨h.1 c Cert.TailIdeal.main_v36 (by decide), kept_of_run Cert.TailIdeal.main_arg0 (by decide) h.1, kept_of_run Cert.TailIdeal.main_arg1 (by decide) h.1, kept_of_run Cert.TailIdeal.main_arg2 (by decide) h.1, kept_of_run Cert.TailIdeal.main_arg3 (by decide) h.1, kept_of_run Cert.TailIdeal.main_arg4 (by decide) h.1, kept_of_run Cert.TailIdeal.main_arg5 (by decide) h.1, kept_of_run Cert.TailIdeal.main_arg6 (by decide) h.1, kept_of_run Cert.TailIdeal.main_arg7 (by decide) h.1, kept_of_run Cert.TailIdeal.main_arg8 (by decide) h.1, kept_of_run Cert.TailIdeal.main_arg9 (by decide) h.1⟩) (run_ideal m ρ hpre),
    (θ_run Cert.TailRefIdeal.defs _ _).mono (fun r h c => ⟨(h c).1.trans (same m m' c hpre (hagree c)), (h c).2⟩) (Cert.TailRefIdeal.Value.run m' ρ')⟩

/-! ## The whole kernel at exact arithmetic -/

section whole

open Cert.KernelIdeal

/-- Buffers that nothing of the whole kernel writes. -/
abbrev WholeKept (r : Ref sig .tc) : Prop :=
  r ∉ Ker.wI ++ (Ker.wJ ++ Ker.wA) ∧ r ≠ main_v18_0 ∧ r ≠ main_v18_1 ∧ r ∉ Ker.wB ∧ r ≠ main_v49 ∧ r ∉ Ker.wC ∧ ¬ r.isScoped

variable {m : (ℓ : Loc nD τ sig) → Buf (Elt Ideal) ℓ}

/-- What the whole kernel's run leaves in a buffer that nothing writes. -/
theorem whole_kept {mem : (ℓ : Loc nD τ sig) → Buf (Elt Ideal) ℓ} {c : Dev nD} (r : Ref sig .tc) (hr : WholeKept r)
    (h : ∀ (d : Dev nD) (b : Ref sig .tc), ¬ b.isScoped → mem ((d.tc : Thread nD τ).loc b) = Ker.val5 m d (Proc.devRef .tc b)) :
    mem ((c.tc : Thread nD τ).loc r) = m ((c.tc : Thread nD τ).loc r) :=
  (h c r hr.2.2.2.2.2.2).trans (Ker.val5_kept m c r hr.1 hr.2.1 hr.2.2.1 hr.2.2.2.1 hr.2.2.2.2.1 hr.2.2.2.2.2.1)

/-- From finite arguments the whole kernel runs to an end: the result's value, the arguments and the semaphores. -/
theorem run_whole (ρ : Dev nD → PrngReg) (hpre : @Cert.Pre_KernelIdeal Cert.Pre_finite.Gen.facts m) :
    θ_run (Cert.KernelIdeal.defs (F := Ideal)) (Cert.KernelIdeal.threads (F := Ideal)) ⟨m, fun _ => 0, ρ⟩
      fun r => (∀ (d : Dev nD) (b : Ref sig .tc), ¬ b.isScoped → r.2.mem ((d.tc : Thread nD τ).loc b) = Ker.val5 m d (Proc.devRef .tc b)) ∧ r.2.sem = fun _ => 0 :=
  Ker.run_main (F := Ideal) m ρ (Ker.preOK m (fun d x => Ker.a2_lt m d (hpre d) x) (fun d x => Ker.a4_lt m d (hpre d) x))

/-- The whole kernel runs to an end from finite arguments, leaves them and ends with every semaphore at zero. -/
theorem frame_whole : Cert.quiescent_KernelIdeal (hKernelIdeal := Cert.KernelIdeal.Gen.facts) (hPre_finite := Cert.Pre_finite.Gen.facts) := fun m ρ hpre =>
  (θ_run Cert.KernelIdeal.defs _ _).mono (fun r h => ⟨fun c => ⟨whole_kept Cert.KernelIdeal.main_arg0 (by decide) h.1, whole_kept Cert.KernelIdeal.main_arg1 (by decide) h.1, whole_kept Cert.KernelIdeal.main_arg2 (by decide) h.1, whole_kept Cert.KernelIdeal.main_arg3 (by decide) h.1, whole_kept Cert.KernelIdeal.main_arg4 (by decide) h.1, whole_kept Cert.KernelIdeal.main_arg5 (by decide) h.1, whole_kept Cert.KernelIdeal.main_arg6 (by decide) h.1, whole_kept Cert.KernelIdeal.main_arg7 (by decide) h.1⟩, h.2⟩) (run_whole (m := m) ρ hpre)

end whole

/-- The reference of the whole problem runs to an end from any memory. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run m ρ)

/-- The whole kernel's result and the reference's agree entry by entry. -/
theorem same_whole (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (hpre : @Cert.Pre_KernelIdeal Cert.Pre_finite.Gen.facts m)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.val2 (StableHlo.launchContents m' c) (Proc.devRef .tc Cert.ReferenceIdeal.main_v69) = Ker.res m c := by
  obtain ⟨e0, e1, e2, e3, e4, e5, e6, e7⟩ := h
  refine (RefValue.res_eq _).trans (Spec.ext _ _ fun e i j k => ?_)
  rw [RefValue.res_apply, Ker.res_arg m c (hpre c)]
  rw [show RefValue.a0 (StableHlo.launchContents m' c) = Ker.a0 m c from e0, show RefValue.a1 (StableHlo.launchContents m' c) = Ker.a1 m c from e1,
    show RefValue.a2 (StableHlo.launchContents m' c) = Ker.a6 m c from e2, show RefValue.a3 (StableHlo.launchContents m' c) = Ker.a7 m c from e3,
    show RefValue.a4 (StableHlo.launchContents m' c) = Ker.aW m c from e4, show RefValue.a5 (StableHlo.launchContents m' c) = Ker.aB m c from e5,
    show RefValue.a6 (StableHlo.launchContents m' c) = Ker.a8 m c from e6, show RefValue.a7 (StableHlo.launchContents m' c) = Ker.a9 m c from e7]

/-- From memories that agree on finite arguments, the whole kernel and the reference end with the same result. -/
theorem algebraic_whole : Cert.algebraic_KernelIdeal_ReferenceIdeal (hKernelIdeal := Cert.KernelIdeal.Gen.facts) (hReferenceIdeal := Cert.ReferenceIdeal.Gen.facts) (hPre_finite := Cert.Pre_finite.Gen.facts) :=
  fun m ρ m' ρ' hpre hagree => ⟨fun c => Ker.res m c,
    (θ_run Cert.KernelIdeal.defs _ _).mono (fun r h c => ⟨h.1 c Cert.KernelIdeal.main_v50 (by decide), whole_kept Cert.KernelIdeal.main_arg0 (by decide) h.1, whole_kept Cert.KernelIdeal.main_arg1 (by decide) h.1, whole_kept Cert.KernelIdeal.main_arg2 (by decide) h.1, whole_kept Cert.KernelIdeal.main_arg3 (by decide) h.1, whole_kept Cert.KernelIdeal.main_arg4 (by decide) h.1, whole_kept Cert.KernelIdeal.main_arg5 (by decide) h.1, whole_kept Cert.KernelIdeal.main_arg6 (by decide) h.1, whole_kept Cert.KernelIdeal.main_arg7 (by decide) h.1⟩) (run_whole (m := m) ρ hpre),
    (θ_run Cert.ReferenceIdeal.defs _ _).mono (fun r h c => ⟨(h c).1.trans ((Cert.ReferenceIdeal.Value.val2_main_v69 _).symm.trans (same_whole m m' c hpre (hagree c))), (h c).2⟩) (Cert.ReferenceIdeal.Value.run m' ρ')⟩

theorem claim : Cert.Claim := ⟨Cert.Tail.Gen.facts, Cert.TailIdeal.Gen.facts, Cert.TailRefIdeal.Gen.facts, Cert.KernelIdeal.Gen.facts, Cert.ReferenceIdeal.Gen.facts,
  Cert.Pre_rows_exist.Gen.facts, Cert.Pre_finite.Gen.facts,
  frame_tail, frame_tailIdeal, frame_tailRef, fun m ρ _ => frame_tailRef m ρ trivial, frame_whole, frame_ref, fun m ρ _ => frame_ref m ρ trivial,
  trivial, algebraic_tail, algebraic_whole⟩

end Cert.Proof

end
